-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn2Dx (m : (ℓ : Loc Cert.Ffn2Dx.nD Cert.Ffn2Dx.τ Cert.Ffn2Dx.sig) → Buf (Elt Bits) ℓ) : Prop :=
  True

def Pre_Ffn2DxIdeal (m : (ℓ : Loc Cert.Ffn2DxIdeal.nD Cert.Ffn2DxIdeal.τ Cert.Ffn2DxIdeal.sig) → Buf (Elt Ideal) ℓ) : Prop :=
  True

def Pre_Ffn2DxRefIdeal (m : (ℓ : Loc Cert.Ffn2DxRefIdeal.nD Cert.Ffn2DxRefIdeal.τ Cert.Ffn2DxRefIdeal.sig) → Buf (Elt Ideal) ℓ) : Prop :=
  True

def Pre_Ffn2Dw (m : (ℓ : Loc Cert.Ffn2Dw.nD Cert.Ffn2Dw.τ Cert.Ffn2Dw.sig) → Buf (Elt Bits) ℓ) : Prop :=
  True

def Pre_Ffn2DwIdeal (m : (ℓ : Loc Cert.Ffn2DwIdeal.nD Cert.Ffn2DwIdeal.τ Cert.Ffn2DwIdeal.sig) → Buf (Elt Ideal) ℓ) : Prop :=
  True

def Pre_Ffn2DwRefIdeal (m : (ℓ : Loc Cert.Ffn2DwRefIdeal.nD Cert.Ffn2DwRefIdeal.τ Cert.Ffn2DwRefIdeal.sig) → Buf (Elt Ideal) ℓ) : Prop :=
  True

def Pre_Ffn1Dx (m : (ℓ : Loc Cert.Ffn1Dx.nD Cert.Ffn1Dx.τ Cert.Ffn1Dx.sig) → Buf (Elt Bits) ℓ) : Prop :=
  True

def Pre_Ffn1DxIdeal (m : (ℓ : Loc Cert.Ffn1DxIdeal.nD Cert.Ffn1DxIdeal.τ Cert.Ffn1DxIdeal.sig) → Buf (Elt Ideal) ℓ) : Prop :=
  True

def Pre_Ffn1DxRefIdeal (m : (ℓ : Loc Cert.Ffn1DxRefIdeal.nD Cert.Ffn1DxRefIdeal.τ Cert.Ffn1DxRefIdeal.sig) → Buf (Elt Ideal) ℓ) : Prop :=
  True

def Pre_Ffn1Dw (m : (ℓ : Loc Cert.Ffn1Dw.nD Cert.Ffn1Dw.τ Cert.Ffn1Dw.sig) → Buf (Elt Bits) ℓ) : Prop :=
  True

def Pre_Ffn1DwIdeal (m : (ℓ : Loc Cert.Ffn1DwIdeal.nD Cert.Ffn1DwIdeal.τ Cert.Ffn1DwIdeal.sig) → Buf (Elt Ideal) ℓ) : Prop :=
  True

def Pre_Ffn1DwRefIdeal (m : (ℓ : Loc Cert.Ffn1DwRefIdeal.nD Cert.Ffn1DwRefIdeal.τ Cert.Ffn1DwRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Norm1Dx (m : (ℓ : Loc Cert.Norm1Dx.nD Cert.Norm1Dx.τ Cert.Norm1Dx.sig) → Buf (Elt Bits) ℓ) : Prop :=
  True

def Pre_Norm1DxIdeal (m : (ℓ : Loc Cert.Norm1DxIdeal.nD Cert.Norm1DxIdeal.τ Cert.Norm1DxIdeal.sig) → Buf (Elt Ideal) ℓ) : Prop :=
  True

def Pre_Norm1DxRefIdeal (m : (ℓ : Loc Cert.Norm1DxRefIdeal.nD Cert.Norm1DxRefIdeal.τ Cert.Norm1DxRefIdeal.sig) → Buf (Elt Ideal) ℓ) : Prop :=
  True

def Pre_Norm2Dx (m : (ℓ : Loc Cert.Norm2Dx.nD Cert.Norm2Dx.τ Cert.Norm2Dx.sig) → Buf (Elt Bits) ℓ) : Prop :=
  True

def Pre_Norm2DxIdeal (m : (ℓ : Loc Cert.Norm2DxIdeal.nD Cert.Norm2DxIdeal.τ Cert.Norm2DxIdeal.sig) → Buf (Elt Ideal) ℓ) : Prop :=
  True

def Pre_Norm2DxRefIdeal (m : (ℓ : Loc Cert.Norm2DxRefIdeal.nD Cert.Norm2DxRefIdeal.τ Cert.Norm2DxRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def Pre_AdaW (m : (ℓ : Loc Cert.AdaW.nD Cert.AdaW.τ Cert.AdaW.sig) → Buf (Elt Bits) ℓ) : Prop :=
  True

def Pre_AdaWIdeal (m : (ℓ : Loc Cert.AdaWIdeal.nD Cert.AdaWIdeal.τ Cert.AdaWIdeal.sig) → Buf (Elt Ideal) ℓ) : Prop :=
  True

def Pre_AdaWRefIdeal (m : (ℓ : Loc Cert.AdaWRefIdeal.nD Cert.AdaWRefIdeal.τ Cert.AdaWRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamRk (m : (ℓ : Loc Cert.AdamRk.nD Cert.AdamRk.τ Cert.AdamRk.sig) → Buf (Elt Bits) ℓ) : Prop :=
  True

def Pre_AdamRkIdeal (m : (ℓ : Loc Cert.AdamRkIdeal.nD Cert.AdamRkIdeal.τ Cert.AdamRkIdeal.sig) → Buf (Elt Ideal) ℓ) : Prop :=
  True

def Pre_AdamRkRefIdeal (m : (ℓ : Loc Cert.AdamRkRefIdeal.nD Cert.AdamRkRefIdeal.τ Cert.AdamRkRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Ffn2Dx [hFfn2Dx : Cert.Ffn2Dx.Facts] : Prop :=
  ∀ (m : (ℓ : Loc Cert.Ffn2Dx.nD Cert.Ffn2Dx.τ Cert.Ffn2Dx.sig) → Buf (Elt Bits) ℓ) (g : Dev Cert.Ffn2Dx.nD → PrngReg), Pre_Ffn2Dx m →
    θ_run (Cert.Ffn2Dx.defs (F := Bits)) (onTc (τ := Cert.Ffn2Dx.τ) (Cert.Ffn2Dx.main (F := Bits))) ⟨m, fun _ => 0, g⟩ (fun r => (∀ c : Dev Cert.Ffn2Dx.nD,
      r.2.mem ((c.tc : Thread Cert.Ffn2Dx.nD Cert.Ffn2Dx.τ).loc Cert.Ffn2Dx.main_arg0) = m ((c.tc : Thread Cert.Ffn2Dx.nD Cert.Ffn2Dx.τ).loc Cert.Ffn2Dx.main_arg0)
      ∧ r.2.mem ((c.tc : Thread Cert.Ffn2Dx.nD Cert.Ffn2Dx.τ).loc Cert.Ffn2Dx.main_arg1) = m ((c.tc : Thread Cert.Ffn2Dx.nD Cert.Ffn2Dx.τ).loc Cert.Ffn2Dx.main_arg1)
      ∧ r.2.mem ((c.tc : Thread Cert.Ffn2Dx.nD Cert.Ffn2Dx.τ).loc Cert.Ffn2Dx.main_arg2) = m ((c.tc : Thread Cert.Ffn2Dx.nD Cert.Ffn2Dx.τ).loc Cert.Ffn2Dx.main_arg2))
      ∧ r.2.sem = fun _ => 0)

def quiescent_Ffn2DxIdeal [hFfn2DxIdeal : Cert.Ffn2DxIdeal.Facts] : Prop :=
  ∀ (m : (ℓ : Loc Cert.Ffn2DxIdeal.nD Cert.Ffn2DxIdeal.τ Cert.Ffn2DxIdeal.sig) → Buf (Elt Ideal) ℓ) (g : Dev Cert.Ffn2DxIdeal.nD → PrngReg), Pre_Ffn2DxIdeal m →
    θ_run (Cert.Ffn2DxIdeal.defs (F := Ideal)) (onTc (τ := Cert.Ffn2DxIdeal.τ) (Cert.Ffn2DxIdeal.main (F := Ideal))) ⟨m, fun _ => 0, g⟩ (fun r => (∀ c : Dev Cert.Ffn2DxIdeal.nD,
      r.2.mem ((c.tc : Thread Cert.Ffn2DxIdeal.nD Cert.Ffn2DxIdeal.τ).loc Cert.Ffn2DxIdeal.main_arg0) = m ((c.tc : Thread Cert.Ffn2DxIdeal.nD Cert.Ffn2DxIdeal.τ).loc Cert.Ffn2DxIdeal.main_arg0)
      ∧ r.2.mem ((c.tc : Thread Cert.Ffn2DxIdeal.nD Cert.Ffn2DxIdeal.τ).loc Cert.Ffn2DxIdeal.main_arg1) = m ((c.tc : Thread Cert.Ffn2DxIdeal.nD Cert.Ffn2DxIdeal.τ).loc Cert.Ffn2DxIdeal.main_arg1)
      ∧ r.2.mem ((c.tc : Thread Cert.Ffn2DxIdeal.nD Cert.Ffn2DxIdeal.τ).loc Cert.Ffn2DxIdeal.main_arg2) = m ((c.tc : Thread Cert.Ffn2DxIdeal.nD Cert.Ffn2DxIdeal.τ).loc Cert.Ffn2DxIdeal.main_arg2))
      ∧ r.2.sem = fun _ => 0)

def quiescent_Ffn2DxRefIdeal [hFfn2DxRefIdeal : Cert.Ffn2DxRefIdeal.Facts] : Prop :=
  ∀ (m : (ℓ : Loc Cert.Ffn2DxRefIdeal.nD Cert.Ffn2DxRefIdeal.τ Cert.Ffn2DxRefIdeal.sig) → Buf (Elt Ideal) ℓ) (g : Dev Cert.Ffn2DxRefIdeal.nD → PrngReg), Pre_Ffn2DxRefIdeal m →
    θ_run (Cert.Ffn2DxRefIdeal.defs (F := Ideal)) (onTc (τ := Cert.Ffn2DxRefIdeal.τ) (Cert.Ffn2DxRefIdeal.main (F := Ideal))) ⟨m, fun _ => 0, g⟩ (fun r => (∀ c : Dev Cert.Ffn2DxRefIdeal.nD,
      r.2.mem ((c.tc : Thread Cert.Ffn2DxRefIdeal.nD Cert.Ffn2DxRefIdeal.τ).loc Cert.Ffn2DxRefIdeal.main_arg0) = m ((c.tc : Thread Cert.Ffn2DxRefIdeal.nD Cert.Ffn2DxRefIdeal.τ).loc Cert.Ffn2DxRefIdeal.main_arg0)
      ∧ r.2.mem ((c.tc : Thread Cert.Ffn2DxRefIdeal.nD Cert.Ffn2DxRefIdeal.τ).loc Cert.Ffn2DxRefIdeal.main_arg1) = m ((c.tc : Thread Cert.Ffn2DxRefIdeal.nD Cert.Ffn2DxRefIdeal.τ).loc Cert.Ffn2DxRefIdeal.main_arg1)
      ∧ r.2.mem ((c.tc : Thread Cert.Ffn2DxRefIdeal.nD Cert.Ffn2DxRefIdeal.τ).loc Cert.Ffn2DxRefIdeal.main_arg2) = m ((c.tc : Thread Cert.Ffn2DxRefIdeal.nD Cert.Ffn2DxRefIdeal.τ).loc Cert.Ffn2DxRefIdeal.main_arg2))
      ∧ r.2.sem = fun _ => 0)

def quiescent_Ffn2Dw [hFfn2Dw : Cert.Ffn2Dw.Facts] : Prop :=
  ∀ (m : (ℓ : Loc Cert.Ffn2Dw.nD Cert.Ffn2Dw.τ Cert.Ffn2Dw.sig) → Buf (Elt Bits) ℓ) (g : Dev Cert.Ffn2Dw.nD → PrngReg), Pre_Ffn2Dw m →
    θ_run (Cert.Ffn2Dw.defs (F := Bits)) (onTc (τ := Cert.Ffn2Dw.τ) (Cert.Ffn2Dw.main (F := Bits))) ⟨m, fun _ => 0, g⟩ (fun r => (∀ c : Dev Cert.Ffn2Dw.nD,
      r.2.mem ((c.tc : Thread Cert.Ffn2Dw.nD Cert.Ffn2Dw.τ).loc Cert.Ffn2Dw.main_arg0) = m ((c.tc : Thread Cert.Ffn2Dw.nD Cert.Ffn2Dw.τ).loc Cert.Ffn2Dw.main_arg0)
      ∧ r.2.mem ((c.tc : Thread Cert.Ffn2Dw.nD Cert.Ffn2Dw.τ).loc Cert.Ffn2Dw.main_arg1) = m ((c.tc : Thread Cert.Ffn2Dw.nD Cert.Ffn2Dw.τ).loc Cert.Ffn2Dw.main_arg1)
      ∧ r.2.mem ((c.tc : Thread Cert.Ffn2Dw.nD Cert.Ffn2Dw.τ).loc Cert.Ffn2Dw.main_arg2) = m ((c.tc : Thread Cert.Ffn2Dw.nD Cert.Ffn2Dw.τ).loc Cert.Ffn2Dw.main_arg2))
      ∧ r.2.sem = fun _ => 0)

def quiescent_Ffn2DwIdeal [hFfn2DwIdeal : Cert.Ffn2DwIdeal.Facts] : Prop :=
  ∀ (m : (ℓ : Loc Cert.Ffn2DwIdeal.nD Cert.Ffn2DwIdeal.τ Cert.Ffn2DwIdeal.sig) → Buf (Elt Ideal) ℓ) (g : Dev Cert.Ffn2DwIdeal.nD → PrngReg), Pre_Ffn2DwIdeal m →
    θ_run (Cert.Ffn2DwIdeal.defs (F := Ideal)) (onTc (τ := Cert.Ffn2DwIdeal.τ) (Cert.Ffn2DwIdeal.main (F := Ideal))) ⟨m, fun _ => 0, g⟩ (fun r => (∀ c : Dev Cert.Ffn2DwIdeal.nD,
      r.2.mem ((c.tc : Thread Cert.Ffn2DwIdeal.nD Cert.Ffn2DwIdeal.τ).loc Cert.Ffn2DwIdeal.main_arg0) = m ((c.tc : Thread Cert.Ffn2DwIdeal.nD Cert.Ffn2DwIdeal.τ).loc Cert.Ffn2DwIdeal.main_arg0)
      ∧ r.2.mem ((c.tc : Thread Cert.Ffn2DwIdeal.nD Cert.Ffn2DwIdeal.τ).loc Cert.Ffn2DwIdeal.main_arg1) = m ((c.tc : Thread Cert.Ffn2DwIdeal.nD Cert.Ffn2DwIdeal.τ).loc Cert.Ffn2DwIdeal.main_arg1)
      ∧ r.2.mem ((c.tc : Thread Cert.Ffn2DwIdeal.nD Cert.Ffn2DwIdeal.τ).loc Cert.Ffn2DwIdeal.main_arg2) = m ((c.tc : Thread Cert.Ffn2DwIdeal.nD Cert.Ffn2DwIdeal.τ).loc Cert.Ffn2DwIdeal.main_arg2))
      ∧ r.2.sem = fun _ => 0)

def quiescent_Ffn2DwRefIdeal [hFfn2DwRefIdeal : Cert.Ffn2DwRefIdeal.Facts] : Prop :=
  ∀ (m : (ℓ : Loc Cert.Ffn2DwRefIdeal.nD Cert.Ffn2DwRefIdeal.τ Cert.Ffn2DwRefIdeal.sig) → Buf (Elt Ideal) ℓ) (g : Dev Cert.Ffn2DwRefIdeal.nD → PrngReg), Pre_Ffn2DwRefIdeal m →
    θ_run (Cert.Ffn2DwRefIdeal.defs (F := Ideal)) (onTc (τ := Cert.Ffn2DwRefIdeal.τ) (Cert.Ffn2DwRefIdeal.main (F := Ideal))) ⟨m, fun _ => 0, g⟩ (fun r => (∀ c : Dev Cert.Ffn2DwRefIdeal.nD,
      r.2.mem ((c.tc : Thread Cert.Ffn2DwRefIdeal.nD Cert.Ffn2DwRefIdeal.τ).loc Cert.Ffn2DwRefIdeal.main_arg0) = m ((c.tc : Thread Cert.Ffn2DwRefIdeal.nD Cert.Ffn2DwRefIdeal.τ).loc Cert.Ffn2DwRefIdeal.main_arg0)
      ∧ r.2.mem ((c.tc : Thread Cert.Ffn2DwRefIdeal.nD Cert.Ffn2DwRefIdeal.τ).loc Cert.Ffn2DwRefIdeal.main_arg1) = m ((c.tc : Thread Cert.Ffn2DwRefIdeal.nD Cert.Ffn2DwRefIdeal.τ).loc Cert.Ffn2DwRefIdeal.main_arg1)
      ∧ r.2.mem ((c.tc : Thread Cert.Ffn2DwRefIdeal.nD Cert.Ffn2DwRefIdeal.τ).loc Cert.Ffn2DwRefIdeal.main_arg2) = m ((c.tc : Thread Cert.Ffn2DwRefIdeal.nD Cert.Ffn2DwRefIdeal.τ).loc Cert.Ffn2DwRefIdeal.main_arg2))
      ∧ r.2.sem = fun _ => 0)

def quiescent_Ffn1Dx [hFfn1Dx : Cert.Ffn1Dx.Facts] : Prop :=
  ∀ (m : (ℓ : Loc Cert.Ffn1Dx.nD Cert.Ffn1Dx.τ Cert.Ffn1Dx.sig) → Buf (Elt Bits) ℓ) (g : Dev Cert.Ffn1Dx.nD → PrngReg), Pre_Ffn1Dx m →
    θ_run (Cert.Ffn1Dx.defs (F := Bits)) (onTc (τ := Cert.Ffn1Dx.τ) (Cert.Ffn1Dx.main (F := Bits))) ⟨m, fun _ => 0, g⟩ (fun r => (∀ c : Dev Cert.Ffn1Dx.nD,
      r.2.mem ((c.tc : Thread Cert.Ffn1Dx.nD Cert.Ffn1Dx.τ).loc Cert.Ffn1Dx.main_arg0) = m ((c.tc : Thread Cert.Ffn1Dx.nD Cert.Ffn1Dx.τ).loc Cert.Ffn1Dx.main_arg0)
      ∧ r.2.mem ((c.tc : Thread Cert.Ffn1Dx.nD Cert.Ffn1Dx.τ).loc Cert.Ffn1Dx.main_arg1) = m ((c.tc : Thread Cert.Ffn1Dx.nD Cert.Ffn1Dx.τ).loc Cert.Ffn1Dx.main_arg1)
      ∧ r.2.mem ((c.tc : Thread Cert.Ffn1Dx.nD Cert.Ffn1Dx.τ).loc Cert.Ffn1Dx.main_arg2) = m ((c.tc : Thread Cert.Ffn1Dx.nD Cert.Ffn1Dx.τ).loc Cert.Ffn1Dx.main_arg2))
      ∧ r.2.sem = fun _ => 0)

def quiescent_Ffn1DxIdeal [hFfn1DxIdeal : Cert.Ffn1DxIdeal.Facts] : Prop :=
  ∀ (m : (ℓ : Loc Cert.Ffn1DxIdeal.nD Cert.Ffn1DxIdeal.τ Cert.Ffn1DxIdeal.sig) → Buf (Elt Ideal) ℓ) (g : Dev Cert.Ffn1DxIdeal.nD → PrngReg), Pre_Ffn1DxIdeal m →
    θ_run (Cert.Ffn1DxIdeal.defs (F := Ideal)) (onTc (τ := Cert.Ffn1DxIdeal.τ) (Cert.Ffn1DxIdeal.main (F := Ideal))) ⟨m, fun _ => 0, g⟩ (fun r => (∀ c : Dev Cert.Ffn1DxIdeal.nD,
      r.2.mem ((c.tc : Thread Cert.Ffn1DxIdeal.nD Cert.Ffn1DxIdeal.τ).loc Cert.Ffn1DxIdeal.main_arg0) = m ((c.tc : Thread Cert.Ffn1DxIdeal.nD Cert.Ffn1DxIdeal.τ).loc Cert.Ffn1DxIdeal.main_arg0)
      ∧ r.2.mem ((c.tc : Thread Cert.Ffn1DxIdeal.nD Cert.Ffn1DxIdeal.τ).loc Cert.Ffn1DxIdeal.main_arg1) = m ((c.tc : Thread Cert.Ffn1DxIdeal.nD Cert.Ffn1DxIdeal.τ).loc Cert.Ffn1DxIdeal.main_arg1)
      ∧ r.2.mem ((c.tc : Thread Cert.Ffn1DxIdeal.nD Cert.Ffn1DxIdeal.τ).loc Cert.Ffn1DxIdeal.main_arg2) = m ((c.tc : Thread Cert.Ffn1DxIdeal.nD Cert.Ffn1DxIdeal.τ).loc Cert.Ffn1DxIdeal.main_arg2))
      ∧ r.2.sem = fun _ => 0)

def quiescent_Ffn1DxRefIdeal [hFfn1DxRefIdeal : Cert.Ffn1DxRefIdeal.Facts] : Prop :=
  ∀ (m : (ℓ : Loc Cert.Ffn1DxRefIdeal.nD Cert.Ffn1DxRefIdeal.τ Cert.Ffn1DxRefIdeal.sig) → Buf (Elt Ideal) ℓ) (g : Dev Cert.Ffn1DxRefIdeal.nD → PrngReg), Pre_Ffn1DxRefIdeal m →
    θ_run (Cert.Ffn1DxRefIdeal.defs (F := Ideal)) (onTc (τ := Cert.Ffn1DxRefIdeal.τ) (Cert.Ffn1DxRefIdeal.main (F := Ideal))) ⟨m, fun _ => 0, g⟩ (fun r => (∀ c : Dev Cert.Ffn1DxRefIdeal.nD,
      r.2.mem ((c.tc : Thread Cert.Ffn1DxRefIdeal.nD Cert.Ffn1DxRefIdeal.τ).loc Cert.Ffn1DxRefIdeal.main_arg0) = m ((c.tc : Thread Cert.Ffn1DxRefIdeal.nD Cert.Ffn1DxRefIdeal.τ).loc Cert.Ffn1DxRefIdeal.main_arg0)
      ∧ r.2.mem ((c.tc : Thread Cert.Ffn1DxRefIdeal.nD Cert.Ffn1DxRefIdeal.τ).loc Cert.Ffn1DxRefIdeal.main_arg1) = m ((c.tc : Thread Cert.Ffn1DxRefIdeal.nD Cert.Ffn1DxRefIdeal.τ).loc Cert.Ffn1DxRefIdeal.main_arg1)
      ∧ r.2.mem ((c.tc : Thread Cert.Ffn1DxRefIdeal.nD Cert.Ffn1DxRefIdeal.τ).loc Cert.Ffn1DxRefIdeal.main_arg2) = m ((c.tc : Thread Cert.Ffn1DxRefIdeal.nD Cert.Ffn1DxRefIdeal.τ).loc Cert.Ffn1DxRefIdeal.main_arg2))
      ∧ r.2.sem = fun _ => 0)

def quiescent_Ffn1Dw [hFfn1Dw : Cert.Ffn1Dw.Facts] : Prop :=
  ∀ (m : (ℓ : Loc Cert.Ffn1Dw.nD Cert.Ffn1Dw.τ Cert.Ffn1Dw.sig) → Buf (Elt Bits) ℓ) (g : Dev Cert.Ffn1Dw.nD → PrngReg), Pre_Ffn1Dw m →
    θ_run (Cert.Ffn1Dw.defs (F := Bits)) (onTc (τ := Cert.Ffn1Dw.τ) (Cert.Ffn1Dw.main (F := Bits))) ⟨m, fun _ => 0, g⟩ (fun r => (∀ c : Dev Cert.Ffn1Dw.nD,
      r.2.mem ((c.tc : Thread Cert.Ffn1Dw.nD Cert.Ffn1Dw.τ).loc Cert.Ffn1Dw.main_arg0) = m ((c.tc : Thread Cert.Ffn1Dw.nD Cert.Ffn1Dw.τ).loc Cert.Ffn1Dw.main_arg0)
      ∧ r.2.mem ((c.tc : Thread Cert.Ffn1Dw.nD Cert.Ffn1Dw.τ).loc Cert.Ffn1Dw.main_arg1) = m ((c.tc : Thread Cert.Ffn1Dw.nD Cert.Ffn1Dw.τ).loc Cert.Ffn1Dw.main_arg1)
      ∧ r.2.mem ((c.tc : Thread Cert.Ffn1Dw.nD Cert.Ffn1Dw.τ).loc Cert.Ffn1Dw.main_arg2) = m ((c.tc : Thread Cert.Ffn1Dw.nD Cert.Ffn1Dw.τ).loc Cert.Ffn1Dw.main_arg2))
      ∧ r.2.sem = fun _ => 0)

def quiescent_Ffn1DwIdeal [hFfn1DwIdeal : Cert.Ffn1DwIdeal.Facts] : Prop :=
  ∀ (m : (ℓ : Loc Cert.Ffn1DwIdeal.nD Cert.Ffn1DwIdeal.τ Cert.Ffn1DwIdeal.sig) → Buf (Elt Ideal) ℓ) (g : Dev Cert.Ffn1DwIdeal.nD → PrngReg), Pre_Ffn1DwIdeal m →
    θ_run (Cert.Ffn1DwIdeal.defs (F := Ideal)) (onTc (τ := Cert.Ffn1DwIdeal.τ) (Cert.Ffn1DwIdeal.main (F := Ideal))) ⟨m, fun _ => 0, g⟩ (fun r => (∀ c : Dev Cert.Ffn1DwIdeal.nD,
      r.2.mem ((c.tc : Thread Cert.Ffn1DwIdeal.nD Cert.Ffn1DwIdeal.τ).loc Cert.Ffn1DwIdeal.main_arg0) = m ((c.tc : Thread Cert.Ffn1DwIdeal.nD Cert.Ffn1DwIdeal.τ).loc Cert.Ffn1DwIdeal.main_arg0)
      ∧ r.2.mem ((c.tc : Thread Cert.Ffn1DwIdeal.nD Cert.Ffn1DwIdeal.τ).loc Cert.Ffn1DwIdeal.main_arg1) = m ((c.tc : Thread Cert.Ffn1DwIdeal.nD Cert.Ffn1DwIdeal.τ).loc Cert.Ffn1DwIdeal.main_arg1)
      ∧ r.2.mem ((c.tc : Thread Cert.Ffn1DwIdeal.nD Cert.Ffn1DwIdeal.τ).loc Cert.Ffn1DwIdeal.main_arg2) = m ((c.tc : Thread Cert.Ffn1DwIdeal.nD Cert.Ffn1DwIdeal.τ).loc Cert.Ffn1DwIdeal.main_arg2))
      ∧ r.2.sem = fun _ => 0)

def quiescent_Ffn1DwRefIdeal [hFfn1DwRefIdeal : Cert.Ffn1DwRefIdeal.Facts] : Prop :=
  ∀ (m : (ℓ : Loc Cert.Ffn1DwRefIdeal.nD Cert.Ffn1DwRefIdeal.τ Cert.Ffn1DwRefIdeal.sig) → Buf (Elt Ideal) ℓ) (g : Dev Cert.Ffn1DwRefIdeal.nD → PrngReg), Pre_Ffn1DwRefIdeal m →
    θ_run (Cert.Ffn1DwRefIdeal.defs (F := Ideal)) (onTc (τ := Cert.Ffn1DwRefIdeal.τ) (Cert.Ffn1DwRefIdeal.main (F := Ideal))) ⟨m, fun _ => 0, g⟩ (fun r => (∀ c : Dev Cert.Ffn1DwRefIdeal.nD,
      r.2.mem ((c.tc : Thread Cert.Ffn1DwRefIdeal.nD Cert.Ffn1DwRefIdeal.τ).loc Cert.Ffn1DwRefIdeal.main_arg0) = m ((c.tc : Thread Cert.Ffn1DwRefIdeal.nD Cert.Ffn1DwRefIdeal.τ).loc Cert.Ffn1DwRefIdeal.main_arg0)
      ∧ r.2.mem ((c.tc : Thread Cert.Ffn1DwRefIdeal.nD Cert.Ffn1DwRefIdeal.τ).loc Cert.Ffn1DwRefIdeal.main_arg1) = m ((c.tc : Thread Cert.Ffn1DwRefIdeal.nD Cert.Ffn1DwRefIdeal.τ).loc Cert.Ffn1DwRefIdeal.main_arg1)
      ∧ r.2.mem ((c.tc : Thread Cert.Ffn1DwRefIdeal.nD Cert.Ffn1DwRefIdeal.τ).loc Cert.Ffn1DwRefIdeal.main_arg2) = m ((c.tc : Thread Cert.Ffn1DwRefIdeal.nD Cert.Ffn1DwRefIdeal.τ).loc Cert.Ffn1DwRefIdeal.main_arg2))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1)
      ∧ r.2.mem ((c.tc : Thread Cert.MixDw.nD Cert.MixDw.τ).loc Cert.MixDw.main_arg2) = m ((c.tc : Thread Cert.MixDw.nD Cert.MixDw.τ).loc Cert.MixDw.main_arg2))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
      ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1)
      ∧ r.2.mem ((c.tc : Thread Cert.MixDwRefIdeal.nD Cert.MixDwRefIdeal.τ).loc Cert.MixDwRefIdeal.main_arg2) = m ((c.tc : Thread Cert.MixDwRefIdeal.nD Cert.MixDwRefIdeal.τ).loc Cert.MixDwRefIdeal.main_arg2))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1)
      ∧ r.2.mem ((c.tc : Thread Cert.ProjDw.nD Cert.ProjDw.τ).loc Cert.ProjDw.main_arg2) = m ((c.tc : Thread Cert.ProjDw.nD Cert.ProjDw.τ).loc Cert.ProjDw.main_arg2))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
      ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1)
      ∧ r.2.mem ((c.tc : Thread Cert.ProjDwRefIdeal.nD Cert.ProjDwRefIdeal.τ).loc Cert.ProjDwRefIdeal.main_arg2) = m ((c.tc : Thread Cert.ProjDwRefIdeal.nD Cert.ProjDwRefIdeal.τ).loc Cert.ProjDwRefIdeal.main_arg2))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Norm1Dx [hNorm1Dx : Cert.Norm1Dx.Facts] : Prop :=
  ∀ (m : (ℓ : Loc Cert.Norm1Dx.nD Cert.Norm1Dx.τ Cert.Norm1Dx.sig) → Buf (Elt Bits) ℓ) (g : Dev Cert.Norm1Dx.nD → PrngReg), Pre_Norm1Dx m →
    θ_run (Cert.Norm1Dx.defs (F := Bits)) (onTc (τ := Cert.Norm1Dx.τ) (Cert.Norm1Dx.main (F := Bits))) ⟨m, fun _ => 0, g⟩ (fun r => (∀ c : Dev Cert.Norm1Dx.nD,
      r.2.mem ((c.tc : Thread Cert.Norm1Dx.nD Cert.Norm1Dx.τ).loc Cert.Norm1Dx.main_arg0) = m ((c.tc : Thread Cert.Norm1Dx.nD Cert.Norm1Dx.τ).loc Cert.Norm1Dx.main_arg0)
      ∧ r.2.mem ((c.tc : Thread Cert.Norm1Dx.nD Cert.Norm1Dx.τ).loc Cert.Norm1Dx.main_arg1) = m ((c.tc : Thread Cert.Norm1Dx.nD Cert.Norm1Dx.τ).loc Cert.Norm1Dx.main_arg1)
      ∧ r.2.mem ((c.tc : Thread Cert.Norm1Dx.nD Cert.Norm1Dx.τ).loc Cert.Norm1Dx.main_arg2) = m ((c.tc : Thread Cert.Norm1Dx.nD Cert.Norm1Dx.τ).loc Cert.Norm1Dx.main_arg2)
      ∧ r.2.mem ((c.tc : Thread Cert.Norm1Dx.nD Cert.Norm1Dx.τ).loc Cert.Norm1Dx.main_arg3) = m ((c.tc : Thread Cert.Norm1Dx.nD Cert.Norm1Dx.τ).loc Cert.Norm1Dx.main_arg3)
      ∧ r.2.mem ((c.tc : Thread Cert.Norm1Dx.nD Cert.Norm1Dx.τ).loc Cert.Norm1Dx.main_arg4) = m ((c.tc : Thread Cert.Norm1Dx.nD Cert.Norm1Dx.τ).loc Cert.Norm1Dx.main_arg4)
      ∧ r.2.mem ((c.tc : Thread Cert.Norm1Dx.nD Cert.Norm1Dx.τ).loc Cert.Norm1Dx.main_arg5) = m ((c.tc : Thread Cert.Norm1Dx.nD Cert.Norm1Dx.τ).loc Cert.Norm1Dx.main_arg5))
      ∧ r.2.sem = fun _ => 0)

def quiescent_Norm1DxIdeal [hNorm1DxIdeal : Cert.Norm1DxIdeal.Facts] : Prop :=
  ∀ (m : (ℓ : Loc Cert.Norm1DxIdeal.nD Cert.Norm1DxIdeal.τ Cert.Norm1DxIdeal.sig) → Buf (Elt Ideal) ℓ) (g : Dev Cert.Norm1DxIdeal.nD → PrngReg), Pre_Norm1DxIdeal m →
    θ_run (Cert.Norm1DxIdeal.defs (F := Ideal)) (onTc (τ := Cert.Norm1DxIdeal.τ) (Cert.Norm1DxIdeal.main (F := Ideal))) ⟨m, fun _ => 0, g⟩ (fun r => (∀ c : Dev Cert.Norm1DxIdeal.nD,
      r.2.mem ((c.tc : Thread Cert.Norm1DxIdeal.nD Cert.Norm1DxIdeal.τ).loc Cert.Norm1DxIdeal.main_arg0) = m ((c.tc : Thread Cert.Norm1DxIdeal.nD Cert.Norm1DxIdeal.τ).loc Cert.Norm1DxIdeal.main_arg0)
      ∧ r.2.mem ((c.tc : Thread Cert.Norm1DxIdeal.nD Cert.Norm1DxIdeal.τ).loc Cert.Norm1DxIdeal.main_arg1) = m ((c.tc : Thread Cert.Norm1DxIdeal.nD Cert.Norm1DxIdeal.τ).loc Cert.Norm1DxIdeal.main_arg1)
      ∧ r.2.mem ((c.tc : Thread Cert.Norm1DxIdeal.nD Cert.Norm1DxIdeal.τ).loc Cert.Norm1DxIdeal.main_arg2) = m ((c.tc : Thread Cert.Norm1DxIdeal.nD Cert.Norm1DxIdeal.τ).loc Cert.Norm1DxIdeal.main_arg2)
      ∧ r.2.mem ((c.tc : Thread Cert.Norm1DxIdeal.nD Cert.Norm1DxIdeal.τ).loc Cert.Norm1DxIdeal.main_arg3) = m ((c.tc : Thread Cert.Norm1DxIdeal.nD Cert.Norm1DxIdeal.τ).loc Cert.Norm1DxIdeal.main_arg3)
      ∧ r.2.mem ((c.tc : Thread Cert.Norm1DxIdeal.nD Cert.Norm1DxIdeal.τ).loc Cert.Norm1DxIdeal.main_arg4) = m ((c.tc : Thread Cert.Norm1DxIdeal.nD Cert.Norm1DxIdeal.τ).loc Cert.Norm1DxIdeal.main_arg4)
      ∧ r.2.mem ((c.tc : Thread Cert.Norm1DxIdeal.nD Cert.Norm1DxIdeal.τ).loc Cert.Norm1DxIdeal.main_arg5) = m ((c.tc : Thread Cert.Norm1DxIdeal.nD Cert.Norm1DxIdeal.τ).loc Cert.Norm1DxIdeal.main_arg5))
      ∧ r.2.sem = fun _ => 0)

def quiescent_Norm1DxRefIdeal [hNorm1DxRefIdeal : Cert.Norm1DxRefIdeal.Facts] : Prop :=
  ∀ (m : (ℓ : Loc Cert.Norm1DxRefIdeal.nD Cert.Norm1DxRefIdeal.τ Cert.Norm1DxRefIdeal.sig) → Buf (Elt Ideal) ℓ) (g : Dev Cert.Norm1DxRefIdeal.nD → PrngReg), Pre_Norm1DxRefIdeal m →
    θ_run (Cert.Norm1DxRefIdeal.defs (F := Ideal)) (onTc (τ := Cert.Norm1DxRefIdeal.τ) (Cert.Norm1DxRefIdeal.main (F := Ideal))) ⟨m, fun _ => 0, g⟩ (fun r => (∀ c : Dev Cert.Norm1DxRefIdeal.nD,
      r.2.mem ((c.tc : Thread Cert.Norm1DxRefIdeal.nD Cert.Norm1DxRefIdeal.τ).loc Cert.Norm1DxRefIdeal.main_arg0) = m ((c.tc : Thread Cert.Norm1DxRefIdeal.nD Cert.Norm1DxRefIdeal.τ).loc Cert.Norm1DxRefIdeal.main_arg0)
      ∧ r.2.mem ((c.tc : Thread Cert.Norm1DxRefIdeal.nD Cert.Norm1DxRefIdeal.τ).loc Cert.Norm1DxRefIdeal.main_arg1) = m ((c.tc : Thread Cert.Norm1DxRefIdeal.nD Cert.Norm1DxRefIdeal.τ).loc Cert.Norm1DxRefIdeal.main_arg1)
      ∧ r.2.mem ((c.tc : Thread Cert.Norm1DxRefIdeal.nD Cert.Norm1DxRefIdeal.τ).loc Cert.Norm1DxRefIdeal.main_arg2) = m ((c.tc : Thread Cert.Norm1DxRefIdeal.nD Cert.Norm1DxRefIdeal.τ).loc Cert.Norm1DxRefIdeal.main_arg2)
      ∧ r.2.mem ((c.tc : Thread Cert.Norm1DxRefIdeal.nD Cert.Norm1DxRefIdeal.τ).loc Cert.Norm1DxRefIdeal.main_arg3) = m ((c.tc : Thread Cert.Norm1DxRefIdeal.nD Cert.Norm1DxRefIdeal.τ).loc Cert.Norm1DxRefIdeal.main_arg3)
      ∧ r.2.mem ((c.tc : Thread Cert.Norm1DxRefIdeal.nD Cert.Norm1DxRefIdeal.τ).loc Cert.Norm1DxRefIdeal.main_arg4) = m ((c.tc : Thread Cert.Norm1DxRefIdeal.nD Cert.Norm1DxRefIdeal.τ).loc Cert.Norm1DxRefIdeal.main_arg4)
      ∧ r.2.mem ((c.tc : Thread Cert.Norm1DxRefIdeal.nD Cert.Norm1DxRefIdeal.τ).loc Cert.Norm1DxRefIdeal.main_arg5) = m ((c.tc : Thread Cert.Norm1DxRefIdeal.nD Cert.Norm1DxRefIdeal.τ).loc Cert.Norm1DxRefIdeal.main_arg5))
      ∧ r.2.sem = fun _ => 0)

def quiescent_Norm2Dx [hNorm2Dx : Cert.Norm2Dx.Facts] : Prop :=
  ∀ (m : (ℓ : Loc Cert.Norm2Dx.nD Cert.Norm2Dx.τ Cert.Norm2Dx.sig) → Buf (Elt Bits) ℓ) (g : Dev Cert.Norm2Dx.nD → PrngReg), Pre_Norm2Dx m →
    θ_run (Cert.Norm2Dx.defs (F := Bits)) (onTc (τ := Cert.Norm2Dx.τ) (Cert.Norm2Dx.main (F := Bits))) ⟨m, fun _ => 0, g⟩ (fun r => (∀ c : Dev Cert.Norm2Dx.nD,
      r.2.mem ((c.tc : Thread Cert.Norm2Dx.nD Cert.Norm2Dx.τ).loc Cert.Norm2Dx.main_arg0) = m ((c.tc : Thread Cert.Norm2Dx.nD Cert.Norm2Dx.τ).loc Cert.Norm2Dx.main_arg0)
      ∧ r.2.mem ((c.tc : Thread Cert.Norm2Dx.nD Cert.Norm2Dx.τ).loc Cert.Norm2Dx.main_arg1) = m ((c.tc : Thread Cert.Norm2Dx.nD Cert.Norm2Dx.τ).loc Cert.Norm2Dx.main_arg1)
      ∧ r.2.mem ((c.tc : Thread Cert.Norm2Dx.nD Cert.Norm2Dx.τ).loc Cert.Norm2Dx.main_arg2) = m ((c.tc : Thread Cert.Norm2Dx.nD Cert.Norm2Dx.τ).loc Cert.Norm2Dx.main_arg2)
      ∧ r.2.mem ((c.tc : Thread Cert.Norm2Dx.nD Cert.Norm2Dx.τ).loc Cert.Norm2Dx.main_arg3) = m ((c.tc : Thread Cert.Norm2Dx.nD Cert.Norm2Dx.τ).loc Cert.Norm2Dx.main_arg3)
      ∧ r.2.mem ((c.tc : Thread Cert.Norm2Dx.nD Cert.Norm2Dx.τ).loc Cert.Norm2Dx.main_arg4) = m ((c.tc : Thread Cert.Norm2Dx.nD Cert.Norm2Dx.τ).loc Cert.Norm2Dx.main_arg4)
      ∧ r.2.mem ((c.tc : Thread Cert.Norm2Dx.nD Cert.Norm2Dx.τ).loc Cert.Norm2Dx.main_arg5) = m ((c.tc : Thread Cert.Norm2Dx.nD Cert.Norm2Dx.τ).loc Cert.Norm2Dx.main_arg5)
      ∧ r.2.mem ((c.tc : Thread Cert.Norm2Dx.nD Cert.Norm2Dx.τ).loc Cert.Norm2Dx.main_arg6) = m ((c.tc : Thread Cert.Norm2Dx.nD Cert.Norm2Dx.τ).loc Cert.Norm2Dx.main_arg6)
      ∧ r.2.mem ((c.tc : Thread Cert.Norm2Dx.nD Cert.Norm2Dx.τ).loc Cert.Norm2Dx.main_arg7) = m ((c.tc : Thread Cert.Norm2Dx.nD Cert.Norm2Dx.τ).loc Cert.Norm2Dx.main_arg7))
      ∧ r.2.sem = fun _ => 0)

def quiescent_Norm2DxIdeal [hNorm2DxIdeal : Cert.Norm2DxIdeal.Facts] : Prop :=
  ∀ (m : (ℓ : Loc Cert.Norm2DxIdeal.nD Cert.Norm2DxIdeal.τ Cert.Norm2DxIdeal.sig) → Buf (Elt Ideal) ℓ) (g : Dev Cert.Norm2DxIdeal.nD → PrngReg), Pre_Norm2DxIdeal m →
    θ_run (Cert.Norm2DxIdeal.defs (F := Ideal)) (onTc (τ := Cert.Norm2DxIdeal.τ) (Cert.Norm2DxIdeal.main (F := Ideal))) ⟨m, fun _ => 0, g⟩ (fun r => (∀ c : Dev Cert.Norm2DxIdeal.nD,
      r.2.mem ((c.tc : Thread Cert.Norm2DxIdeal.nD Cert.Norm2DxIdeal.τ).loc Cert.Norm2DxIdeal.main_arg0) = m ((c.tc : Thread Cert.Norm2DxIdeal.nD Cert.Norm2DxIdeal.τ).loc Cert.Norm2DxIdeal.main_arg0)
      ∧ r.2.mem ((c.tc : Thread Cert.Norm2DxIdeal.nD Cert.Norm2DxIdeal.τ).loc Cert.Norm2DxIdeal.main_arg1) = m ((c.tc : Thread Cert.Norm2DxIdeal.nD Cert.Norm2DxIdeal.τ).loc Cert.Norm2DxIdeal.main_arg1)
      ∧ r.2.mem ((c.tc : Thread Cert.Norm2DxIdeal.nD Cert.Norm2DxIdeal.τ).loc Cert.Norm2DxIdeal.main_arg2) = m ((c.tc : Thread Cert.Norm2DxIdeal.nD Cert.Norm2DxIdeal.τ).loc Cert.Norm2DxIdeal.main_arg2)
      ∧ r.2.mem ((c.tc : Thread Cert.Norm2DxIdeal.nD Cert.Norm2DxIdeal.τ).loc Cert.Norm2DxIdeal.main_arg3) = m ((c.tc : Thread Cert.Norm2DxIdeal.nD Cert.Norm2DxIdeal.τ).loc Cert.Norm2DxIdeal.main_arg3)
      ∧ r.2.mem ((c.tc : Thread Cert.Norm2DxIdeal.nD Cert.Norm2DxIdeal.τ).loc Cert.Norm2DxIdeal.main_arg4) = m ((c.tc : Thread Cert.Norm2DxIdeal.nD Cert.Norm2DxIdeal.τ).loc Cert.Norm2DxIdeal.main_arg4)
      ∧ r.2.mem ((c.tc : Thread Cert.Norm2DxIdeal.nD Cert.Norm2DxIdeal.τ).loc Cert.Norm2DxIdeal.main_arg5) = m ((c.tc : Thread Cert.Norm2DxIdeal.nD Cert.Norm2DxIdeal.τ).loc Cert.Norm2DxIdeal.main_arg5)
      ∧ r.2.mem ((c.tc : Thread Cert.Norm2DxIdeal.nD Cert.Norm2DxIdeal.τ).loc Cert.Norm2DxIdeal.main_arg6) = m ((c.tc : Thread Cert.Norm2DxIdeal.nD Cert.Norm2DxIdeal.τ).loc Cert.Norm2DxIdeal.main_arg6)
      ∧ r.2.mem ((c.tc : Thread Cert.Norm2DxIdeal.nD Cert.Norm2DxIdeal.τ).loc Cert.Norm2DxIdeal.main_arg7) = m ((c.tc : Thread Cert.Norm2DxIdeal.nD Cert.Norm2DxIdeal.τ).loc Cert.Norm2DxIdeal.main_arg7))
      ∧ r.2.sem = fun _ => 0)

def quiescent_Norm2DxRefIdeal [hNorm2DxRefIdeal : Cert.Norm2DxRefIdeal.Facts] : Prop :=
  ∀ (m : (ℓ : Loc Cert.Norm2DxRefIdeal.nD Cert.Norm2DxRefIdeal.τ Cert.Norm2DxRefIdeal.sig) → Buf (Elt Ideal) ℓ) (g : Dev Cert.Norm2DxRefIdeal.nD → PrngReg), Pre_Norm2DxRefIdeal m →
    θ_run (Cert.Norm2DxRefIdeal.defs (F := Ideal)) (onTc (τ := Cert.Norm2DxRefIdeal.τ) (Cert.Norm2DxRefIdeal.main (F := Ideal))) ⟨m, fun _ => 0, g⟩ (fun r => (∀ c : Dev Cert.Norm2DxRefIdeal.nD,
      r.2.mem ((c.tc : Thread Cert.Norm2DxRefIdeal.nD Cert.Norm2DxRefIdeal.τ).loc Cert.Norm2DxRefIdeal.main_arg0) = m ((c.tc : Thread Cert.Norm2DxRefIdeal.nD Cert.Norm2DxRefIdeal.τ).loc Cert.Norm2DxRefIdeal.main_arg0)
      ∧ r.2.mem ((c.tc : Thread Cert.Norm2DxRefIdeal.nD Cert.Norm2DxRefIdeal.τ).loc Cert.Norm2DxRefIdeal.main_arg1) = m ((c.tc : Thread Cert.Norm2DxRefIdeal.nD Cert.Norm2DxRefIdeal.τ).loc Cert.Norm2DxRefIdeal.main_arg1)
      ∧ r.2.mem ((c.tc : Thread Cert.Norm2DxRefIdeal.nD Cert.Norm2DxRefIdeal.τ).loc Cert.Norm2DxRefIdeal.main_arg2) = m ((c.tc : Thread Cert.Norm2DxRefIdeal.nD Cert.Norm2DxRefIdeal.τ).loc Cert.Norm2DxRefIdeal.main_arg2)
      ∧ r.2.mem ((c.tc : Thread Cert.Norm2DxRefIdeal.nD Cert.Norm2DxRefIdeal.τ).loc Cert.Norm2DxRefIdeal.main_arg3) = m ((c.tc : Thread Cert.Norm2DxRefIdeal.nD Cert.Norm2DxRefIdeal.τ).loc Cert.Norm2DxRefIdeal.main_arg3)
      ∧ r.2.mem ((c.tc : Thread Cert.Norm2DxRefIdeal.nD Cert.Norm2DxRefIdeal.τ).loc Cert.Norm2DxRefIdeal.main_arg4) = m ((c.tc : Thread Cert.Norm2DxRefIdeal.nD Cert.Norm2DxRefIdeal.τ).loc Cert.Norm2DxRefIdeal.main_arg4)
      ∧ r.2.mem ((c.tc : Thread Cert.Norm2DxRefIdeal.nD Cert.Norm2DxRefIdeal.τ).loc Cert.Norm2DxRefIdeal.main_arg5) = m ((c.tc : Thread Cert.Norm2DxRefIdeal.nD Cert.Norm2DxRefIdeal.τ).loc Cert.Norm2DxRefIdeal.main_arg5)
      ∧ r.2.mem ((c.tc : Thread Cert.Norm2DxRefIdeal.nD Cert.Norm2DxRefIdeal.τ).loc Cert.Norm2DxRefIdeal.main_arg6) = m ((c.tc : Thread Cert.Norm2DxRefIdeal.nD Cert.Norm2DxRefIdeal.τ).loc Cert.Norm2DxRefIdeal.main_arg6)
      ∧ r.2.mem ((c.tc : Thread Cert.Norm2DxRefIdeal.nD Cert.Norm2DxRefIdeal.τ).loc Cert.Norm2DxRefIdeal.main_arg7) = m ((c.tc : Thread Cert.Norm2DxRefIdeal.nD Cert.Norm2DxRefIdeal.τ).loc Cert.Norm2DxRefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4)
      ∧ r.2.mem ((c.tc : Thread Cert.Norm2.nD Cert.Norm2.τ).loc Cert.Norm2.main_arg5) = m ((c.tc : Thread Cert.Norm2.nD Cert.Norm2.τ).loc Cert.Norm2.main_arg5))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1)
      ∧ r.2.mem ((c.tc : Thread Cert.ShiftRefIdeal.nD Cert.ShiftRefIdeal.τ).loc Cert.ShiftRefIdeal.main_arg2) = m ((c.tc : Thread Cert.ShiftRefIdeal.nD Cert.ShiftRefIdeal.τ).loc Cert.ShiftRefIdeal.main_arg2))
      ∧ r.2.sem = fun _ => 0)

def quiescent_AdaW [hAdaW : Cert.AdaW.Facts] : Prop :=
  ∀ (m : (ℓ : Loc Cert.AdaW.nD Cert.AdaW.τ Cert.AdaW.sig) → Buf (Elt Bits) ℓ) (g : Dev Cert.AdaW.nD → PrngReg), Pre_AdaW m →
    θ_run (Cert.AdaW.defs (F := Bits)) (onTc (τ := Cert.AdaW.τ) (Cert.AdaW.main (F := Bits))) ⟨m, fun _ => 0, g⟩ (fun r => (∀ c : Dev Cert.AdaW.nD,
      r.2.mem ((c.tc : Thread Cert.AdaW.nD Cert.AdaW.τ).loc Cert.AdaW.main_arg0) = m ((c.tc : Thread Cert.AdaW.nD Cert.AdaW.τ).loc Cert.AdaW.main_arg0)
      ∧ r.2.mem ((c.tc : Thread Cert.AdaW.nD Cert.AdaW.τ).loc Cert.AdaW.main_arg1) = m ((c.tc : Thread Cert.AdaW.nD Cert.AdaW.τ).loc Cert.AdaW.main_arg1)
      ∧ r.2.mem ((c.tc : Thread Cert.AdaW.nD Cert.AdaW.τ).loc Cert.AdaW.main_arg2) = m ((c.tc : Thread Cert.AdaW.nD Cert.AdaW.τ).loc Cert.AdaW.main_arg2)
      ∧ r.2.mem ((c.tc : Thread Cert.AdaW.nD Cert.AdaW.τ).loc Cert.AdaW.main_arg3) = m ((c.tc : Thread Cert.AdaW.nD Cert.AdaW.τ).loc Cert.AdaW.main_arg3)
      ∧ r.2.mem ((c.tc : Thread Cert.AdaW.nD Cert.AdaW.τ).loc Cert.AdaW.main_arg4) = m ((c.tc : Thread Cert.AdaW.nD Cert.AdaW.τ).loc Cert.AdaW.main_arg4))
      ∧ r.2.sem = fun _ => 0)

def quiescent_AdaWIdeal [hAdaWIdeal : Cert.AdaWIdeal.Facts] : Prop :=
  ∀ (m : (ℓ : Loc Cert.AdaWIdeal.nD Cert.AdaWIdeal.τ Cert.AdaWIdeal.sig) → Buf (Elt Ideal) ℓ) (g : Dev Cert.AdaWIdeal.nD → PrngReg), Pre_AdaWIdeal m →
    θ_run (Cert.AdaWIdeal.defs (F := Ideal)) (onTc (τ := Cert.AdaWIdeal.τ) (Cert.AdaWIdeal.main (F := Ideal))) ⟨m, fun _ => 0, g⟩ (fun r => (∀ c : Dev Cert.AdaWIdeal.nD,
      r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
      ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1)
      ∧ r.2.mem ((c.tc : Thread Cert.AdaWIdeal.nD Cert.AdaWIdeal.τ).loc Cert.AdaWIdeal.main_arg2) = m ((c.tc : Thread Cert.AdaWIdeal.nD Cert.AdaWIdeal.τ).loc Cert.AdaWIdeal.main_arg2)
      ∧ r.2.mem ((c.tc : Thread Cert.AdaWIdeal.nD Cert.AdaWIdeal.τ).loc Cert.AdaWIdeal.main_arg3) = m ((c.tc : Thread Cert.AdaWIdeal.nD Cert.AdaWIdeal.τ).loc Cert.AdaWIdeal.main_arg3)
      ∧ r.2.mem ((c.tc : Thread Cert.AdaWIdeal.nD Cert.AdaWIdeal.τ).loc Cert.AdaWIdeal.main_arg4) = m ((c.tc : Thread Cert.AdaWIdeal.nD Cert.AdaWIdeal.τ).loc Cert.AdaWIdeal.main_arg4))
      ∧ r.2.sem = fun _ => 0)

def quiescent_AdaWRefIdeal [hAdaWRefIdeal : Cert.AdaWRefIdeal.Facts] : Prop :=
  ∀ (m : (ℓ : Loc Cert.AdaWRefIdeal.nD Cert.AdaWRefIdeal.τ Cert.AdaWRefIdeal.sig) → Buf (Elt Ideal) ℓ) (g : Dev Cert.AdaWRefIdeal.nD → PrngReg), Pre_AdaWRefIdeal m →
    θ_run (Cert.AdaWRefIdeal.defs (F := Ideal)) (onTc (τ := Cert.AdaWRefIdeal.τ) (Cert.AdaWRefIdeal.main (F := Ideal))) ⟨m, fun _ => 0, g⟩ (fun r => (∀ c : Dev Cert.AdaWRefIdeal.nD,
      r.2.mem ((c.tc : Thread Cert.AdaWRefIdeal.nD Cert.AdaWRefIdeal.τ).loc Cert.AdaWRefIdeal.main_arg0) = m ((c.tc : Thread Cert.AdaWRefIdeal.nD Cert.AdaWRefIdeal.τ).loc Cert.AdaWRefIdeal.main_arg0)
      ∧ r.2.mem ((c.tc : Thread Cert.AdaWRefIdeal.nD Cert.AdaWRefIdeal.τ).loc Cert.AdaWRefIdeal.main_arg1) = m ((c.tc : Thread Cert.AdaWRefIdeal.nD Cert.AdaWRefIdeal.τ).loc Cert.AdaWRefIdeal.main_arg1)
      ∧ r.2.mem ((c.tc : Thread Cert.AdaWRefIdeal.nD Cert.AdaWRefIdeal.τ).loc Cert.AdaWRefIdeal.main_arg2) = m ((c.tc : Thread Cert.AdaWRefIdeal.nD Cert.AdaWRefIdeal.τ).loc Cert.AdaWRefIdeal.main_arg2)
      ∧ r.2.mem ((c.tc : Thread Cert.AdaWRefIdeal.nD Cert.AdaWRefIdeal.τ).loc Cert.AdaWRefIdeal.main_arg3) = m ((c.tc : Thread Cert.AdaWRefIdeal.nD Cert.AdaWRefIdeal.τ).loc Cert.AdaWRefIdeal.main_arg3)
      ∧ r.2.mem ((c.tc : Thread Cert.AdaWRefIdeal.nD Cert.AdaWRefIdeal.τ).loc Cert.AdaWRefIdeal.main_arg4) = m ((c.tc : Thread Cert.AdaWRefIdeal.nD Cert.AdaWRefIdeal.τ).loc Cert.AdaWRefIdeal.main_arg4))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamRk [hAdamRk : Cert.AdamRk.Facts] : Prop :=
  ∀ (m : (ℓ : Loc Cert.AdamRk.nD Cert.AdamRk.τ Cert.AdamRk.sig) → Buf (Elt Bits) ℓ) (g : Dev Cert.AdamRk.nD → PrngReg), Pre_AdamRk m →
    θ_run (Cert.AdamRk.defs (F := Bits)) (onTc (τ := Cert.AdamRk.τ) (Cert.AdamRk.main (F := Bits))) ⟨m, fun _ => 0, g⟩ (fun r => (∀ c : Dev Cert.AdamRk.nD,
      r.2.mem ((c.tc : Thread Cert.AdamRk.nD Cert.AdamRk.τ).loc Cert.AdamRk.main_arg0) = m ((c.tc : Thread Cert.AdamRk.nD Cert.AdamRk.τ).loc Cert.AdamRk.main_arg0)
      ∧ r.2.mem ((c.tc : Thread Cert.AdamRk.nD Cert.AdamRk.τ).loc Cert.AdamRk.main_arg1) = m ((c.tc : Thread Cert.AdamRk.nD Cert.AdamRk.τ).loc Cert.AdamRk.main_arg1)
      ∧ r.2.mem ((c.tc : Thread Cert.AdamRk.nD Cert.AdamRk.τ).loc Cert.AdamRk.main_arg2) = m ((c.tc : Thread Cert.AdamRk.nD Cert.AdamRk.τ).loc Cert.AdamRk.main_arg2)
      ∧ r.2.mem ((c.tc : Thread Cert.AdamRk.nD Cert.AdamRk.τ).loc Cert.AdamRk.main_arg3) = m ((c.tc : Thread Cert.AdamRk.nD Cert.AdamRk.τ).loc Cert.AdamRk.main_arg3)
      ∧ r.2.mem ((c.tc : Thread Cert.AdamRk.nD Cert.AdamRk.τ).loc Cert.AdamRk.main_arg4) = m ((c.tc : Thread Cert.AdamRk.nD Cert.AdamRk.τ).loc Cert.AdamRk.main_arg4)
      ∧ r.2.mem ((c.tc : Thread Cert.AdamRk.nD Cert.AdamRk.τ).loc Cert.AdamRk.main_arg5) = m ((c.tc : Thread Cert.AdamRk.nD Cert.AdamRk.τ).loc Cert.AdamRk.main_arg5)
      ∧ r.2.mem ((c.tc : Thread Cert.AdamRk.nD Cert.AdamRk.τ).loc Cert.AdamRk.main_arg6) = m ((c.tc : Thread Cert.AdamRk.nD Cert.AdamRk.τ).loc Cert.AdamRk.main_arg6)
      ∧ r.2.mem ((c.tc : Thread Cert.AdamRk.nD Cert.AdamRk.τ).loc Cert.AdamRk.main_arg7) = m ((c.tc : Thread Cert.AdamRk.nD Cert.AdamRk.τ).loc Cert.AdamRk.main_arg7)
      ∧ r.2.mem ((c.tc : Thread Cert.AdamRk.nD Cert.AdamRk.τ).loc Cert.AdamRk.main_arg8) = m ((c.tc : Thread Cert.AdamRk.nD Cert.AdamRk.τ).loc Cert.AdamRk.main_arg8)
      ∧ r.2.mem ((c.tc : Thread Cert.AdamRk.nD Cert.AdamRk.τ).loc Cert.AdamRk.main_arg9) = m ((c.tc : Thread Cert.AdamRk.nD Cert.AdamRk.τ).loc Cert.AdamRk.main_arg9)
      ∧ r.2.mem ((c.tc : Thread Cert.AdamRk.nD Cert.AdamRk.τ).loc Cert.AdamRk.main_arg10) = m ((c.tc : Thread Cert.AdamRk.nD Cert.AdamRk.τ).loc Cert.AdamRk.main_arg10)
      ∧ r.2.mem ((c.tc : Thread Cert.AdamRk.nD Cert.AdamRk.τ).loc Cert.AdamRk.main_arg11) = m ((c.tc : Thread Cert.AdamRk.nD Cert.AdamRk.τ).loc Cert.AdamRk.main_arg11)
      ∧ r.2.mem ((c.tc : Thread Cert.AdamRk.nD Cert.AdamRk.τ).loc Cert.AdamRk.main_arg12) = m ((c.tc : Thread Cert.AdamRk.nD Cert.AdamRk.τ).loc Cert.AdamRk.main_arg12)
      ∧ r.2.mem ((c.tc : Thread Cert.AdamRk.nD Cert.AdamRk.τ).loc Cert.AdamRk.main_arg13) = m ((c.tc : Thread Cert.AdamRk.nD Cert.AdamRk.τ).loc Cert.AdamRk.main_arg13)
      ∧ r.2.mem ((c.tc : Thread Cert.AdamRk.nD Cert.AdamRk.τ).loc Cert.AdamRk.main_arg14) = m ((c.tc : Thread Cert.AdamRk.nD Cert.AdamRk.τ).loc Cert.AdamRk.main_arg14)
      ∧ r.2.mem ((c.tc : Thread Cert.AdamRk.nD Cert.AdamRk.τ).loc Cert.AdamRk.main_arg15) = m ((c.tc : Thread Cert.AdamRk.nD Cert.AdamRk.τ).loc Cert.AdamRk.main_arg15)
      ∧ r.2.mem ((c.tc : Thread Cert.AdamRk.nD Cert.AdamRk.τ).loc Cert.AdamRk.main_arg16) = m ((c.tc : Thread Cert.AdamRk.nD Cert.AdamRk.τ).loc Cert.AdamRk.main_arg16)
      ∧ r.2.mem ((c.tc : Thread Cert.AdamRk.nD Cert.AdamRk.τ).loc Cert.AdamRk.main_arg17) = m ((c.tc : Thread Cert.AdamRk.nD Cert.AdamRk.τ).loc Cert.AdamRk.main_arg17)
      ∧ r.2.mem ((c.tc : Thread Cert.AdamRk.nD Cert.AdamRk.τ).loc Cert.AdamRk.main_arg18) = m ((c.tc : Thread Cert.AdamRk.nD Cert.AdamRk.τ).loc Cert.AdamRk.main_arg18)
      ∧ r.2.mem ((c.tc : Thread Cert.AdamRk.nD Cert.AdamRk.τ).loc Cert.AdamRk.main_arg19) = m ((c.tc : Thread Cert.AdamRk.nD Cert.AdamRk.τ).loc Cert.AdamRk.main_arg19))
      ∧ r.2.sem = fun _ => 0)

def quiescent_AdamRkIdeal [hAdamRkIdeal : Cert.AdamRkIdeal.Facts] : Prop :=
  ∀ (m : (ℓ : Loc Cert.AdamRkIdeal.nD Cert.AdamRkIdeal.τ Cert.AdamRkIdeal.sig) → Buf (Elt Ideal) ℓ) (g : Dev Cert.AdamRkIdeal.nD → PrngReg), Pre_AdamRkIdeal m →
    θ_run (Cert.AdamRkIdeal.defs (F := Ideal)) (onTc (τ := Cert.AdamRkIdeal.τ) (Cert.AdamRkIdeal.main (F := Ideal))) ⟨m, fun _ => 0, g⟩ (fun r => (∀ c : Dev Cert.AdamRkIdeal.nD,
      r.2.mem ((c.tc : Thread Cert.AdamRkIdeal.nD Cert.AdamRkIdeal.τ).loc Cert.AdamRkIdeal.main_arg0) = m ((c.tc : Thread Cert.AdamRkIdeal.nD Cert.AdamRkIdeal.τ).loc Cert.AdamRkIdeal.main_arg0)
      ∧ r.2.mem ((c.tc : Thread Cert.AdamRkIdeal.nD Cert.AdamRkIdeal.τ).loc Cert.AdamRkIdeal.main_arg1) = m ((c.tc : Thread Cert.AdamRkIdeal.nD Cert.AdamRkIdeal.τ).loc Cert.AdamRkIdeal.main_arg1)
      ∧ r.2.mem ((c.tc : Thread Cert.AdamRkIdeal.nD Cert.AdamRkIdeal.τ).loc Cert.AdamRkIdeal.main_arg2) = m ((c.tc : Thread Cert.AdamRkIdeal.nD Cert.AdamRkIdeal.τ).loc Cert.AdamRkIdeal.main_arg2)
      ∧ r.2.mem ((c.tc : Thread Cert.AdamRkIdeal.nD Cert.AdamRkIdeal.τ).loc Cert.AdamRkIdeal.main_arg3) = m ((c.tc : Thread Cert.AdamRkIdeal.nD Cert.AdamRkIdeal.τ).loc Cert.AdamRkIdeal.main_arg3)
      ∧ r.2.mem ((c.tc : Thread Cert.AdamRkIdeal.nD Cert.AdamRkIdeal.τ).loc Cert.AdamRkIdeal.main_arg4) = m ((c.tc : Thread Cert.AdamRkIdeal.nD Cert.AdamRkIdeal.τ).loc Cert.AdamRkIdeal.main_arg4)
      ∧ r.2.mem ((c.tc : Thread Cert.AdamRkIdeal.nD Cert.AdamRkIdeal.τ).loc Cert.AdamRkIdeal.main_arg5) = m ((c.tc : Thread Cert.AdamRkIdeal.nD Cert.AdamRkIdeal.τ).loc Cert.AdamRkIdeal.main_arg5)
      ∧ r.2.mem ((c.tc : Thread Cert.AdamRkIdeal.nD Cert.AdamRkIdeal.τ).loc Cert.AdamRkIdeal.main_arg6) = m ((c.tc : Thread Cert.AdamRkIdeal.nD Cert.AdamRkIdeal.τ).loc Cert.AdamRkIdeal.main_arg6)
      ∧ r.2.mem ((c.tc : Thread Cert.AdamRkIdeal.nD Cert.AdamRkIdeal.τ).loc Cert.AdamRkIdeal.main_arg7) = m ((c.tc : Thread Cert.AdamRkIdeal.nD Cert.AdamRkIdeal.τ).loc Cert.AdamRkIdeal.main_arg7)
      ∧ r.2.mem ((c.tc : Thread Cert.AdamRkIdeal.nD Cert.AdamRkIdeal.τ).loc Cert.AdamRkIdeal.main_arg8) = m ((c.tc : Thread Cert.AdamRkIdeal.nD Cert.AdamRkIdeal.τ).loc Cert.AdamRkIdeal.main_arg8)
      ∧ r.2.mem ((c.tc : Thread Cert.AdamRkIdeal.nD Cert.AdamRkIdeal.τ).loc Cert.AdamRkIdeal.main_arg9) = m ((c.tc : Thread Cert.AdamRkIdeal.nD Cert.AdamRkIdeal.τ).loc Cert.AdamRkIdeal.main_arg9)
      ∧ r.2.mem ((c.tc : Thread Cert.AdamRkIdeal.nD Cert.AdamRkIdeal.τ).loc Cert.AdamRkIdeal.main_arg10) = m ((c.tc : Thread Cert.AdamRkIdeal.nD Cert.AdamRkIdeal.τ).loc Cert.AdamRkIdeal.main_arg10)
      ∧ r.2.mem ((c.tc : Thread Cert.AdamRkIdeal.nD Cert.AdamRkIdeal.τ).loc Cert.AdamRkIdeal.main_arg11) = m ((c.tc : Thread Cert.AdamRkIdeal.nD Cert.AdamRkIdeal.τ).loc Cert.AdamRkIdeal.main_arg11)
      ∧ r.2.mem ((c.tc : Thread Cert.AdamRkIdeal.nD Cert.AdamRkIdeal.τ).loc Cert.AdamRkIdeal.main_arg12) = m ((c.tc : Thread Cert.AdamRkIdeal.nD Cert.AdamRkIdeal.τ).loc Cert.AdamRkIdeal.main_arg12)
      ∧ r.2.mem ((c.tc : Thread Cert.AdamRkIdeal.nD Cert.AdamRkIdeal.τ).loc Cert.AdamRkIdeal.main_arg13) = m ((c.tc : Thread Cert.AdamRkIdeal.nD Cert.AdamRkIdeal.τ).loc Cert.AdamRkIdeal.main_arg13)
      ∧ r.2.mem ((c.tc : Thread Cert.AdamRkIdeal.nD Cert.AdamRkIdeal.τ).loc Cert.AdamRkIdeal.main_arg14) = m ((c.tc : Thread Cert.AdamRkIdeal.nD Cert.AdamRkIdeal.τ).loc Cert.AdamRkIdeal.main_arg14)
      ∧ r.2.mem ((c.tc : Thread Cert.AdamRkIdeal.nD Cert.AdamRkIdeal.τ).loc Cert.AdamRkIdeal.main_arg15) = m ((c.tc : Thread Cert.AdamRkIdeal.nD Cert.AdamRkIdeal.τ).loc Cert.AdamRkIdeal.main_arg15)
      ∧ r.2.mem ((c.tc : Thread Cert.AdamRkIdeal.nD Cert.AdamRkIdeal.τ).loc Cert.AdamRkIdeal.main_arg16) = m ((c.tc : Thread Cert.AdamRkIdeal.nD Cert.AdamRkIdeal.τ).loc Cert.AdamRkIdeal.main_arg16)
      ∧ r.2.mem ((c.tc : Thread Cert.AdamRkIdeal.nD Cert.AdamRkIdeal.τ).loc Cert.AdamRkIdeal.main_arg17) = m ((c.tc : Thread Cert.AdamRkIdeal.nD Cert.AdamRkIdeal.τ).loc Cert.AdamRkIdeal.main_arg17)
      ∧ r.2.mem ((c.tc : Thread Cert.AdamRkIdeal.nD Cert.AdamRkIdeal.τ).loc Cert.AdamRkIdeal.main_arg18) = m ((c.tc : Thread Cert.AdamRkIdeal.nD Cert.AdamRkIdeal.τ).loc Cert.AdamRkIdeal.main_arg18)
      ∧ r.2.mem ((c.tc : Thread Cert.AdamRkIdeal.nD Cert.AdamRkIdeal.τ).loc Cert.AdamRkIdeal.main_arg19) = m ((c.tc : Thread Cert.AdamRkIdeal.nD Cert.AdamRkIdeal.τ).loc Cert.AdamRkIdeal.main_arg19))
      ∧ r.2.sem = fun _ => 0)

def quiescent_AdamRkRefIdeal [hAdamRkRefIdeal : Cert.AdamRkRefIdeal.Facts] : Prop :=
  ∀ (m : (ℓ : Loc Cert.AdamRkRefIdeal.nD Cert.AdamRkRefIdeal.τ Cert.AdamRkRefIdeal.sig) → Buf (Elt Ideal) ℓ) (g : Dev Cert.AdamRkRefIdeal.nD → PrngReg), Pre_AdamRkRefIdeal m →
    θ_run (Cert.AdamRkRefIdeal.defs (F := Ideal)) (onTc (τ := Cert.AdamRkRefIdeal.τ) (Cert.AdamRkRefIdeal.main (F := Ideal))) ⟨m, fun _ => 0, g⟩ (fun r => (∀ c : Dev Cert.AdamRkRefIdeal.nD,
      r.2.mem ((c.tc : Thread Cert.AdamRkRefIdeal.nD Cert.AdamRkRefIdeal.τ).loc Cert.AdamRkRefIdeal.main_arg0) = m ((c.tc : Thread Cert.AdamRkRefIdeal.nD Cert.AdamRkRefIdeal.τ).loc Cert.AdamRkRefIdeal.main_arg0)
      ∧ r.2.mem ((c.tc : Thread Cert.AdamRkRefIdeal.nD Cert.AdamRkRefIdeal.τ).loc Cert.AdamRkRefIdeal.main_arg1) = m ((c.tc : Thread Cert.AdamRkRefIdeal.nD Cert.AdamRkRefIdeal.τ).loc Cert.AdamRkRefIdeal.main_arg1)
      ∧ r.2.mem ((c.tc : Thread Cert.AdamRkRefIdeal.nD Cert.AdamRkRefIdeal.τ).loc Cert.AdamRkRefIdeal.main_arg2) = m ((c.tc : Thread Cert.AdamRkRefIdeal.nD Cert.AdamRkRefIdeal.τ).loc Cert.AdamRkRefIdeal.main_arg2)
      ∧ r.2.mem ((c.tc : Thread Cert.AdamRkRefIdeal.nD Cert.AdamRkRefIdeal.τ).loc Cert.AdamRkRefIdeal.main_arg3) = m ((c.tc : Thread Cert.AdamRkRefIdeal.nD Cert.AdamRkRefIdeal.τ).loc Cert.AdamRkRefIdeal.main_arg3)
      ∧ r.2.mem ((c.tc : Thread Cert.AdamRkRefIdeal.nD Cert.AdamRkRefIdeal.τ).loc Cert.AdamRkRefIdeal.main_arg4) = m ((c.tc : Thread Cert.AdamRkRefIdeal.nD Cert.AdamRkRefIdeal.τ).loc Cert.AdamRkRefIdeal.main_arg4)
      ∧ r.2.mem ((c.tc : Thread Cert.AdamRkRefIdeal.nD Cert.AdamRkRefIdeal.τ).loc Cert.AdamRkRefIdeal.main_arg5) = m ((c.tc : Thread Cert.AdamRkRefIdeal.nD Cert.AdamRkRefIdeal.τ).loc Cert.AdamRkRefIdeal.main_arg5)
      ∧ r.2.mem ((c.tc : Thread Cert.AdamRkRefIdeal.nD Cert.AdamRkRefIdeal.τ).loc Cert.AdamRkRefIdeal.main_arg6) = m ((c.tc : Thread Cert.AdamRkRefIdeal.nD Cert.AdamRkRefIdeal.τ).loc Cert.AdamRkRefIdeal.main_arg6)
      ∧ r.2.mem ((c.tc : Thread Cert.AdamRkRefIdeal.nD Cert.AdamRkRefIdeal.τ).loc Cert.AdamRkRefIdeal.main_arg7) = m ((c.tc : Thread Cert.AdamRkRefIdeal.nD Cert.AdamRkRefIdeal.τ).loc Cert.AdamRkRefIdeal.main_arg7)
      ∧ r.2.mem ((c.tc : Thread Cert.AdamRkRefIdeal.nD Cert.AdamRkRefIdeal.τ).loc Cert.AdamRkRefIdeal.main_arg8) = m ((c.tc : Thread Cert.AdamRkRefIdeal.nD Cert.AdamRkRefIdeal.τ).loc Cert.AdamRkRefIdeal.main_arg8)
      ∧ r.2.mem ((c.tc : Thread Cert.AdamRkRefIdeal.nD Cert.AdamRkRefIdeal.τ).loc Cert.AdamRkRefIdeal.main_arg9) = m ((c.tc : Thread Cert.AdamRkRefIdeal.nD Cert.AdamRkRefIdeal.τ).loc Cert.AdamRkRefIdeal.main_arg9)
      ∧ r.2.mem ((c.tc : Thread Cert.AdamRkRefIdeal.nD Cert.AdamRkRefIdeal.τ).loc Cert.AdamRkRefIdeal.main_arg10) = m ((c.tc : Thread Cert.AdamRkRefIdeal.nD Cert.AdamRkRefIdeal.τ).loc Cert.AdamRkRefIdeal.main_arg10)
      ∧ r.2.mem ((c.tc : Thread Cert.AdamRkRefIdeal.nD Cert.AdamRkRefIdeal.τ).loc Cert.AdamRkRefIdeal.main_arg11) = m ((c.tc : Thread Cert.AdamRkRefIdeal.nD Cert.AdamRkRefIdeal.τ).loc Cert.AdamRkRefIdeal.main_arg11)
      ∧ r.2.mem ((c.tc : Thread Cert.AdamRkRefIdeal.nD Cert.AdamRkRefIdeal.τ).loc Cert.AdamRkRefIdeal.main_arg12) = m ((c.tc : Thread Cert.AdamRkRefIdeal.nD Cert.AdamRkRefIdeal.τ).loc Cert.AdamRkRefIdeal.main_arg12)
      ∧ r.2.mem ((c.tc : Thread Cert.AdamRkRefIdeal.nD Cert.AdamRkRefIdeal.τ).loc Cert.AdamRkRefIdeal.main_arg13) = m ((c.tc : Thread Cert.AdamRkRefIdeal.nD Cert.AdamRkRefIdeal.τ).loc Cert.AdamRkRefIdeal.main_arg13)
      ∧ r.2.mem ((c.tc : Thread Cert.AdamRkRefIdeal.nD Cert.AdamRkRefIdeal.τ).loc Cert.AdamRkRefIdeal.main_arg14) = m ((c.tc : Thread Cert.AdamRkRefIdeal.nD Cert.AdamRkRefIdeal.τ).loc Cert.AdamRkRefIdeal.main_arg14)
      ∧ r.2.mem ((c.tc : Thread Cert.AdamRkRefIdeal.nD Cert.AdamRkRefIdeal.τ).loc Cert.AdamRkRefIdeal.main_arg15) = m ((c.tc : Thread Cert.AdamRkRefIdeal.nD Cert.AdamRkRefIdeal.τ).loc Cert.AdamRkRefIdeal.main_arg15)
      ∧ r.2.mem ((c.tc : Thread Cert.AdamRkRefIdeal.nD Cert.AdamRkRefIdeal.τ).loc Cert.AdamRkRefIdeal.main_arg16) = m ((c.tc : Thread Cert.AdamRkRefIdeal.nD Cert.AdamRkRefIdeal.τ).loc Cert.AdamRkRefIdeal.main_arg16)
      ∧ r.2.mem ((c.tc : Thread Cert.AdamRkRefIdeal.nD Cert.AdamRkRefIdeal.τ).loc Cert.AdamRkRefIdeal.main_arg17) = m ((c.tc : Thread Cert.AdamRkRefIdeal.nD Cert.AdamRkRefIdeal.τ).loc Cert.AdamRkRefIdeal.main_arg17)
      ∧ r.2.mem ((c.tc : Thread Cert.AdamRkRefIdeal.nD Cert.AdamRkRefIdeal.τ).loc Cert.AdamRkRefIdeal.main_arg18) = m ((c.tc : Thread Cert.AdamRkRefIdeal.nD Cert.AdamRkRefIdeal.τ).loc Cert.AdamRkRefIdeal.main_arg18)
      ∧ r.2.mem ((c.tc : Thread Cert.AdamRkRefIdeal.nD Cert.AdamRkRefIdeal.τ).loc Cert.AdamRkRefIdeal.main_arg19) = m ((c.tc : Thread Cert.AdamRkRefIdeal.nD Cert.AdamRkRefIdeal.τ).loc Cert.AdamRkRefIdeal.main_arg19))
      ∧ r.2.sem = fun _ => 0)

def preserves_Kernel_KernelIdeal : Prop :=
  True

def preserves_Ffn2Dx_Ffn2DxIdeal : Prop :=
  True

def algebraic_Ffn2DxIdeal_Ffn2DxRefIdeal [hFfn2DxIdeal : Cert.Ffn2DxIdeal.Facts] [hFfn2DxRefIdeal : Cert.Ffn2DxRefIdeal.Facts] : Prop :=
  ∀ (m : (ℓ : Loc Cert.Ffn2DxIdeal.nD Cert.Ffn2DxIdeal.τ Cert.Ffn2DxIdeal.sig) → Buf (Elt Ideal) ℓ) (g : Dev Cert.Ffn2DxIdeal.nD → PrngReg)
    (m' : (ℓ : Loc Cert.Ffn2DxRefIdeal.nD Cert.Ffn2DxRefIdeal.τ Cert.Ffn2DxRefIdeal.sig) → Buf (Elt Ideal) ℓ) (g' : Dev Cert.Ffn2DxRefIdeal.nD → PrngReg), Pre_Ffn2DxIdeal m →
    (∀ c : Dev Cert.Ffn2DxIdeal.nD,
      m' ((c.tc : Thread Cert.Ffn2DxRefIdeal.nD Cert.Ffn2DxRefIdeal.τ).loc Cert.Ffn2DxRefIdeal.main_arg0) = m ((c.tc : Thread Cert.Ffn2DxIdeal.nD Cert.Ffn2DxIdeal.τ).loc Cert.Ffn2DxIdeal.main_arg0)
      ∧ m' ((c.tc : Thread Cert.Ffn2DxRefIdeal.nD Cert.Ffn2DxRefIdeal.τ).loc Cert.Ffn2DxRefIdeal.main_arg1) = m ((c.tc : Thread Cert.Ffn2DxIdeal.nD Cert.Ffn2DxIdeal.τ).loc Cert.Ffn2DxIdeal.main_arg1)
      ∧ m' ((c.tc : Thread Cert.Ffn2DxRefIdeal.nD Cert.Ffn2DxRefIdeal.τ).loc Cert.Ffn2DxRefIdeal.main_arg2) = m ((c.tc : Thread Cert.Ffn2DxIdeal.nD Cert.Ffn2DxIdeal.τ).loc Cert.Ffn2DxIdeal.main_arg2)) →
    ∃ (v0 : (c : Dev Cert.Ffn2DxIdeal.nD) → Buf (Elt Ideal) ((c.tc : Thread Cert.Ffn2DxIdeal.nD Cert.Ffn2DxIdeal.τ).loc Cert.Ffn2DxIdeal.main_v2)),
      θ_run (Cert.Ffn2DxIdeal.defs (F := Ideal)) (onTc (τ := Cert.Ffn2DxIdeal.τ) (Cert.Ffn2DxIdeal.main (F := Ideal))) ⟨m, fun _ => 0, g⟩ (fun r => ∀ c : Dev Cert.Ffn2DxIdeal.nD,
          r.2.mem ((c.tc : Thread Cert.Ffn2DxIdeal.nD Cert.Ffn2DxIdeal.τ).loc Cert.Ffn2DxIdeal.main_v2) = v0 c
          ∧ r.2.mem ((c.tc : Thread Cert.Ffn2DxIdeal.nD Cert.Ffn2DxIdeal.τ).loc Cert.Ffn2DxIdeal.main_arg0) = m ((c.tc : Thread Cert.Ffn2DxIdeal.nD Cert.Ffn2DxIdeal.τ).loc Cert.Ffn2DxIdeal.main_arg0)
          ∧ r.2.mem ((c.tc : Thread Cert.Ffn2DxIdeal.nD Cert.Ffn2DxIdeal.τ).loc Cert.Ffn2DxIdeal.main_arg1) = m ((c.tc : Thread Cert.Ffn2DxIdeal.nD Cert.Ffn2DxIdeal.τ).loc Cert.Ffn2DxIdeal.main_arg1)
          ∧ r.2.mem ((c.tc : Thread Cert.Ffn2DxIdeal.nD Cert.Ffn2DxIdeal.τ).loc Cert.Ffn2DxIdeal.main_arg2) = m ((c.tc : Thread Cert.Ffn2DxIdeal.nD Cert.Ffn2DxIdeal.τ).loc Cert.Ffn2DxIdeal.main_arg2))
      ∧ θ_run (Cert.Ffn2DxRefIdeal.defs (F := Ideal)) (onTc (τ := Cert.Ffn2DxRefIdeal.τ) (Cert.Ffn2DxRefIdeal.main (F := Ideal))) ⟨m', fun _ => 0, g'⟩ (fun r => ∀ c : Dev Cert.Ffn2DxRefIdeal.nD,
          r.2.mem ((c.tc : Thread Cert.Ffn2DxRefIdeal.nD Cert.Ffn2DxRefIdeal.τ).loc Cert.Ffn2DxRefIdeal.main_v12) = v0 c
          ∧ r.2.mem ((c.tc : Thread Cert.Ffn2DxRefIdeal.nD Cert.Ffn2DxRefIdeal.τ).loc Cert.Ffn2DxRefIdeal.main_arg0) = m' ((c.tc : Thread Cert.Ffn2DxRefIdeal.nD Cert.Ffn2DxRefIdeal.τ).loc Cert.Ffn2DxRefIdeal.main_arg0)
          ∧ r.2.mem ((c.tc : Thread Cert.Ffn2DxRefIdeal.nD Cert.Ffn2DxRefIdeal.τ).loc Cert.Ffn2DxRefIdeal.main_arg1) = m' ((c.tc : Thread Cert.Ffn2DxRefIdeal.nD Cert.Ffn2DxRefIdeal.τ).loc Cert.Ffn2DxRefIdeal.main_arg1)
          ∧ r.2.mem ((c.tc : Thread Cert.Ffn2DxRefIdeal.nD Cert.Ffn2DxRefIdeal.τ).loc Cert.Ffn2DxRefIdeal.main_arg2) = m' ((c.tc : Thread Cert.Ffn2DxRefIdeal.nD Cert.Ffn2DxRefIdeal.τ).loc Cert.Ffn2DxRefIdeal.main_arg2))

def preserves_Ffn2Dw_Ffn2DwIdeal : Prop :=
  True

def algebraic_Ffn2DwIdeal_Ffn2DwRefIdeal [hFfn2DwIdeal : Cert.Ffn2DwIdeal.Facts] [hFfn2DwRefIdeal : Cert.Ffn2DwRefIdeal.Facts] : Prop :=
  ∀ (m : (ℓ : Loc Cert.Ffn2DwIdeal.nD Cert.Ffn2DwIdeal.τ Cert.Ffn2DwIdeal.sig) → Buf (Elt Ideal) ℓ) (g : Dev Cert.Ffn2DwIdeal.nD → PrngReg)
    (m' : (ℓ : Loc Cert.Ffn2DwRefIdeal.nD Cert.Ffn2DwRefIdeal.τ Cert.Ffn2DwRefIdeal.sig) → Buf (Elt Ideal) ℓ) (g' : Dev Cert.Ffn2DwRefIdeal.nD → PrngReg), Pre_Ffn2DwIdeal m →
    (∀ c : Dev Cert.Ffn2DwIdeal.nD,
      m' ((c.tc : Thread Cert.Ffn2DwRefIdeal.nD Cert.Ffn2DwRefIdeal.τ).loc Cert.Ffn2DwRefIdeal.main_arg0) = m ((c.tc : Thread Cert.Ffn2DwIdeal.nD Cert.Ffn2DwIdeal.τ).loc Cert.Ffn2DwIdeal.main_arg0)
      ∧ m' ((c.tc : Thread Cert.Ffn2DwRefIdeal.nD Cert.Ffn2DwRefIdeal.τ).loc Cert.Ffn2DwRefIdeal.main_arg1) = m ((c.tc : Thread Cert.Ffn2DwIdeal.nD Cert.Ffn2DwIdeal.τ).loc Cert.Ffn2DwIdeal.main_arg1)
      ∧ m' ((c.tc : Thread Cert.Ffn2DwRefIdeal.nD Cert.Ffn2DwRefIdeal.τ).loc Cert.Ffn2DwRefIdeal.main_arg2) = m ((c.tc : Thread Cert.Ffn2DwIdeal.nD Cert.Ffn2DwIdeal.τ).loc Cert.Ffn2DwIdeal.main_arg2)) →
    ∃ (v0 : (c : Dev Cert.Ffn2DwIdeal.nD) → Buf (Elt Ideal) ((c.tc : Thread Cert.Ffn2DwIdeal.nD Cert.Ffn2DwIdeal.τ).loc Cert.Ffn2DwIdeal.main_v5)),
      θ_run (Cert.Ffn2DwIdeal.defs (F := Ideal)) (onTc (τ := Cert.Ffn2DwIdeal.τ) (Cert.Ffn2DwIdeal.main (F := Ideal))) ⟨m, fun _ => 0, g⟩ (fun r => ∀ c : Dev Cert.Ffn2DwIdeal.nD,
          r.2.mem ((c.tc : Thread Cert.Ffn2DwIdeal.nD Cert.Ffn2DwIdeal.τ).loc Cert.Ffn2DwIdeal.main_v5) = v0 c
          ∧ r.2.mem ((c.tc : Thread Cert.Ffn2DwIdeal.nD Cert.Ffn2DwIdeal.τ).loc Cert.Ffn2DwIdeal.main_arg0) = m ((c.tc : Thread Cert.Ffn2DwIdeal.nD Cert.Ffn2DwIdeal.τ).loc Cert.Ffn2DwIdeal.main_arg0)
          ∧ r.2.mem ((c.tc : Thread Cert.Ffn2DwIdeal.nD Cert.Ffn2DwIdeal.τ).loc Cert.Ffn2DwIdeal.main_arg1) = m ((c.tc : Thread Cert.Ffn2DwIdeal.nD Cert.Ffn2DwIdeal.τ).loc Cert.Ffn2DwIdeal.main_arg1)
          ∧ r.2.mem ((c.tc : Thread Cert.Ffn2DwIdeal.nD Cert.Ffn2DwIdeal.τ).loc Cert.Ffn2DwIdeal.main_arg2) = m ((c.tc : Thread Cert.Ffn2DwIdeal.nD Cert.Ffn2DwIdeal.τ).loc Cert.Ffn2DwIdeal.main_arg2))
      ∧ θ_run (Cert.Ffn2DwRefIdeal.defs (F := Ideal)) (onTc (τ := Cert.Ffn2DwRefIdeal.τ) (Cert.Ffn2DwRefIdeal.main (F := Ideal))) ⟨m', fun _ => 0, g'⟩ (fun r => ∀ c : Dev Cert.Ffn2DwRefIdeal.nD,
          r.2.mem ((c.tc : Thread Cert.Ffn2DwRefIdeal.nD Cert.Ffn2DwRefIdeal.τ).loc Cert.Ffn2DwRefIdeal.main_v4) = v0 c
          ∧ r.2.mem ((c.tc : Thread Cert.Ffn2DwRefIdeal.nD Cert.Ffn2DwRefIdeal.τ).loc Cert.Ffn2DwRefIdeal.main_arg0) = m' ((c.tc : Thread Cert.Ffn2DwRefIdeal.nD Cert.Ffn2DwRefIdeal.τ).loc Cert.Ffn2DwRefIdeal.main_arg0)
          ∧ r.2.mem ((c.tc : Thread Cert.Ffn2DwRefIdeal.nD Cert.Ffn2DwRefIdeal.τ).loc Cert.Ffn2DwRefIdeal.main_arg1) = m' ((c.tc : Thread Cert.Ffn2DwRefIdeal.nD Cert.Ffn2DwRefIdeal.τ).loc Cert.Ffn2DwRefIdeal.main_arg1)
          ∧ r.2.mem ((c.tc : Thread Cert.Ffn2DwRefIdeal.nD Cert.Ffn2DwRefIdeal.τ).loc Cert.Ffn2DwRefIdeal.main_arg2) = m' ((c.tc : Thread Cert.Ffn2DwRefIdeal.nD Cert.Ffn2DwRefIdeal.τ).loc Cert.Ffn2DwRefIdeal.main_arg2))

def preserves_Ffn1Dx_Ffn1DxIdeal : Prop :=
  True

def algebraic_Ffn1DxIdeal_Ffn1DxRefIdeal [hFfn1DxIdeal : Cert.Ffn1DxIdeal.Facts] [hFfn1DxRefIdeal : Cert.Ffn1DxRefIdeal.Facts] : Prop :=
  ∀ (m : (ℓ : Loc Cert.Ffn1DxIdeal.nD Cert.Ffn1DxIdeal.τ Cert.Ffn1DxIdeal.sig) → Buf (Elt Ideal) ℓ) (g : Dev Cert.Ffn1DxIdeal.nD → PrngReg)
    (m' : (ℓ : Loc Cert.Ffn1DxRefIdeal.nD Cert.Ffn1DxRefIdeal.τ Cert.Ffn1DxRefIdeal.sig) → Buf (Elt Ideal) ℓ) (g' : Dev Cert.Ffn1DxRefIdeal.nD → PrngReg), Pre_Ffn1DxIdeal m →
    (∀ c : Dev Cert.Ffn1DxIdeal.nD,
      m' ((c.tc : Thread Cert.Ffn1DxRefIdeal.nD Cert.Ffn1DxRefIdeal.τ).loc Cert.Ffn1DxRefIdeal.main_arg0) = m ((c.tc : Thread Cert.Ffn1DxIdeal.nD Cert.Ffn1DxIdeal.τ).loc Cert.Ffn1DxIdeal.main_arg0)
      ∧ m' ((c.tc : Thread Cert.Ffn1DxRefIdeal.nD Cert.Ffn1DxRefIdeal.τ).loc Cert.Ffn1DxRefIdeal.main_arg1) = m ((c.tc : Thread Cert.Ffn1DxIdeal.nD Cert.Ffn1DxIdeal.τ).loc Cert.Ffn1DxIdeal.main_arg1)
      ∧ m' ((c.tc : Thread Cert.Ffn1DxRefIdeal.nD Cert.Ffn1DxRefIdeal.τ).loc Cert.Ffn1DxRefIdeal.main_arg2) = m ((c.tc : Thread Cert.Ffn1DxIdeal.nD Cert.Ffn1DxIdeal.τ).loc Cert.Ffn1DxIdeal.main_arg2)) →
    ∃ (v0 : (c : Dev Cert.Ffn1DxIdeal.nD) → Buf (Elt Ideal) ((c.tc : Thread Cert.Ffn1DxIdeal.nD Cert.Ffn1DxIdeal.τ).loc Cert.Ffn1DxIdeal.main_v4)),
      θ_run (Cert.Ffn1DxIdeal.defs (F := Ideal)) (onTc (τ := Cert.Ffn1DxIdeal.τ) (Cert.Ffn1DxIdeal.main (F := Ideal))) ⟨m, fun _ => 0, g⟩ (fun r => ∀ c : Dev Cert.Ffn1DxIdeal.nD,
          r.2.mem ((c.tc : Thread Cert.Ffn1DxIdeal.nD Cert.Ffn1DxIdeal.τ).loc Cert.Ffn1DxIdeal.main_v4) = v0 c
          ∧ r.2.mem ((c.tc : Thread Cert.Ffn1DxIdeal.nD Cert.Ffn1DxIdeal.τ).loc Cert.Ffn1DxIdeal.main_arg0) = m ((c.tc : Thread Cert.Ffn1DxIdeal.nD Cert.Ffn1DxIdeal.τ).loc Cert.Ffn1DxIdeal.main_arg0)
          ∧ r.2.mem ((c.tc : Thread Cert.Ffn1DxIdeal.nD Cert.Ffn1DxIdeal.τ).loc Cert.Ffn1DxIdeal.main_arg1) = m ((c.tc : Thread Cert.Ffn1DxIdeal.nD Cert.Ffn1DxIdeal.τ).loc Cert.Ffn1DxIdeal.main_arg1)
          ∧ r.2.mem ((c.tc : Thread Cert.Ffn1DxIdeal.nD Cert.Ffn1DxIdeal.τ).loc Cert.Ffn1DxIdeal.main_arg2) = m ((c.tc : Thread Cert.Ffn1DxIdeal.nD Cert.Ffn1DxIdeal.τ).loc Cert.Ffn1DxIdeal.main_arg2))
      ∧ θ_run (Cert.Ffn1DxRefIdeal.defs (F := Ideal)) (onTc (τ := Cert.Ffn1DxRefIdeal.τ) (Cert.Ffn1DxRefIdeal.main (F := Ideal))) ⟨m', fun _ => 0, g'⟩ (fun r => ∀ c : Dev Cert.Ffn1DxRefIdeal.nD,
          r.2.mem ((c.tc : Thread Cert.Ffn1DxRefIdeal.nD Cert.Ffn1DxRefIdeal.τ).loc Cert.Ffn1DxRefIdeal.main_v1) = v0 c
          ∧ r.2.mem ((c.tc : Thread Cert.Ffn1DxRefIdeal.nD Cert.Ffn1DxRefIdeal.τ).loc Cert.Ffn1DxRefIdeal.main_arg0) = m' ((c.tc : Thread Cert.Ffn1DxRefIdeal.nD Cert.Ffn1DxRefIdeal.τ).loc Cert.Ffn1DxRefIdeal.main_arg0)
          ∧ r.2.mem ((c.tc : Thread Cert.Ffn1DxRefIdeal.nD Cert.Ffn1DxRefIdeal.τ).loc Cert.Ffn1DxRefIdeal.main_arg1) = m' ((c.tc : Thread Cert.Ffn1DxRefIdeal.nD Cert.Ffn1DxRefIdeal.τ).loc Cert.Ffn1DxRefIdeal.main_arg1)
          ∧ r.2.mem ((c.tc : Thread Cert.Ffn1DxRefIdeal.nD Cert.Ffn1DxRefIdeal.τ).loc Cert.Ffn1DxRefIdeal.main_arg2) = m' ((c.tc : Thread Cert.Ffn1DxRefIdeal.nD Cert.Ffn1DxRefIdeal.τ).loc Cert.Ffn1DxRefIdeal.main_arg2))

def preserves_Ffn1Dw_Ffn1DwIdeal : Prop :=
  True

def algebraic_Ffn1DwIdeal_Ffn1DwRefIdeal [hFfn1DwIdeal : Cert.Ffn1DwIdeal.Facts] [hFfn1DwRefIdeal : Cert.Ffn1DwRefIdeal.Facts] : Prop :=
  ∀ (m : (ℓ : Loc Cert.Ffn1DwIdeal.nD Cert.Ffn1DwIdeal.τ Cert.Ffn1DwIdeal.sig) → Buf (Elt Ideal) ℓ) (g : Dev Cert.Ffn1DwIdeal.nD → PrngReg)
    (m' : (ℓ : Loc Cert.Ffn1DwRefIdeal.nD Cert.Ffn1DwRefIdeal.τ Cert.Ffn1DwRefIdeal.sig) → Buf (Elt Ideal) ℓ) (g' : Dev Cert.Ffn1DwRefIdeal.nD → PrngReg), Pre_Ffn1DwIdeal m →
    (∀ c : Dev Cert.Ffn1DwIdeal.nD,
      m' ((c.tc : Thread Cert.Ffn1DwRefIdeal.nD Cert.Ffn1DwRefIdeal.τ).loc Cert.Ffn1DwRefIdeal.main_arg0) = m ((c.tc : Thread Cert.Ffn1DwIdeal.nD Cert.Ffn1DwIdeal.τ).loc Cert.Ffn1DwIdeal.main_arg0)
      ∧ m' ((c.tc : Thread Cert.Ffn1DwRefIdeal.nD Cert.Ffn1DwRefIdeal.τ).loc Cert.Ffn1DwRefIdeal.main_arg1) = m ((c.tc : Thread Cert.Ffn1DwIdeal.nD Cert.Ffn1DwIdeal.τ).loc Cert.Ffn1DwIdeal.main_arg1)
      ∧ m' ((c.tc : Thread Cert.Ffn1DwRefIdeal.nD Cert.Ffn1DwRefIdeal.τ).loc Cert.Ffn1DwRefIdeal.main_arg2) = m ((c.tc : Thread Cert.Ffn1DwIdeal.nD Cert.Ffn1DwIdeal.τ).loc Cert.Ffn1DwIdeal.main_arg2)) →
    ∃ (v0 : (c : Dev Cert.Ffn1DwIdeal.nD) → Buf (Elt Ideal) ((c.tc : Thread Cert.Ffn1DwIdeal.nD Cert.Ffn1DwIdeal.τ).loc Cert.Ffn1DwIdeal.main_v2)),
      θ_run (Cert.Ffn1DwIdeal.defs (F := Ideal)) (onTc (τ := Cert.Ffn1DwIdeal.τ) (Cert.Ffn1DwIdeal.main (F := Ideal))) ⟨m, fun _ => 0, g⟩ (fun r => ∀ c : Dev Cert.Ffn1DwIdeal.nD,
          r.2.mem ((c.tc : Thread Cert.Ffn1DwIdeal.nD Cert.Ffn1DwIdeal.τ).loc Cert.Ffn1DwIdeal.main_v2) = v0 c
          ∧ r.2.mem ((c.tc : Thread Cert.Ffn1DwIdeal.nD Cert.Ffn1DwIdeal.τ).loc Cert.Ffn1DwIdeal.main_arg0) = m ((c.tc : Thread Cert.Ffn1DwIdeal.nD Cert.Ffn1DwIdeal.τ).loc Cert.Ffn1DwIdeal.main_arg0)
          ∧ r.2.mem ((c.tc : Thread Cert.Ffn1DwIdeal.nD Cert.Ffn1DwIdeal.τ).loc Cert.Ffn1DwIdeal.main_arg1) = m ((c.tc : Thread Cert.Ffn1DwIdeal.nD Cert.Ffn1DwIdeal.τ).loc Cert.Ffn1DwIdeal.main_arg1)
          ∧ r.2.mem ((c.tc : Thread Cert.Ffn1DwIdeal.nD Cert.Ffn1DwIdeal.τ).loc Cert.Ffn1DwIdeal.main_arg2) = m ((c.tc : Thread Cert.Ffn1DwIdeal.nD Cert.Ffn1DwIdeal.τ).loc Cert.Ffn1DwIdeal.main_arg2))
      ∧ θ_run (Cert.Ffn1DwRefIdeal.defs (F := Ideal)) (onTc (τ := Cert.Ffn1DwRefIdeal.τ) (Cert.Ffn1DwRefIdeal.main (F := Ideal))) ⟨m', fun _ => 0, g'⟩ (fun r => ∀ c : Dev Cert.Ffn1DwRefIdeal.nD,
          r.2.mem ((c.tc : Thread Cert.Ffn1DwRefIdeal.nD Cert.Ffn1DwRefIdeal.τ).loc Cert.Ffn1DwRefIdeal.main_v4) = v0 c
          ∧ r.2.mem ((c.tc : Thread Cert.Ffn1DwRefIdeal.nD Cert.Ffn1DwRefIdeal.τ).loc Cert.Ffn1DwRefIdeal.main_arg0) = m' ((c.tc : Thread Cert.Ffn1DwRefIdeal.nD Cert.Ffn1DwRefIdeal.τ).loc Cert.Ffn1DwRefIdeal.main_arg0)
          ∧ r.2.mem ((c.tc : Thread Cert.Ffn1DwRefIdeal.nD Cert.Ffn1DwRefIdeal.τ).loc Cert.Ffn1DwRefIdeal.main_arg1) = m' ((c.tc : Thread Cert.Ffn1DwRefIdeal.nD Cert.Ffn1DwRefIdeal.τ).loc Cert.Ffn1DwRefIdeal.main_arg1)
          ∧ r.2.mem ((c.tc : Thread Cert.Ffn1DwRefIdeal.nD Cert.Ffn1DwRefIdeal.τ).loc Cert.Ffn1DwRefIdeal.main_arg2) = m' ((c.tc : Thread Cert.Ffn1DwRefIdeal.nD Cert.Ffn1DwRefIdeal.τ).loc Cert.Ffn1DwRefIdeal.main_arg2))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)
      ∧ m' ((c.tc : Thread Cert.MixDxRefIdeal.nD Cert.MixDxRefIdeal.τ).loc Cert.MixDxRefIdeal.main_arg2) = m ((c.tc : Thread Cert.MixDxIdeal.nD Cert.MixDxIdeal.τ).loc Cert.MixDxIdeal.main_arg2)) →
    ∃ (v0 : (c : Dev Cert.MixDxIdeal.nD) → Buf (Elt Ideal) ((c.tc : Thread Cert.MixDxIdeal.nD Cert.MixDxIdeal.τ).loc Cert.MixDxIdeal.main_v2)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v2) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v1) = v0 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1)
          ∧ r.2.mem ((c.tc : Thread Cert.MixDxRefIdeal.nD Cert.MixDxRefIdeal.τ).loc Cert.MixDxRefIdeal.main_arg2) = m' ((c.tc : Thread Cert.MixDxRefIdeal.nD Cert.MixDxRefIdeal.τ).loc Cert.MixDxRefIdeal.main_arg2))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)
      ∧ m' ((c.tc : Thread Cert.MixDwRefIdeal.nD Cert.MixDwRefIdeal.τ).loc Cert.MixDwRefIdeal.main_arg2) = m ((c.tc : Thread Cert.MixDwIdeal.nD Cert.MixDwIdeal.τ).loc Cert.MixDwIdeal.main_arg2)) →
    ∃ (v0 : (c : Dev Cert.MixDwIdeal.nD) → Buf (Elt Ideal) ((c.tc : Thread Cert.MixDwIdeal.nD Cert.MixDwIdeal.τ).loc Cert.MixDwIdeal.main_v2)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v2) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
          ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v2) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1)
          ∧ r.2.mem ((c.tc : Thread Cert.MixDwRefIdeal.nD Cert.MixDwRefIdeal.τ).loc Cert.MixDwRefIdeal.main_arg2) = m' ((c.tc : Thread Cert.MixDwRefIdeal.nD Cert.MixDwRefIdeal.τ).loc Cert.MixDwRefIdeal.main_arg2))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)) →
    ∃ (v0 : (c : Dev Cert.ProjDxIdeal.nD) → Buf (Elt Ideal) ((c.tc : Thread Cert.ProjDxIdeal.nD Cert.ProjDxIdeal.τ).loc Cert.ProjDxIdeal.main_v2)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v2) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v1) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)
      ∧ m' ((c.tc : Thread Cert.ProjDwRefIdeal.nD Cert.ProjDwRefIdeal.τ).loc Cert.ProjDwRefIdeal.main_arg2) = m ((c.tc : Thread Cert.ProjDwIdeal.nD Cert.ProjDwIdeal.τ).loc Cert.ProjDwIdeal.main_arg2)) →
    ∃ (v0 : (c : Dev Cert.ProjDwIdeal.nD) → Buf (Elt Ideal) ((c.tc : Thread Cert.ProjDwIdeal.nD Cert.ProjDwIdeal.τ).loc Cert.ProjDwIdeal.main_v2)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v2) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
          ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v2) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1)
          ∧ r.2.mem ((c.tc : Thread Cert.ProjDwRefIdeal.nD Cert.ProjDwRefIdeal.τ).loc Cert.ProjDwRefIdeal.main_arg2) = m' ((c.tc : Thread Cert.ProjDwRefIdeal.nD Cert.ProjDwRefIdeal.τ).loc Cert.ProjDwRefIdeal.main_arg2))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)) →
    ∃ (v0 : (c : Dev Cert.Ffn1Ideal.nD) → Buf (Elt Ideal) ((c.tc : Thread Cert.Ffn1Ideal.nD Cert.Ffn1Ideal.τ).loc Cert.Ffn1Ideal.main_v4_0)) (v1 : (c : Dev Cert.Ffn1Ideal.nD) → Buf (Elt Ideal) ((c.tc : Thread Cert.Ffn1Ideal.nD Cert.Ffn1Ideal.τ).loc Cert.Ffn1Ideal.main_v4_1)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v4_0) = v0 c
          ∧ r.2.mem ((c.tc : Thread Cert.Ffn1Ideal.nD Cert.Ffn1Ideal.τ).loc Cert.Ffn1Ideal.main_v4_1) = v1 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v0) = v0 c
          ∧ r.2.mem ((c.tc : Thread Cert.Ffn1RefIdeal.nD Cert.Ffn1RefIdeal.τ).loc Cert.Ffn1RefIdeal.main_v3) = v1 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)) →
    ∃ (v0 : (c : Dev Cert.Ffn2Ideal.nD) → Buf (Elt Ideal) ((c.tc : Thread Cert.Ffn2Ideal.nD Cert.Ffn2Ideal.τ).loc Cert.Ffn2Ideal.main_v5)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v5) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v2) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v0) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Norm1Dx_Norm1DxIdeal : Prop :=
  True

def algebraic_Norm1DxIdeal_Norm1DxRefIdeal [hNorm1DxIdeal : Cert.Norm1DxIdeal.Facts] [hNorm1DxRefIdeal : Cert.Norm1DxRefIdeal.Facts] : Prop :=
  ∀ (m : (ℓ : Loc Cert.Norm1DxIdeal.nD Cert.Norm1DxIdeal.τ Cert.Norm1DxIdeal.sig) → Buf (Elt Ideal) ℓ) (g : Dev Cert.Norm1DxIdeal.nD → PrngReg)
    (m' : (ℓ : Loc Cert.Norm1DxRefIdeal.nD Cert.Norm1DxRefIdeal.τ Cert.Norm1DxRefIdeal.sig) → Buf (Elt Ideal) ℓ) (g' : Dev Cert.Norm1DxRefIdeal.nD → PrngReg), Pre_Norm1DxIdeal m →
    (∀ c : Dev Cert.Norm1DxIdeal.nD,
      m' ((c.tc : Thread Cert.Norm1DxRefIdeal.nD Cert.Norm1DxRefIdeal.τ).loc Cert.Norm1DxRefIdeal.main_arg0) = m ((c.tc : Thread Cert.Norm1DxIdeal.nD Cert.Norm1DxIdeal.τ).loc Cert.Norm1DxIdeal.main_arg0)
      ∧ m' ((c.tc : Thread Cert.Norm1DxRefIdeal.nD Cert.Norm1DxRefIdeal.τ).loc Cert.Norm1DxRefIdeal.main_arg1) = m ((c.tc : Thread Cert.Norm1DxIdeal.nD Cert.Norm1DxIdeal.τ).loc Cert.Norm1DxIdeal.main_arg1)
      ∧ m' ((c.tc : Thread Cert.Norm1DxRefIdeal.nD Cert.Norm1DxRefIdeal.τ).loc Cert.Norm1DxRefIdeal.main_arg2) = m ((c.tc : Thread Cert.Norm1DxIdeal.nD Cert.Norm1DxIdeal.τ).loc Cert.Norm1DxIdeal.main_arg2)
      ∧ m' ((c.tc : Thread Cert.Norm1DxRefIdeal.nD Cert.Norm1DxRefIdeal.τ).loc Cert.Norm1DxRefIdeal.main_arg3) = m ((c.tc : Thread Cert.Norm1DxIdeal.nD Cert.Norm1DxIdeal.τ).loc Cert.Norm1DxIdeal.main_arg3)
      ∧ m' ((c.tc : Thread Cert.Norm1DxRefIdeal.nD Cert.Norm1DxRefIdeal.τ).loc Cert.Norm1DxRefIdeal.main_arg4) = m ((c.tc : Thread Cert.Norm1DxIdeal.nD Cert.Norm1DxIdeal.τ).loc Cert.Norm1DxIdeal.main_arg4)
      ∧ m' ((c.tc : Thread Cert.Norm1DxRefIdeal.nD Cert.Norm1DxRefIdeal.τ).loc Cert.Norm1DxRefIdeal.main_arg5) = m ((c.tc : Thread Cert.Norm1DxIdeal.nD Cert.Norm1DxIdeal.τ).loc Cert.Norm1DxIdeal.main_arg5)) →
    ∃ (v0 : (c : Dev Cert.Norm1DxIdeal.nD) → Buf (Elt Ideal) ((c.tc : Thread Cert.Norm1DxIdeal.nD Cert.Norm1DxIdeal.τ).loc Cert.Norm1DxIdeal.main_v0_0)) (v1 : (c : Dev Cert.Norm1DxIdeal.nD) → Buf (Elt Ideal) ((c.tc : Thread Cert.Norm1DxIdeal.nD Cert.Norm1DxIdeal.τ).loc Cert.Norm1DxIdeal.main_v0_1)) (v2 : (c : Dev Cert.Norm1DxIdeal.nD) → Buf (Elt Ideal) ((c.tc : Thread Cert.Norm1DxIdeal.nD Cert.Norm1DxIdeal.τ).loc Cert.Norm1DxIdeal.main_v0_2)) (v3 : (c : Dev Cert.Norm1DxIdeal.nD) → Buf (Elt Ideal) ((c.tc : Thread Cert.Norm1DxIdeal.nD Cert.Norm1DxIdeal.τ).loc Cert.Norm1DxIdeal.main_v0_3)),
      θ_run (Cert.Norm1DxIdeal.defs (F := Ideal)) (onTc (τ := Cert.Norm1DxIdeal.τ) (Cert.Norm1DxIdeal.main (F := Ideal))) ⟨m, fun _ => 0, g⟩ (fun r => ∀ c : Dev Cert.Norm1DxIdeal.nD,
          r.2.mem ((c.tc : Thread Cert.Norm1DxIdeal.nD Cert.Norm1DxIdeal.τ).loc Cert.Norm1DxIdeal.main_v0_0) = v0 c
          ∧ r.2.mem ((c.tc : Thread Cert.Norm1DxIdeal.nD Cert.Norm1DxIdeal.τ).loc Cert.Norm1DxIdeal.main_v0_1) = v1 c
          ∧ r.2.mem ((c.tc : Thread Cert.Norm1DxIdeal.nD Cert.Norm1DxIdeal.τ).loc Cert.Norm1DxIdeal.main_v0_2) = v2 c
          ∧ r.2.mem ((c.tc : Thread Cert.Norm1DxIdeal.nD Cert.Norm1DxIdeal.τ).loc Cert.Norm1DxIdeal.main_v0_3) = v3 c
          ∧ r.2.mem ((c.tc : Thread Cert.Norm1DxIdeal.nD Cert.Norm1DxIdeal.τ).loc Cert.Norm1DxIdeal.main_arg0) = m ((c.tc : Thread Cert.Norm1DxIdeal.nD Cert.Norm1DxIdeal.τ).loc Cert.Norm1DxIdeal.main_arg0)
          ∧ r.2.mem ((c.tc : Thread Cert.Norm1DxIdeal.nD Cert.Norm1DxIdeal.τ).loc Cert.Norm1DxIdeal.main_arg1) = m ((c.tc : Thread Cert.Norm1DxIdeal.nD Cert.Norm1DxIdeal.τ).loc Cert.Norm1DxIdeal.main_arg1)
          ∧ r.2.mem ((c.tc : Thread Cert.Norm1DxIdeal.nD Cert.Norm1DxIdeal.τ).loc Cert.Norm1DxIdeal.main_arg2) = m ((c.tc : Thread Cert.Norm1DxIdeal.nD Cert.Norm1DxIdeal.τ).loc Cert.Norm1DxIdeal.main_arg2)
          ∧ r.2.mem ((c.tc : Thread Cert.Norm1DxIdeal.nD Cert.Norm1DxIdeal.τ).loc Cert.Norm1DxIdeal.main_arg3) = m ((c.tc : Thread Cert.Norm1DxIdeal.nD Cert.Norm1DxIdeal.τ).loc Cert.Norm1DxIdeal.main_arg3)
          ∧ r.2.mem ((c.tc : Thread Cert.Norm1DxIdeal.nD Cert.Norm1DxIdeal.τ).loc Cert.Norm1DxIdeal.main_arg4) = m ((c.tc : Thread Cert.Norm1DxIdeal.nD Cert.Norm1DxIdeal.τ).loc Cert.Norm1DxIdeal.main_arg4)
          ∧ r.2.mem ((c.tc : Thread Cert.Norm1DxIdeal.nD Cert.Norm1DxIdeal.τ).loc Cert.Norm1DxIdeal.main_arg5) = m ((c.tc : Thread Cert.Norm1DxIdeal.nD Cert.Norm1DxIdeal.τ).loc Cert.Norm1DxIdeal.main_arg5))
      ∧ θ_run (Cert.Norm1DxRefIdeal.defs (F := Ideal)) (onTc (τ := Cert.Norm1DxRefIdeal.τ) (Cert.Norm1DxRefIdeal.main (F := Ideal))) ⟨m', fun _ => 0, g'⟩ (fun r => ∀ c : Dev Cert.Norm1DxRefIdeal.nD,
          r.2.mem ((c.tc : Thread Cert.Norm1DxRefIdeal.nD Cert.Norm1DxRefIdeal.τ).loc Cert.Norm1DxRefIdeal.main_v48) = v0 c
          ∧ r.2.mem ((c.tc : Thread Cert.Norm1DxRefIdeal.nD Cert.Norm1DxRefIdeal.τ).loc Cert.Norm1DxRefIdeal.main_v31) = v1 c
          ∧ r.2.mem ((c.tc : Thread Cert.Norm1DxRefIdeal.nD Cert.Norm1DxRefIdeal.τ).loc Cert.Norm1DxRefIdeal.main_v26) = v2 c
          ∧ r.2.mem ((c.tc : Thread Cert.Norm1DxRefIdeal.nD Cert.Norm1DxRefIdeal.τ).loc Cert.Norm1DxRefIdeal.main_v23) = v3 c
          ∧ r.2.mem ((c.tc : Thread Cert.Norm1DxRefIdeal.nD Cert.Norm1DxRefIdeal.τ).loc Cert.Norm1DxRefIdeal.main_arg0) = m' ((c.tc : Thread Cert.Norm1DxRefIdeal.nD Cert.Norm1DxRefIdeal.τ).loc Cert.Norm1DxRefIdeal.main_arg0)
          ∧ r.2.mem ((c.tc : Thread Cert.Norm1DxRefIdeal.nD Cert.Norm1DxRefIdeal.τ).loc Cert.Norm1DxRefIdeal.main_arg1) = m' ((c.tc : Thread Cert.Norm1DxRefIdeal.nD Cert.Norm1DxRefIdeal.τ).loc Cert.Norm1DxRefIdeal.main_arg1)
          ∧ r.2.mem ((c.tc : Thread Cert.Norm1DxRefIdeal.nD Cert.Norm1DxRefIdeal.τ).loc Cert.Norm1DxRefIdeal.main_arg2) = m' ((c.tc : Thread Cert.Norm1DxRefIdeal.nD Cert.Norm1DxRefIdeal.τ).loc Cert.Norm1DxRefIdeal.main_arg2)
          ∧ r.2.mem ((c.tc : Thread Cert.Norm1DxRefIdeal.nD Cert.Norm1DxRefIdeal.τ).loc Cert.Norm1DxRefIdeal.main_arg3) = m' ((c.tc : Thread Cert.Norm1DxRefIdeal.nD Cert.Norm1DxRefIdeal.τ).loc Cert.Norm1DxRefIdeal.main_arg3)
          ∧ r.2.mem ((c.tc : Thread Cert.Norm1DxRefIdeal.nD Cert.Norm1DxRefIdeal.τ).loc Cert.Norm1DxRefIdeal.main_arg4) = m' ((c.tc : Thread Cert.Norm1DxRefIdeal.nD Cert.Norm1DxRefIdeal.τ).loc Cert.Norm1DxRefIdeal.main_arg4)
          ∧ r.2.mem ((c.tc : Thread Cert.Norm1DxRefIdeal.nD Cert.Norm1DxRefIdeal.τ).loc Cert.Norm1DxRefIdeal.main_arg5) = m' ((c.tc : Thread Cert.Norm1DxRefIdeal.nD Cert.Norm1DxRefIdeal.τ).loc Cert.Norm1DxRefIdeal.main_arg5))

def preserves_Norm2Dx_Norm2DxIdeal : Prop :=
  True

def algebraic_Norm2DxIdeal_Norm2DxRefIdeal [hNorm2DxIdeal : Cert.Norm2DxIdeal.Facts] [hNorm2DxRefIdeal : Cert.Norm2DxRefIdeal.Facts] : Prop :=
  ∀ (m : (ℓ : Loc Cert.Norm2DxIdeal.nD Cert.Norm2DxIdeal.τ Cert.Norm2DxIdeal.sig) → Buf (Elt Ideal) ℓ) (g : Dev Cert.Norm2DxIdeal.nD → PrngReg)
    (m' : (ℓ : Loc Cert.Norm2DxRefIdeal.nD Cert.Norm2DxRefIdeal.τ Cert.Norm2DxRefIdeal.sig) → Buf (Elt Ideal) ℓ) (g' : Dev Cert.Norm2DxRefIdeal.nD → PrngReg), Pre_Norm2DxIdeal m →
    (∀ c : Dev Cert.Norm2DxIdeal.nD,
      m' ((c.tc : Thread Cert.Norm2DxRefIdeal.nD Cert.Norm2DxRefIdeal.τ).loc Cert.Norm2DxRefIdeal.main_arg0) = m ((c.tc : Thread Cert.Norm2DxIdeal.nD Cert.Norm2DxIdeal.τ).loc Cert.Norm2DxIdeal.main_arg0)
      ∧ m' ((c.tc : Thread Cert.Norm2DxRefIdeal.nD Cert.Norm2DxRefIdeal.τ).loc Cert.Norm2DxRefIdeal.main_arg1) = m ((c.tc : Thread Cert.Norm2DxIdeal.nD Cert.Norm2DxIdeal.τ).loc Cert.Norm2DxIdeal.main_arg1)
      ∧ m' ((c.tc : Thread Cert.Norm2DxRefIdeal.nD Cert.Norm2DxRefIdeal.τ).loc Cert.Norm2DxRefIdeal.main_arg2) = m ((c.tc : Thread Cert.Norm2DxIdeal.nD Cert.Norm2DxIdeal.τ).loc Cert.Norm2DxIdeal.main_arg2)
      ∧ m' ((c.tc : Thread Cert.Norm2DxRefIdeal.nD Cert.Norm2DxRefIdeal.τ).loc Cert.Norm2DxRefIdeal.main_arg3) = m ((c.tc : Thread Cert.Norm2DxIdeal.nD Cert.Norm2DxIdeal.τ).loc Cert.Norm2DxIdeal.main_arg3)
      ∧ m' ((c.tc : Thread Cert.Norm2DxRefIdeal.nD Cert.Norm2DxRefIdeal.τ).loc Cert.Norm2DxRefIdeal.main_arg4) = m ((c.tc : Thread Cert.Norm2DxIdeal.nD Cert.Norm2DxIdeal.τ).loc Cert.Norm2DxIdeal.main_arg4)
      ∧ m' ((c.tc : Thread Cert.Norm2DxRefIdeal.nD Cert.Norm2DxRefIdeal.τ).loc Cert.Norm2DxRefIdeal.main_arg5) = m ((c.tc : Thread Cert.Norm2DxIdeal.nD Cert.Norm2DxIdeal.τ).loc Cert.Norm2DxIdeal.main_arg5)
      ∧ m' ((c.tc : Thread Cert.Norm2DxRefIdeal.nD Cert.Norm2DxRefIdeal.τ).loc Cert.Norm2DxRefIdeal.main_arg6) = m ((c.tc : Thread Cert.Norm2DxIdeal.nD Cert.Norm2DxIdeal.τ).loc Cert.Norm2DxIdeal.main_arg6)
      ∧ m' ((c.tc : Thread Cert.Norm2DxRefIdeal.nD Cert.Norm2DxRefIdeal.τ).loc Cert.Norm2DxRefIdeal.main_arg7) = m ((c.tc : Thread Cert.Norm2DxIdeal.nD Cert.Norm2DxIdeal.τ).loc Cert.Norm2DxIdeal.main_arg7)) →
    ∃ (v0 : (c : Dev Cert.Norm2DxIdeal.nD) → Buf (Elt Ideal) ((c.tc : Thread Cert.Norm2DxIdeal.nD Cert.Norm2DxIdeal.τ).loc Cert.Norm2DxIdeal.main_v0_0)) (v1 : (c : Dev Cert.Norm2DxIdeal.nD) → Buf (Elt Ideal) ((c.tc : Thread Cert.Norm2DxIdeal.nD Cert.Norm2DxIdeal.τ).loc Cert.Norm2DxIdeal.main_v0_1)) (v2 : (c : Dev Cert.Norm2DxIdeal.nD) → Buf (Elt Ideal) ((c.tc : Thread Cert.Norm2DxIdeal.nD Cert.Norm2DxIdeal.τ).loc Cert.Norm2DxIdeal.main_v0_2)) (v3 : (c : Dev Cert.Norm2DxIdeal.nD) → Buf (Elt Ideal) ((c.tc : Thread Cert.Norm2DxIdeal.nD Cert.Norm2DxIdeal.τ).loc Cert.Norm2DxIdeal.main_v0_3)) (v4 : (c : Dev Cert.Norm2DxIdeal.nD) → Buf (Elt Ideal) ((c.tc : Thread Cert.Norm2DxIdeal.nD Cert.Norm2DxIdeal.τ).loc Cert.Norm2DxIdeal.main_v0_4)) (v5 : (c : Dev Cert.Norm2DxIdeal.nD) → Buf (Elt Ideal) ((c.tc : Thread Cert.Norm2DxIdeal.nD Cert.Norm2DxIdeal.τ).loc Cert.Norm2DxIdeal.main_v0_5)),
      θ_run (Cert.Norm2DxIdeal.defs (F := Ideal)) (onTc (τ := Cert.Norm2DxIdeal.τ) (Cert.Norm2DxIdeal.main (F := Ideal))) ⟨m, fun _ => 0, g⟩ (fun r => ∀ c : Dev Cert.Norm2DxIdeal.nD,
          r.2.mem ((c.tc : Thread Cert.Norm2DxIdeal.nD Cert.Norm2DxIdeal.τ).loc Cert.Norm2DxIdeal.main_v0_0) = v0 c
          ∧ r.2.mem ((c.tc : Thread Cert.Norm2DxIdeal.nD Cert.Norm2DxIdeal.τ).loc Cert.Norm2DxIdeal.main_v0_1) = v1 c
          ∧ r.2.mem ((c.tc : Thread Cert.Norm2DxIdeal.nD Cert.Norm2DxIdeal.τ).loc Cert.Norm2DxIdeal.main_v0_2) = v2 c
          ∧ r.2.mem ((c.tc : Thread Cert.Norm2DxIdeal.nD Cert.Norm2DxIdeal.τ).loc Cert.Norm2DxIdeal.main_v0_3) = v3 c
          ∧ r.2.mem ((c.tc : Thread Cert.Norm2DxIdeal.nD Cert.Norm2DxIdeal.τ).loc Cert.Norm2DxIdeal.main_v0_4) = v4 c
          ∧ r.2.mem ((c.tc : Thread Cert.Norm2DxIdeal.nD Cert.Norm2DxIdeal.τ).loc Cert.Norm2DxIdeal.main_v0_5) = v5 c
          ∧ r.2.mem ((c.tc : Thread Cert.Norm2DxIdeal.nD Cert.Norm2DxIdeal.τ).loc Cert.Norm2DxIdeal.main_arg0) = m ((c.tc : Thread Cert.Norm2DxIdeal.nD Cert.Norm2DxIdeal.τ).loc Cert.Norm2DxIdeal.main_arg0)
          ∧ r.2.mem ((c.tc : Thread Cert.Norm2DxIdeal.nD Cert.Norm2DxIdeal.τ).loc Cert.Norm2DxIdeal.main_arg1) = m ((c.tc : Thread Cert.Norm2DxIdeal.nD Cert.Norm2DxIdeal.τ).loc Cert.Norm2DxIdeal.main_arg1)
          ∧ r.2.mem ((c.tc : Thread Cert.Norm2DxIdeal.nD Cert.Norm2DxIdeal.τ).loc Cert.Norm2DxIdeal.main_arg2) = m ((c.tc : Thread Cert.Norm2DxIdeal.nD Cert.Norm2DxIdeal.τ).loc Cert.Norm2DxIdeal.main_arg2)
          ∧ r.2.mem ((c.tc : Thread Cert.Norm2DxIdeal.nD Cert.Norm2DxIdeal.τ).loc Cert.Norm2DxIdeal.main_arg3) = m ((c.tc : Thread Cert.Norm2DxIdeal.nD Cert.Norm2DxIdeal.τ).loc Cert.Norm2DxIdeal.main_arg3)
          ∧ r.2.mem ((c.tc : Thread Cert.Norm2DxIdeal.nD Cert.Norm2DxIdeal.τ).loc Cert.Norm2DxIdeal.main_arg4) = m ((c.tc : Thread Cert.Norm2DxIdeal.nD Cert.Norm2DxIdeal.τ).loc Cert.Norm2DxIdeal.main_arg4)
          ∧ r.2.mem ((c.tc : Thread Cert.Norm2DxIdeal.nD Cert.Norm2DxIdeal.τ).loc Cert.Norm2DxIdeal.main_arg5) = m ((c.tc : Thread Cert.Norm2DxIdeal.nD Cert.Norm2DxIdeal.τ).loc Cert.Norm2DxIdeal.main_arg5)
          ∧ r.2.mem ((c.tc : Thread Cert.Norm2DxIdeal.nD Cert.Norm2DxIdeal.τ).loc Cert.Norm2DxIdeal.main_arg6) = m ((c.tc : Thread Cert.Norm2DxIdeal.nD Cert.Norm2DxIdeal.τ).loc Cert.Norm2DxIdeal.main_arg6)
          ∧ r.2.mem ((c.tc : Thread Cert.Norm2DxIdeal.nD Cert.Norm2DxIdeal.τ).loc Cert.Norm2DxIdeal.main_arg7) = m ((c.tc : Thread Cert.Norm2DxIdeal.nD Cert.Norm2DxIdeal.τ).loc Cert.Norm2DxIdeal.main_arg7))
      ∧ θ_run (Cert.Norm2DxRefIdeal.defs (F := Ideal)) (onTc (τ := Cert.Norm2DxRefIdeal.τ) (Cert.Norm2DxRefIdeal.main (F := Ideal))) ⟨m', fun _ => 0, g'⟩ (fun r => ∀ c : Dev Cert.Norm2DxRefIdeal.nD,
          r.2.mem ((c.tc : Thread Cert.Norm2DxRefIdeal.nD Cert.Norm2DxRefIdeal.τ).loc Cert.Norm2DxRefIdeal.main_v51) = v0 c
          ∧ r.2.mem ((c.tc : Thread Cert.Norm2DxRefIdeal.nD Cert.Norm2DxRefIdeal.τ).loc Cert.Norm2DxRefIdeal.main_v58) = v1 c
          ∧ r.2.mem ((c.tc : Thread Cert.Norm2DxRefIdeal.nD Cert.Norm2DxRefIdeal.τ).loc Cert.Norm2DxRefIdeal.main_v57) = v2 c
          ∧ r.2.mem ((c.tc : Thread Cert.Norm2DxRefIdeal.nD Cert.Norm2DxRefIdeal.τ).loc Cert.Norm2DxRefIdeal.main_v34) = v3 c
          ∧ r.2.mem ((c.tc : Thread Cert.Norm2DxRefIdeal.nD Cert.Norm2DxRefIdeal.τ).loc Cert.Norm2DxRefIdeal.main_v29) = v4 c
          ∧ r.2.mem ((c.tc : Thread Cert.Norm2DxRefIdeal.nD Cert.Norm2DxRefIdeal.τ).loc Cert.Norm2DxRefIdeal.main_v26) = v5 c
          ∧ r.2.mem ((c.tc : Thread Cert.Norm2DxRefIdeal.nD Cert.Norm2DxRefIdeal.τ).loc Cert.Norm2DxRefIdeal.main_arg0) = m' ((c.tc : Thread Cert.Norm2DxRefIdeal.nD Cert.Norm2DxRefIdeal.τ).loc Cert.Norm2DxRefIdeal.main_arg0)
          ∧ r.2.mem ((c.tc : Thread Cert.Norm2DxRefIdeal.nD Cert.Norm2DxRefIdeal.τ).loc Cert.Norm2DxRefIdeal.main_arg1) = m' ((c.tc : Thread Cert.Norm2DxRefIdeal.nD Cert.Norm2DxRefIdeal.τ).loc Cert.Norm2DxRefIdeal.main_arg1)
          ∧ r.2.mem ((c.tc : Thread Cert.Norm2DxRefIdeal.nD Cert.Norm2DxRefIdeal.τ).loc Cert.Norm2DxRefIdeal.main_arg2) = m' ((c.tc : Thread Cert.Norm2DxRefIdeal.nD Cert.Norm2DxRefIdeal.τ).loc Cert.Norm2DxRefIdeal.main_arg2)
          ∧ r.2.mem ((c.tc : Thread Cert.Norm2DxRefIdeal.nD Cert.Norm2DxRefIdeal.τ).loc Cert.Norm2DxRefIdeal.main_arg3) = m' ((c.tc : Thread Cert.Norm2DxRefIdeal.nD Cert.Norm2DxRefIdeal.τ).loc Cert.Norm2DxRefIdeal.main_arg3)
          ∧ r.2.mem ((c.tc : Thread Cert.Norm2DxRefIdeal.nD Cert.Norm2DxRefIdeal.τ).loc Cert.Norm2DxRefIdeal.main_arg4) = m' ((c.tc : Thread Cert.Norm2DxRefIdeal.nD Cert.Norm2DxRefIdeal.τ).loc Cert.Norm2DxRefIdeal.main_arg4)
          ∧ r.2.mem ((c.tc : Thread Cert.Norm2DxRefIdeal.nD Cert.Norm2DxRefIdeal.τ).loc Cert.Norm2DxRefIdeal.main_arg5) = m' ((c.tc : Thread Cert.Norm2DxRefIdeal.nD Cert.Norm2DxRefIdeal.τ).loc Cert.Norm2DxRefIdeal.main_arg5)
          ∧ r.2.mem ((c.tc : Thread Cert.Norm2DxRefIdeal.nD Cert.Norm2DxRefIdeal.τ).loc Cert.Norm2DxRefIdeal.main_arg6) = m' ((c.tc : Thread Cert.Norm2DxRefIdeal.nD Cert.Norm2DxRefIdeal.τ).loc Cert.Norm2DxRefIdeal.main_arg6)
          ∧ r.2.mem ((c.tc : Thread Cert.Norm2DxRefIdeal.nD Cert.Norm2DxRefIdeal.τ).loc Cert.Norm2DxRefIdeal.main_arg7) = m' ((c.tc : Thread Cert.Norm2DxRefIdeal.nD Cert.Norm2DxRefIdeal.τ).loc Cert.Norm2DxRefIdeal.main_arg7))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)) (v4 : (c : Dev Cert.LossIdeal.nD) → Buf (Elt Ideal) ((c.tc : Thread Cert.LossIdeal.nD Cert.LossIdeal.τ).loc Cert.LossIdeal.main_v1_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_v1_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v27) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v60) = v2 c
          ∧ r.2.mem ((c.tc : Thread Cert.LossRefIdeal.nD Cert.LossRefIdeal.τ).loc Cert.LossRefIdeal.main_v59) = v3 c
          ∧ r.2.mem ((c.tc : Thread Cert.LossRefIdeal.nD Cert.LossRefIdeal.τ).loc Cert.LossRefIdeal.main_v38) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)) →
    ∃ (v0 : (c : Dev Cert.Norm1Ideal.nD) → Buf (Elt Ideal) ((c.tc : Thread Cert.Norm1Ideal.nD Cert.Norm1Ideal.τ).loc Cert.Norm1Ideal.main_v0)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v18) = v0 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)
      ∧ m' ((c.tc : Thread Cert.Norm2RefIdeal.nD Cert.Norm2RefIdeal.τ).loc Cert.Norm2RefIdeal.main_arg5) = m ((c.tc : Thread Cert.Norm2Ideal.nD Cert.Norm2Ideal.τ).loc Cert.Norm2Ideal.main_arg5)) →
    ∃ (v0 : (c : Dev Cert.Norm2Ideal.nD) → Buf (Elt Ideal) ((c.tc : Thread Cert.Norm2Ideal.nD Cert.Norm2Ideal.τ).loc Cert.Norm2Ideal.main_v0_0)) (v1 : (c : Dev Cert.Norm2Ideal.nD) → Buf (Elt Ideal) ((c.tc : Thread Cert.Norm2Ideal.nD Cert.Norm2Ideal.τ).loc Cert.Norm2Ideal.main_v0_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v0_0) = v0 c
          ∧ r.2.mem ((c.tc : Thread Cert.Norm2Ideal.nD Cert.Norm2Ideal.τ).loc Cert.Norm2Ideal.main_v0_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
          ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v2) = v0 c
          ∧ r.2.mem ((c.tc : Thread Cert.Norm2RefIdeal.nD Cert.Norm2RefIdeal.τ).loc Cert.Norm2RefIdeal.main_v21) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4)
          ∧ r.2.mem ((c.tc : Thread Cert.Norm2RefIdeal.nD Cert.Norm2RefIdeal.τ).loc Cert.Norm2RefIdeal.main_arg5) = m' ((c.tc : Thread Cert.Norm2RefIdeal.nD Cert.Norm2RefIdeal.τ).loc Cert.Norm2RefIdeal.main_arg5))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)
      ∧ m' ((c.tc : Thread Cert.ShiftRefIdeal.nD Cert.ShiftRefIdeal.τ).loc Cert.ShiftRefIdeal.main_arg2) = m ((c.tc : Thread Cert.ShiftIdeal.nD Cert.ShiftIdeal.τ).loc Cert.ShiftIdeal.main_arg2)) →
    ∃ (v0 : (c : Dev Cert.ShiftIdeal.nD) → Buf (Elt Ideal) ((c.tc : Thread Cert.ShiftIdeal.nD Cert.ShiftIdeal.τ).loc Cert.ShiftIdeal.main_v0)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v0) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v12) = v0 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1)
          ∧ r.2.mem ((c.tc : Thread Cert.ShiftRefIdeal.nD Cert.ShiftRefIdeal.τ).loc Cert.ShiftRefIdeal.main_arg2) = m' ((c.tc : Thread Cert.ShiftRefIdeal.nD Cert.ShiftRefIdeal.τ).loc Cert.ShiftRefIdeal.main_arg2))

def preserves_AdaW_AdaWIdeal : Prop :=
  True

def algebraic_AdaWIdeal_AdaWRefIdeal [hAdaWIdeal : Cert.AdaWIdeal.Facts] [hAdaWRefIdeal : Cert.AdaWRefIdeal.Facts] : Prop :=
  ∀ (m : (ℓ : Loc Cert.AdaWIdeal.nD Cert.AdaWIdeal.τ Cert.AdaWIdeal.sig) → Buf (Elt Ideal) ℓ) (g : Dev Cert.AdaWIdeal.nD → PrngReg)
    (m' : (ℓ : Loc Cert.AdaWRefIdeal.nD Cert.AdaWRefIdeal.τ Cert.AdaWRefIdeal.sig) → Buf (Elt Ideal) ℓ) (g' : Dev Cert.AdaWRefIdeal.nD → PrngReg), Pre_AdaWIdeal m →
    (∀ c : Dev Cert.AdaWIdeal.nD,
      m' ((c.tc : Thread Cert.AdaWRefIdeal.nD Cert.AdaWRefIdeal.τ).loc Cert.AdaWRefIdeal.main_arg0) = m ((c.tc : Thread Cert.AdaWIdeal.nD Cert.AdaWIdeal.τ).loc Cert.AdaWIdeal.main_arg0)
      ∧ m' ((c.tc : Thread Cert.AdaWRefIdeal.nD Cert.AdaWRefIdeal.τ).loc Cert.AdaWRefIdeal.main_arg1) = m ((c.tc : Thread Cert.AdaWIdeal.nD Cert.AdaWIdeal.τ).loc Cert.AdaWIdeal.main_arg1)
      ∧ m' ((c.tc : Thread Cert.AdaWRefIdeal.nD Cert.AdaWRefIdeal.τ).loc Cert.AdaWRefIdeal.main_arg2) = m ((c.tc : Thread Cert.AdaWIdeal.nD Cert.AdaWIdeal.τ).loc Cert.AdaWIdeal.main_arg2)
      ∧ m' ((c.tc : Thread Cert.AdaWRefIdeal.nD Cert.AdaWRefIdeal.τ).loc Cert.AdaWRefIdeal.main_arg3) = m ((c.tc : Thread Cert.AdaWIdeal.nD Cert.AdaWIdeal.τ).loc Cert.AdaWIdeal.main_arg3)
      ∧ m' ((c.tc : Thread Cert.AdaWRefIdeal.nD Cert.AdaWRefIdeal.τ).loc Cert.AdaWRefIdeal.main_arg4) = m ((c.tc : Thread Cert.AdaWIdeal.nD Cert.AdaWIdeal.τ).loc Cert.AdaWIdeal.main_arg4)) →
    ∃ (v0 : (c : Dev Cert.AdaWIdeal.nD) → Buf (Elt Ideal) ((c.tc : Thread Cert.AdaWIdeal.nD Cert.AdaWIdeal.τ).loc Cert.AdaWIdeal.main_v1_0)) (v1 : (c : Dev Cert.AdaWIdeal.nD) → Buf (Elt Ideal) ((c.tc : Thread Cert.AdaWIdeal.nD Cert.AdaWIdeal.τ).loc Cert.AdaWIdeal.main_v1_1)) (v2 : (c : Dev Cert.AdaWIdeal.nD) → Buf (Elt Ideal) ((c.tc : Thread Cert.AdaWIdeal.nD Cert.AdaWIdeal.τ).loc Cert.AdaWIdeal.main_v1_2)) (v3 : (c : Dev Cert.AdaWIdeal.nD) → Buf (Elt Ideal) ((c.tc : Thread Cert.AdaWIdeal.nD Cert.AdaWIdeal.τ).loc Cert.AdaWIdeal.main_v1_3)),
      θ_run (Cert.AdaWIdeal.defs (F := Ideal)) (onTc (τ := Cert.AdaWIdeal.τ) (Cert.AdaWIdeal.main (F := Ideal))) ⟨m, fun _ => 0, g⟩ (fun r => ∀ c : Dev Cert.AdaWIdeal.nD,
          r.2.mem ((c.tc : Thread Cert.AdaWIdeal.nD Cert.AdaWIdeal.τ).loc Cert.AdaWIdeal.main_v1_0) = v0 c
          ∧ r.2.mem ((c.tc : Thread Cert.AdaWIdeal.nD Cert.AdaWIdeal.τ).loc Cert.AdaWIdeal.main_v1_1) = v1 c
          ∧ r.2.mem ((c.tc : Thread Cert.AdaWIdeal.nD Cert.AdaWIdeal.τ).loc Cert.AdaWIdeal.main_v1_2) = v2 c
          ∧ r.2.mem ((c.tc : Thread Cert.AdaWIdeal.nD Cert.AdaWIdeal.τ).loc Cert.AdaWIdeal.main_v1_3) = v3 c
          ∧ r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
          ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1)
          ∧ r.2.mem ((c.tc : Thread Cert.AdaWIdeal.nD Cert.AdaWIdeal.τ).loc Cert.AdaWIdeal.main_arg2) = m ((c.tc : Thread Cert.AdaWIdeal.nD Cert.AdaWIdeal.τ).loc Cert.AdaWIdeal.main_arg2)
          ∧ r.2.mem ((c.tc : Thread Cert.AdaWIdeal.nD Cert.AdaWIdeal.τ).loc Cert.AdaWIdeal.main_arg3) = m ((c.tc : Thread Cert.AdaWIdeal.nD Cert.AdaWIdeal.τ).loc Cert.AdaWIdeal.main_arg3)
          ∧ r.2.mem ((c.tc : Thread Cert.AdaWIdeal.nD Cert.AdaWIdeal.τ).loc Cert.AdaWIdeal.main_arg4) = m ((c.tc : Thread Cert.AdaWIdeal.nD Cert.AdaWIdeal.τ).loc Cert.AdaWIdeal.main_arg4))
      ∧ θ_run (Cert.AdaWRefIdeal.defs (F := Ideal)) (onTc (τ := Cert.AdaWRefIdeal.τ) (Cert.AdaWRefIdeal.main (F := Ideal))) ⟨m', fun _ => 0, g'⟩ (fun r => ∀ c : Dev Cert.AdaWRefIdeal.nD,
          r.2.mem ((c.tc : Thread Cert.AdaWRefIdeal.nD Cert.AdaWRefIdeal.τ).loc Cert.AdaWRefIdeal.main_v2) = v0 c
          ∧ r.2.mem ((c.tc : Thread Cert.AdaWRefIdeal.nD Cert.AdaWRefIdeal.τ).loc Cert.AdaWRefIdeal.main_v26) = v1 c
          ∧ r.2.mem ((c.tc : Thread Cert.AdaWRefIdeal.nD Cert.AdaWRefIdeal.τ).loc Cert.AdaWRefIdeal.main_v7) = v2 c
          ∧ r.2.mem ((c.tc : Thread Cert.AdaWRefIdeal.nD Cert.AdaWRefIdeal.τ).loc Cert.AdaWRefIdeal.main_v13) = v3 c
          ∧ r.2.mem ((c.tc : Thread Cert.AdaWRefIdeal.nD Cert.AdaWRefIdeal.τ).loc Cert.AdaWRefIdeal.main_arg0) = m' ((c.tc : Thread Cert.AdaWRefIdeal.nD Cert.AdaWRefIdeal.τ).loc Cert.AdaWRefIdeal.main_arg0)
          ∧ r.2.mem ((c.tc : Thread Cert.AdaWRefIdeal.nD Cert.AdaWRefIdeal.τ).loc Cert.AdaWRefIdeal.main_arg1) = m' ((c.tc : Thread Cert.AdaWRefIdeal.nD Cert.AdaWRefIdeal.τ).loc Cert.AdaWRefIdeal.main_arg1)
          ∧ r.2.mem ((c.tc : Thread Cert.AdaWRefIdeal.nD Cert.AdaWRefIdeal.τ).loc Cert.AdaWRefIdeal.main_arg2) = m' ((c.tc : Thread Cert.AdaWRefIdeal.nD Cert.AdaWRefIdeal.τ).loc Cert.AdaWRefIdeal.main_arg2)
          ∧ r.2.mem ((c.tc : Thread Cert.AdaWRefIdeal.nD Cert.AdaWRefIdeal.τ).loc Cert.AdaWRefIdeal.main_arg3) = m' ((c.tc : Thread Cert.AdaWRefIdeal.nD Cert.AdaWRefIdeal.τ).loc Cert.AdaWRefIdeal.main_arg3)
          ∧ r.2.mem ((c.tc : Thread Cert.AdaWRefIdeal.nD Cert.AdaWRefIdeal.τ).loc Cert.AdaWRefIdeal.main_arg4) = m' ((c.tc : Thread Cert.AdaWRefIdeal.nD Cert.AdaWRefIdeal.τ).loc Cert.AdaWRefIdeal.main_arg4))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v1_0)) (v1 : (c : Dev Cert.AdamFfnIdeal.nD) → Buf (Elt Ideal) ((c.tc : Thread Cert.AdamFfnIdeal.nD Cert.AdamFfnIdeal.τ).loc Cert.AdamFfnIdeal.main_v1_1)) (v2 : (c : Dev Cert.AdamFfnIdeal.nD) → Buf (Elt Ideal) ((c.tc : Thread Cert.AdamFfnIdeal.nD Cert.AdamFfnIdeal.τ).loc Cert.AdamFfnIdeal.main_v1_2)) (v3 : (c : Dev Cert.AdamFfnIdeal.nD) → Buf (Elt Ideal) ((c.tc : Thread Cert.AdamFfnIdeal.nD Cert.AdamFfnIdeal.τ).loc Cert.AdamFfnIdeal.main_v1_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v1_0) = v0 c
          ∧ r.2.mem ((c.tc : Thread Cert.AdamFfnIdeal.nD Cert.AdamFfnIdeal.τ).loc Cert.AdamFfnIdeal.main_v1_1) = v1 c
          ∧ r.2.mem ((c.tc : Thread Cert.AdamFfnIdeal.nD Cert.AdamFfnIdeal.τ).loc Cert.AdamFfnIdeal.main_v1_2) = v2 c
          ∧ r.2.mem ((c.tc : Thread Cert.AdamFfnIdeal.nD Cert.AdamFfnIdeal.τ).loc Cert.AdamFfnIdeal.main_v1_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_arg1) = v0 c
          ∧ r.2.mem ((c.tc : Thread Cert.AdamFfnRefIdeal.nD Cert.AdamFfnRefIdeal.τ).loc Cert.AdamFfnRefIdeal.main_v23) = v1 c
          ∧ r.2.mem ((c.tc : Thread Cert.AdamFfnRefIdeal.nD Cert.AdamFfnRefIdeal.τ).loc Cert.AdamFfnRefIdeal.main_v4) = v2 c
          ∧ r.2.mem ((c.tc : Thread Cert.AdamFfnRefIdeal.nD Cert.AdamFfnRefIdeal.τ).loc Cert.AdamFfnRefIdeal.main_v10) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_arg1) = v0 c
          ∧ r.2.mem ((c.tc : Thread Cert.AdamInRefIdeal.nD Cert.AdamInRefIdeal.τ).loc Cert.AdamInRefIdeal.main_v23) = v1 c
          ∧ r.2.mem ((c.tc : Thread Cert.AdamInRefIdeal.nD Cert.AdamInRefIdeal.τ).loc Cert.AdamInRefIdeal.main_v4) = v2 c
          ∧ r.2.mem ((c.tc : Thread Cert.AdamInRefIdeal.nD Cert.AdamInRefIdeal.τ).loc Cert.AdamInRefIdeal.main_v10) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_arg1) = v0 c
          ∧ r.2.mem ((c.tc : Thread Cert.AdamOutRefIdeal.nD Cert.AdamOutRefIdeal.τ).loc Cert.AdamOutRefIdeal.main_v23) = v1 c
          ∧ r.2.mem ((c.tc : Thread Cert.AdamOutRefIdeal.nD Cert.AdamOutRefIdeal.τ).loc Cert.AdamOutRefIdeal.main_v4) = v2 c
          ∧ r.2.mem ((c.tc : Thread Cert.AdamOutRefIdeal.nD Cert.AdamOutRefIdeal.τ).loc Cert.AdamOutRefIdeal.main_v10) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v1_0)) (v1 : (c : Dev Cert.AdamGluIdeal.nD) → Buf (Elt Ideal) ((c.tc : Thread Cert.AdamGluIdeal.nD Cert.AdamGluIdeal.τ).loc Cert.AdamGluIdeal.main_v1_1)) (v2 : (c : Dev Cert.AdamGluIdeal.nD) → Buf (Elt Ideal) ((c.tc : Thread Cert.AdamGluIdeal.nD Cert.AdamGluIdeal.τ).loc Cert.AdamGluIdeal.main_v1_2)) (v3 : (c : Dev Cert.AdamGluIdeal.nD) → Buf (Elt Ideal) ((c.tc : Thread Cert.AdamGluIdeal.nD Cert.AdamGluIdeal.τ).loc Cert.AdamGluIdeal.main_v1_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v1_0) = v0 c
          ∧ r.2.mem ((c.tc : Thread Cert.AdamGluIdeal.nD Cert.AdamGluIdeal.τ).loc Cert.AdamGluIdeal.main_v1_1) = v1 c
          ∧ r.2.mem ((c.tc : Thread Cert.AdamGluIdeal.nD Cert.AdamGluIdeal.τ).loc Cert.AdamGluIdeal.main_v1_2) = v2 c
          ∧ r.2.mem ((c.tc : Thread Cert.AdamGluIdeal.nD Cert.AdamGluIdeal.τ).loc Cert.AdamGluIdeal.main_v1_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_arg1) = v0 c
          ∧ r.2.mem ((c.tc : Thread Cert.AdamGluRefIdeal.nD Cert.AdamGluRefIdeal.τ).loc Cert.AdamGluRefIdeal.main_v23) = v1 c
          ∧ r.2.mem ((c.tc : Thread Cert.AdamGluRefIdeal.nD Cert.AdamGluRefIdeal.τ).loc Cert.AdamGluRefIdeal.main_v4) = v2 c
          ∧ r.2.mem ((c.tc : Thread Cert.AdamGluRefIdeal.nD Cert.AdamGluRefIdeal.τ).loc Cert.AdamGluRefIdeal.main_v10) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamRk_AdamRkIdeal : Prop :=
  True

def algebraic_AdamRkIdeal_AdamRkRefIdeal [hAdamRkIdeal : Cert.AdamRkIdeal.Facts] [hAdamRkRefIdeal : Cert.AdamRkRefIdeal.Facts] : Prop :=
  ∀ (m : (ℓ : Loc Cert.AdamRkIdeal.nD Cert.AdamRkIdeal.τ Cert.AdamRkIdeal.sig) → Buf (Elt Ideal) ℓ) (g : Dev Cert.AdamRkIdeal.nD → PrngReg)
    (m' : (ℓ : Loc Cert.AdamRkRefIdeal.nD Cert.AdamRkRefIdeal.τ Cert.AdamRkRefIdeal.sig) → Buf (Elt Ideal) ℓ) (g' : Dev Cert.AdamRkRefIdeal.nD → PrngReg), Pre_AdamRkIdeal m →
    (∀ c : Dev Cert.AdamRkIdeal.nD,
      m' ((c.tc : Thread Cert.AdamRkRefIdeal.nD Cert.AdamRkRefIdeal.τ).loc Cert.AdamRkRefIdeal.main_arg0) = m ((c.tc : Thread Cert.AdamRkIdeal.nD Cert.AdamRkIdeal.τ).loc Cert.AdamRkIdeal.main_arg0)
      ∧ m' ((c.tc : Thread Cert.AdamRkRefIdeal.nD Cert.AdamRkRefIdeal.τ).loc Cert.AdamRkRefIdeal.main_arg1) = m ((c.tc : Thread Cert.AdamRkIdeal.nD Cert.AdamRkIdeal.τ).loc Cert.AdamRkIdeal.main_arg1)
      ∧ m' ((c.tc : Thread Cert.AdamRkRefIdeal.nD Cert.AdamRkRefIdeal.τ).loc Cert.AdamRkRefIdeal.main_arg2) = m ((c.tc : Thread Cert.AdamRkIdeal.nD Cert.AdamRkIdeal.τ).loc Cert.AdamRkIdeal.main_arg2)
      ∧ m' ((c.tc : Thread Cert.AdamRkRefIdeal.nD Cert.AdamRkRefIdeal.τ).loc Cert.AdamRkRefIdeal.main_arg3) = m ((c.tc : Thread Cert.AdamRkIdeal.nD Cert.AdamRkIdeal.τ).loc Cert.AdamRkIdeal.main_arg3)
      ∧ m' ((c.tc : Thread Cert.AdamRkRefIdeal.nD Cert.AdamRkRefIdeal.τ).loc Cert.AdamRkRefIdeal.main_arg4) = m ((c.tc : Thread Cert.AdamRkIdeal.nD Cert.AdamRkIdeal.τ).loc Cert.AdamRkIdeal.main_arg4)
      ∧ m' ((c.tc : Thread Cert.AdamRkRefIdeal.nD Cert.AdamRkRefIdeal.τ).loc Cert.AdamRkRefIdeal.main_arg5) = m ((c.tc : Thread Cert.AdamRkIdeal.nD Cert.AdamRkIdeal.τ).loc Cert.AdamRkIdeal.main_arg5)
      ∧ m' ((c.tc : Thread Cert.AdamRkRefIdeal.nD Cert.AdamRkRefIdeal.τ).loc Cert.AdamRkRefIdeal.main_arg6) = m ((c.tc : Thread Cert.AdamRkIdeal.nD Cert.AdamRkIdeal.τ).loc Cert.AdamRkIdeal.main_arg6)
      ∧ m' ((c.tc : Thread Cert.AdamRkRefIdeal.nD Cert.AdamRkRefIdeal.τ).loc Cert.AdamRkRefIdeal.main_arg7) = m ((c.tc : Thread Cert.AdamRkIdeal.nD Cert.AdamRkIdeal.τ).loc Cert.AdamRkIdeal.main_arg7)
      ∧ m' ((c.tc : Thread Cert.AdamRkRefIdeal.nD Cert.AdamRkRefIdeal.τ).loc Cert.AdamRkRefIdeal.main_arg8) = m ((c.tc : Thread Cert.AdamRkIdeal.nD Cert.AdamRkIdeal.τ).loc Cert.AdamRkIdeal.main_arg8)
      ∧ m' ((c.tc : Thread Cert.AdamRkRefIdeal.nD Cert.AdamRkRefIdeal.τ).loc Cert.AdamRkRefIdeal.main_arg9) = m ((c.tc : Thread Cert.AdamRkIdeal.nD Cert.AdamRkIdeal.τ).loc Cert.AdamRkIdeal.main_arg9)
      ∧ m' ((c.tc : Thread Cert.AdamRkRefIdeal.nD Cert.AdamRkRefIdeal.τ).loc Cert.AdamRkRefIdeal.main_arg10) = m ((c.tc : Thread Cert.AdamRkIdeal.nD Cert.AdamRkIdeal.τ).loc Cert.AdamRkIdeal.main_arg10)
      ∧ m' ((c.tc : Thread Cert.AdamRkRefIdeal.nD Cert.AdamRkRefIdeal.τ).loc Cert.AdamRkRefIdeal.main_arg11) = m ((c.tc : Thread Cert.AdamRkIdeal.nD Cert.AdamRkIdeal.τ).loc Cert.AdamRkIdeal.main_arg11)
      ∧ m' ((c.tc : Thread Cert.AdamRkRefIdeal.nD Cert.AdamRkRefIdeal.τ).loc Cert.AdamRkRefIdeal.main_arg12) = m ((c.tc : Thread Cert.AdamRkIdeal.nD Cert.AdamRkIdeal.τ).loc Cert.AdamRkIdeal.main_arg12)
      ∧ m' ((c.tc : Thread Cert.AdamRkRefIdeal.nD Cert.AdamRkRefIdeal.τ).loc Cert.AdamRkRefIdeal.main_arg13) = m ((c.tc : Thread Cert.AdamRkIdeal.nD Cert.AdamRkIdeal.τ).loc Cert.AdamRkIdeal.main_arg13)
      ∧ m' ((c.tc : Thread Cert.AdamRkRefIdeal.nD Cert.AdamRkRefIdeal.τ).loc Cert.AdamRkRefIdeal.main_arg14) = m ((c.tc : Thread Cert.AdamRkIdeal.nD Cert.AdamRkIdeal.τ).loc Cert.AdamRkIdeal.main_arg14)
      ∧ m' ((c.tc : Thread Cert.AdamRkRefIdeal.nD Cert.AdamRkRefIdeal.τ).loc Cert.AdamRkRefIdeal.main_arg15) = m ((c.tc : Thread Cert.AdamRkIdeal.nD Cert.AdamRkIdeal.τ).loc Cert.AdamRkIdeal.main_arg15)
      ∧ m' ((c.tc : Thread Cert.AdamRkRefIdeal.nD Cert.AdamRkRefIdeal.τ).loc Cert.AdamRkRefIdeal.main_arg16) = m ((c.tc : Thread Cert.AdamRkIdeal.nD Cert.AdamRkIdeal.τ).loc Cert.AdamRkIdeal.main_arg16)
      ∧ m' ((c.tc : Thread Cert.AdamRkRefIdeal.nD Cert.AdamRkRefIdeal.τ).loc Cert.AdamRkRefIdeal.main_arg17) = m ((c.tc : Thread Cert.AdamRkIdeal.nD Cert.AdamRkIdeal.τ).loc Cert.AdamRkIdeal.main_arg17)
      ∧ m' ((c.tc : Thread Cert.AdamRkRefIdeal.nD Cert.AdamRkRefIdeal.τ).loc Cert.AdamRkRefIdeal.main_arg18) = m ((c.tc : Thread Cert.AdamRkIdeal.nD Cert.AdamRkIdeal.τ).loc Cert.AdamRkIdeal.main_arg18)
      ∧ m' ((c.tc : Thread Cert.AdamRkRefIdeal.nD Cert.AdamRkRefIdeal.τ).loc Cert.AdamRkRefIdeal.main_arg19) = m ((c.tc : Thread Cert.AdamRkIdeal.nD Cert.AdamRkIdeal.τ).loc Cert.AdamRkIdeal.main_arg19)) →
    ∃ (v0 : (c : Dev Cert.AdamRkIdeal.nD) → Buf (Elt Ideal) ((c.tc : Thread Cert.AdamRkIdeal.nD Cert.AdamRkIdeal.τ).loc Cert.AdamRkIdeal.main_v18)) (v1 : (c : Dev Cert.AdamRkIdeal.nD) → Buf (Elt Ideal) ((c.tc : Thread Cert.AdamRkIdeal.nD Cert.AdamRkIdeal.τ).loc Cert.AdamRkIdeal.main_v19)) (v2 : (c : Dev Cert.AdamRkIdeal.nD) → Buf (Elt Ideal) ((c.tc : Thread Cert.AdamRkIdeal.nD Cert.AdamRkIdeal.τ).loc Cert.AdamRkIdeal.main_v21)) (v3 : (c : Dev Cert.AdamRkIdeal.nD) → Buf (Elt Ideal) ((c.tc : Thread Cert.AdamRkIdeal.nD Cert.AdamRkIdeal.τ).loc Cert.AdamRkIdeal.main_v23)) (v4 : (c : Dev Cert.AdamRkIdeal.nD) → Buf (Elt Ideal) ((c.tc : Thread Cert.AdamRkIdeal.nD Cert.AdamRkIdeal.τ).loc Cert.AdamRkIdeal.main_v24)) (v5 : (c : Dev Cert.AdamRkIdeal.nD) → Buf (Elt Ideal) ((c.tc : Thread Cert.AdamRkIdeal.nD Cert.AdamRkIdeal.τ).loc Cert.AdamRkIdeal.main_v25)) (v6 : (c : Dev Cert.AdamRkIdeal.nD) → Buf (Elt Ideal) ((c.tc : Thread Cert.AdamRkIdeal.nD Cert.AdamRkIdeal.τ).loc Cert.AdamRkIdeal.main_v26)) (v7 : (c : Dev Cert.AdamRkIdeal.nD) → Buf (Elt Ideal) ((c.tc : Thread Cert.AdamRkIdeal.nD Cert.AdamRkIdeal.τ).loc Cert.AdamRkIdeal.main_v28)) (v8 : (c : Dev Cert.AdamRkIdeal.nD) → Buf (Elt Ideal) ((c.tc : Thread Cert.AdamRkIdeal.nD Cert.AdamRkIdeal.τ).loc Cert.AdamRkIdeal.main_v30)) (v9 : (c : Dev Cert.AdamRkIdeal.nD) → Buf (Elt Ideal) ((c.tc : Thread Cert.AdamRkIdeal.nD Cert.AdamRkIdeal.τ).loc Cert.AdamRkIdeal.main_v31)) (v10 : (c : Dev Cert.AdamRkIdeal.nD) → Buf (Elt Ideal) ((c.tc : Thread Cert.AdamRkIdeal.nD Cert.AdamRkIdeal.τ).loc Cert.AdamRkIdeal.main_v32)) (v11 : (c : Dev Cert.AdamRkIdeal.nD) → Buf (Elt Ideal) ((c.tc : Thread Cert.AdamRkIdeal.nD Cert.AdamRkIdeal.τ).loc Cert.AdamRkIdeal.main_v33)) (v12 : (c : Dev Cert.AdamRkIdeal.nD) → Buf (Elt Ideal) ((c.tc : Thread Cert.AdamRkIdeal.nD Cert.AdamRkIdeal.τ).loc Cert.AdamRkIdeal.main_v35)) (v13 : (c : Dev Cert.AdamRkIdeal.nD) → Buf (Elt Ideal) ((c.tc : Thread Cert.AdamRkIdeal.nD Cert.AdamRkIdeal.τ).loc Cert.AdamRkIdeal.main_v37)) (v14 : (c : Dev Cert.AdamRkIdeal.nD) → Buf (Elt Ideal) ((c.tc : Thread Cert.AdamRkIdeal.nD Cert.AdamRkIdeal.τ).loc Cert.AdamRkIdeal.main_v38)),
      θ_run (Cert.AdamRkIdeal.defs (F := Ideal)) (onTc (τ := Cert.AdamRkIdeal.τ) (Cert.AdamRkIdeal.main (F := Ideal))) ⟨m, fun _ => 0, g⟩ (fun r => ∀ c : Dev Cert.AdamRkIdeal.nD,
          r.2.mem ((c.tc : Thread Cert.AdamRkIdeal.nD Cert.AdamRkIdeal.τ).loc Cert.AdamRkIdeal.main_v18) = v0 c
          ∧ r.2.mem ((c.tc : Thread Cert.AdamRkIdeal.nD Cert.AdamRkIdeal.τ).loc Cert.AdamRkIdeal.main_v19) = v1 c
          ∧ r.2.mem ((c.tc : Thread Cert.AdamRkIdeal.nD Cert.AdamRkIdeal.τ).loc Cert.AdamRkIdeal.main_v21) = v2 c
          ∧ r.2.mem ((c.tc : Thread Cert.AdamRkIdeal.nD Cert.AdamRkIdeal.τ).loc Cert.AdamRkIdeal.main_v23) = v3 c
          ∧ r.2.mem ((c.tc : Thread Cert.AdamRkIdeal.nD Cert.AdamRkIdeal.τ).loc Cert.AdamRkIdeal.main_v24) = v4 c
          ∧ r.2.mem ((c.tc : Thread Cert.AdamRkIdeal.nD Cert.AdamRkIdeal.τ).loc Cert.AdamRkIdeal.main_v25) = v5 c
          ∧ r.2.mem ((c.tc : Thread Cert.AdamRkIdeal.nD Cert.AdamRkIdeal.τ).loc Cert.AdamRkIdeal.main_v26) = v6 c
          ∧ r.2.mem ((c.tc : Thread Cert.AdamRkIdeal.nD Cert.AdamRkIdeal.τ).loc Cert.AdamRkIdeal.main_v28) = v7 c
          ∧ r.2.mem ((c.tc : Thread Cert.AdamRkIdeal.nD Cert.AdamRkIdeal.τ).loc Cert.AdamRkIdeal.main_v30) = v8 c
          ∧ r.2.mem ((c.tc : Thread Cert.AdamRkIdeal.nD Cert.AdamRkIdeal.τ).loc Cert.AdamRkIdeal.main_v31) = v9 c
          ∧ r.2.mem ((c.tc : Thread Cert.AdamRkIdeal.nD Cert.AdamRkIdeal.τ).loc Cert.AdamRkIdeal.main_v32) = v10 c
          ∧ r.2.mem ((c.tc : Thread Cert.AdamRkIdeal.nD Cert.AdamRkIdeal.τ).loc Cert.AdamRkIdeal.main_v33) = v11 c
          ∧ r.2.mem ((c.tc : Thread Cert.AdamRkIdeal.nD Cert.AdamRkIdeal.τ).loc Cert.AdamRkIdeal.main_v35) = v12 c
          ∧ r.2.mem ((c.tc : Thread Cert.AdamRkIdeal.nD Cert.AdamRkIdeal.τ).loc Cert.AdamRkIdeal.main_v37) = v13 c
          ∧ r.2.mem ((c.tc : Thread Cert.AdamRkIdeal.nD Cert.AdamRkIdeal.τ).loc Cert.AdamRkIdeal.main_v38) = v14 c
          ∧ r.2.mem ((c.tc : Thread Cert.AdamRkIdeal.nD Cert.AdamRkIdeal.τ).loc Cert.AdamRkIdeal.main_arg0) = m ((c.tc : Thread Cert.AdamRkIdeal.nD Cert.AdamRkIdeal.τ).loc Cert.AdamRkIdeal.main_arg0)
          ∧ r.2.mem ((c.tc : Thread Cert.AdamRkIdeal.nD Cert.AdamRkIdeal.τ).loc Cert.AdamRkIdeal.main_arg1) = m ((c.tc : Thread Cert.AdamRkIdeal.nD Cert.AdamRkIdeal.τ).loc Cert.AdamRkIdeal.main_arg1)
          ∧ r.2.mem ((c.tc : Thread Cert.AdamRkIdeal.nD Cert.AdamRkIdeal.τ).loc Cert.AdamRkIdeal.main_arg2) = m ((c.tc : Thread Cert.AdamRkIdeal.nD Cert.AdamRkIdeal.τ).loc Cert.AdamRkIdeal.main_arg2)
          ∧ r.2.mem ((c.tc : Thread Cert.AdamRkIdeal.nD Cert.AdamRkIdeal.τ).loc Cert.AdamRkIdeal.main_arg3) = m ((c.tc : Thread Cert.AdamRkIdeal.nD Cert.AdamRkIdeal.τ).loc Cert.AdamRkIdeal.main_arg3)
          ∧ r.2.mem ((c.tc : Thread Cert.AdamRkIdeal.nD Cert.AdamRkIdeal.τ).loc Cert.AdamRkIdeal.main_arg4) = m ((c.tc : Thread Cert.AdamRkIdeal.nD Cert.AdamRkIdeal.τ).loc Cert.AdamRkIdeal.main_arg4)
          ∧ r.2.mem ((c.tc : Thread Cert.AdamRkIdeal.nD Cert.AdamRkIdeal.τ).loc Cert.AdamRkIdeal.main_arg5) = m ((c.tc : Thread Cert.AdamRkIdeal.nD Cert.AdamRkIdeal.τ).loc Cert.AdamRkIdeal.main_arg5)
          ∧ r.2.mem ((c.tc : Thread Cert.AdamRkIdeal.nD Cert.AdamRkIdeal.τ).loc Cert.AdamRkIdeal.main_arg6) = m ((c.tc : Thread Cert.AdamRkIdeal.nD Cert.AdamRkIdeal.τ).loc Cert.AdamRkIdeal.main_arg6)
          ∧ r.2.mem ((c.tc : Thread Cert.AdamRkIdeal.nD Cert.AdamRkIdeal.τ).loc Cert.AdamRkIdeal.main_arg7) = m ((c.tc : Thread Cert.AdamRkIdeal.nD Cert.AdamRkIdeal.τ).loc Cert.AdamRkIdeal.main_arg7)
          ∧ r.2.mem ((c.tc : Thread Cert.AdamRkIdeal.nD Cert.AdamRkIdeal.τ).loc Cert.AdamRkIdeal.main_arg8) = m ((c.tc : Thread Cert.AdamRkIdeal.nD Cert.AdamRkIdeal.τ).loc Cert.AdamRkIdeal.main_arg8)
          ∧ r.2.mem ((c.tc : Thread Cert.AdamRkIdeal.nD Cert.AdamRkIdeal.τ).loc Cert.AdamRkIdeal.main_arg9) = m ((c.tc : Thread Cert.AdamRkIdeal.nD Cert.AdamRkIdeal.τ).loc Cert.AdamRkIdeal.main_arg9)
          ∧ r.2.mem ((c.tc : Thread Cert.AdamRkIdeal.nD Cert.AdamRkIdeal.τ).loc Cert.AdamRkIdeal.main_arg10) = m ((c.tc : Thread Cert.AdamRkIdeal.nD Cert.AdamRkIdeal.τ).loc Cert.AdamRkIdeal.main_arg10)
          ∧ r.2.mem ((c.tc : Thread Cert.AdamRkIdeal.nD Cert.AdamRkIdeal.τ).loc Cert.AdamRkIdeal.main_arg11) = m ((c.tc : Thread Cert.AdamRkIdeal.nD Cert.AdamRkIdeal.τ).loc Cert.AdamRkIdeal.main_arg11)
          ∧ r.2.mem ((c.tc : Thread Cert.AdamRkIdeal.nD Cert.AdamRkIdeal.τ).loc Cert.AdamRkIdeal.main_arg12) = m ((c.tc : Thread Cert.AdamRkIdeal.nD Cert.AdamRkIdeal.τ).loc Cert.AdamRkIdeal.main_arg12)
          ∧ r.2.mem ((c.tc : Thread Cert.AdamRkIdeal.nD Cert.AdamRkIdeal.τ).loc Cert.AdamRkIdeal.main_arg13) = m ((c.tc : Thread Cert.AdamRkIdeal.nD Cert.AdamRkIdeal.τ).loc Cert.AdamRkIdeal.main_arg13)
          ∧ r.2.mem ((c.tc : Thread Cert.AdamRkIdeal.nD Cert.AdamRkIdeal.τ).loc Cert.AdamRkIdeal.main_arg14) = m ((c.tc : Thread Cert.AdamRkIdeal.nD Cert.AdamRkIdeal.τ).loc Cert.AdamRkIdeal.main_arg14)
          ∧ r.2.mem ((c.tc : Thread Cert.AdamRkIdeal.nD Cert.AdamRkIdeal.τ).loc Cert.AdamRkIdeal.main_arg15) = m ((c.tc : Thread Cert.AdamRkIdeal.nD Cert.AdamRkIdeal.τ).loc Cert.AdamRkIdeal.main_arg15)
          ∧ r.2.mem ((c.tc : Thread Cert.AdamRkIdeal.nD Cert.AdamRkIdeal.τ).loc Cert.AdamRkIdeal.main_arg16) = m ((c.tc : Thread Cert.AdamRkIdeal.nD Cert.AdamRkIdeal.τ).loc Cert.AdamRkIdeal.main_arg16)
          ∧ r.2.mem ((c.tc : Thread Cert.AdamRkIdeal.nD Cert.AdamRkIdeal.τ).loc Cert.AdamRkIdeal.main_arg17) = m ((c.tc : Thread Cert.AdamRkIdeal.nD Cert.AdamRkIdeal.τ).loc Cert.AdamRkIdeal.main_arg17)
          ∧ r.2.mem ((c.tc : Thread Cert.AdamRkIdeal.nD Cert.AdamRkIdeal.τ).loc Cert.AdamRkIdeal.main_arg18) = m ((c.tc : Thread Cert.AdamRkIdeal.nD Cert.AdamRkIdeal.τ).loc Cert.AdamRkIdeal.main_arg18)
          ∧ r.2.mem ((c.tc : Thread Cert.AdamRkIdeal.nD Cert.AdamRkIdeal.τ).loc Cert.AdamRkIdeal.main_arg19) = m ((c.tc : Thread Cert.AdamRkIdeal.nD Cert.AdamRkIdeal.τ).loc Cert.AdamRkIdeal.main_arg19))
      ∧ θ_run (Cert.AdamRkRefIdeal.defs (F := Ideal)) (onTc (τ := Cert.AdamRkRefIdeal.τ) (Cert.AdamRkRefIdeal.main (F := Ideal))) ⟨m', fun _ => 0, g'⟩ (fun r => ∀ c : Dev Cert.AdamRkRefIdeal.nD,
          r.2.mem ((c.tc : Thread Cert.AdamRkRefIdeal.nD Cert.AdamRkRefIdeal.τ).loc Cert.AdamRkRefIdeal.main_v23) = v0 c
          ∧ r.2.mem ((c.tc : Thread Cert.AdamRkRefIdeal.nD Cert.AdamRkRefIdeal.τ).loc Cert.AdamRkRefIdeal.main_v47) = v1 c
          ∧ r.2.mem ((c.tc : Thread Cert.AdamRkRefIdeal.nD Cert.AdamRkRefIdeal.τ).loc Cert.AdamRkRefIdeal.main_v71) = v2 c
          ∧ r.2.mem ((c.tc : Thread Cert.AdamRkRefIdeal.nD Cert.AdamRkRefIdeal.τ).loc Cert.AdamRkRefIdeal.main_v95) = v3 c
          ∧ r.2.mem ((c.tc : Thread Cert.AdamRkRefIdeal.nD Cert.AdamRkRefIdeal.τ).loc Cert.AdamRkRefIdeal.main_v119) = v4 c
          ∧ r.2.mem ((c.tc : Thread Cert.AdamRkRefIdeal.nD Cert.AdamRkRefIdeal.τ).loc Cert.AdamRkRefIdeal.main_v4) = v5 c
          ∧ r.2.mem ((c.tc : Thread Cert.AdamRkRefIdeal.nD Cert.AdamRkRefIdeal.τ).loc Cert.AdamRkRefIdeal.main_v28) = v6 c
          ∧ r.2.mem ((c.tc : Thread Cert.AdamRkRefIdeal.nD Cert.AdamRkRefIdeal.τ).loc Cert.AdamRkRefIdeal.main_v52) = v7 c
          ∧ r.2.mem ((c.tc : Thread Cert.AdamRkRefIdeal.nD Cert.AdamRkRefIdeal.τ).loc Cert.AdamRkRefIdeal.main_v76) = v8 c
          ∧ r.2.mem ((c.tc : Thread Cert.AdamRkRefIdeal.nD Cert.AdamRkRefIdeal.τ).loc Cert.AdamRkRefIdeal.main_v100) = v9 c
          ∧ r.2.mem ((c.tc : Thread Cert.AdamRkRefIdeal.nD Cert.AdamRkRefIdeal.τ).loc Cert.AdamRkRefIdeal.main_v10) = v10 c
          ∧ r.2.mem ((c.tc : Thread Cert.AdamRkRefIdeal.nD Cert.AdamRkRefIdeal.τ).loc Cert.AdamRkRefIdeal.main_v34) = v11 c
          ∧ r.2.mem ((c.tc : Thread Cert.AdamRkRefIdeal.nD Cert.AdamRkRefIdeal.τ).loc Cert.AdamRkRefIdeal.main_v58) = v12 c
          ∧ r.2.mem ((c.tc : Thread Cert.AdamRkRefIdeal.nD Cert.AdamRkRefIdeal.τ).loc Cert.AdamRkRefIdeal.main_v82) = v13 c
          ∧ r.2.mem ((c.tc : Thread Cert.AdamRkRefIdeal.nD Cert.AdamRkRefIdeal.τ).loc Cert.AdamRkRefIdeal.main_v106) = v14 c
          ∧ r.2.mem ((c.tc : Thread Cert.AdamRkRefIdeal.nD Cert.AdamRkRefIdeal.τ).loc Cert.AdamRkRefIdeal.main_arg0) = m' ((c.tc : Thread Cert.AdamRkRefIdeal.nD Cert.AdamRkRefIdeal.τ).loc Cert.AdamRkRefIdeal.main_arg0)
          ∧ r.2.mem ((c.tc : Thread Cert.AdamRkRefIdeal.nD Cert.AdamRkRefIdeal.τ).loc Cert.AdamRkRefIdeal.main_arg1) = m' ((c.tc : Thread Cert.AdamRkRefIdeal.nD Cert.AdamRkRefIdeal.τ).loc Cert.AdamRkRefIdeal.main_arg1)
          ∧ r.2.mem ((c.tc : Thread Cert.AdamRkRefIdeal.nD Cert.AdamRkRefIdeal.τ).loc Cert.AdamRkRefIdeal.main_arg2) = m' ((c.tc : Thread Cert.AdamRkRefIdeal.nD Cert.AdamRkRefIdeal.τ).loc Cert.AdamRkRefIdeal.main_arg2)
          ∧ r.2.mem ((c.tc : Thread Cert.AdamRkRefIdeal.nD Cert.AdamRkRefIdeal.τ).loc Cert.AdamRkRefIdeal.main_arg3) = m' ((c.tc : Thread Cert.AdamRkRefIdeal.nD Cert.AdamRkRefIdeal.τ).loc Cert.AdamRkRefIdeal.main_arg3)
          ∧ r.2.mem ((c.tc : Thread Cert.AdamRkRefIdeal.nD Cert.AdamRkRefIdeal.τ).loc Cert.AdamRkRefIdeal.main_arg4) = m' ((c.tc : Thread Cert.AdamRkRefIdeal.nD Cert.AdamRkRefIdeal.τ).loc Cert.AdamRkRefIdeal.main_arg4)
          ∧ r.2.mem ((c.tc : Thread Cert.AdamRkRefIdeal.nD Cert.AdamRkRefIdeal.τ).loc Cert.AdamRkRefIdeal.main_arg5) = m' ((c.tc : Thread Cert.AdamRkRefIdeal.nD Cert.AdamRkRefIdeal.τ).loc Cert.AdamRkRefIdeal.main_arg5)
          ∧ r.2.mem ((c.tc : Thread Cert.AdamRkRefIdeal.nD Cert.AdamRkRefIdeal.τ).loc Cert.AdamRkRefIdeal.main_arg6) = m' ((c.tc : Thread Cert.AdamRkRefIdeal.nD Cert.AdamRkRefIdeal.τ).loc Cert.AdamRkRefIdeal.main_arg6)
          ∧ r.2.mem ((c.tc : Thread Cert.AdamRkRefIdeal.nD Cert.AdamRkRefIdeal.τ).loc Cert.AdamRkRefIdeal.main_arg7) = m' ((c.tc : Thread Cert.AdamRkRefIdeal.nD Cert.AdamRkRefIdeal.τ).loc Cert.AdamRkRefIdeal.main_arg7)
          ∧ r.2.mem ((c.tc : Thread Cert.AdamRkRefIdeal.nD Cert.AdamRkRefIdeal.τ).loc Cert.AdamRkRefIdeal.main_arg8) = m' ((c.tc : Thread Cert.AdamRkRefIdeal.nD Cert.AdamRkRefIdeal.τ).loc Cert.AdamRkRefIdeal.main_arg8)
          ∧ r.2.mem ((c.tc : Thread Cert.AdamRkRefIdeal.nD Cert.AdamRkRefIdeal.τ).loc Cert.AdamRkRefIdeal.main_arg9) = m' ((c.tc : Thread Cert.AdamRkRefIdeal.nD Cert.AdamRkRefIdeal.τ).loc Cert.AdamRkRefIdeal.main_arg9)
          ∧ r.2.mem ((c.tc : Thread Cert.AdamRkRefIdeal.nD Cert.AdamRkRefIdeal.τ).loc Cert.AdamRkRefIdeal.main_arg10) = m' ((c.tc : Thread Cert.AdamRkRefIdeal.nD Cert.AdamRkRefIdeal.τ).loc Cert.AdamRkRefIdeal.main_arg10)
          ∧ r.2.mem ((c.tc : Thread Cert.AdamRkRefIdeal.nD Cert.AdamRkRefIdeal.τ).loc Cert.AdamRkRefIdeal.main_arg11) = m' ((c.tc : Thread Cert.AdamRkRefIdeal.nD Cert.AdamRkRefIdeal.τ).loc Cert.AdamRkRefIdeal.main_arg11)
          ∧ r.2.mem ((c.tc : Thread Cert.AdamRkRefIdeal.nD Cert.AdamRkRefIdeal.τ).loc Cert.AdamRkRefIdeal.main_arg12) = m' ((c.tc : Thread Cert.AdamRkRefIdeal.nD Cert.AdamRkRefIdeal.τ).loc Cert.AdamRkRefIdeal.main_arg12)
          ∧ r.2.mem ((c.tc : Thread Cert.AdamRkRefIdeal.nD Cert.AdamRkRefIdeal.τ).loc Cert.AdamRkRefIdeal.main_arg13) = m' ((c.tc : Thread Cert.AdamRkRefIdeal.nD Cert.AdamRkRefIdeal.τ).loc Cert.AdamRkRefIdeal.main_arg13)
          ∧ r.2.mem ((c.tc : Thread Cert.AdamRkRefIdeal.nD Cert.AdamRkRefIdeal.τ).loc Cert.AdamRkRefIdeal.main_arg14) = m' ((c.tc : Thread Cert.AdamRkRefIdeal.nD Cert.AdamRkRefIdeal.τ).loc Cert.AdamRkRefIdeal.main_arg14)
          ∧ r.2.mem ((c.tc : Thread Cert.AdamRkRefIdeal.nD Cert.AdamRkRefIdeal.τ).loc Cert.AdamRkRefIdeal.main_arg15) = m' ((c.tc : Thread Cert.AdamRkRefIdeal.nD Cert.AdamRkRefIdeal.τ).loc Cert.AdamRkRefIdeal.main_arg15)
          ∧ r.2.mem ((c.tc : Thread Cert.AdamRkRefIdeal.nD Cert.AdamRkRefIdeal.τ).loc Cert.AdamRkRefIdeal.main_arg16) = m' ((c.tc : Thread Cert.AdamRkRefIdeal.nD Cert.AdamRkRefIdeal.τ).loc Cert.AdamRkRefIdeal.main_arg16)
          ∧ r.2.mem ((c.tc : Thread Cert.AdamRkRefIdeal.nD Cert.AdamRkRefIdeal.τ).loc Cert.AdamRkRefIdeal.main_arg17) = m' ((c.tc : Thread Cert.AdamRkRefIdeal.nD Cert.AdamRkRefIdeal.τ).loc Cert.AdamRkRefIdeal.main_arg17)
          ∧ r.2.mem ((c.tc : Thread Cert.AdamRkRefIdeal.nD Cert.AdamRkRefIdeal.τ).loc Cert.AdamRkRefIdeal.main_arg18) = m' ((c.tc : Thread Cert.AdamRkRefIdeal.nD Cert.AdamRkRefIdeal.τ).loc Cert.AdamRkRefIdeal.main_arg18)
          ∧ r.2.mem ((c.tc : Thread Cert.AdamRkRefIdeal.nD Cert.AdamRkRefIdeal.τ).loc Cert.AdamRkRefIdeal.main_arg19) = m' ((c.tc : Thread Cert.AdamRkRefIdeal.nD Cert.AdamRkRefIdeal.τ).loc Cert.AdamRkRefIdeal.main_arg19))

def Claim : Prop :=
  ∃ (hKernel : Cert.Kernel.Facts) (hKernelIdeal : Cert.KernelIdeal.Facts) (hReferenceIdeal : Cert.ReferenceIdeal.Facts) (hFfn2Dx : Cert.Ffn2Dx.Facts) (hFfn2DxIdeal : Cert.Ffn2DxIdeal.Facts) (hFfn2DxRefIdeal : Cert.Ffn2DxRefIdeal.Facts) (hFfn2Dw : Cert.Ffn2Dw.Facts) (hFfn2DwIdeal : Cert.Ffn2DwIdeal.Facts) (hFfn2DwRefIdeal : Cert.Ffn2DwRefIdeal.Facts) (hFfn1Dx : Cert.Ffn1Dx.Facts) (hFfn1DxIdeal : Cert.Ffn1DxIdeal.Facts) (hFfn1DxRefIdeal : Cert.Ffn1DxRefIdeal.Facts) (hFfn1Dw : Cert.Ffn1Dw.Facts) (hFfn1DwIdeal : Cert.Ffn1DwIdeal.Facts) (hFfn1DwRefIdeal : Cert.Ffn1DwRefIdeal.Facts) (hMixDx : Cert.MixDx.Facts) (hMixDxIdeal : Cert.MixDxIdeal.Facts) (hMixDxRefIdeal : Cert.MixDxRefIdeal.Facts) (hMixDw : Cert.MixDw.Facts) (hMixDwIdeal : Cert.MixDwIdeal.Facts) (hMixDwRefIdeal : Cert.MixDwRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hMixOut : Cert.MixOut.Facts) (hMixOutIdeal : Cert.MixOutIdeal.Facts) (hMixOutRefIdeal : Cert.MixOutRefIdeal.Facts) (hProj : Cert.Proj.Facts) (hProjIdeal : Cert.ProjIdeal.Facts) (hProjRefIdeal : Cert.ProjRefIdeal.Facts) (hNorm1Dx : Cert.Norm1Dx.Facts) (hNorm1DxIdeal : Cert.Norm1DxIdeal.Facts) (hNorm1DxRefIdeal : Cert.Norm1DxRefIdeal.Facts) (hNorm2Dx : Cert.Norm2Dx.Facts) (hNorm2DxIdeal : Cert.Norm2DxIdeal.Facts) (hNorm2DxRefIdeal : Cert.Norm2DxRefIdeal.Facts) (hLoss : Cert.Loss.Facts) (hLossIdeal : Cert.LossIdeal.Facts) (hLossRefIdeal : Cert.LossRefIdeal.Facts) (hNorm1 : Cert.Norm1.Facts) (hNorm1Ideal : Cert.Norm1Ideal.Facts) (hNorm1RefIdeal : Cert.Norm1RefIdeal.Facts) (hNorm2 : Cert.Norm2.Facts) (hNorm2Ideal : Cert.Norm2Ideal.Facts) (hNorm2RefIdeal : Cert.Norm2RefIdeal.Facts) (hShift : Cert.Shift.Facts) (hShiftIdeal : Cert.ShiftIdeal.Facts) (hShiftRefIdeal : Cert.ShiftRefIdeal.Facts) (hAdaW : Cert.AdaW.Facts) (hAdaWIdeal : Cert.AdaWIdeal.Facts) (hAdaWRefIdeal : Cert.AdaWRefIdeal.Facts) (hAdamFfn : Cert.AdamFfn.Facts) (hAdamFfnIdeal : Cert.AdamFfnIdeal.Facts) (hAdamFfnRefIdeal : Cert.AdamFfnRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamGlu : Cert.AdamGlu.Facts) (hAdamGluIdeal : Cert.AdamGluIdeal.Facts) (hAdamGluRefIdeal : Cert.AdamGluRefIdeal.Facts) (hAdamRk : Cert.AdamRk.Facts) (hAdamRkIdeal : Cert.AdamRkIdeal.Facts) (hAdamRkRefIdeal : Cert.AdamRkRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn2Dx (hFfn2Dx := hFfn2Dx)
    ∧ quiescent_Ffn2DxIdeal (hFfn2DxIdeal := hFfn2DxIdeal)
    ∧ quiescent_Ffn2DxRefIdeal (hFfn2DxRefIdeal := hFfn2DxRefIdeal)
    ∧ quiescent_Ffn2Dw (hFfn2Dw := hFfn2Dw)
    ∧ quiescent_Ffn2DwIdeal (hFfn2DwIdeal := hFfn2DwIdeal)
    ∧ quiescent_Ffn2DwRefIdeal (hFfn2DwRefIdeal := hFfn2DwRefIdeal)
    ∧ quiescent_Ffn1Dx (hFfn1Dx := hFfn1Dx)
    ∧ quiescent_Ffn1DxIdeal (hFfn1DxIdeal := hFfn1DxIdeal)
    ∧ quiescent_Ffn1DxRefIdeal (hFfn1DxRefIdeal := hFfn1DxRefIdeal)
    ∧ quiescent_Ffn1Dw (hFfn1Dw := hFfn1Dw)
    ∧ quiescent_Ffn1DwIdeal (hFfn1DwIdeal := hFfn1DwIdeal)
    ∧ quiescent_Ffn1DwRefIdeal (hFfn1DwRefIdeal := hFfn1DwRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Proj (hProj := hProj)
    ∧ quiescent_ProjIdeal (hProjIdeal := hProjIdeal)
    ∧ quiescent_ProjRefIdeal (hProjRefIdeal := hProjRefIdeal)
    ∧ quiescent_Norm1Dx (hNorm1Dx := hNorm1Dx)
    ∧ quiescent_Norm1DxIdeal (hNorm1DxIdeal := hNorm1DxIdeal)
    ∧ quiescent_Norm1DxRefIdeal (hNorm1DxRefIdeal := hNorm1DxRefIdeal)
    ∧ quiescent_Norm2Dx (hNorm2Dx := hNorm2Dx)
    ∧ quiescent_Norm2DxIdeal (hNorm2DxIdeal := hNorm2DxIdeal)
    ∧ quiescent_Norm2DxRefIdeal (hNorm2DxRefIdeal := hNorm2DxRefIdeal)
    ∧ quiescent_Loss (hLoss := hLoss)
    ∧ quiescent_LossIdeal (hLossIdeal := hLossIdeal)
    ∧ quiescent_LossRefIdeal (hLossRefIdeal := hLossRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_Shift (hShift := hShift)
    ∧ quiescent_ShiftIdeal (hShiftIdeal := hShiftIdeal)
    ∧ quiescent_ShiftRefIdeal (hShiftRefIdeal := hShiftRefIdeal)
    ∧ quiescent_AdaW (hAdaW := hAdaW)
    ∧ quiescent_AdaWIdeal (hAdaWIdeal := hAdaWIdeal)
    ∧ quiescent_AdaWRefIdeal (hAdaWRefIdeal := hAdaWRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamRk (hAdamRk := hAdamRk)
    ∧ quiescent_AdamRkIdeal (hAdamRkIdeal := hAdamRkIdeal)
    ∧ quiescent_AdamRkRefIdeal (hAdamRkRefIdeal := hAdamRkRefIdeal)
    ∧ preserves_Kernel_KernelIdeal
    ∧ preserves_Ffn2Dx_Ffn2DxIdeal
    ∧ algebraic_Ffn2DxIdeal_Ffn2DxRefIdeal (hFfn2DxIdeal := hFfn2DxIdeal) (hFfn2DxRefIdeal := hFfn2DxRefIdeal)
    ∧ preserves_Ffn2Dw_Ffn2DwIdeal
    ∧ algebraic_Ffn2DwIdeal_Ffn2DwRefIdeal (hFfn2DwIdeal := hFfn2DwIdeal) (hFfn2DwRefIdeal := hFfn2DwRefIdeal)
    ∧ preserves_Ffn1Dx_Ffn1DxIdeal
    ∧ algebraic_Ffn1DxIdeal_Ffn1DxRefIdeal (hFfn1DxIdeal := hFfn1DxIdeal) (hFfn1DxRefIdeal := hFfn1DxRefIdeal)
    ∧ preserves_Ffn1Dw_Ffn1DwIdeal
    ∧ algebraic_Ffn1DwIdeal_Ffn1DwRefIdeal (hFfn1DwIdeal := hFfn1DwIdeal) (hFfn1DwRefIdeal := hFfn1DwRefIdeal)
    ∧ preserves_MixDx_MixDxIdeal
    ∧ algebraic_MixDxIdeal_MixDxRefIdeal (hMixDxIdeal := hMixDxIdeal) (hMixDxRefIdeal := hMixDxRefIdeal)
    ∧ preserves_MixDw_MixDwIdeal
    ∧ algebraic_MixDwIdeal_MixDwRefIdeal (hMixDwIdeal := hMixDwIdeal) (hMixDwRefIdeal := hMixDwRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_MixOut_MixOutIdeal
    ∧ algebraic_MixOutIdeal_MixOutRefIdeal (hMixOutIdeal := hMixOutIdeal) (hMixOutRefIdeal := hMixOutRefIdeal)
    ∧ preserves_Proj_ProjIdeal
    ∧ algebraic_ProjIdeal_ProjRefIdeal (hProjIdeal := hProjIdeal) (hProjRefIdeal := hProjRefIdeal)
    ∧ preserves_Norm1Dx_Norm1DxIdeal
    ∧ algebraic_Norm1DxIdeal_Norm1DxRefIdeal (hNorm1DxIdeal := hNorm1DxIdeal) (hNorm1DxRefIdeal := hNorm1DxRefIdeal)
    ∧ preserves_Norm2Dx_Norm2DxIdeal
    ∧ algebraic_Norm2DxIdeal_Norm2DxRefIdeal (hNorm2DxIdeal := hNorm2DxIdeal) (hNorm2DxRefIdeal := hNorm2DxRefIdeal)
    ∧ preserves_Loss_LossIdeal
    ∧ algebraic_LossIdeal_LossRefIdeal (hLossIdeal := hLossIdeal) (hLossRefIdeal := hLossRefIdeal)
    ∧ preserves_Norm1_Norm1Ideal
    ∧ algebraic_Norm1Ideal_Norm1RefIdeal (hNorm1Ideal := hNorm1Ideal) (hNorm1RefIdeal := hNorm1RefIdeal)
    ∧ preserves_Norm2_Norm2Ideal
    ∧ algebraic_Norm2Ideal_Norm2RefIdeal (hNorm2Ideal := hNorm2Ideal) (hNorm2RefIdeal := hNorm2RefIdeal)
    ∧ preserves_Shift_ShiftIdeal
    ∧ algebraic_ShiftIdeal_ShiftRefIdeal (hShiftIdeal := hShiftIdeal) (hShiftRefIdeal := hShiftRefIdeal)
    ∧ preserves_AdaW_AdaWIdeal
    ∧ algebraic_AdaWIdeal_AdaWRefIdeal (hAdaWIdeal := hAdaWIdeal) (hAdaWRefIdeal := hAdaWRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamRk_AdamRkIdeal
    ∧ algebraic_AdamRkIdeal_AdamRkRefIdeal (hAdamRkIdeal := hAdamRkIdeal) (hAdamRkRefIdeal := hAdamRkRefIdeal)
-- ==== Kernel.lean ====
abbrev S2048x1024 : Shape := ⟨2, ![2048, 1024]⟩
abbrev S64x64 : Shape := ⟨2, ![64, 64]⟩
abbrev S64x64x16 : Shape := ⟨3, ![64, 64, 16]⟩
abbrev S64x16x64 : Shape := ⟨3, ![64, 16, 64]⟩
abbrev S2048x64x64 : Shape := ⟨3, ![2048, 64, 64]⟩
abbrev S2048x64x16 : Shape := ⟨3, ![2048, 64, 16]⟩
abbrev S64x64x2048 : Shape := ⟨3, ![64, 64, 2048]⟩
abbrev S_ : Shape := ⟨0, ![]⟩
abbrev S1x64x64 : Shape := ⟨3, ![1, 64, 64]⟩
abbrev S32 : Shape := ⟨1, ![32]⟩
abbrev S32x1 : Shape := ⟨2, ![32, 1]⟩
abbrev S1x4 : Shape := ⟨2, ![1, 4]⟩
abbrev S32x4 : Shape := ⟨2, ![32, 4]⟩
abbrev S32x1x128 : Shape := ⟨3, ![32, 1, 128]⟩
abbrev S32x2x64x16 : Shape := ⟨4, ![32, 2, 64, 16]⟩
abbrev S32x2x16x64 : Shape := ⟨4, ![32, 2, 16, 64]⟩
abbrev S32x2x16x1x64 : Shape := ⟨5, ![32, 2, 16, 1, 64]⟩
abbrev S2x2 : Shape := ⟨2, ![2, 2]⟩
abbrev S1x2x1x2x1 : Shape := ⟨5, ![1, 2, 1, 2, 1]⟩
abbrev S32x2x16x2x64 : Shape := ⟨5, ![32, 2, 16, 2, 64]⟩
abbrev S32x32x128 : Shape := ⟨3, ![32, 32, 128]⟩
abbrev S32x1x32x128 : Shape := ⟨4, ![32, 1, 32, 128]⟩
abbrev S32x4x1x1 : Shape := ⟨4, ![32, 4, 1, 1]⟩
abbrev S32x4x32x128 : Shape := ⟨4, ![32, 4, 32, 128]⟩
abbrev S32x128x128 : Shape := ⟨3, ![32, 128, 128]⟩
abbrev S32x2x64x1x16 : Shape := ⟨5, ![32, 2, 64, 1, 16]⟩
abbrev S32x2x64x2x16 : Shape := ⟨5, ![32, 2, 64, 2, 16]⟩
abbrev S32x128x32 : Shape := ⟨3, ![32, 128, 32]⟩
abbrev S32x128x1x32 : Shape := ⟨4, ![32, 128, 1, 32]⟩
abbrev S32x1x4x1 : Shape := ⟨4, ![32, 1, 4, 1]⟩
abbrev S32x128x4x32 : Shape := ⟨4, ![32, 128, 4, 32]⟩
abbrev S32x64x1024 : Shape := ⟨3, ![32, 64, 1024]⟩
abbrev S64x32x1024 : Shape := ⟨3, ![64, 32, 1024]⟩
abbrev S2048x4096 : Shape := ⟨2, ![2048, 4096]⟩
abbrev S32x64x4096 : Shape := ⟨3, ![32, 64, 4096]⟩
abbrev S64x32x4096 : Shape := ⟨3, ![64, 32, 4096]⟩
abbrev S2048x32x128 : Shape := ⟨3, ![2048, 32, 128]⟩
abbrev S32x2048x128 : Shape := ⟨3, ![32, 2048, 128]⟩
abbrev S2048x128 : Shape := ⟨2, ![2048, 128]⟩
abbrev S1x2048x128 : Shape := ⟨3, ![1, 2048, 128]⟩
abbrev S1x128x128 : Shape := ⟨3, ![1, 128, 128]⟩
abbrev S1x1x128 : Shape := ⟨3, ![1, 1, 128]⟩
abbrev S64x128 : Shape := ⟨2, ![64, 128]⟩
abbrev S128x128 : Shape := ⟨2, ![128, 128]⟩
abbrev S1x128 : Shape := ⟨2, ![1, 128]⟩
abbrev S8x128 : Shape := ⟨2, ![8, 128]⟩
abbrev S32x128 : Shape := ⟨2, ![32, 128]⟩
abbrev S2016x128 : Shape := ⟨2, ![2016, 128]⟩
abbrev S1x2016x128 : Shape := ⟨3, ![1, 2016, 128]⟩
abbrev S1x32x128 : Shape := ⟨3, ![1, 32, 128]⟩
abbrev S128 : Shape := ⟨1, ![128]⟩
abbrev S4096x1 : Shape := ⟨2, ![4096, 1]⟩
abbrev S32x16x2x64 : Shape := ⟨4, ![32, 16, 2, 64]⟩
abbrev S4096x16 : Shape := ⟨2, ![4096, 16]⟩
abbrev S32x64x2x16 : Shape := ⟨4, ![32, 64, 2, 16]⟩

abbrev nBuf : Space → Nat
  | .hbm => 298
  | .vmem => 43
  | .smem => 0
  | _ => 0

abbrev hbmTy0_0 (i : Nat) : BufTy := match i % 128 with
  | 0 => ⟨S2048x1024, .f32⟩
  | 1 => ⟨S64x64, .f32⟩
  | 2 => ⟨S64x64, .f32⟩
  | 3 => ⟨S64x64x16, .f32⟩
  | 4 => ⟨S64x64x16, .f32⟩
  | 5 => ⟨S64x16x64, .f32⟩
  | 6 => ⟨S64x16x64, .f32⟩
  | 7 => ⟨S2048x64x64, .f32⟩
  | 8 => ⟨S2048x64x64, .f32⟩
  | 9 => ⟨S2048x1024, .f32⟩
  | 10 => ⟨S2048x1024, .f32⟩
  | 11 => ⟨S2048x64x16, .f32⟩
  | 12 => ⟨S64x64x2048, .f32⟩
  | 13 => ⟨S2048x64x64, .f32⟩
  | 14 => ⟨S64x64x2048, .f32⟩
  | 15 => ⟨S2048x64x64, .f32⟩
  | 16 => ⟨S_, .f32⟩
  | 17 => ⟨S64x64, .f32⟩
  | 18 => ⟨S_, .f32⟩
  | 19 => ⟨S2048x64x64, .f32⟩
  | 20 => ⟨S_, .f32⟩
  | 21 => ⟨S2048x64x64, .f32⟩
  | 22 => ⟨S_, .i32⟩
  | 23 => ⟨S2048x64x64, .f32⟩
  | 24 => ⟨S2048x64x64, .f32⟩
  | 25 => ⟨S64x64, .f32⟩
  | 26 => ⟨S64x64, .f32⟩
  | 27 => ⟨S_, .i32⟩
  | 28 => ⟨S64x64, .f32⟩
  | 29 => ⟨S64x64, .f32⟩
  | 30 => ⟨S2048x64x64, .f32⟩
  | 31 => ⟨S2048x64x64, .f32⟩
  | 32 => ⟨S_, .i32⟩
  | 33 => ⟨S_, .i1⟩
  | 34 => ⟨S_, .i32⟩
  | 35 => ⟨S_, .i32⟩
  | 36 => ⟨S1x64x64, .f32⟩
  | 37 => ⟨S64x64, .f32⟩
  | 38 => ⟨S_, .i32⟩
  | 39 => ⟨S_, .i32⟩
  | 40 => ⟨S1x64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S1x64x64, .f32⟩
  | 51 => ⟨S_, .i32⟩
  | 52 => ⟨S_, .i32⟩
  | 53 => ⟨S2048x64x64, .f32⟩
  | 54 => ⟨S1x64x64, .f32⟩
  | 55 => ⟨S_, .i32⟩
  | 56 => ⟨S_, .i32⟩
  | 57 => ⟨S2048x64x64, .f32⟩
  | 58 => ⟨S_, .i32⟩
  | 59 => ⟨S_, .i32⟩
  | 60 => ⟨S32, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S32, .i32⟩
  | 68 => ⟨S32, .i32⟩
  | 69 => ⟨S_, .i32⟩
  | 70 => ⟨S32, .i32⟩
  | 71 => ⟨S32, .i1⟩
  | 72 => ⟨S_, .i32⟩
  | 73 => ⟨S32, .i32⟩
  | 74 => ⟨S32, .i1⟩
  | 75 => ⟨S_, .i32⟩
  | 76 => ⟨S_, .i1⟩
  | 77 => ⟨S32, .i1⟩
  | 78 => ⟨S32, .i1⟩
  | 79 => ⟨S32, .i1⟩
  | 80 => ⟨S32, .i32⟩
  | 81 => ⟨S32, .i32⟩
  | 82 => ⟨S32, .i32⟩
  | 83 => ⟨S32x1, .i32⟩
  | 84 => ⟨S1x4, .i32⟩
  | 85 => ⟨S32x4, .i32⟩
  | 86 => ⟨S32x4, .i32⟩
  | 87 => ⟨S32x4, .i1⟩
  | 88 => ⟨S32x4, .f32⟩
  | 89 => ⟨S32x1x128, .f32⟩
  | 90 => ⟨S32x1x128, .f32⟩
  | 91 => ⟨S32x2x64x16, .f32⟩
  | 92 => ⟨S32x2x16x64, .f32⟩
  | 93 => ⟨S32x2x16x1x64, .f32⟩
  | 94 => ⟨S2x2, .i32⟩
  | 95 => ⟨S2x2, .i32⟩
  | 96 => ⟨S_, .i32⟩
  | 97 => ⟨S2x2, .i32⟩
  | 98 => ⟨S2x2, .i32⟩
  | 99 => ⟨S2x2, .i1⟩
  | 100 => ⟨S2x2, .f32⟩
  | 101 => ⟨S1x2x1x2x1, .f32⟩
  | 102 => ⟨S32x2x16x2x64, .f32⟩
  | 103 => ⟨S32x2x16x2x64, .f32⟩
  | 104 => ⟨S32x2x16x2x64, .f32⟩
  | 105 => ⟨S32x32x128, .f32⟩
  | 106 => ⟨S32x1x32x128, .f32⟩
  | 107 => ⟨S32x4x1x1, .f32⟩
  | 108 => ⟨S32x4x32x128, .f32⟩
  | 109 => ⟨S32x4x32x128, .f32⟩
  | 110 => ⟨S32x4x32x128, .f32⟩
  | 111 => ⟨S32x128x128, .f32⟩
  | 112 => ⟨S32x2x64x16, .f32⟩
  | 113 => ⟨S32x2x16x64, .f32⟩
  | 114 => ⟨S32x2x16x1x64, .f32⟩
  | 115 => ⟨S2x2, .i32⟩
  | 116 => ⟨S2x2, .i32⟩
  | 117 => ⟨S_, .i32⟩
  | 118 => ⟨S2x2, .i32⟩
  | 119 => ⟨S2x2, .i32⟩
  | 120 => ⟨S2x2, .i1⟩
  | 121 => ⟨S2x2, .f32⟩
  | 122 => ⟨S1x2x1x2x1, .f32⟩
  | 123 => ⟨S32x2x16x2x64, .f32⟩
  | 124 => ⟨S32x2x16x2x64, .f32⟩
  | 125 => ⟨S32x2x16x2x64, .f32⟩
  | 126 => ⟨S32x32x128, .f32⟩
  | 127 => ⟨S32x1x32x128, .f32⟩
  | _ => ⟨S2048x1024, .f32⟩

abbrev hbmTy0_1 (i : Nat) : BufTy := match i % 128 with
  | 0 => ⟨S32x4x1x1, .f32⟩
  | 1 => ⟨S32x4x32x128, .f32⟩
  | 2 => ⟨S32x4x32x128, .f32⟩
  | 3 => ⟨S32x4x32x128, .f32⟩
  | 4 => ⟨S32x128x128, .f32⟩
  | 5 => ⟨S32x2x16x64, .f32⟩
  | 6 => ⟨S32x2x64x16, .f32⟩
  | 7 => ⟨S32x2x64x1x16, .f32⟩
  | 8 => ⟨S2x2, .i32⟩
  | 9 => ⟨S2x2, .i32⟩
  | 10 => ⟨S_, .i32⟩
  | 11 => ⟨S2x2, .i32⟩
  | 12 => ⟨S2x2, .i32⟩
  | 13 => ⟨S2x2, .i1⟩
  | 14 => ⟨S2x2, .f32⟩
  | 15 => ⟨S1x2x1x2x1, .f32⟩
  | 16 => ⟨S32x2x64x2x16, .f32⟩
  | 17 => ⟨S32x2x64x2x16, .f32⟩
  | 18 => ⟨S32x2x64x2x16, .f32⟩
  | 19 => ⟨S32x128x32, .f32⟩
  | 20 => ⟨S32x128x1x32, .f32⟩
  | 21 => ⟨S32x1x4x1, .f32⟩
  | 22 => ⟨S32x128x4x32, .f32⟩
  | 23 => ⟨S32x128x4x32, .f32⟩
  | 24 => ⟨S32x128x4x32, .f32⟩
  | 25 => ⟨S32x128x128, .f32⟩
  | 26 => ⟨S32x2x16x64, .f32⟩
  | 27 => ⟨S32x2x64x16, .f32⟩
  | 28 => ⟨S32x2x64x1x16, .f32⟩
  | 29 => ⟨S2x2, .i32⟩
  | 30 => ⟨S2x2, .i32⟩
  | 31 => ⟨S_, .i32⟩
  | 32 => ⟨S2x2, .i32⟩
  | 33 => ⟨S2x2, .i32⟩
  | 34 => ⟨S2x2, .i1⟩
  | 35 => ⟨S2x2, .f32⟩
  | 36 => ⟨S1x2x1x2x1, .f32⟩
  | 37 => ⟨S32x2x64x2x16, .f32⟩
  | 38 => ⟨S32x2x64x2x16, .f32⟩
  | 39 => ⟨S32x2x64x2x16, .f32⟩
  | 40 => ⟨S32x128x32, .f32⟩
  | 41 => ⟨S32x128x1x32, .f32⟩
  | 42 => ⟨S32x1x4x1, .f32⟩
  | 43 => ⟨S32x128x4x32, .f32⟩
  | 44 => ⟨S32x128x4x32, .f32⟩
  | 45 => ⟨S32x128x4x32, .f32⟩
  | 46 => ⟨S32x128x128, .f32⟩
  | 47 => ⟨S32x128x128, .f32⟩
  | 48 => ⟨S32x64x1024, .f32⟩
  | 49 => ⟨S64x32x1024, .f32⟩
  | 50 => ⟨S2048x1024, .f32⟩
  | 51 => ⟨S32x64x1024, .f32⟩
  | 52 => ⟨S64x32x1024, .f32⟩
  | 53 => ⟨S2048x1024, .f32⟩
  | 54 => ⟨S32x64x1024, .f32⟩
  | 55 => ⟨S64x32x1024, .f32⟩
  | 56 => ⟨S2048x1024, .f32⟩
  | 57 => ⟨S2048x4096, .f32⟩
  | 58 => ⟨S32x64x4096, .f32⟩
  | 59 => ⟨S64x32x4096, .f32⟩
  | 60 => ⟨S2048x4096, .f32⟩
  | 61 => ⟨S2048x32x128, .f32⟩
  | 62 => ⟨S32x2048x128, .f32⟩
  | 63 => ⟨S2048x4096, .f32⟩
  | 64 => ⟨S32x64x4096, .f32⟩
  | 65 => ⟨S64x32x4096, .f32⟩
  | 66 => ⟨S2048x4096, .f32⟩
  | 67 => ⟨S2048x32x128, .f32⟩
  | 68 => ⟨S32x2048x128, .f32⟩
  | 69 => ⟨S2048x4096, .f32⟩
  | 70 => ⟨S32x64x4096, .f32⟩
  | 71 => ⟨S64x32x4096, .f32⟩
  | 72 => ⟨S2048x4096, .f32⟩
  | 73 => ⟨S2048x32x128, .f32⟩
  | 74 => ⟨S32x2048x128, .f32⟩
  | 75 => ⟨S2048x4096, .f32⟩
  | 76 => ⟨S32x64x4096, .f32⟩
  | 77 => ⟨S64x32x4096, .f32⟩
  | 78 => ⟨S2048x4096, .f32⟩
  | 79 => ⟨S2048x32x128, .f32⟩
  | 80 => ⟨S32x2048x128, .f32⟩
  | 81 => ⟨S2048x1024, .f32⟩
  | 82 => ⟨S32x128x128, .f32⟩
  | 83 => ⟨S32x128x128, .f32⟩
  | 84 => ⟨S32x1x128, .f32⟩
  | 85 => ⟨S32x1x128, .f32⟩
  | 86 => ⟨S32x128x128, .f32⟩
  | 87 => ⟨S32x128x128, .f32⟩
  | 88 => ⟨S64x32x1024, .f32⟩
  | 89 => ⟨S32x64x1024, .f32⟩
  | 90 => ⟨S2048x1024, .f32⟩
  | 91 => ⟨S4096x1, .f32⟩
  | 92 => ⟨S4096x1, .f32⟩
  | 93 => ⟨S32x4x32x128, .f32⟩
  | 94 => ⟨S32x4x1x1, .f32⟩
  | 95 => ⟨S32x4x32x128, .f32⟩
  | 96 => ⟨S32x4x32x128, .f32⟩
  | 97 => ⟨S_, .f32⟩
  | 98 => ⟨S32x32x128, .f32⟩
  | 99 => ⟨S32x2x16x2x64, .f32⟩
  | 100 => ⟨S2x2, .i32⟩
  | 101 => ⟨S2x2, .i32⟩
  | 102 => ⟨S2x2, .i1⟩
  | 103 => ⟨S32x2x16x2x64, .i1⟩
  | 104 => ⟨S_, .f32⟩
  | 105 => ⟨S32x2x16x2x64, .f32⟩
  | 106 => ⟨S32x2x16x2x64, .f32⟩
  | 107 => ⟨S_, .f32⟩
  | 108 => ⟨S32x16x2x64, .f32⟩
  | 109 => ⟨S32x2x16x64, .f32⟩
  | 110 => ⟨S32x2x64x16, .f32⟩
  | 111 => ⟨S4096x16, .f32⟩
  | 112 => ⟨S32x4x32x128, .f32⟩
  | 113 => ⟨S32x4x1x1, .f32⟩
  | 114 => ⟨S32x4x32x128, .f32⟩
  | 115 => ⟨S32x4x32x128, .f32⟩
  | 116 => ⟨S_, .f32⟩
  | 117 => ⟨S32x32x128, .f32⟩
  | 118 => ⟨S32x2x16x2x64, .f32⟩
  | 119 => ⟨S2x2, .i32⟩
  | 120 => ⟨S2x2, .i32⟩
  | 121 => ⟨S2x2, .i1⟩
  | 122 => ⟨S32x2x16x2x64, .i1⟩
  | 123 => ⟨S_, .f32⟩
  | 124 => ⟨S32x2x16x2x64, .f32⟩
  | 125 => ⟨S32x2x16x2x64, .f32⟩
  | 126 => ⟨S_, .f32⟩
  | 127 => ⟨S32x16x2x64, .f32⟩
  | _ => ⟨S2048x1024, .f32⟩

abbrev hbmTy0_2 (i : Nat) : BufTy := match i % 128 with
  | 0 => ⟨S32x2x16x64, .f32⟩
  | 1 => ⟨S32x2x64x16, .f32⟩
  | 2 => ⟨S4096x16, .f32⟩
  | 3 => ⟨S32x128x4x32, .f32⟩
  | 4 => ⟨S32x1x4x1, .f32⟩
  | 5 => ⟨S32x128x4x32, .f32⟩
  | 6 => ⟨S32x128x4x32, .f32⟩
  | 7 => ⟨S_, .f32⟩
  | 8 => ⟨S32x128x32, .f32⟩
  | 9 => ⟨S32x2x64x2x16, .f32⟩
  | 10 => ⟨S2x2, .i32⟩
  | 11 => ⟨S2x2, .i32⟩
  | 12 => ⟨S2x2, .i1⟩
  | 13 => ⟨S32x2x64x2x16, .i1⟩
  | 14 => ⟨S_, .f32⟩
  | 15 => ⟨S32x2x64x2x16, .f32⟩
  | 16 => ⟨S32x2x64x2x16, .f32⟩
  | 17 => ⟨S_, .f32⟩
  | 18 => ⟨S32x64x2x16, .f32⟩
  | 19 => ⟨S32x2x64x16, .f32⟩
  | 20 => ⟨S32x2x16x64, .f32⟩
  | 21 => ⟨S64x16x64, .f32⟩
  | 22 => ⟨S32x128x4x32, .f32⟩
  | 23 => ⟨S32x1x4x1, .f32⟩
  | 24 => ⟨S32x128x4x32, .f32⟩
  | 25 => ⟨S32x128x4x32, .f32⟩
  | 26 => ⟨S_, .f32⟩
  | 27 => ⟨S32x128x32, .f32⟩
  | 28 => ⟨S32x2x64x2x16, .f32⟩
  | 29 => ⟨S2x2, .i32⟩
  | 30 => ⟨S2x2, .i32⟩
  | 31 => ⟨S2x2, .i1⟩
  | 32 => ⟨S32x2x64x2x16, .i1⟩
  | 33 => ⟨S_, .f32⟩
  | 34 => ⟨S32x2x64x2x16, .f32⟩
  | 35 => ⟨S32x2x64x2x16, .f32⟩
  | 36 => ⟨S_, .f32⟩
  | 37 => ⟨S32x64x2x16, .f32⟩
  | 38 => ⟨S32x2x64x16, .f32⟩
  | 39 => ⟨S32x2x16x64, .f32⟩
  | 40 => ⟨S64x16x64, .f32⟩
  | 41 => ⟨S64x16x64, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S2048x128, .f32⟩
  | .local _ .vmem, ⟨27, _⟩ => ⟨S2048x128, .f32⟩
  | .local _ .vmem, ⟨28, _⟩ => ⟨S1x128x128, .f32⟩
  | .local _ .vmem, ⟨29, _⟩ => ⟨S1x128x128, .f32⟩
  | .local _ .vmem, ⟨30, _⟩ => ⟨S1x128x128, .f32⟩
  | .local _ .vmem, ⟨31, _⟩ => ⟨S1x128x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S1x128x128, .f32⟩
  | .local _ .vmem, ⟨37, _⟩ => ⟨S1x128x128, .f32⟩
  | .local _ .vmem, ⟨38, _⟩ => ⟨S1x128x128, .f32⟩
  | .local _ .vmem, ⟨39, _⟩ => ⟨S1x128x128, .f32⟩
  | .local _ .vmem, ⟨40, _⟩ => ⟨S2048x128, .f32⟩
  | .local _ .vmem, ⟨41, _⟩ => ⟨S2048x128, .f32⟩
  | .local _ .vmem, ⟨42, _⟩ => ⟨S64x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_c : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev main_v8_5 : Ref sig .tc := ⟨.hbm, 28, rfl⟩
abbrev main_v8_6 : Ref sig .tc := ⟨.hbm, 29, rfl⟩
abbrev main_v8_7 : Ref sig .tc := ⟨.hbm, 30, rfl⟩
abbrev main_v8_8 : Ref sig .tc := ⟨.hbm, 31, rfl⟩
abbrev main_while0c_c_27 : Ref sig .tc := ⟨.hbm, 32, rfl⟩
abbrev main_while0c_v199 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_v0 : Ref sig .tc := ⟨.hbm, 36, rfl⟩
abbrev main_while0b_v199 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_v0 : Ref sig .tc := ⟨.hbm, 40, rfl⟩
abbrev main_while0b_v200 : Ref sig .tc := ⟨.hbm, 41, rfl⟩
abbrev main_while0b_v201 : Ref sig .tc := ⟨.hbm, 42, rfl⟩
abbrev main_while0b_v202 : Ref sig .tc := ⟨.hbm, 43, rfl⟩
abbrev main_while0b_v203 : Ref sig .tc := ⟨.hbm, 44, rfl⟩
abbrev main_while0b_v204 : Ref sig .tc := ⟨.hbm, 45, rfl⟩
abbrev main_while0b_v205 : Ref sig .tc := ⟨.hbm, 46, rfl⟩
abbrev main_while0b_v206 : Ref sig .tc := ⟨.hbm, 47, rfl⟩
abbrev main_while0b_v207 : Ref sig .tc := ⟨.hbm, 48, rfl⟩
abbrev main_while0b_v208 : Ref sig .tc := ⟨.hbm, 49, rfl⟩
abbrev main_while0b_call2_v0 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_v209 : Ref sig .tc := ⟨.hbm, 53, rfl⟩
abbrev main_while0b_call3_v0 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_v210 : Ref sig .tc := ⟨.hbm, 57, rfl⟩
abbrev main_while0b_c_27 : Ref sig .tc := ⟨.hbm, 58, rfl⟩
abbrev main_while0b_v211 : Ref sig .tc := ⟨.hbm, 59, rfl⟩
abbrev main_v9 : Ref sig .tc := ⟨.hbm, 60, rfl⟩
abbrev main_c_2 : Ref sig .tc := ⟨.hbm, 61, rfl⟩
abbrev main_call4_v0 : Ref sig .tc := ⟨.hbm, 62, rfl⟩
abbrev main_call4_c : Ref sig .tc := ⟨.hbm, 63, rfl⟩
abbrev main_call4_v1 : Ref sig .tc := ⟨.hbm, 64, rfl⟩
abbrev main_call4_c_0 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_call4_c_1 : Ref sig .tc := ⟨.hbm, 69, rfl⟩
abbrev main_call4_v5 : Ref sig .tc := ⟨.hbm, 70, rfl⟩
abbrev main_call4_v6 : Ref sig .tc := ⟨.hbm, 71, rfl⟩
abbrev main_call4_c_2 : Ref sig .tc := ⟨.hbm, 72, rfl⟩
abbrev main_call4_v7 : Ref sig .tc := ⟨.hbm, 73, rfl⟩
abbrev main_call4_v8 : Ref sig .tc := ⟨.hbm, 74, rfl⟩
abbrev main_call4_c_3 : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_v12 : Ref sig .tc := ⟨.hbm, 79, rfl⟩
abbrev main_call4_v13 : Ref sig .tc := ⟨.hbm, 80, rfl⟩
abbrev main_call4_v14 : Ref sig .tc := ⟨.hbm, 81, rfl⟩
abbrev main_v10 : Ref sig .tc := ⟨.hbm, 82, rfl⟩
abbrev main_call5_v0 : Ref sig .tc := ⟨.hbm, 83, rfl⟩
abbrev main_call5_v1 : Ref sig .tc := ⟨.hbm, 84, rfl⟩
abbrev main_call5_v2 : Ref sig .tc := ⟨.hbm, 85, rfl⟩
abbrev main_call5_v3 : Ref sig .tc := ⟨.hbm, 86, rfl⟩
abbrev main_call5_v4 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_c_3 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_c_4 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_c_5 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_c_6 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128_0 : Ref sig .tc := ⟨.hbm, 209, rfl⟩
abbrev main_v128_1 : Ref sig .tc := ⟨.hbm, 210, rfl⟩
abbrev main_v128_2 : Ref sig .tc := ⟨.hbm, 211, rfl⟩
abbrev main_v128_3 : Ref sig .tc := ⟨.hbm, 212, rfl⟩
abbrev main_v128_4 : Ref sig .tc := ⟨.hbm, 213, rfl⟩
abbrev main_v128_5 : Ref sig .tc := ⟨.hbm, 214, rfl⟩
abbrev main_v128_6 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_cst_7 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_cst_8 : Ref sig .tc := ⟨.hbm, 232, rfl⟩
abbrev main_v144 : Ref sig .tc := ⟨.hbm, 233, rfl⟩
abbrev main_v145 : Ref sig .tc := ⟨.hbm, 234, rfl⟩
abbrev main_cst_9 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_cst_10 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_cst_11 : Ref sig .tc := ⟨.hbm, 251, rfl⟩
abbrev main_v160 : Ref sig .tc := ⟨.hbm, 252, rfl⟩
abbrev main_v161 : Ref sig .tc := ⟨.hbm, 253, rfl⟩
abbrev main_cst_12 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_cst_13 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_cst_14 : Ref sig .tc := ⟨.hbm, 270, rfl⟩
abbrev main_v176 : Ref sig .tc := ⟨.hbm, 271, rfl⟩
abbrev main_v177 : Ref sig .tc := ⟨.hbm, 272, rfl⟩
abbrev main_cst_15 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_cst_16 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_cst_17 : Ref sig .tc := ⟨.hbm, 289, rfl⟩
abbrev main_v192 : Ref sig .tc := ⟨.hbm, 290, rfl⟩
abbrev main_v193 : Ref sig .tc := ⟨.hbm, 291, rfl⟩
abbrev main_cst_18 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev main_while0_count : Scf.Loop 32 := ⟨0#32, 2048#32, 1#32⟩

abbrev grid0 : Pipeline.Grid := ⟨2, ![8, 4], ![false, false]⟩

@[reducible] def k0_t1_loop : Scf.Loop 32 :=
  let c0_i32 : BitVec 32 := 0#32
  let c64_i32 : BitVec 32 := 64#32
  let v32 : BitVec 32 := Scalar.addi c0_i32 c64_i32
  let c1_i32 : BitVec 32 := 1#32
  ⟨c0_i32, v32, c1_i32⟩
def k0_mult1 (k0_t1 : Fin k0_t1_loop.trips) : BitVec 32 :=
  let c63_i32 : BitVec 32 := 63#32
  let c0_i32 : BitVec 32 := 0#32
  let c1_i32 : BitVec 32 := 1#32
  let arg25 : BitVec 32 := Scf.iv c0_i32 c1_i32 k0_t1
  let v657 : BitVec 32 := Scalar.subi c63_i32 arg25
  let c32_i32 : BitVec 32 := 32#32
  let v658 : BitVec 32 := Scalar.muli v657 c32_i32
  let c0_i32_190 : BitVec 32 := 0#32
  let v659 : BitVec 32 := Scalar.addi v658 c0_i32_190
  v659
def k0_off1 (k0_t1 : Fin k0_t1_loop.trips) (c0_i32_190 : BitVec 32) : Fin 2 → Nat :=
  let c63_i32 : BitVec 32 := 63#32
  let c0_i32 : BitVec 32 := 0#32
  let c1_i32 : BitVec 32 := 1#32
  let arg25 : BitVec 32 := Scf.iv c0_i32 c1_i32 k0_t1
  let v657 : BitVec 32 := Scalar.subi c63_i32 arg25
  let c32_i32 : BitVec 32 := 32#32
  let v658 : BitVec 32 := Scalar.muli v657 c32_i32
  let v659 : BitVec 32 := Scalar.addi v658 c0_i32_190
  let v660 : BitVec 32 := v659
  let v661 : Index := Scalar.indexCast v660
  let c0_191 : Index := 0#32
  ![v661.toNat, 0]
def k0_mult2 (k0_t1 : Fin k0_t1_loop.trips) : BitVec 32 :=
  let c63_i32_192 : BitVec 32 := 63#32
  let c0_i32 : BitVec 32 := 0#32
  let c1_i32 : BitVec 32 := 1#32
  let arg25 : BitVec 32 := Scf.iv c0_i32 c1_i32 k0_t1
  let v667 : BitVec 32 := Scalar.subi c63_i32_192 arg25
  let c32_i32_193 : BitVec 32 := 32#32
  let v668 : BitVec 32 := Scalar.muli v667 c32_i32_193
  let c0_i32_194 : BitVec 32 := 0#32
  let v669 : BitVec 32 := Scalar.addi v668 c0_i32_194
  v669
def k0_mult3 (k0_t1 : Fin k0_t1_loop.trips) : BitVec 32 :=
  let c63_i32_196 : BitVec 32 := 63#32
  let c0_i32 : BitVec 32 := 0#32
  let c1_i32 : BitVec 32 := 1#32
  let arg25 : BitVec 32 := Scf.iv c0_i32 c1_i32 k0_t1
  let v674 : BitVec 32 := Scalar.subi c63_i32_196 arg25
  let c32_i32_197 : BitVec 32 := 32#32
  let v675 : BitVec 32 := Scalar.muli v674 c32_i32_197
  let c0_i32_198 : BitVec 32 := 0#32
  let v676 : BitVec 32 := Scalar.addi v675 c0_i32_198
  v676
def k0_mult4 (k0_t1 : Fin k0_t1_loop.trips) : BitVec 32 :=
  let c63_i32_200 : BitVec 32 := 63#32
  let c0_i32 : BitVec 32 := 0#32
  let c1_i32 : BitVec 32 := 1#32
  let arg25 : BitVec 32 := Scf.iv c0_i32 c1_i32 k0_t1
  let v682 : BitVec 32 := Scalar.subi c63_i32_200 arg25
  let c32_i32_201 : BitVec 32 := 32#32
  let v683 : BitVec 32 := Scalar.muli v682 c32_i32_201
  let c0_i32_202 : BitVec 32 := 0#32
  let v684 : BitVec 32 := Scalar.addi v683 c0_i32_202
  v684
def k0_mult5 (k0_t1 : Fin k0_t1_loop.trips) : BitVec 32 :=
  let c63_i32_204 : BitVec 32 := 63#32
  let c0_i32 : BitVec 32 := 0#32
  let c1_i32 : BitVec 32 := 1#32
  let arg25 : BitVec 32 := Scf.iv c0_i32 c1_i32 k0_t1
  let v693 : BitVec 32 := Scalar.subi c63_i32_204 arg25
  let c32_i32_205 : BitVec 32 := 32#32
  let v694 : BitVec 32 := Scalar.muli v693 c32_i32_205
  let c8_i32 : BitVec 32 := 8#32
  let v695 : BitVec 32 := Scalar.addi v694 c8_i32
  v695
def k0_mult6 (k0_t1 : Fin k0_t1_loop.trips) : BitVec 32 :=
  let c63_i32_207 : BitVec 32 := 63#32
  let c0_i32 : BitVec 32 := 0#32
  let c1_i32 : BitVec 32 := 1#32
  let arg25 : BitVec 32 := Scf.iv c0_i32 c1_i32 k0_t1
  let v703 : BitVec 32 := Scalar.subi c63_i32_207 arg25
  let c32_i32_208 : BitVec 32 := 32#32
  let v704 : BitVec 32 := Scalar.muli v703 c32_i32_208
  let c8_i32_209 : BitVec 32 := 8#32
  let v705 : BitVec 32 := Scalar.addi v704 c8_i32_209
  v705
def k0_mult7 (k0_t1 : Fin k0_t1_loop.trips) : BitVec 32 :=
  let c63_i32_211 : BitVec 32 := 63#32
  let c0_i32 : BitVec 32 := 0#32
  let c1_i32 : BitVec 32 := 1#32
  let arg25 : BitVec 32 := Scf.iv c0_i32 c1_i32 k0_t1
  let v710 : BitVec 32 := Scalar.subi c63_i32_211 arg25
  let c32_i32_212 : BitVec 32 := 32#32
  let v711 : BitVec 32 := Scalar.muli v710 c32_i32_212
  let c8_i32_213 : BitVec 32 := 8#32
  let v712 : BitVec 32 := Scalar.addi v711 c8_i32_213
  v712
def k0_mult8 (k0_t1 : Fin k0_t1_loop.trips) : BitVec 32 :=
  let c63_i32_215 : BitVec 32 := 63#32
  let c0_i32 : BitVec 32 := 0#32
  let c1_i32 : BitVec 32 := 1#32
  let arg25 : BitVec 32 := Scf.iv c0_i32 c1_i32 k0_t1
  let v718 : BitVec 32 := Scalar.subi c63_i32_215 arg25
  let c32_i32_216 : BitVec 32 := 32#32
  let v719 : BitVec 32 := Scalar.muli v718 c32_i32_216
  let c8_i32_217 : BitVec 32 := 8#32
  let v720 : BitVec 32 := Scalar.addi v719 c8_i32_217
  v720
def k0_mult9 (k0_t1 : Fin k0_t1_loop.trips) : BitVec 32 :=
  let c63_i32_219 : BitVec 32 := 63#32
  let c0_i32 : BitVec 32 := 0#32
  let c1_i32 : BitVec 32 := 1#32
  let arg25 : BitVec 32 := Scf.iv c0_i32 c1_i32 k0_t1
  let v729 : BitVec 32 := Scalar.subi c63_i32_219 arg25
  let c32_i32_220 : BitVec 32 := 32#32
  let v730 : BitVec 32 := Scalar.muli v729 c32_i32_220
  let c16_i32 : BitVec 32 := 16#32
  let v731 : BitVec 32 := Scalar.addi v730 c16_i32
  v731
def k0_mult10 (k0_t1 : Fin k0_t1_loop.trips) : BitVec 32 :=
  let c63_i32_222 : BitVec 32 := 63#32
  let c0_i32 : BitVec 32 := 0#32
  let c1_i32 : BitVec 32 := 1#32
  let arg25 : BitVec 32 := Scf.iv c0_i32 c1_i32 k0_t1
  let v739 : BitVec 32 := Scalar.subi c63_i32_222 arg25
  let c32_i32_223 : BitVec 32 := 32#32
  let v740 : BitVec 32 := Scalar.muli v739 c32_i32_223
  let c16_i32_224 : BitVec 32 := 16#32
  let v741 : BitVec 32 := Scalar.addi v740 c16_i32_224
  v741
def k0_mult11 (k0_t1 : Fin k0_t1_loop.trips) : BitVec 32 :=
  let c63_i32_226 : BitVec 32 := 63#32
  let c0_i32 : BitVec 32 := 0#32
  let c1_i32 : BitVec 32 := 1#32
  let arg25 : BitVec 32 := Scf.iv c0_i32 c1_i32 k0_t1
  let v746 : BitVec 32 := Scalar.subi c63_i32_226 arg25
  let c32_i32_227 : BitVec 32 := 32#32
  let v747 : BitVec 32 := Scalar.muli v746 c32_i32_227
  let c16_i32_228 : BitVec 32 := 16#32
  let v748 : BitVec 32 := Scalar.addi v747 c16_i32_228
  v748
def k0_mult12 (k0_t1 : Fin k0_t1_loop.trips) : BitVec 32 :=
  let c63_i32_230 : BitVec 32 := 63#32
  let c0_i32 : BitVec 32 := 0#32
  let c1_i32 : BitVec 32 := 1#32
  let arg25 : BitVec 32 := Scf.iv c0_i32 c1_i32 k0_t1
  let v754 : BitVec 32 := Scalar.subi c63_i32_230 arg25
  let c32_i32_231 : BitVec 32 := 32#32
  let v755 : BitVec 32 := Scalar.muli v754 c32_i32_231
  let c16_i32_232 : BitVec 32 := 16#32
  let v756 : BitVec 32 := Scalar.addi v755 c16_i32_232
  v756
def k0_mult13 (k0_t1 : Fin k0_t1_loop.trips) : BitVec 32 :=
  let c63_i32_234 : BitVec 32 := 63#32
  let c0_i32 : BitVec 32 := 0#32
  let c1_i32 : BitVec 32 := 1#32
  let arg25 : BitVec 32 := Scf.iv c0_i32 c1_i32 k0_t1
  let v765 : BitVec 32 := Scalar.subi c63_i32_234 arg25
  let c32_i32_235 : BitVec 32 := 32#32
  let v766 : BitVec 32 := Scalar.muli v765 c32_i32_235
  let c24_i32 : BitVec 32 := 24#32
  let v767 : BitVec 32 := Scalar.addi v766 c24_i32
  v767
def k0_mult14 (k0_t1 : Fin k0_t1_loop.trips) : BitVec 32 :=
  let c63_i32_237 : BitVec 32 := 63#32
  let c0_i32 : BitVec 32 := 0#32
  let c1_i32 : BitVec 32 := 1#32
  let arg25 : BitVec 32 := Scf.iv c0_i32 c1_i32 k0_t1
  let v775 : BitVec 32 := Scalar.subi c63_i32_237 arg25
  let c32_i32_238 : BitVec 32 := 32#32
  let v776 : BitVec 32 := Scalar.muli v775 c32_i32_238
  let c24_i32_239 : BitVec 32 := 24#32
  let v777 : BitVec 32 := Scalar.addi v776 c24_i32_239
  v777
def k0_mult15 (k0_t1 : Fin k0_t1_loop.trips) : BitVec 32 :=
  let c63_i32_241 : BitVec 32 := 63#32
  let c0_i32 : BitVec 32 := 0#32
  let c1_i32 : BitVec 32 := 1#32
  let arg25 : BitVec 32 := Scf.iv c0_i32 c1_i32 k0_t1
  let v782 : BitVec 32 := Scalar.subi c63_i32_241 arg25
  let c32_i32_242 : BitVec 32 := 32#32
  let v783 : BitVec 32 := Scalar.muli v782 c32_i32_242
  let c24_i32_243 : BitVec 32 := 24#32
  let v784 : BitVec 32 := Scalar.addi v783 c24_i32_243
  v784
def k0_mult16 (k0_t1 : Fin k0_t1_loop.trips) : BitVec 32 :=
  let c63_i32_245 : BitVec 32 := 63#32
  let c0_i32 : BitVec 32 := 0#32
  let c1_i32 : BitVec 32 := 1#32
  let arg25 : BitVec 32 := Scf.iv c0_i32 c1_i32 k0_t1
  let v790 : BitVec 32 := Scalar.subi c63_i32_245 arg25
  let c32_i32_246 : BitVec 32 := 32#32
  let v791 : BitVec 32 := Scalar.muli v790 c32_i32_246
  let c24_i32_247 : BitVec 32 := 24#32
  let v792 : BitVec 32 := Scalar.addi v791 c24_i32_247
  v792
@[reducible] def k0_t2_loop : Scf.Loop 32 :=
  let c0_i32_107 : BitVec 32 := 0#32
  let c64_i32_108 : BitVec 32 := 64#32
  let v548 : BitVec 32 := Scalar.addi c0_i32_107 c64_i32_108
  let c1_i32_109 : BitVec 32 := 1#32
  ⟨c0_i32_107, v548, c1_i32_109⟩
def k0_mult17 (k0_t2 : Fin k0_t2_loop.trips) : BitVec 32 :=
  let c63_i32 : BitVec 32 := 63#32
  let c0_i32_107 : BitVec 32 := 0#32
  let c1_i32_109 : BitVec 32 := 1#32
  let arg25 : BitVec 32 := Scf.iv c0_i32_107 c1_i32_109 k0_t2
  let v660 : BitVec 32 := Scalar.subi c63_i32 arg25
  let c32_i32 : BitVec 32 := 32#32
  let v661 : BitVec 32 := Scalar.muli v660 c32_i32
  let c0_i32_190 : BitVec 32 := 0#32
  let v662 : BitVec 32 := Scalar.addi v661 c0_i32_190
  v662
def k0_off2 (k0_t2 : Fin k0_t2_loop.trips) (c0_i32_190 : BitVec 32) : Fin 2 → Nat :=
  let c63_i32 : BitVec 32 := 63#32
  let c0_i32_107 : BitVec 32 := 0#32
  let c1_i32_109 : BitVec 32 := 1#32
  let arg25 : BitVec 32 := Scf.iv c0_i32_107 c1_i32_109 k0_t2
  let v660 : BitVec 32 := Scalar.subi c63_i32 arg25
  let c32_i32 : BitVec 32 := 32#32
  let v661 : BitVec 32 := Scalar.muli v660 c32_i32
  let v662 : BitVec 32 := Scalar.addi v661 c0_i32_190
  let v663 : BitVec 32 := v662
  let v664 : Index := Scalar.indexCast v663
  let c0_191 : Index := 0#32
  ![v664.toNat, 0]
def k0_mult18 (k0_t2 : Fin k0_t2_loop.trips) : BitVec 32 :=
  let c63_i32_192 : BitVec 32 := 63#32
  let c0_i32_107 : BitVec 32 := 0#32
  let c1_i32_109 : BitVec 32 := 1#32
  let arg25 : BitVec 32 := Scf.iv c0_i32_107 c1_i32_109 k0_t2
  let v670 : BitVec 32 := Scalar.subi c63_i32_192 arg25
  let c32_i32_193 : BitVec 32 := 32#32
  let v671 : BitVec 32 := Scalar.muli v670 c32_i32_193
  let c0_i32_194 : BitVec 32 := 0#32
  let v672 : BitVec 32 := Scalar.addi v671 c0_i32_194
  v672
def k0_mult19 (k0_t2 : Fin k0_t2_loop.trips) : BitVec 32 :=
  let c63_i32_196 : BitVec 32 := 63#32
  let c0_i32_107 : BitVec 32 := 0#32
  let c1_i32_109 : BitVec 32 := 1#32
  let arg25 : BitVec 32 := Scf.iv c0_i32_107 c1_i32_109 k0_t2
  let v678 : BitVec 32 := Scalar.subi c63_i32_196 arg25
  let c32_i32_197 : BitVec 32 := 32#32
  let v679 : BitVec 32 := Scalar.muli v678 c32_i32_197
  let c0_i32_198 : BitVec 32 := 0#32
  let v680 : BitVec 32 := Scalar.addi v679 c0_i32_198
  v680
def k0_mult20 (k0_t2 : Fin k0_t2_loop.trips) : BitVec 32 :=
  let c63_i32_200 : BitVec 32 := 63#32
  let c0_i32_107 : BitVec 32 := 0#32
  let c1_i32_109 : BitVec 32 := 1#32
  let arg25 : BitVec 32 := Scf.iv c0_i32_107 c1_i32_109 k0_t2
  let v688 : BitVec 32 := Scalar.subi c63_i32_200 arg25
  let c32_i32_201 : BitVec 32 := 32#32
  let v689 : BitVec 32 := Scalar.muli v688 c32_i32_201
  let c0_i32_202 : BitVec 32 := 0#32
  let v690 : BitVec 32 := Scalar.addi v689 c0_i32_202
  v690
def k0_mult21 (k0_t2 : Fin k0_t2_loop.trips) : BitVec 32 :=
  let c63_i32_204 : BitVec 32 := 63#32
  let c0_i32_107 : BitVec 32 := 0#32
  let c1_i32_109 : BitVec 32 := 1#32
  let arg25 : BitVec 32 := Scf.iv c0_i32_107 c1_i32_109 k0_t2
  let v696 : BitVec 32 := Scalar.subi c63_i32_204 arg25
  let c32_i32_205 : BitVec 32 := 32#32
  let v697 : BitVec 32 := Scalar.muli v696 c32_i32_205
  let c8_i32 : BitVec 32 := 8#32
  let v698 : BitVec 32 := Scalar.addi v697 c8_i32
  v698
def k0_mult22 (k0_t2 : Fin k0_t2_loop.trips) : BitVec 32 :=
  let c63_i32_207 : BitVec 32 := 63#32
  let c0_i32_107 : BitVec 32 := 0#32
  let c1_i32_109 : BitVec 32 := 1#32
  let arg25 : BitVec 32 := Scf.iv c0_i32_107 c1_i32_109 k0_t2
  let v706 : BitVec 32 := Scalar.subi c63_i32_207 arg25
  let c32_i32_208 : BitVec 32 := 32#32
  let v707 : BitVec 32 := Scalar.muli v706 c32_i32_208
  let c8_i32_209 : BitVec 32 := 8#32
  let v708 : BitVec 32 := Scalar.addi v707 c8_i32_209
  v708
def k0_mult23 (k0_t2 : Fin k0_t2_loop.trips) : BitVec 32 :=
  let c63_i32_211 : BitVec 32 := 63#32
  let c0_i32_107 : BitVec 32 := 0#32
  let c1_i32_109 : BitVec 32 := 1#32
  let arg25 : BitVec 32 := Scf.iv c0_i32_107 c1_i32_109 k0_t2
  let v714 : BitVec 32 := Scalar.subi c63_i32_211 arg25
  let c32_i32_212 : BitVec 32 := 32#32
  let v715 : BitVec 32 := Scalar.muli v714 c32_i32_212
  let c8_i32_213 : BitVec 32 := 8#32
  let v716 : BitVec 32 := Scalar.addi v715 c8_i32_213
  v716
def k0_mult24 (k0_t2 : Fin k0_t2_loop.trips) : BitVec 32 :=
  let c63_i32_215 : BitVec 32 := 63#32
  let c0_i32_107 : BitVec 32 := 0#32
  let c1_i32_109 : BitVec 32 := 1#32
  let arg25 : BitVec 32 := Scf.iv c0_i32_107 c1_i32_109 k0_t2
  let v724 : BitVec 32 := Scalar.subi c63_i32_215 arg25
  let c32_i32_216 : BitVec 32 := 32#32
  let v725 : BitVec 32 := Scalar.muli v724 c32_i32_216
  let c8_i32_217 : BitVec 32 := 8#32
  let v726 : BitVec 32 := Scalar.addi v725 c8_i32_217
  v726
def k0_mult25 (k0_t2 : Fin k0_t2_loop.trips) : BitVec 32 :=
  let c63_i32_219 : BitVec 32 := 63#32
  let c0_i32_107 : BitVec 32 := 0#32
  let c1_i32_109 : BitVec 32 := 1#32
  let arg25 : BitVec 32 := Scf.iv c0_i32_107 c1_i32_109 k0_t2
  let v732 : BitVec 32 := Scalar.subi c63_i32_219 arg25
  let c32_i32_220 : BitVec 32 := 32#32
  let v733 : BitVec 32 := Scalar.muli v732 c32_i32_220
  let c16_i32 : BitVec 32 := 16#32
  let v734 : BitVec 32 := Scalar.addi v733 c16_i32
  v734
def k0_mult26 (k0_t2 : Fin k0_t2_loop.trips) : BitVec 32 :=
  let c63_i32_222 : BitVec 32 := 63#32
  let c0_i32_107 : BitVec 32 := 0#32
  let c1_i32_109 : BitVec 32 := 1#32
  let arg25 : BitVec 32 := Scf.iv c0_i32_107 c1_i32_109 k0_t2
  let v742 : BitVec 32 := Scalar.subi c63_i32_222 arg25
  let c32_i32_223 : BitVec 32 := 32#32
  let v743 : BitVec 32 := Scalar.muli v742 c32_i32_223
  let c16_i32_224 : BitVec 32 := 16#32
  let v744 : BitVec 32 := Scalar.addi v743 c16_i32_224
  v744
def k0_mult27 (k0_t2 : Fin k0_t2_loop.trips) : BitVec 32 :=
  let c63_i32_226 : BitVec 32 := 63#32
  let c0_i32_107 : BitVec 32 := 0#32
  let c1_i32_109 : BitVec 32 := 1#32
  let arg25 : BitVec 32 := Scf.iv c0_i32_107 c1_i32_109 k0_t2
  let v750 : BitVec 32 := Scalar.subi c63_i32_226 arg25
  let c32_i32_227 : BitVec 32 := 32#32
  let v751 : BitVec 32 := Scalar.muli v750 c32_i32_227
  let c16_i32_228 : BitVec 32 := 16#32
  let v752 : BitVec 32 := Scalar.addi v751 c16_i32_228
  v752
def k0_mult28 (k0_t2 : Fin k0_t2_loop.trips) : BitVec 32 :=
  let c63_i32_230 : BitVec 32 := 63#32
  let c0_i32_107 : BitVec 32 := 0#32
  let c1_i32_109 : BitVec 32 := 1#32
  let arg25 : BitVec 32 := Scf.iv c0_i32_107 c1_i32_109 k0_t2
  let v760 : BitVec 32 := Scalar.subi c63_i32_230 arg25
  let c32_i32_231 : BitVec 32 := 32#32
  let v761 : BitVec 32 := Scalar.muli v760 c32_i32_231
  let c16_i32_232 : BitVec 32 := 16#32
  let v762 : BitVec 32 := Scalar.addi v761 c16_i32_232
  v762
def k0_mult29 (k0_t2 : Fin k0_t2_loop.trips) : BitVec 32 :=
  let c63_i32_234 : BitVec 32 := 63#32
  let c0_i32_107 : BitVec 32 := 0#32
  let c1_i32_109 : BitVec 32 := 1#32
  let arg25 : BitVec 32 := Scf.iv c0_i32_107 c1_i32_109 k0_t2
  let v768 : BitVec 32 := Scalar.subi c63_i32_234 arg25
  let c32_i32_235 : BitVec 32 := 32#32
  let v769 : BitVec 32 := Scalar.muli v768 c32_i32_235
  let c24_i32 : BitVec 32 := 24#32
  let v770 : BitVec 32 := Scalar.addi v769 c24_i32
  v770
def k0_mult30 (k0_t2 : Fin k0_t2_loop.trips) : BitVec 32 :=
  let c63_i32_237 : BitVec 32 := 63#32
  let c0_i32_107 : BitVec 32 := 0#32
  let c1_i32_109 : BitVec 32 := 1#32
  let arg25 : BitVec 32 := Scf.iv c0_i32_107 c1_i32_109 k0_t2
  let v778 : BitVec 32 := Scalar.subi c63_i32_237 arg25
  let c32_i32_238 : BitVec 32 := 32#32
  let v779 : BitVec 32 := Scalar.muli v778 c32_i32_238
  let c24_i32_239 : BitVec 32 := 24#32
  let v780 : BitVec 32 := Scalar.addi v779 c24_i32_239
  v780
def k0_mult31 (k0_t2 : Fin k0_t2_loop.trips) : BitVec 32 :=
  let c63_i32_241 : BitVec 32 := 63#32
  let c0_i32_107 : BitVec 32 := 0#32
  let c1_i32_109 : BitVec 32 := 1#32
  let arg25 : BitVec 32 := Scf.iv c0_i32_107 c1_i32_109 k0_t2
  let v786 : BitVec 32 := Scalar.subi c63_i32_241 arg25
  let c32_i32_242 : BitVec 32 := 32#32
  let v787 : BitVec 32 := Scalar.muli v786 c32_i32_242
  let c24_i32_243 : BitVec 32 := 24#32
  let v788 : BitVec 32 := Scalar.addi v787 c24_i32_243
  v788
def k0_mult32 (k0_t2 : Fin k0_t2_loop.trips) : BitVec 32 :=
  let c63_i32_245 : BitVec 32 := 63#32
  let c0_i32_107 : BitVec 32 := 0#32
  let c1_i32_109 : BitVec 32 := 1#32
  let arg25 : BitVec 32 := Scf.iv c0_i32_107 c1_i32_109 k0_t2
  let v796 : BitVec 32 := Scalar.subi c63_i32_245 arg25
  let c32_i32_246 : BitVec 32 := 32#32
  let v797 : BitVec 32 := Scalar.muli v796 c32_i32_246
  let c24_i32_247 : BitVec 32 := 24#32
  let v798 : BitVec 32 := Scalar.addi v797 c24_i32_247
  v798
def k0_cond1 (i : grid0.Coords) : BitVec 1 :=
  let arg1 : BitVec 32 := BitVec.ofNat 32 (i 1).val
  let c0_i32_166 : BitVec 32 := 0#32
  let v626 : BitVec 1 := Scalar.cmpi .eq arg1 c0_i32_166
  let v627 : BitVec 32 := Scalar.extui v626
  let c0_i32_167 : BitVec 32 := 0#32
  let v628 : BitVec 1 := Scalar.cmpi .ne v627 c0_i32_167
  v628

def k0_cond2 (i : grid0.Coords) : BitVec 1 :=
  let arg1 : BitVec 32 := BitVec.ofNat 32 (i 1).val
  let c0_i32_168 : BitVec 32 := 0#32
  let v629 : BitVec 1 := Scalar.cmpi .ne arg1 c0_i32_168
  let v630 : BitVec 32 := Scalar.extui v629
  let c0_i32_169 : BitVec 32 := 0#32
  let v631 : BitVec 1 := Scalar.cmpi .ne v630 c0_i32_169
  v631

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S2048x1024 : Shape := ⟨2, ![2048, 1024]⟩
abbrev S64x64 : Shape := ⟨2, ![64, 64]⟩
abbrev S64x64x16 : Shape := ⟨3, ![64, 64, 16]⟩
abbrev S64x16x64 : Shape := ⟨3, ![64, 16, 64]⟩
abbrev S2048x64x64 : Shape := ⟨3, ![2048, 64, 64]⟩
abbrev S2048x64x16 : Shape := ⟨3, ![2048, 64, 16]⟩
abbrev S64x64x2048 : Shape := ⟨3, ![64, 64, 2048]⟩
abbrev S_ : Shape := ⟨0, ![]⟩
abbrev S1x64x64 : Shape := ⟨3, ![1, 64, 64]⟩
abbrev S64x16x2048 : Shape := ⟨3, ![64, 16, 2048]⟩
abbrev S64x2048x64 : Shape := ⟨3, ![64, 2048, 64]⟩
abbrev S64x2048x16 : Shape := ⟨3, ![64, 2048, 16]⟩
abbrev S4096x1 : Shape := ⟨2, ![4096, 1]⟩
abbrev S4096x16 : Shape := ⟨2, ![4096, 16]⟩

abbrev nBuf : Space → Nat
  | .hbm => 186
  | .vmem => 0
  | .smem => 0
  | _ => 0

abbrev hbmTy0_0 (i : Nat) : BufTy := match i % 128 with
  | 0 => ⟨S2048x1024, .f32⟩
  | 1 => ⟨S64x64, .f32⟩
  | 2 => ⟨S64x64, .f32⟩
  | 3 => ⟨S64x64x16, .f32⟩
  | 4 => ⟨S64x64x16, .f32⟩
  | 5 => ⟨S64x16x64, .f32⟩
  | 6 => ⟨S64x16x64, .f32⟩
  | 7 => ⟨S2048x64x64, .f32⟩
  | 8 => ⟨S2048x64x64, .f32⟩
  | 9 => ⟨S2048x1024, .f32⟩
  | 10 => ⟨S2048x1024, .f32⟩
  | 11 => ⟨S2048x64x16, .f32⟩
  | 12 => ⟨S64x64x2048, .f32⟩
  | 13 => ⟨S2048x64x64, .f32⟩
  | 14 => ⟨S64x64x2048, .f32⟩
  | 15 => ⟨S2048x64x64, .f32⟩
  | 16 => ⟨S_, .f32⟩
  | 17 => ⟨S64x64, .f32⟩
  | 18 => ⟨S_, .f32⟩
  | 19 => ⟨S2048x64x64, .f32⟩
  | 20 => ⟨S_, .f32⟩
  | 21 => ⟨S2048x64x64, .f32⟩
  | 22 => ⟨S_, .f32⟩
  | 23 => ⟨S2048x64x64, .f32⟩
  | 24 => ⟨S_, .f32⟩
  | 25 => ⟨S2048x64x64, .f32⟩
  | 26 => ⟨S_, .i32⟩
  | 27 => ⟨S2048x64x64, .f32⟩
  | 28 => ⟨S2048x64x64, .f32⟩
  | 29 => ⟨S64x64, .f32⟩
  | 30 => ⟨S64x64, .f32⟩
  | 31 => ⟨S_, .i32⟩
  | 32 => ⟨S64x64, .f32⟩
  | 33 => ⟨S64x64, .f32⟩
  | 34 => ⟨S2048x64x64, .f32⟩
  | 35 => ⟨S2048x64x64, .f32⟩
  | 36 => ⟨S2048x64x64, .f32⟩
  | 37 => ⟨S2048x64x64, .f32⟩
  | 38 => ⟨S_, .i32⟩
  | 39 => ⟨S_, .i1⟩
  | 40 => ⟨S_, .i32⟩
  | 41 => ⟨S_, .i32⟩
  | 42 => ⟨S1x64x64, .f32⟩
  | 43 => ⟨S64x64, .f32⟩
  | 44 => ⟨S_, .i32⟩
  | 45 => ⟨S_, .i32⟩
  | 46 => ⟨S1x64x64, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S64x64, .f32⟩
  | 54 => ⟨S64x64, .f32⟩
  | 55 => ⟨S64x64, .f32⟩
  | 56 => ⟨S1x64x64, .f32⟩
  | 57 => ⟨S_, .i32⟩
  | 58 => ⟨S_, .i32⟩
  | 59 => ⟨S2048x64x64, .f32⟩
  | 60 => ⟨S1x64x64, .f32⟩
  | 61 => ⟨S_, .i32⟩
  | 62 => ⟨S_, .i32⟩
  | 63 => ⟨S2048x64x64, .f32⟩
  | 64 => ⟨S1x64x64, .f32⟩
  | 65 => ⟨S_, .i32⟩
  | 66 => ⟨S_, .i32⟩
  | 67 => ⟨S2048x64x64, .f32⟩
  | 68 => ⟨S1x64x64, .f32⟩
  | 69 => ⟨S_, .i32⟩
  | 70 => ⟨S_, .i32⟩
  | 71 => ⟨S2048x64x64, .f32⟩
  | 72 => ⟨S_, .i32⟩
  | 73 => ⟨S_, .i32⟩
  | 74 => ⟨S2048x64x64, .f32⟩
  | 75 => ⟨S2048x64x64, .f32⟩
  | 76 => ⟨S64x16x2048, .f32⟩
  | 77 => ⟨S2048x64x16, .f32⟩
  | 78 => ⟨S64x16x2048, .f32⟩
  | 79 => ⟨S2048x64x16, .f32⟩
  | 80 => ⟨S2048x64x16, .f32⟩
  | 81 => ⟨S2048x1024, .f32⟩
  | 82 => ⟨S_, .f32⟩
  | 83 => ⟨S64x64, .f32⟩
  | 84 => ⟨S_, .f32⟩
  | 85 => ⟨S64x64, .f32⟩
  | 86 => ⟨S2048x64x16, .f32⟩
  | 87 => ⟨S2048x64x16, .f32⟩
  | 88 => ⟨S64x16x2048, .f32⟩
  | 89 => ⟨S64x2048x64, .f32⟩
  | 90 => ⟨S2048x64x64, .f32⟩
  | 91 => ⟨S64x16x64, .f32⟩
  | 92 => ⟨S64x16x2048, .f32⟩
  | 93 => ⟨S64x2048x64, .f32⟩
  | 94 => ⟨S2048x64x64, .f32⟩
  | 95 => ⟨S64x16x64, .f32⟩
  | 96 => ⟨S_, .f32⟩
  | 97 => ⟨S64x64, .f32⟩
  | 98 => ⟨S_, .f32⟩
  | 99 => ⟨S64x64, .f32⟩
  | 100 => ⟨S_, .f32⟩
  | 101 => ⟨S64x64, .f32⟩
  | 102 => ⟨S_, .f32⟩
  | 103 => ⟨S64x64, .f32⟩
  | 104 => ⟨S_, .f32⟩
  | 105 => ⟨S2048x64x64, .f32⟩
  | 106 => ⟨S_, .f32⟩
  | 107 => ⟨S2048x64x64, .f32⟩
  | 108 => ⟨S_, .i32⟩
  | 109 => ⟨S2048x64x64, .f32⟩
  | 110 => ⟨S2048x64x64, .f32⟩
  | 111 => ⟨S2048x64x64, .f32⟩
  | 112 => ⟨S2048x64x64, .f32⟩
  | 113 => ⟨S64x64, .f32⟩
  | 114 => ⟨S64x64, .f32⟩
  | 115 => ⟨S_, .i32⟩
  | 116 => ⟨S64x64, .f32⟩
  | 117 => ⟨S64x64, .f32⟩
  | 118 => ⟨S64x64, .f32⟩
  | 119 => ⟨S64x64, .f32⟩
  | 120 => ⟨S2048x64x64, .f32⟩
  | 121 => ⟨S2048x64x64, .f32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S2048x1024, .f32⟩

abbrev hbmTy0_1 (i : Nat) : BufTy := match i % 128 with
  | 0 => ⟨S_, .i32⟩
  | 1 => ⟨S_, .i32⟩
  | 2 => ⟨S1x64x64, .f32⟩
  | 3 => ⟨S64x64, .f32⟩
  | 4 => ⟨S_, .i32⟩
  | 5 => ⟨S_, .i32⟩
  | 6 => ⟨S1x64x64, .f32⟩
  | 7 => ⟨S64x64, .f32⟩
  | 8 => ⟨S_, .i32⟩
  | 9 => ⟨S_, .i32⟩
  | 10 => ⟨S1x64x64, .f32⟩
  | 11 => ⟨S64x64, .f32⟩
  | 12 => ⟨S_, .i32⟩
  | 13 => ⟨S_, .i32⟩
  | 14 => ⟨S1x64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S1x64x64, .f32⟩
  | 34 => ⟨S_, .i32⟩
  | 35 => ⟨S_, .i32⟩
  | 36 => ⟨S2048x64x64, .f32⟩
  | 37 => ⟨S1x64x64, .f32⟩
  | 38 => ⟨S_, .i32⟩
  | 39 => ⟨S_, .i32⟩
  | 40 => ⟨S2048x64x64, .f32⟩
  | 41 => ⟨S_, .i32⟩
  | 42 => ⟨S_, .i32⟩
  | 43 => ⟨S64x64x2048, .f32⟩
  | 44 => ⟨S64x2048x16, .f32⟩
  | 45 => ⟨S2048x64x16, .f32⟩
  | 46 => ⟨S64x64x16, .f32⟩
  | 47 => ⟨S64x64x2048, .f32⟩
  | 48 => ⟨S64x2048x16, .f32⟩
  | 49 => ⟨S2048x64x16, .f32⟩
  | 50 => ⟨S2048x64x16, .f32⟩
  | 51 => ⟨S64x64x16, .f32⟩
  | 52 => ⟨S2048x1024, .f32⟩
  | 53 => ⟨S2048x1024, .f32⟩
  | 54 => ⟨S4096x1, .f32⟩
  | 55 => ⟨S4096x1, .f32⟩
  | 56 => ⟨S4096x16, .f32⟩
  | 57 => ⟨S4096x16, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_c : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev main_v10_3 : Ref sig .tc := ⟨.hbm, 30, rfl⟩
abbrev main_v10_4 : Ref sig .tc := ⟨.hbm, 31, rfl⟩
abbrev main_v10_5 : Ref sig .tc := ⟨.hbm, 32, rfl⟩
abbrev main_v10_6 : Ref sig .tc := ⟨.hbm, 33, rfl⟩
abbrev main_v10_7 : Ref sig .tc := ⟨.hbm, 34, rfl⟩
abbrev main_v10_8 : Ref sig .tc := ⟨.hbm, 35, rfl⟩
abbrev main_v10_9 : Ref sig .tc := ⟨.hbm, 36, rfl⟩
abbrev main_v10_10 : Ref sig .tc := ⟨.hbm, 37, rfl⟩
abbrev main_while0c_c_23 : Ref sig .tc := ⟨.hbm, 38, rfl⟩
abbrev main_while0c_v53 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_v0 : Ref sig .tc := ⟨.hbm, 42, rfl⟩
abbrev main_while0b_v53 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_v0 : Ref sig .tc := ⟨.hbm, 46, rfl⟩
abbrev main_while0b_v54 : Ref sig .tc := ⟨.hbm, 47, rfl⟩
abbrev main_while0b_v55 : Ref sig .tc := ⟨.hbm, 48, rfl⟩
abbrev main_while0b_v56 : Ref sig .tc := ⟨.hbm, 49, rfl⟩
abbrev main_while0b_v57 : Ref sig .tc := ⟨.hbm, 50, rfl⟩
abbrev main_while0b_v58 : Ref sig .tc := ⟨.hbm, 51, rfl⟩
abbrev main_while0b_v59 : Ref sig .tc := ⟨.hbm, 52, rfl⟩
abbrev main_while0b_v60 : Ref sig .tc := ⟨.hbm, 53, rfl⟩
abbrev main_while0b_v61 : Ref sig .tc := ⟨.hbm, 54, rfl⟩
abbrev main_while0b_v62 : Ref sig .tc := ⟨.hbm, 55, rfl⟩
abbrev main_while0b_call2_v0 : Ref sig .tc := ⟨.hbm, 56, rfl⟩
abbrev main_while0b_call2_c : Ref sig .tc := ⟨.hbm, 57, rfl⟩
abbrev main_while0b_call2_c_0 : Ref sig .tc := ⟨.hbm, 58, rfl⟩
abbrev main_while0b_v63 : Ref sig .tc := ⟨.hbm, 59, rfl⟩
abbrev main_while0b_call3_v0 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_v64 : Ref sig .tc := ⟨.hbm, 63, rfl⟩
abbrev main_while0b_call4_v0 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_v65 : Ref sig .tc := ⟨.hbm, 67, rfl⟩
abbrev main_while0b_call5_v0 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_v66 : Ref sig .tc := ⟨.hbm, 71, rfl⟩
abbrev main_while0b_c_23 : Ref sig .tc := ⟨.hbm, 72, rfl⟩
abbrev main_while0b_v67 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_cst_4 : Ref sig .tc := ⟨.hbm, 82, rfl⟩
abbrev main_v19 : Ref sig .tc := ⟨.hbm, 83, rfl⟩
abbrev main_cst_5 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_cst_6 : Ref sig .tc := ⟨.hbm, 96, rfl⟩
abbrev main_v31 : Ref sig .tc := ⟨.hbm, 97, rfl⟩
abbrev main_cst_7 : Ref sig .tc := ⟨.hbm, 98, rfl⟩
abbrev main_v32 : Ref sig .tc := ⟨.hbm, 99, rfl⟩
abbrev main_cst_8 : Ref sig .tc := ⟨.hbm, 100, rfl⟩
abbrev main_v33 : Ref sig .tc := ⟨.hbm, 101, rfl⟩
abbrev main_cst_9 : Ref sig .tc := ⟨.hbm, 102, rfl⟩
abbrev main_v34 : Ref sig .tc := ⟨.hbm, 103, rfl⟩
abbrev main_cst_10 : Ref sig .tc := ⟨.hbm, 104, rfl⟩
abbrev main_v35 : Ref sig .tc := ⟨.hbm, 105, rfl⟩
abbrev main_cst_11 : Ref sig .tc := ⟨.hbm, 106, rfl⟩
abbrev main_v36 : Ref sig .tc := ⟨.hbm, 107, rfl⟩
abbrev main_c_12 : Ref sig .tc := ⟨.hbm, 108, rfl⟩
abbrev main_v37_0 : Ref sig .tc := ⟨.hbm, 109, rfl⟩
abbrev main_v37_1 : Ref sig .tc := ⟨.hbm, 110, rfl⟩
abbrev main_v37_2 : Ref sig .tc := ⟨.hbm, 111, rfl⟩
abbrev main_v37_3 : Ref sig .tc := ⟨.hbm, 112, rfl⟩
abbrev main_v37_4 : Ref sig .tc := ⟨.hbm, 113, rfl⟩
abbrev main_v37_5 : Ref sig .tc := ⟨.hbm, 114, rfl⟩
abbrev main_v37_6 : Ref sig .tc := ⟨.hbm, 115, rfl⟩
abbrev main_v37_7 : Ref sig .tc := ⟨.hbm, 116, rfl⟩
abbrev main_v37_8 : Ref sig .tc := ⟨.hbm, 117, rfl⟩
abbrev main_v37_9 : Ref sig .tc := ⟨.hbm, 118, rfl⟩
abbrev main_v37_10 : Ref sig .tc := ⟨.hbm, 119, rfl⟩
abbrev main_v37_11 : Ref sig .tc := ⟨.hbm, 120, rfl⟩
abbrev main_v37_12 : Ref sig .tc := ⟨.hbm, 121, rfl⟩
abbrev main_while1c_c_25 : Ref sig .tc := ⟨.hbm, 122, rfl⟩
abbrev main_while1c_v53 : Ref sig .tc := ⟨.hbm, 123, rfl⟩
abbrev main_while1b_c_25 : Ref sig .tc := ⟨.hbm, 124, rfl⟩
abbrev main_while1b_v53 : Ref sig .tc := ⟨.hbm, 125, rfl⟩
abbrev main_while1b_c_26 : Ref sig .tc := ⟨.hbm, 126, rfl⟩
abbrev main_while1b_v54 : Ref sig .tc := ⟨.hbm, 127, rfl⟩
abbrev main_while1b_call6_c : Ref sig .tc := ⟨.hbm, 128, rfl⟩
abbrev main_while1b_call6_c_0 : Ref sig .tc := ⟨.hbm, 129, rfl⟩
abbrev main_while1b_call6_v0 : Ref sig .tc := ⟨.hbm, 130, rfl⟩
abbrev main_while1b_v55 : Ref sig .tc := ⟨.hbm, 131, rfl⟩
abbrev main_while1b_call7_c : Ref sig .tc := ⟨.hbm, 132, rfl⟩
abbrev main_while1b_call7_c_0 : Ref sig .tc := ⟨.hbm, 133, rfl⟩
abbrev main_while1b_call7_v0 : Ref sig .tc := ⟨.hbm, 134, rfl⟩
abbrev main_while1b_v56 : Ref sig .tc := ⟨.hbm, 135, rfl⟩
abbrev main_while1b_call8_c : Ref sig .tc := ⟨.hbm, 136, rfl⟩
abbrev main_while1b_call8_c_0 : Ref sig .tc := ⟨.hbm, 137, rfl⟩
abbrev main_while1b_call8_v0 : Ref sig .tc := ⟨.hbm, 138, rfl⟩
abbrev main_while1b_v57 : Ref sig .tc := ⟨.hbm, 139, rfl⟩
abbrev main_while1b_call9_c : Ref sig .tc := ⟨.hbm, 140, rfl⟩
abbrev main_while1b_call9_c_0 : Ref sig .tc := ⟨.hbm, 141, rfl⟩
abbrev main_while1b_call9_v0 : Ref sig .tc := ⟨.hbm, 142, rfl⟩
abbrev main_while1b_v58 : Ref sig .tc := ⟨.hbm, 143, rfl⟩
abbrev main_while1b_v59 : Ref sig .tc := ⟨.hbm, 144, rfl⟩
abbrev main_while1b_v60 : Ref sig .tc := ⟨.hbm, 145, rfl⟩
abbrev main_while1b_v61 : Ref sig .tc := ⟨.hbm, 146, rfl⟩
abbrev main_while1b_v62 : Ref sig .tc := ⟨.hbm, 147, rfl⟩
abbrev main_while1b_v63 : Ref sig .tc := ⟨.hbm, 148, rfl⟩
abbrev main_while1b_v64 : Ref sig .tc := ⟨.hbm, 149, rfl⟩
abbrev main_while1b_v65 : Ref sig .tc := ⟨.hbm, 150, rfl⟩
abbrev main_while1b_v66 : Ref sig .tc := ⟨.hbm, 151, rfl⟩
abbrev main_while1b_v67 : Ref sig .tc := ⟨.hbm, 152, rfl⟩
abbrev main_while1b_v68 : Ref sig .tc := ⟨.hbm, 153, rfl⟩
abbrev main_while1b_v69 : Ref sig .tc := ⟨.hbm, 154, rfl⟩
abbrev main_while1b_v70 : Ref sig .tc := ⟨.hbm, 155, rfl⟩
abbrev main_while1b_v71 : Ref sig .tc := ⟨.hbm, 156, rfl⟩
abbrev main_while1b_v72 : Ref sig .tc := ⟨.hbm, 157, rfl⟩
abbrev main_while1b_v73 : Ref sig .tc := ⟨.hbm, 158, rfl⟩
abbrev main_while1b_v74 : Ref sig .tc := ⟨.hbm, 159, rfl⟩
abbrev main_while1b_v75 : Ref sig .tc := ⟨.hbm, 160, rfl⟩
abbrev main_while1b_call10_v0 : Ref sig .tc := ⟨.hbm, 161, rfl⟩
abbrev main_while1b_call10_c : Ref sig .tc := ⟨.hbm, 162, rfl⟩
abbrev main_while1b_call10_c_0 : Ref sig .tc := ⟨.hbm, 163, rfl⟩
abbrev main_while1b_v76 : Ref sig .tc := ⟨.hbm, 164, rfl⟩
abbrev main_while1b_call11_v0 : Ref sig .tc := ⟨.hbm, 165, rfl⟩
abbrev main_while1b_call11_c : Ref sig .tc := ⟨.hbm, 166, rfl⟩
abbrev main_while1b_call11_c_0 : Ref sig .tc := ⟨.hbm, 167, rfl⟩
abbrev main_while1b_v77 : Ref sig .tc := ⟨.hbm, 168, rfl⟩
abbrev main_while1b_c_27 : Ref sig .tc := ⟨.hbm, 169, rfl⟩
abbrev main_while1b_v78 : Ref sig .tc := ⟨.hbm, 170, rfl⟩
abbrev main_v38 : Ref sig .tc := ⟨.hbm, 171, rfl⟩
abbrev main_v39 : Ref sig .tc := ⟨.hbm, 172, rfl⟩
abbrev main_v40 : Ref sig .tc := ⟨.hbm, 173, rfl⟩
abbrev main_v41 : Ref sig .tc := ⟨.hbm, 174, rfl⟩
abbrev main_v42 : Ref sig .tc := ⟨.hbm, 175, rfl⟩
abbrev main_v43 : Ref sig .tc := ⟨.hbm, 176, rfl⟩
abbrev main_v44 : Ref sig .tc := ⟨.hbm, 177, rfl⟩
abbrev main_v45 : Ref sig .tc := ⟨.hbm, 178, rfl⟩
abbrev main_v46 : Ref sig .tc := ⟨.hbm, 179, rfl⟩
abbrev main_v47 : Ref sig .tc := ⟨.hbm, 180, rfl⟩
abbrev main_v48 : Ref sig .tc := ⟨.hbm, 181, rfl⟩
abbrev main_v49 : Ref sig .tc := ⟨.hbm, 182, rfl⟩
abbrev main_v50 : Ref sig .tc := ⟨.hbm, 183, rfl⟩
abbrev main_v51 : Ref sig .tc := ⟨.hbm, 184, rfl⟩
abbrev main_v52 : Ref sig .tc := ⟨.hbm, 185, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Ffn2Dx.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S8192x2048, .bf16⟩
  | .hbm, ⟨5, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 1, 8, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![v1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Ffn2DxRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | .hbm, ⟨21, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Ffn2Dw.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x8192, .bf16⟩
  | .hbm, ⟨8, _⟩ => ⟨S2048x2048, .bf16⟩
  | .hbm, ⟨9, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg3.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Ffn2DwRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | .hbm, ⟨8, _⟩ => ⟨S2048x8192, .f32⟩
  | .hbm, ⟨9, _⟩ => ⟨S8192x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Ffn1Dx.lean ====
abbrev S2048x2048 : Shape := ⟨2, ![2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S2048x8192, .bf16⟩
  | .hbm, ⟨7, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Ffn1DxRefIdeal.lean ====
abbrev S2048x2048 : Shape := ⟨2, ![2048, 2048]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Ffn1Dw.lean ====
abbrev S2048x2048 : Shape := ⟨2, ![2048, 2048]⟩
abbrev S2048x8192 : Shape := ⟨2, ![2048, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x2048, .bf16⟩
  | .hbm, ⟨4, _⟩ => ⟨S2048x8192, .bf16⟩
  | .hbm, ⟨5, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 4, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Ffn1DwRefIdeal.lean ====
abbrev S2048x2048 : Shape := ⟨2, ![2048, 2048]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .f32⟩
  | .hbm, ⟨4, _⟩ => ⟨S8192x2048, .f32⟩
  | .hbm, ⟨5, _⟩ => ⟨S2048x8192, .f32⟩
  | .hbm, ⟨6, _⟩ => ⟨S2048x4x2048, .f32⟩
  | .hbm, ⟨7, _⟩ => ⟨S4x2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![v1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MixDxRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MixDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg3.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MixDwRefIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjDx.lean ====
abbrev S2048x2048 : Shape := ⟨2, ![2048, 2048]⟩
abbrev S2048x4608 : Shape := ⟨2, ![2048, 4608]⟩
abbrev S1024x512 : Shape := ⟨2, ![1024, 512]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4608, .f32⟩
  | .hbm, ⟨2, _⟩ => ⟨S2048x4608, .f32⟩
  | .hbm, ⟨3, _⟩ => ⟨S2048x4608, .bf16⟩
  | .hbm, ⟨4, _⟩ => ⟨S2048x4608, .bf16⟩
  | .hbm, ⟨5, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 9], ![false, false, false, false]⟩

def k0_cond2 (i : grid0.Coords) : BitVec 1 :=
  let arg3 : BitVec 32 := BitVec.ofNat 32 (i 3).val
  let c8_i32 : BitVec 32 := 8#32
  let v13 : BitVec 1 := Scalar.cmpi .eq arg3 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![v1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjDxRefIdeal.lean ====
abbrev S2048x2048 : Shape := ⟨2, ![2048, 2048]⟩
abbrev S2048x4608 : Shape := ⟨2, ![2048, 4608]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4608, .f32⟩
  | .hbm, ⟨2, _⟩ => ⟨S2048x4608, .f32⟩
  | .hbm, ⟨3, _⟩ => ⟨S2048x4608, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ProjDw.lean ====
abbrev S2048x2048 : Shape := ⟨2, ![2048, 2048]⟩
abbrev S2048x4608 : Shape := ⟨2, ![2048, 4608]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4608, .f32⟩
  | .hbm, ⟨2, _⟩ => ⟨S2048x4608, .f32⟩
  | .hbm, ⟨3, _⟩ => ⟨S2048x2048, .bf16⟩
  | .hbm, ⟨4, _⟩ => ⟨S2048x4608, .bf16⟩
  | .hbm, ⟨5, _⟩ => ⟨S2048x4608, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 6, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c6_i32 : BitVec 32 := 6#32
  let v0 : BitVec 32 := Scalar.muli arg1 c6_i32
  let v1 : BitVec 32 := Scalar.addi v0 arg2
  let c0_i32 : BitVec 32 := 0#32
  ![arg3.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c6_i32 : BitVec 32 := 6#32
  let v0 : BitVec 32 := Scalar.muli arg1 c6_i32
  let v1 : BitVec 32 := Scalar.addi v0 arg2
  let c0_i32 : BitVec 32 := 0#32
  ![arg0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjDwRefIdeal.lean ====
abbrev S2048x2048 : Shape := ⟨2, ![2048, 2048]⟩
abbrev S2048x4608 : Shape := ⟨2, ![2048, 4608]⟩
abbrev S4608x2048 : Shape := ⟨2, ![4608, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4608, .f32⟩
  | .hbm, ⟨2, _⟩ => ⟨S2048x4608, .f32⟩
  | .hbm, ⟨3, _⟩ => ⟨S2048x4608, .f32⟩
  | .hbm, ⟨4, _⟩ => ⟨S4608x2048, .f32⟩
  | .hbm, ⟨5, _⟩ => ⟨S2048x4608, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ffn1.lean ====
abbrev S2048x2048 : Shape := ⟨2, ![2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S2048x2048, .bf16⟩
  | .hbm, ⟨6, _⟩ => ⟨S2048x8192, .f32⟩
  | .hbm, ⟨7, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 4, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Ffn1RefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Ffn2.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S8192x2048, .bf16⟩
  | .hbm, ⟨8, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg3.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Ffn2RefIdeal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== MixOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg3.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MixOutRefIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proj.lean ====
abbrev S2048x2048 : Shape := ⟨2, ![2048, 2048]⟩
abbrev S2048x4608 : Shape := ⟨2, ![2048, 4608]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4608, .f32⟩
  | .hbm, ⟨2, _⟩ => ⟨S2048x2048, .bf16⟩
  | .hbm, ⟨3, _⟩ => ⟨S2048x4608, .bf16⟩
  | .hbm, ⟨4, _⟩ => ⟨S2048x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 6, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c6_i32 : BitVec 32 := 6#32
  let v0 : BitVec 32 := Scalar.muli arg1 c6_i32
  let v1 : BitVec 32 := Scalar.addi v0 arg2
  let c0_i32 : BitVec 32 := 0#32
  ![arg3.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c6_i32 : BitVec 32 := 6#32
  let v0 : BitVec 32 := Scalar.muli arg1 c6_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjRefIdeal.lean ====
abbrev S2048x2048 : Shape := ⟨2, ![2048, 2048]⟩
abbrev S2048x4608 : Shape := ⟨2, ![2048, 4608]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4608, .f32⟩
  | .hbm, ⟨2, _⟩ => ⟨S2048x4608, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm1Dx.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Norm1DxRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x2048, .f32⟩
  | .hbm, ⟨53, _⟩ => ⟨S2048x2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Norm2Dx.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Norm2DxRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S_ : Shape := ⟨0, ![]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 12
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S2048x1, .f32⟩
  | .hbm, ⟨7, _⟩ => ⟨S2048x1, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 83
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x2048, .f32⟩
  | .hbm, ⟨64, _⟩ => ⟨S2048x2048, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Norm1.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Norm1RefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Norm2.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Norm2RefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Shift.lean ====
abbrev S2048x4608 : Shape := ⟨2, ![2048, 4608]⟩
abbrev S1x3584 : Shape := ⟨2, ![1, 3584]⟩
abbrev S2048x3584 : Shape := ⟨2, ![2048, 3584]⟩
abbrev S2048x128 : Shape := ⟨2, ![2048, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S2048x4608, .f32⟩
  | .hbm, ⟨1, _⟩ => ⟨S1x3584, .f32⟩
  | .hbm, ⟨2, _⟩ => ⟨S1x3584, .f32⟩
  | .hbm, ⟨3, _⟩ => ⟨S2048x3584, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ShiftRefIdeal.lean ====
abbrev S2048x4608 : Shape := ⟨2, ![2048, 4608]⟩
abbrev S1x3584 : Shape := ⟨2, ![1, 3584]⟩
abbrev S2048x3584 : Shape := ⟨2, ![2048, 3584]⟩
abbrev S2047x3584 : Shape := ⟨2, ![2047, 3584]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x4608, .f32⟩
  | .hbm, ⟨1, _⟩ => ⟨S1x3584, .f32⟩
  | .hbm, ⟨2, _⟩ => ⟨S1x3584, .f32⟩
  | .hbm, ⟨3, _⟩ => ⟨S2048x3584, .f32⟩
  | .hbm, ⟨4, _⟩ => ⟨S2047x3584, .f32⟩
  | .hbm, ⟨5, _⟩ => ⟨S_, .i32⟩
  | .hbm, ⟨6, _⟩ => ⟨S_, .f32⟩
  | .hbm, ⟨7, _⟩ => ⟨S2048x3584, .f32⟩
  | .hbm, ⟨8, _⟩ => ⟨S2047x3584, .f32⟩
  | .hbm, ⟨9, _⟩ => ⟨S_, .i32⟩
  | .hbm, ⟨10, _⟩ => ⟨S_, .f32⟩
  | .hbm, ⟨11, _⟩ => ⟨S2048x3584, .f32⟩
  | .hbm, ⟨12, _⟩ => ⟨S2048x3584, .f32⟩
  | .hbm, ⟨13, _⟩ => ⟨S2048x3584, .f32⟩
  | .hbm, ⟨14, _⟩ => ⟨S2048x3584, .f32⟩
  | .hbm, ⟨15, _⟩ => ⟨S2048x3584, .f32⟩
  | .hbm, ⟨16, _⟩ => ⟨S2048x3584, .f32⟩
  | .hbm, ⟨17, _⟩ => ⟨S2048x3584, .f32⟩
  | .hbm, ⟨18, _⟩ => ⟨S2048x3584, .f32⟩
  | .hbm, ⟨19, _⟩ => ⟨S2048x3584, .f32⟩
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== AdaW.lean ====
abbrev S8x2048 : Shape := ⟨2, ![8, 2048]⟩
abbrev S8x3072 : Shape := ⟨2, ![8, 3072]⟩
abbrev S2048x3072 : Shape := ⟨2, ![2048, 3072]⟩
abbrev S2048x8 : Shape := ⟨2, ![2048, 8]⟩
abbrev S256x8 : Shape := ⟨2, ![256, 8]⟩
abbrev S8x1024 : Shape := ⟨2, ![8, 1024]⟩
abbrev S256x1024 : Shape := ⟨2, ![256, 1024]⟩
abbrev S256x1 : Shape := ⟨2, ![256, 1]⟩
abbrev S1x1024 : Shape := ⟨2, ![1, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x8, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S2048x3072, .f32⟩
  | .local _ .vmem, ⟨0, _⟩ => ⟨S256x8, .f32⟩
  | .local _ .vmem, ⟨1, _⟩ => ⟨S256x8, .f32⟩
  | .local _ .vmem, ⟨2, _⟩ => ⟨S8x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaWRefIdeal.lean ====
abbrev S8x2048 : Shape := ⟨2, ![8, 2048]⟩
abbrev S8x3072 : Shape := ⟨2, ![8, 3072]⟩
abbrev S2048x3072 : Shape := ⟨2, ![2048, 3072]⟩
abbrev S3072x2048 : Shape := ⟨2, ![3072, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S8x3072, .f32⟩
  | .hbm, ⟨6, _⟩ => ⟨S3072x2048, .f32⟩
  | .hbm, ⟨7, _⟩ => ⟨S2048x3072, .f32⟩
  | .hbm, ⟨8, _⟩ => ⟨S_, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S_, .f32⟩
  | .hbm, ⟨39, _⟩ => ⟨S2048x3072, .f32⟩
  | .hbm, ⟨40, _⟩ => ⟨S2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamFfn.lean ====
abbrev S2048x2048 : Shape := ⟨2, ![2048, 2048]⟩
abbrev S1x2048x2048 : Shape := ⟨3, ![1, 2048, 2048]⟩
abbrev S256x2048 : Shape := ⟨2, ![256, 2048]⟩
abbrev S1x256x2048 : Shape := ⟨3, ![1, 256, 2048]⟩

abbrev nBuf : Space → Nat
  | .hbm => 9
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnIdeal.lean ====
abbrev S2048x2048 : Shape := ⟨2, ![2048, 2048]⟩
abbrev S1x2048x2048 : Shape := ⟨3, ![1, 2048, 2048]⟩
abbrev S256x2048 : Shape := ⟨2, ![256, 2048]⟩
abbrev S1x256x2048 : Shape := ⟨3, ![1, 256, 2048]⟩

abbrev nBuf : Space → Nat
  | .hbm => 9
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x1128 : Shape := ⟨2, ![2048, 1128]⟩
abbrev S1x2048x1128 : Shape := ⟨3, ![1, 2048, 1128]⟩
abbrev S256x1128 : Shape := ⟨2, ![256, 1128]⟩
abbrev S1x256x1128 : Shape := ⟨3, ![1, 256, 1128]⟩

abbrev nBuf : Space → Nat
  | .hbm => 9
  | .vmem => 16
  | .smem => 0
  | _ => 0

abbrev bufTy : (tb : Table) → Fin (tcTables nBuf tb) → BufTy
  | .hbm, ⟨0, _⟩ => ⟨S2048x1128, .f32⟩
  | .hbm, ⟨1, _⟩ => ⟨S2048x1128, .f32⟩
  | .hbm, ⟨2, _⟩ => ⟨S2048x1128, .f32⟩
  | .hbm, ⟨3, _⟩ => ⟨S2048x1128, .f32⟩
  | .hbm, ⟨4, _⟩ => ⟨S1x2048x1128, .f32⟩
  | .hbm, ⟨5, _⟩ => ⟨S2048x1128, .f32⟩
  | .hbm, ⟨6, _⟩ => ⟨S2048x1128, .f32⟩
  | .hbm, ⟨7, _⟩ => ⟨S2048x1128, .f32⟩
  | .hbm, ⟨8, _⟩ => ⟨S2048x1128, .f32⟩
  | .local _ .vmem, ⟨0, _⟩ => ⟨S256x1128, .f32⟩
  | .local _ .vmem, ⟨1, _⟩ => ⟨S256x1128, .f32⟩
  | .local _ .vmem, ⟨2, _⟩ => ⟨S1x256x1128, .f32⟩
  | .local _ .vmem, ⟨3, _⟩ => ⟨S1x256x1128, .f32⟩
  | .local _ .vmem, ⟨4, _⟩ => ⟨S256x1128, .f32⟩
  | .local _ .vmem, ⟨5, _⟩ => ⟨S256x1128, .f32⟩
  | .local _ .vmem, ⟨6, _⟩ => ⟨S256x1128, .f32⟩
  | .local _ .vmem, ⟨7, _⟩ => ⟨S256x1128, .f32⟩
  | .local _ .vmem, ⟨8, _⟩ => ⟨S256x1128, .f32⟩
  | .local _ .vmem, ⟨9, _⟩ => ⟨S256x1128, .f32⟩
  | .local _ .vmem, ⟨10, _⟩ => ⟨S256x1128, .f32⟩
  | .local _ .vmem, ⟨11, _⟩ => ⟨S256x1128, .f32⟩
  | .local _ .vmem, ⟨12, _⟩ => ⟨S256x1128, .f32⟩
  | .local _ .vmem, ⟨13, _⟩ => ⟨S256x1128, .f32⟩
  | .local _ .vmem, ⟨14, _⟩ => ⟨S256x1128, .f32⟩
  | .local _ .vmem, ⟨15, _⟩ => ⟨S256x1128, .f32⟩
  | _, _ => ⟨S2048x1128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x1128 : Shape := ⟨2, ![2048, 1128]⟩
abbrev S1x2048x1128 : Shape := ⟨3, ![1, 2048, 1128]⟩
abbrev S256x1128 : Shape := ⟨2, ![256, 1128]⟩
abbrev S1x256x1128 : Shape := ⟨3, ![1, 256, 1128]⟩

abbrev nBuf : Space → Nat
  | .hbm => 9
  | .vmem => 16
  | .smem => 0
  | _ => 0

abbrev bufTy : (tb : Table) → Fin (tcTables nBuf tb) → BufTy
  | .hbm, ⟨0, _⟩ => ⟨S2048x1128, .f32⟩
  | .hbm, ⟨1, _⟩ => ⟨S2048x1128, .f32⟩
  | .hbm, ⟨2, _⟩ => ⟨S2048x1128, .f32⟩
  | .hbm, ⟨3, _⟩ => ⟨S2048x1128, .f32⟩
  | .hbm, ⟨4, _⟩ => ⟨S1x2048x1128, .f32⟩
  | .hbm, ⟨5, _⟩ => ⟨S2048x1128, .f32⟩
  | .hbm, ⟨6, _⟩ => ⟨S2048x1128, .f32⟩
  | .hbm, ⟨7, _⟩ => ⟨S2048x1128, .f32⟩
  | .hbm, ⟨8, _⟩ => ⟨S2048x1128, .f32⟩
  | .local _ .vmem, ⟨0, _⟩ => ⟨S256x1128, .f32⟩
  | .local _ .vmem, ⟨1, _⟩ => ⟨S256x1128, .f32⟩
  | .local _ .vmem, ⟨2, _⟩ => ⟨S1x256x1128, .f32⟩
  | .local _ .vmem, ⟨3, _⟩ => ⟨S1x256x1128, .f32⟩
  | .local _ .vmem, ⟨4, _⟩ => ⟨S256x1128, .f32⟩
  | .local _ .vmem, ⟨5, _⟩ => ⟨S256x1128, .f32⟩
  | .local _ .vmem, ⟨6, _⟩ => ⟨S256x1128, .f32⟩
  | .local _ .vmem, ⟨7, _⟩ => ⟨S256x1128, .f32⟩
  | .local _ .vmem, ⟨8, _⟩ => ⟨S256x1128, .f32⟩
  | .local _ .vmem, ⟨9, _⟩ => ⟨S256x1128, .f32⟩
  | .local _ .vmem, ⟨10, _⟩ => ⟨S256x1128, .f32⟩
  | .local _ .vmem, ⟨11, _⟩ => ⟨S256x1128, .f32⟩
  | .local _ .vmem, ⟨12, _⟩ => ⟨S256x1128, .f32⟩
  | .local _ .vmem, ⟨13, _⟩ => ⟨S256x1128, .f32⟩
  | .local _ .vmem, ⟨14, _⟩ => ⟨S256x1128, .f32⟩
  | .local _ .vmem, ⟨15, _⟩ => ⟨S256x1128, .f32⟩
  | _, _ => ⟨S2048x1128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x1128 : Shape := ⟨2, ![2048, 1128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1128, .f32⟩
  | .hbm, ⟨1, _⟩ => ⟨S2048x1128, .f32⟩
  | .hbm, ⟨2, _⟩ => ⟨S2048x1128, .f32⟩
  | .hbm, ⟨3, _⟩ => ⟨S2048x1128, .f32⟩
  | .hbm, ⟨4, _⟩ => ⟨S_, .f32⟩
  | .hbm, ⟨5, _⟩ => ⟨S2048x1128, .f32⟩
  | .hbm, ⟨6, _⟩ => ⟨S2048x1128, .f32⟩
  | .hbm, ⟨7, _⟩ => ⟨S_, .f32⟩
  | .hbm, ⟨8, _⟩ => ⟨S2048x1128, .f32⟩
  | .hbm, ⟨9, _⟩ => ⟨S2048x1128, .f32⟩
  | .hbm, ⟨10, _⟩ => ⟨S2048x1128, .f32⟩
  | .hbm, ⟨11, _⟩ => ⟨S_, .f32⟩
  | .hbm, ⟨12, _⟩ => ⟨S2048x1128, .f32⟩
  | .hbm, ⟨13, _⟩ => ⟨S2048x1128, .f32⟩
  | .hbm, ⟨14, _⟩ => ⟨S2048x1128, .f32⟩
  | .hbm, ⟨15, _⟩ => ⟨S_, .f32⟩
  | .hbm, ⟨16, _⟩ => ⟨S2048x1128, .f32⟩
  | .hbm, ⟨17, _⟩ => ⟨S2048x1128, .f32⟩
  | .hbm, ⟨18, _⟩ => ⟨S2048x1128, .f32⟩
  | .hbm, ⟨19, _⟩ => ⟨S_, .f32⟩
  | .hbm, ⟨20, _⟩ => ⟨S2048x1128, .f32⟩
  | .hbm, ⟨21, _⟩ => ⟨S2048x1128, .f32⟩
  | .hbm, ⟨22, _⟩ => ⟨S_, .f32⟩
  | .hbm, ⟨23, _⟩ => ⟨S2048x1128, .f32⟩
  | .hbm, ⟨24, _⟩ => ⟨S2048x1128, .f32⟩
  | .hbm, ⟨25, _⟩ => ⟨S2048x1128, .f32⟩
  | .hbm, ⟨26, _⟩ => ⟨S_, .f32⟩
  | .hbm, ⟨27, _⟩ => ⟨S2048x1128, .f32⟩
  | .hbm, ⟨28, _⟩ => ⟨S2048x1128, .f32⟩
  | .hbm, ⟨29, _⟩ => ⟨S2048x1128, .f32⟩
  | .hbm, ⟨30, _⟩ => ⟨S_, .f32⟩
  | .hbm, ⟨31, _⟩ => ⟨S2048x1128, .f32⟩
  | .hbm, ⟨32, _⟩ => ⟨S2048x1128, .f32⟩
  | .hbm, ⟨33, _⟩ => ⟨S2048x1128, .f32⟩
  | .hbm, ⟨34, _⟩ => ⟨S_, .f32⟩
  | .hbm, ⟨35, _⟩ => ⟨S2048x1128, .f32⟩
  | .hbm, ⟨36, _⟩ => ⟨S2048x1128, .f32⟩
  | _, _ => ⟨S2048x1128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S1x512x2048 : Shape := ⟨3, ![1, 512, 2048]⟩
abbrev S256x2048 : Shape := ⟨2, ![256, 2048]⟩
abbrev S1x256x2048 : Shape := ⟨3, ![1, 256, 2048]⟩

abbrev nBuf : Space → Nat
  | .hbm => 9
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S1x512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S512x2048 : Shape := ⟨2, ![512, 2048]⟩
abbrev S1x512x2048 : Shape := ⟨3, ![1, 512, 2048]⟩
abbrev S256x2048 : Shape := ⟨2, ![256, 2048]⟩
abbrev S1x256x2048 : Shape := ⟨3, ![1, 256, 2048]⟩

abbrev nBuf : Space → Nat
  | .hbm => 9
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S1x512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S256x1024 : Shape := ⟨2, ![256, 1024]⟩
abbrev S1x256x1024 : Shape := ⟨3, ![1, 256, 1024]⟩

abbrev nBuf : Space → Nat
  | .hbm => 9
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S1x256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRk.lean ====
abbrev S2x256 : Shape := ⟨2, ![2, 256]⟩
abbrev S2x64x256 : Shape := ⟨3, ![2, 64, 256]⟩
abbrev S160x256 : Shape := ⟨2, ![160, 256]⟩
abbrev S128x256 : Shape := ⟨2, ![128, 256]⟩
abbrev S420x256 : Shape := ⟨2, ![420, 256]⟩
abbrev S_ : Shape := ⟨0, ![]⟩
abbrev S432x256 : Shape := ⟨2, ![432, 256]⟩
abbrev S1x432x256 : Shape := ⟨3, ![1, 432, 256]⟩

abbrev nBuf : Space → Nat
  | .hbm => 70
  | .vmem => 8
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x64x256, .f32⟩
  | .hbm, ⟨3, _⟩ => ⟨S2x64x256, .f32⟩
  | .hbm, ⟨4, _⟩ => ⟨S160x256, .f32⟩
  | .hbm, ⟨5, _⟩ => ⟨S2x256, .f32⟩
  | .hbm, ⟨6, _⟩ => ⟨S2x256, .f32⟩
  | .hbm, ⟨7, _⟩ => ⟨S2x64x256, .f32⟩
  | .hbm, ⟨8, _⟩ => ⟨S2x64x256, .f32⟩
  | .hbm, ⟨9, _⟩ => ⟨S160x256, .f32⟩
  | .hbm, ⟨10, _⟩ => ⟨S2x256, .f32⟩
  | .hbm, ⟨11, _⟩ => ⟨S2x256, .f32⟩
  | .hbm, ⟨12, _⟩ => ⟨S2x64x256, .f32⟩
  | .hbm, ⟨13, _⟩ => ⟨S2x64x256, .f32⟩
  | .hbm, ⟨14, _⟩ => ⟨S160x256, .f32⟩
  | .hbm, ⟨15, _⟩ => ⟨S2x256, .f32⟩
  | .hbm, ⟨16, _⟩ => ⟨S2x256, .f32⟩
  | .hbm, ⟨17, _⟩ => ⟨S2x64x256, .f32⟩
  | .hbm, ⟨18, _⟩ => ⟨S2x64x256, .f32⟩
  | .hbm, ⟨19, _⟩ => ⟨S160x256, .f32⟩
  | .hbm, ⟨20, _⟩ => ⟨S128x256, .f32⟩
  | .hbm, ⟨21, _⟩ => ⟨S128x256, .f32⟩
  | .hbm, ⟨22, _⟩ => ⟨S420x256, .f32⟩
  | .hbm, ⟨23, _⟩ => ⟨S_, .i32⟩
  | .hbm, ⟨24, _⟩ => ⟨S_, .f32⟩
  | .hbm, ⟨25, _⟩ => ⟨S432x256, .f32⟩
  | .hbm, ⟨26, _⟩ => ⟨S128x256, .f32⟩
  | .hbm, ⟨27, _⟩ => ⟨S128x256, .f32⟩
  | .hbm, ⟨28, _⟩ => ⟨S420x256, .f32⟩
  | .hbm, ⟨29, _⟩ => ⟨S_, .i32⟩
  | .hbm, ⟨30, _⟩ => ⟨S_, .f32⟩
  | .hbm, ⟨31, _⟩ => ⟨S432x256, .f32⟩
  | .hbm, ⟨32, _⟩ => ⟨S1x432x256, .f32⟩
  | .hbm, ⟨33, _⟩ => ⟨S128x256, .f32⟩
  | .hbm, ⟨34, _⟩ => ⟨S128x256, .f32⟩
  | .hbm, ⟨35, _⟩ => ⟨S420x256, .f32⟩
  | .hbm, ⟨36, _⟩ => ⟨S_, .i32⟩
  | .hbm, ⟨37, _⟩ => ⟨S_, .f32⟩
  | .hbm, ⟨38, _⟩ => ⟨S432x256, .f32⟩
  | .hbm, ⟨39, _⟩ => ⟨S128x256, .f32⟩
  | .hbm, ⟨40, _⟩ => ⟨S128x256, .f32⟩
  | .hbm, ⟨41, _⟩ => ⟨S420x256, .f32⟩
  | .hbm, ⟨42, _⟩ => ⟨S_, .i32⟩
  | .hbm, ⟨43, _⟩ => ⟨S_, .f32⟩
  | .hbm, ⟨44, _⟩ => ⟨S432x256, .f32⟩
  | .hbm, ⟨45, _⟩ => ⟨S432x256, .f32⟩
  | .hbm, ⟨46, _⟩ => ⟨S432x256, .f32⟩
  | .hbm, ⟨47, _⟩ => ⟨S432x256, .f32⟩
  | .hbm, ⟨48, _⟩ => ⟨S432x256, .f32⟩
  | .hbm, ⟨49, _⟩ => ⟨S2x256, .f32⟩
  | .hbm, ⟨50, _⟩ => ⟨S2x256, .f32⟩
  | .hbm, ⟨51, _⟩ => ⟨S128x256, .f32⟩
  | .hbm, ⟨52, _⟩ => ⟨S2x64x256, .f32⟩
  | .hbm, ⟨53, _⟩ => ⟨S128x256, .f32⟩
  | .hbm, ⟨54, _⟩ => ⟨S2x64x256, .f32⟩
  | .hbm, ⟨55, _⟩ => ⟨S160x256, .f32⟩
  | .hbm, ⟨56, _⟩ => ⟨S2x256, .f32⟩
  | .hbm, ⟨57, _⟩ => ⟨S2x256, .f32⟩
  | .hbm, ⟨58, _⟩ => ⟨S128x256, .f32⟩
  | .hbm, ⟨59, _⟩ => ⟨S2x64x256, .f32⟩
  | .hbm, ⟨60, _⟩ => ⟨S128x256, .f32⟩
  | .hbm, ⟨61, _⟩ => ⟨S2x64x256, .f32⟩
  | .hbm, ⟨62, _⟩ => ⟨S160x256, .f32⟩
  | .hbm, ⟨63, _⟩ => ⟨S2x256, .f32⟩
  | .hbm, ⟨64, _⟩ => ⟨S2x256, .f32⟩
  | .hbm, ⟨65, _⟩ => ⟨S128x256, .f32⟩
  | .hbm, ⟨66, _⟩ => ⟨S2x64x256, .f32⟩
  | .hbm, ⟨67, _⟩ => ⟨S128x256, .f32⟩
  | .hbm, ⟨68, _⟩ => ⟨S2x64x256, .f32⟩
  | .hbm, ⟨69, _⟩ => ⟨S160x256, .f32⟩
  | .local _ .vmem, ⟨0, _⟩ => ⟨S432x256, .f32⟩
  | .local _ .vmem, ⟨1, _⟩ => ⟨S1x432x256, .f32⟩
  | .local _ .vmem, ⟨2, _⟩ => ⟨S432x256, .f32⟩
  | .local _ .vmem, ⟨3, _⟩ => ⟨S432x256, .f32⟩
  | .local _ .vmem, ⟨4, _⟩ => ⟨S432x256, .f32⟩
  | .local _ .vmem, ⟨5, _⟩ => ⟨S432x256, .f32⟩
  | .local _ .vmem, ⟨6, _⟩ => ⟨S432x256, .f32⟩
  | .local _ .vmem, ⟨7, _⟩ => ⟨S432x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_call0_v0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c_1 : Ref sig .tc := ⟨.hbm, 36, rfl⟩
abbrev main_call2_v0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_call3_v0 : Ref sig .tc := ⟨.hbm, 43, rfl⟩
abbrev main_v16 : Ref sig .tc := ⟨.hbm, 44, rfl⟩
abbrev main_v17_0 : Ref sig .tc := ⟨.hbm, 45, rfl⟩
abbrev main_v17_1 : Ref sig .tc := ⟨.hbm, 46, rfl⟩
abbrev main_v17_2 : Ref sig .tc := ⟨.hbm, 47, rfl⟩
abbrev main_v17_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S432x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x432x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S432x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S432x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S432x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S432x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S432x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S432x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRkRefIdeal.lean ====
abbrev S2x256 : Shape := ⟨2, ![2, 256]⟩
abbrev S2x64x256 : Shape := ⟨3, ![2, 64, 256]⟩
abbrev S160x256 : Shape := ⟨2, ![160, 256]⟩
abbrev S_ : Shape := ⟨0, ![]⟩

abbrev nBuf : Space → Nat
  | .hbm => 185
  | .vmem => 0
  | .smem => 0
  | _ => 0

abbrev hbmTy0_0 (i : Nat) : BufTy := match i % 128 with
  | 0 => ⟨S2x256, .f32⟩
  | 1 => ⟨S2x256, .f32⟩
  | 2 => ⟨S2x64x256, .f32⟩
  | 3 => ⟨S2x64x256, .f32⟩
  | 4 => ⟨S160x256, .f32⟩
  | 5 => ⟨S2x256, .f32⟩
  | 6 => ⟨S2x256, .f32⟩
  | 7 => ⟨S2x64x256, .f32⟩
  | 8 => ⟨S2x64x256, .f32⟩
  | 9 => ⟨S160x256, .f32⟩
  | 10 => ⟨S2x256, .f32⟩
  | 11 => ⟨S2x256, .f32⟩
  | 12 => ⟨S2x64x256, .f32⟩
  | 13 => ⟨S2x64x256, .f32⟩
  | 14 => ⟨S160x256, .f32⟩
  | 15 => ⟨S2x256, .f32⟩
  | 16 => ⟨S2x256, .f32⟩
  | 17 => ⟨S2x64x256, .f32⟩
  | 18 => ⟨S2x64x256, .f32⟩
  | 19 => ⟨S160x256, .f32⟩
  | 20 => ⟨S_, .f32⟩
  | 21 => ⟨S2x256, .f32⟩
  | 22 => ⟨S2x256, .f32⟩
  | 23 => ⟨S_, .f32⟩
  | 24 => ⟨S2x256, .f32⟩
  | 25 => ⟨S2x256, .f32⟩
  | 26 => ⟨S2x256, .f32⟩
  | 27 => ⟨S_, .f32⟩
  | 28 => ⟨S2x256, .f32⟩
  | 29 => ⟨S2x256, .f32⟩
  | 30 => ⟨S2x256, .f32⟩
  | 31 => ⟨S_, .f32⟩
  | 32 => ⟨S2x256, .f32⟩
  | 33 => ⟨S2x256, .f32⟩
  | 34 => ⟨S2x256, .f32⟩
  | 35 => ⟨S_, .f32⟩
  | 36 => ⟨S2x256, .f32⟩
  | 37 => ⟨S2x256, .f32⟩
  | 38 => ⟨S_, .f32⟩
  | 39 => ⟨S2x256, .f32⟩
  | 40 => ⟨S2x256, .f32⟩
  | 41 => ⟨S2x256, .f32⟩
  | 42 => ⟨S_, .f32⟩
  | 43 => ⟨S2x256, .f32⟩
  | 44 => ⟨S2x256, .f32⟩
  | 45 => ⟨S2x256, .f32⟩
  | 46 => ⟨S_, .f32⟩
  | 47 => ⟨S2x256, .f32⟩
  | 48 => ⟨S2x256, .f32⟩
  | 49 => ⟨S2x256, .f32⟩
  | 50 => ⟨S_, .f32⟩
  | 51 => ⟨S2x256, .f32⟩
  | 52 => ⟨S2x256, .f32⟩
  | 53 => ⟨S_, .f32⟩
  | 54 => ⟨S2x256, .f32⟩
  | 55 => ⟨S2x256, .f32⟩
  | 56 => ⟨S_, .f32⟩
  | 57 => ⟨S2x256, .f32⟩
  | 58 => ⟨S2x256, .f32⟩
  | 59 => ⟨S2x256, .f32⟩
  | 60 => ⟨S_, .f32⟩
  | 61 => ⟨S2x256, .f32⟩
  | 62 => ⟨S2x256, .f32⟩
  | 63 => ⟨S2x256, .f32⟩
  | 64 => ⟨S_, .f32⟩
  | 65 => ⟨S2x256, .f32⟩
  | 66 => ⟨S2x256, .f32⟩
  | 67 => ⟨S2x256, .f32⟩
  | 68 => ⟨S_, .f32⟩
  | 69 => ⟨S2x256, .f32⟩
  | 70 => ⟨S2x256, .f32⟩
  | 71 => ⟨S_, .f32⟩
  | 72 => ⟨S2x256, .f32⟩
  | 73 => ⟨S2x256, .f32⟩
  | 74 => ⟨S2x256, .f32⟩
  | 75 => ⟨S_, .f32⟩
  | 76 => ⟨S2x256, .f32⟩
  | 77 => ⟨S2x256, .f32⟩
  | 78 => ⟨S2x256, .f32⟩
  | 79 => ⟨S_, .f32⟩
  | 80 => ⟨S2x256, .f32⟩
  | 81 => ⟨S2x256, .f32⟩
  | 82 => ⟨S2x256, .f32⟩
  | 83 => ⟨S_, .f32⟩
  | 84 => ⟨S2x256, .f32⟩
  | 85 => ⟨S2x256, .f32⟩
  | 86 => ⟨S_, .f32⟩
  | 87 => ⟨S2x64x256, .f32⟩
  | 88 => ⟨S2x64x256, .f32⟩
  | 89 => ⟨S_, .f32⟩
  | 90 => ⟨S2x64x256, .f32⟩
  | 91 => ⟨S2x64x256, .f32⟩
  | 92 => ⟨S2x64x256, .f32⟩
  | 93 => ⟨S_, .f32⟩
  | 94 => ⟨S2x64x256, .f32⟩
  | 95 => ⟨S2x64x256, .f32⟩
  | 96 => ⟨S2x64x256, .f32⟩
  | 97 => ⟨S_, .f32⟩
  | 98 => ⟨S2x64x256, .f32⟩
  | 99 => ⟨S2x64x256, .f32⟩
  | 100 => ⟨S2x64x256, .f32⟩
  | 101 => ⟨S_, .f32⟩
  | 102 => ⟨S2x64x256, .f32⟩
  | 103 => ⟨S2x64x256, .f32⟩
  | 104 => ⟨S_, .f32⟩
  | 105 => ⟨S2x64x256, .f32⟩
  | 106 => ⟨S2x64x256, .f32⟩
  | 107 => ⟨S2x64x256, .f32⟩
  | 108 => ⟨S_, .f32⟩
  | 109 => ⟨S2x64x256, .f32⟩
  | 110 => ⟨S2x64x256, .f32⟩
  | 111 => ⟨S2x64x256, .f32⟩
  | 112 => ⟨S_, .f32⟩
  | 113 => ⟨S2x64x256, .f32⟩
  | 114 => ⟨S2x64x256, .f32⟩
  | 115 => ⟨S2x64x256, .f32⟩
  | 116 => ⟨S_, .f32⟩
  | 117 => ⟨S2x64x256, .f32⟩
  | 118 => ⟨S2x64x256, .f32⟩
  | 119 => ⟨S_, .f32⟩
  | 120 => ⟨S2x64x256, .f32⟩
  | 121 => ⟨S2x64x256, .f32⟩
  | 122 => ⟨S_, .f32⟩
  | 123 => ⟨S2x64x256, .f32⟩
  | 124 => ⟨S2x64x256, .f32⟩
  | 125 => ⟨S2x64x256, .f32⟩
  | 126 => ⟨S_, .f32⟩
  | 127 => ⟨S2x64x256, .f32⟩
  | _ => ⟨S2x256, .f32⟩

abbrev hbmTy0_1 (i : Nat) : BufTy := match i % 128 with
  | 0 => ⟨S2x64x256, .f32⟩
  | 1 => ⟨S2x64x256, .f32⟩
  | 2 => ⟨S_, .f32⟩
  | 3 => ⟨S2x64x256, .f32⟩
  | 4 => ⟨S2x64x256, .f32⟩
  | 5 => ⟨S2x64x256, .f32⟩
  | 6 => ⟨S_, .f32⟩
  | 7 => ⟨S2x64x256, .f32⟩
  | 8 => ⟨S2x64x256, .f32⟩
  | 9 => ⟨S_, .f32⟩
  | 10 => ⟨S2x64x256, .f32⟩
  | 11 => ⟨S2x64x256, .f32⟩
  | 12 => ⟨S2x64x256, .f32⟩
  | 13 => ⟨S_, .f32⟩
  | 14 => ⟨S2x64x256, .f32⟩
  | 15 => ⟨S2x64x256, .f32⟩
  | 16 => ⟨S2x64x256, .f32⟩
  | 17 => ⟨S_, .f32⟩
  | 18 => ⟨S2x64x256, .f32⟩
  | 19 => ⟨S2x64x256, .f32⟩
  | 20 => ⟨S2x64x256, .f32⟩
  | 21 => ⟨S_, .f32⟩
  | 22 => ⟨S2x64x256, .f32⟩
  | 23 => ⟨S2x64x256, .f32⟩
  | 24 => ⟨S_, .f32⟩
  | 25 => ⟨S160x256, .f32⟩
  | 26 => ⟨S160x256, .f32⟩
  | 27 => ⟨S_, .f32⟩
  | 28 => ⟨S160x256, .f32⟩
  | 29 => ⟨S160x256, .f32⟩
  | 30 => ⟨S160x256, .f32⟩
  | 31 => ⟨S_, .f32⟩
  | 32 => ⟨S160x256, .f32⟩
  | 33 => ⟨S160x256, .f32⟩
  | 34 => ⟨S160x256, .f32⟩
  | 35 => ⟨S_, .f32⟩
  | 36 => ⟨S160x256, .f32⟩
  | 37 => ⟨S160x256, .f32⟩
  | 38 => ⟨S160x256, .f32⟩
  | 39 => ⟨S_, .f32⟩
  | 40 => ⟨S160x256, .f32⟩
  | 41 => ⟨S160x256, .f32⟩
  | 42 => ⟨S_, .f32⟩
  | 43 => ⟨S160x256, .f32⟩
  | 44 => ⟨S160x256, .f32⟩
  | 45 => ⟨S160x256, .f32⟩
  | 46 => ⟨S_, .f32⟩
  | 47 => ⟨S160x256, .f32⟩
  | 48 => ⟨S160x256, .f32⟩
  | 49 => ⟨S160x256, .f32⟩
  | 50 => ⟨S_, .f32⟩
  | 51 => ⟨S160x256, .f32⟩
  | 52 => ⟨S160x256, .f32⟩
  | 53 => ⟨S160x256, .f32⟩
  | 54 => ⟨S_, .f32⟩
  | 55 => ⟨S160x256, .f32⟩
  | 56 => ⟨S160x256, .f32⟩
  | _ => ⟨S2x256, .f32⟩

abbrev hbmTy (i : Nat) : BufTy := match i / 128 with
  | 0 => hbmTy0_0 i
  | 1 => hbmTy0_1 i
  | _ => ⟨S2x256, .f32⟩

abbrev bufTy : (tb : Table) → Fin (tcTables nBuf tb) → BufTy
  | .hbm, ⟨i, _⟩ => hbmTy i
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_cst_9 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_cst_13 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_14 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_16 : Ref sig .tc := ⟨.hbm, 83, rfl⟩
abbrev main_v46 : Ref sig .tc := ⟨.hbm, 84, rfl⟩
abbrev main_v47 : Ref sig .tc := ⟨.hbm, 85, rfl⟩
abbrev main_cst_17 : Ref sig .tc := ⟨.hbm, 86, rfl⟩
abbrev main_v48 : Ref sig .tc := ⟨.hbm, 87, rfl⟩
abbrev main_v49 : Ref sig .tc := ⟨.hbm, 88, rfl⟩
abbrev main_cst_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_20 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_21 : Ref sig .tc := ⟨.hbm, 101, rfl⟩
abbrev main_v59 : Ref sig .tc := ⟨.hbm, 102, rfl⟩
abbrev main_v60 : Ref sig .tc := ⟨.hbm, 103, rfl⟩
abbrev main_cst_22 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_23 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_24 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_cst_26 : Ref sig .tc := ⟨.hbm, 119, rfl⟩
abbrev main_v72 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_28 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_29 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_30 : Ref sig .tc := ⟨.hbm, 134, rfl⟩
abbrev main_v83 : Ref sig .tc := ⟨.hbm, 135, rfl⟩
abbrev main_v84 : Ref sig .tc := ⟨.hbm, 136, rfl⟩
abbrev main_cst_31 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_32 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_33 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_34 : Ref sig .tc := ⟨.hbm, 149, rfl⟩
abbrev main_v94 : Ref sig .tc := ⟨.hbm, 150, rfl⟩
abbrev main_v95 : Ref sig .tc := ⟨.hbm, 151, rfl⟩
abbrev main_cst_35 : Ref sig .tc := ⟨.hbm, 152, rfl⟩
abbrev main_v96 : Ref sig .tc := ⟨.hbm, 153, rfl⟩
abbrev main_v97 : Ref sig .tc := ⟨.hbm, 154, rfl⟩
abbrev main_cst_36 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_37 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_38 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_39 : Ref sig .tc := ⟨.hbm, 167, rfl⟩
abbrev main_v107 : Ref sig .tc := ⟨.hbm, 168, rfl⟩
abbrev main_v108 : Ref sig .tc := ⟨.hbm, 169, rfl⟩
abbrev main_cst_40 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_41 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_42 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_43 : Ref sig .tc := ⟨.hbm, 182, rfl⟩
abbrev main_v118 : Ref sig .tc := ⟨.hbm, 183, rfl⟩
abbrev main_v119 : Ref sig .tc := ⟨.hbm, 184, rfl⟩

abbrev nD : Nat := 1
abbrev τ : Topo := Topo.v7x

variable {F : FTy → Type} [FloatOps F]
-- ==== Proof.KRuns.lean ====
/- What the windows of the region hold at a grid point, over any contents of the buffers at the entry of the region. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 19520

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the core's buffers hold when the region is entered. -/
abbrev EntryVals (F : FTy → Type) := (c : Dev nD) → (b : Ref sig .tc) → Buf (Elt F) ((c : Thread nD τ).loc b)

variable (V : EntryVals F)

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk V c 11 t) (t : Fin cfg0.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk V c 12 t) (t : Fin cfg0.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond0_0 (i : grid0.Coords) : Prop := k0_cond1 i = 1#1
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ 1 ≤ t.val % 4 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ 1 ≤ t.val % 4)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_17 : ∀ t : Fin cfg0.N, cfg0.idle 17 (grid0.coords t) = false := fun _ => rfl
theorem liveAt0_18 : ∀ t : Fin cfg0.N, cfg0.idle 18 (grid0.coords t) = false := fun _ => rfl
theorem liveAt0_19 : ∀ t : Fin cfg0.N, cfg0.idle 19 (grid0.coords t) = false := fun _ => rfl
def freshTab0_13 : ℕ → Bool
  | 0 => true
  | n + 1 => (0x88888888 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
theorem liveAt0_13_A : ∀ t : Fin cfg0.N, cond0_0 (grid0.coords t) → ¬cond0_1 (grid0.coords t) → cfg0.idle 13 (grid0.coords t) = false := by decide +kernel
theorem liveAt0_13_B : ∀ t : Fin cfg0.N, ¬cond0_0 (grid0.coords t) → cond0_1 (grid0.coords t) → cfg0.idle 13 (grid0.coords t) = false := by decide +kernel
theorem notFresh0_13_B : ∀ t : Fin cfg0.N, ¬cond0_0 (grid0.coords t) → cond0_1 (grid0.coords t) → cfg0.fresh 13 t.val = false := by
  intro t; rw [fresh0_13_eq t]; revert t; decide +kernel

/-! ## The kernel body on any staging memrefs: a subtype the run finds -/

abbrev VO0_13 : View sig .tc .vmem S2048x128 .f32 := (Memref.whole cc0_stg13_0 : Memref sig .tc .vmem S2048x128 .f32).view
abbrev VO0_14 : View sig .tc .vmem S1x128x128 .f32 := (Memref.whole cc0_stg14_0 : Memref sig .tc .vmem S1x128x128 .f32).view
abbrev VO0_15 : View sig .tc .vmem S1x128x128 .f32 := (Memref.whole cc0_stg15_0 : Memref sig .tc .vmem S1x128x128 .f32).view
abbrev VO0_16 : View sig .tc .vmem S1x1x128 .f32 := (Memref.whole cc0_stg16_0 : Memref sig .tc .vmem S1x1x128 .f32).view
abbrev VO0_17 : View sig .tc .vmem S1x1x128 .f32 := (Memref.whole cc0_stg17_0 : Memref sig .tc .vmem S1x1x128 .f32).view
abbrev VO0_18 : View sig .tc .vmem S1x128x128 .f32 := (Memref.whole cc0_stg18_0 : Memref sig .tc .vmem S1x128x128 .f32).view
abbrev VO0_19 : View sig .tc .vmem S1x128x128 .f32 := (Memref.whole cc0_stg19_0 : Memref sig .tc .vmem S1x128x128 .f32).view
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2048x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x128x128 .f32 := win0_19.stage (cfg0.slots t 19)
abbrev hs0_19 (t : Fin cfg0.N) : (ms0_19 t).IsWhole := hstage0_19 ((cfg0.slots t 19).cast nbuf0_19)
abbrev scM0_0 : Memref sig .tc .vmem S2048x128 .f32 := Memref.whole cc0_scratch0
abbrev scM0_1 : Memref sig .tc .vmem S2048x128 .f32 := Memref.whole cc0_scratch1
abbrev scM0_2 : Memref sig .tc .vmem S64x128 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl
end Cert.Proof.S5

end
-- ==== Proof.KRunA.lean ====
/- The run of the kernel body at the grid points of one kind (the first of a group of output features). -/
module

public import proofs.«01_k».proof.Proof.KRuns

@[expose] public section

set_option maxRecDepth 19520

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1464000 in
noncomputable def kernelRun0_A (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S2048x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x1x128 .f32) (harg18 : arg18.IsWhole) (arg19 : Memref sig .tc .vmem S1x1x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S64x128 .f32) (harg24 : arg24.IsWhole) (hc0 : cond0_0 i) (hc1 : ¬cond0_1 i)
    (x0 : Vec F S2048x128 .f32) (x1 : Vec F S2048x128 .f32) (x2 : Vec F S2048x128 .f32) (x3 : Vec F S1x2048x128 .f32) (x4 : Vec F S1x2048x128 .f32) (x5 : Vec F S1x2048x128 .f32) (x6 : Vec F S1x2048x128 .f32) (x7 : Vec F S1x128x128 .f32) (x8 : Vec F S1x128x128 .f32) (x9 : Vec F S1x128x128 .f32) (x10 : Vec F S1x128x128 .f32) (x11 : Vec F S1x1x128 .f32) (x12 : Vec F S1x1x128 .f32) :
    Σ' (L13 : List (View.Piece (Elt F) S2048x128 .f32)), Σ' (L14 : List (View.Piece (Elt F) S1x128x128 .f32)), Σ' (L15 : List (View.Piece (Elt F) S1x128x128 .f32)), Σ' (L16 : List (View.Piece (Elt F) S1x1x128 .f32)), Σ' (L17 : List (View.Piece (Elt F) S1x1x128 .f32)), Σ' (L18 : List (View.Piece (Elt F) S1x128x128 .f32)), { L19 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_s5_bwd0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0_s5_bwd0_eq_skeleton]; unfold cc0_s5_bwd0_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Proof.S5

end
-- ==== Proof.KRunB.lean ====
/- The run of the kernel body at the grid points of one kind (the later ones of a group). -/
module

public import proofs.«01_k».proof.Proof.KRunA

@[expose] public section

set_option maxRecDepth 19520

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1464000 in
noncomputable def kernelRun0_B (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S2048x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x1x128 .f32) (harg18 : arg18.IsWhole) (arg19 : Memref sig .tc .vmem S1x1x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S64x128 .f32) (harg24 : arg24.IsWhole) (hc0 : ¬cond0_0 i) (hc1 : cond0_1 i)
    (x0 : Vec F S2048x128 .f32) (x1 : Vec F S2048x128 .f32) (x2 : Vec F S2048x128 .f32) (x3 : Vec F S1x2048x128 .f32) (x4 : Vec F S1x2048x128 .f32) (x5 : Vec F S1x2048x128 .f32) (x6 : Vec F S1x2048x128 .f32) (x7 : Vec F S1x128x128 .f32) (x8 : Vec F S1x128x128 .f32) (x9 : Vec F S1x128x128 .f32) (x10 : Vec F S1x128x128 .f32) (x11 : Vec F S1x1x128 .f32) (x12 : Vec F S1x1x128 .f32) (xo13 : Vec F S2048x128 .f32) :
    Σ' (L13 : List (View.Piece (Elt F) S2048x128 .f32)), Σ' (L14 : List (View.Piece (Elt F) S1x128x128 .f32)), Σ' (L15 : List (View.Piece (Elt F) S1x128x128 .f32)), Σ' (L16 : List (View.Piece (Elt F) S1x1x128 .f32)), Σ' (L17 : List (View.Piece (Elt F) S1x1x128 .f32)), Σ' (L18 : List (View.Piece (Elt F) S1x128x128 .f32)), { L19 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_s5_bwd0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0_s5_bwd0_eq_skeleton]; unfold cc0_s5_bwd0_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Proof.S5

end
-- ==== Proof.KOuts.lean ====
/- What the body of the region leaves in the outputs at each grid point. -/
module

public import proofs.«01_k».proof.Proof.KRunB
public import Idealize.ShloMosaic.Lib.Claim

@[expose] public section

set_option maxRecDepth 19520

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : EntryVals F)

/-- The run of the body at a grid point where the group of output features begins. -/
def runA (c : Dev nD) (t : Fin cfg0.N) (h0 : t.val % 4 = 0) (h1 : ¬1 ≤ t.val % 4) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)

/-- The run of the body at a later point of the group, over what the point before left in the first output. -/
def runB (c : Dev nD) (t : Fin cfg0.N) (h0 : ¬t.val % 4 = 0) (h1 : 1 ≤ t.val % 4) (x : Vec F S2048x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) x

theorem coverA_13 (c : Dev nD) (t : Fin cfg0.N) (h0 : t.val % 4 = 0) (h1 : ¬1 ≤ t.val % 4) (y : S2048x128.Idx) :
    ∃ pc ∈ (runA V c t h0 h1).1, y ∈ pc.1.set :=
  View.cover_of_tiledL (runA V c t h0 h1).1 S2048x128.size (by sl_kernel_rfl) y
def outA_13 (c : Dev nD) (t : Fin cfg0.N) (h0 : t.val % 4 = 0) (h1 : ¬1 ≤ t.val % 4) : Vec F S2048x128 .f32 :=
  VO0_13.read (Elt F) (VO0_13.writes (Elt F) VO0_13.junk (runA V c t h0 h1).1)
theorem coverA_14 (c : Dev nD) (t : Fin cfg0.N) (h0 : t.val % 4 = 0) (h1 : ¬1 ≤ t.val % 4) (y : S1x128x128.Idx) :
    ∃ pc ∈ (runA V c t h0 h1).2.1, y ∈ pc.1.set :=
  View.cover_of_tiledL (runA V c t h0 h1).2.1 S1x128x128.size (by sl_kernel_rfl) y
def outA_14 (c : Dev nD) (t : Fin cfg0.N) (h0 : t.val % 4 = 0) (h1 : ¬1 ≤ t.val % 4) : Vec F S1x128x128 .f32 :=
  VO0_14.read (Elt F) (VO0_14.writes (Elt F) VO0_14.junk (runA V c t h0 h1).2.1)
theorem coverA_15 (c : Dev nD) (t : Fin cfg0.N) (h0 : t.val % 4 = 0) (h1 : ¬1 ≤ t.val % 4) (y : S1x128x128.Idx) :
    ∃ pc ∈ (runA V c t h0 h1).2.2.1, y ∈ pc.1.set :=
  View.cover_of_tiledL (runA V c t h0 h1).2.2.1 S1x128x128.size (by sl_kernel_rfl) y
def outA_15 (c : Dev nD) (t : Fin cfg0.N) (h0 : t.val % 4 = 0) (h1 : ¬1 ≤ t.val % 4) : Vec F S1x128x128 .f32 :=
  VO0_15.read (Elt F) (VO0_15.writes (Elt F) VO0_15.junk (runA V c t h0 h1).2.2.1)
theorem coverA_16 (c : Dev nD) (t : Fin cfg0.N) (h0 : t.val % 4 = 0) (h1 : ¬1 ≤ t.val % 4) (y : S1x1x128.Idx) :
    ∃ pc ∈ (runA V c t h0 h1).2.2.2.1, y ∈ pc.1.set :=
  View.cover_of_tiledL (runA V c t h0 h1).2.2.2.1 S1x1x128.size (by sl_kernel_rfl) y
def outA_16 (c : Dev nD) (t : Fin cfg0.N) (h0 : t.val % 4 = 0) (h1 : ¬1 ≤ t.val % 4) : Vec F S1x1x128 .f32 :=
  VO0_16.read (Elt F) (VO0_16.writes (Elt F) VO0_16.junk (runA V c t h0 h1).2.2.2.1)
theorem coverA_17 (c : Dev nD) (t : Fin cfg0.N) (h0 : t.val % 4 = 0) (h1 : ¬1 ≤ t.val % 4) (y : S1x1x128.Idx) :
    ∃ pc ∈ (runA V c t h0 h1).2.2.2.2.1, y ∈ pc.1.set :=
  View.cover_of_tiledL (runA V c t h0 h1).2.2.2.2.1 S1x1x128.size (by sl_kernel_rfl) y
def outA_17 (c : Dev nD) (t : Fin cfg0.N) (h0 : t.val % 4 = 0) (h1 : ¬1 ≤ t.val % 4) : Vec F S1x1x128 .f32 :=
  VO0_17.read (Elt F) (VO0_17.writes (Elt F) VO0_17.junk (runA V c t h0 h1).2.2.2.2.1)
theorem coverA_18 (c : Dev nD) (t : Fin cfg0.N) (h0 : t.val % 4 = 0) (h1 : ¬1 ≤ t.val % 4) (y : S1x128x128.Idx) :
    ∃ pc ∈ (runA V c t h0 h1).2.2.2.2.2.1, y ∈ pc.1.set :=
  View.cover_of_tiledL (runA V c t h0 h1).2.2.2.2.2.1 S1x128x128.size (by sl_kernel_rfl) y
def outA_18 (c : Dev nD) (t : Fin cfg0.N) (h0 : t.val % 4 = 0) (h1 : ¬1 ≤ t.val % 4) : Vec F S1x128x128 .f32 :=
  VO0_18.read (Elt F) (VO0_18.writes (Elt F) VO0_18.junk (runA V c t h0 h1).2.2.2.2.2.1)
theorem coverA_19 (c : Dev nD) (t : Fin cfg0.N) (h0 : t.val % 4 = 0) (h1 : ¬1 ≤ t.val % 4) (y : S1x128x128.Idx) :
    ∃ pc ∈ (runA V c t h0 h1).2.2.2.2.2.2.1, y ∈ pc.1.set :=
  View.cover_of_tiledL (runA V c t h0 h1).2.2.2.2.2.2.1 S1x128x128.size (by sl_kernel_rfl) y
def outA_19 (c : Dev nD) (t : Fin cfg0.N) (h0 : t.val % 4 = 0) (h1 : ¬1 ≤ t.val % 4) : Vec F S1x128x128 .f32 :=
  VO0_19.read (Elt F) (VO0_19.writes (Elt F) VO0_19.junk (runA V c t h0 h1).2.2.2.2.2.2.1)
theorem coverB_13 (c : Dev nD) (t : Fin cfg0.N) (h0 : ¬t.val % 4 = 0) (h1 : 1 ≤ t.val % 4) (x : Vec F S2048x128 .f32) (y : S2048x128.Idx) :
    ∃ pc ∈ (runB V c t h0 h1 x).1, y ∈ pc.1.set :=
  View.cover_of_tiledL (runB V c t h0 h1 x).1 S2048x128.size (by sl_kernel_rfl) y
def outB_13 (c : Dev nD) (t : Fin cfg0.N) (h0 : ¬t.val % 4 = 0) (h1 : 1 ≤ t.val % 4) (x : Vec F S2048x128 .f32) : Vec F S2048x128 .f32 :=
  VO0_13.read (Elt F) (VO0_13.writes (Elt F) VO0_13.junk (runB V c t h0 h1 x).1)
theorem coverB_14 (c : Dev nD) (t : Fin cfg0.N) (h0 : ¬t.val % 4 = 0) (h1 : 1 ≤ t.val % 4) (x : Vec F S2048x128 .f32) (y : S1x128x128.Idx) :
    ∃ pc ∈ (runB V c t h0 h1 x).2.1, y ∈ pc.1.set :=
  View.cover_of_tiledL (runB V c t h0 h1 x).2.1 S1x128x128.size (by sl_kernel_rfl) y
def outB_14 (c : Dev nD) (t : Fin cfg0.N) (h0 : ¬t.val % 4 = 0) (h1 : 1 ≤ t.val % 4) (x : Vec F S2048x128 .f32) : Vec F S1x128x128 .f32 :=
  VO0_14.read (Elt F) (VO0_14.writes (Elt F) VO0_14.junk (runB V c t h0 h1 x).2.1)
theorem coverB_15 (c : Dev nD) (t : Fin cfg0.N) (h0 : ¬t.val % 4 = 0) (h1 : 1 ≤ t.val % 4) (x : Vec F S2048x128 .f32) (y : S1x128x128.Idx) :
    ∃ pc ∈ (runB V c t h0 h1 x).2.2.1, y ∈ pc.1.set :=
  View.cover_of_tiledL (runB V c t h0 h1 x).2.2.1 S1x128x128.size (by sl_kernel_rfl) y
def outB_15 (c : Dev nD) (t : Fin cfg0.N) (h0 : ¬t.val % 4 = 0) (h1 : 1 ≤ t.val % 4) (x : Vec F S2048x128 .f32) : Vec F S1x128x128 .f32 :=
  VO0_15.read (Elt F) (VO0_15.writes (Elt F) VO0_15.junk (runB V c t h0 h1 x).2.2.1)
theorem coverB_16 (c : Dev nD) (t : Fin cfg0.N) (h0 : ¬t.val % 4 = 0) (h1 : 1 ≤ t.val % 4) (x : Vec F S2048x128 .f32) (y : S1x1x128.Idx) :
    ∃ pc ∈ (runB V c t h0 h1 x).2.2.2.1, y ∈ pc.1.set :=
  View.cover_of_tiledL (runB V c t h0 h1 x).2.2.2.1 S1x1x128.size (by sl_kernel_rfl) y
def outB_16 (c : Dev nD) (t : Fin cfg0.N) (h0 : ¬t.val % 4 = 0) (h1 : 1 ≤ t.val % 4) (x : Vec F S2048x128 .f32) : Vec F S1x1x128 .f32 :=
  VO0_16.read (Elt F) (VO0_16.writes (Elt F) VO0_16.junk (runB V c t h0 h1 x).2.2.2.1)
theorem coverB_17 (c : Dev nD) (t : Fin cfg0.N) (h0 : ¬t.val % 4 = 0) (h1 : 1 ≤ t.val % 4) (x : Vec F S2048x128 .f32) (y : S1x1x128.Idx) :
    ∃ pc ∈ (runB V c t h0 h1 x).2.2.2.2.1, y ∈ pc.1.set :=
  View.cover_of_tiledL (runB V c t h0 h1 x).2.2.2.2.1 S1x1x128.size (by sl_kernel_rfl) y
def outB_17 (c : Dev nD) (t : Fin cfg0.N) (h0 : ¬t.val % 4 = 0) (h1 : 1 ≤ t.val % 4) (x : Vec F S2048x128 .f32) : Vec F S1x1x128 .f32 :=
  VO0_17.read (Elt F) (VO0_17.writes (Elt F) VO0_17.junk (runB V c t h0 h1 x).2.2.2.2.1)
theorem coverB_18 (c : Dev nD) (t : Fin cfg0.N) (h0 : ¬t.val % 4 = 0) (h1 : 1 ≤ t.val % 4) (x : Vec F S2048x128 .f32) (y : S1x128x128.Idx) :
    ∃ pc ∈ (runB V c t h0 h1 x).2.2.2.2.2.1, y ∈ pc.1.set :=
  View.cover_of_tiledL (runB V c t h0 h1 x).2.2.2.2.2.1 S1x128x128.size (by sl_kernel_rfl) y
def outB_18 (c : Dev nD) (t : Fin cfg0.N) (h0 : ¬t.val % 4 = 0) (h1 : 1 ≤ t.val % 4) (x : Vec F S2048x128 .f32) : Vec F S1x128x128 .f32 :=
  VO0_18.read (Elt F) (VO0_18.writes (Elt F) VO0_18.junk (runB V c t h0 h1 x).2.2.2.2.2.1)
theorem coverB_19 (c : Dev nD) (t : Fin cfg0.N) (h0 : ¬t.val % 4 = 0) (h1 : 1 ≤ t.val % 4) (x : Vec F S2048x128 .f32) (y : S1x128x128.Idx) :
    ∃ pc ∈ (runB V c t h0 h1 x).2.2.2.2.2.2.1, y ∈ pc.1.set :=
  View.cover_of_tiledL (runB V c t h0 h1 x).2.2.2.2.2.2.1 S1x128x128.size (by sl_kernel_rfl) y
def outB_19 (c : Dev nD) (t : Fin cfg0.N) (h0 : ¬t.val % 4 = 0) (h1 : 1 ≤ t.val % 4) (x : Vec F S2048x128 .f32) : Vec F S1x128x128 .f32 :=
  VO0_19.read (Elt F) (VO0_19.writes (Elt F) VO0_19.junk (runB V c t h0 h1 x).2.2.2.2.2.2.1)

/-- What the point leaves in the outputs, over what the point before left in the first. -/
def stepAt (c : Dev nD) (t : Fin cfg0.N) (x : Vec F S2048x128 .f32) : Vec F S2048x128 .f32 × Vec F S1x128x128 .f32 × Vec F S1x128x128 .f32 × Vec F S1x1x128 .f32 × Vec F S1x1x128 .f32 × Vec F S1x128x128 .f32 × Vec F S1x128x128 .f32 :=
  if h0 : t.val % 4 = 0 then
    (outA_13 V c t h0 (by omega), outA_14 V c t h0 (by omega), outA_15 V c t h0 (by omega), outA_16 V c t h0 (by omega), outA_17 V c t h0 (by omega), outA_18 V c t h0 (by omega), outA_19 V c t h0 (by omega))
  else
    (outB_13 V c t h0 (by omega) x, outB_14 V c t h0 (by omega) x, outB_15 V c t h0 (by omega) x, outB_16 V c t h0 (by omega) x, outB_17 V c t h0 (by omega) x, outB_18 V c t h0 (by omega) x, outB_19 V c t h0 (by omega) x)

/-- What the outputs' buffers hold after each grid point. -/
def outsAt0 (c : Dev nD) : (n : ℕ) → n < cfg0.N → Vec F S2048x128 .f32 × Vec F S1x128x128 .f32 × Vec F S1x128x128 .f32 × Vec F S1x1x128 .f32 × Vec F S1x1x128 .f32 × Vec F S1x128x128 .f32 × Vec F S1x128x128 .f32
  | 0, hn => stepAt V c ⟨0, hn⟩ (VO0_13.read (Elt F) VO0_13.junk)
  | n + 1, hn => stepAt V c ⟨n + 1, hn⟩ (outsAt0 c n (Nat.lt_of_succ_lt hn)).1

theorem outsAt0_A (c : Dev nD) (t : Fin cfg0.N) (h0 : t.val % 4 = 0) (h1 : ¬1 ≤ t.val % 4) :
    outsAt0 V c t.val t.isLt = (outA_13 V c t h0 h1, outA_14 V c t h0 h1, outA_15 V c t h0 h1, outA_16 V c t h0 h1, outA_17 V c t h0 h1, outA_18 V c t h0 h1, outA_19 V c t h0 h1) := by
  obtain ⟨n, hn⟩ := t
  cases n with
  | zero => unfold outsAt0 stepAt; exact dif_pos h0
  | succ n => unfold outsAt0 stepAt; exact dif_pos h0

theorem outsAt0_B (c : Dev nD) (t : Fin cfg0.N) (h0 : ¬t.val % 4 = 0) (h1 : 1 ≤ t.val % 4) (x)
    (hx : x = (outsAt0 V c (t.val - 1) (Nat.lt_of_le_of_lt (Nat.sub_le _ _) t.isLt)).1) :
    outsAt0 V c t.val t.isLt = (outB_13 V c t h0 h1 x, outB_14 V c t h0 h1 x, outB_15 V c t h0 h1 x, outB_16 V c t h0 h1 x, outB_17 V c t h0 h1 x, outB_18 V c t h0 h1 x, outB_19 V c t h0 h1 x) := by
  subst hx
  obtain ⟨n, hn⟩ := t
  cases n with
  | zero => exact absurd rfl h0
  | succ n => rw [show outsAt0 V c (n + 1) hn = stepAt V c ⟨n + 1, hn⟩ (outsAt0 V c n (Nat.lt_of_succ_lt hn)).1 from by rw [outsAt0]]; unfold stepAt; exact dif_neg h0

end Cert.Proof.S5

end
-- ==== Proof.KRegion.lean ====
/- The proof data of the region and its body obligation, over any contents of the buffers at the entry of the region. -/
module

public import proofs.«01_k».proof.Proof.KOuts
public import Idealize.ShloMosaic.Lib.Claim

@[expose] public section

set_option maxRecDepth 19520

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : EntryVals F)

def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => (outsAt0 V c t.val t.isLt).1
    | ⟨14, _⟩ => (outsAt0 V c t.val t.isLt).2.1
    | ⟨15, _⟩ => (outsAt0 V c t.val t.isLt).2.2.1
    | ⟨16, _⟩ => (outsAt0 V c t.val t.isLt).2.2.2.1
    | ⟨17, _⟩ => (outsAt0 V c t.val t.isLt).2.2.2.2.1
    | ⟨18, _⟩ => (outsAt0 V c t.val t.isLt).2.2.2.2.2.1
    | ⟨19, _⟩ => (outsAt0 V c t.val t.isLt).2.2.2.2.2.2
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats V 0 c).A w = V c (Pipeline.arrRef spec0 w) := by
  dsimp only [dats]

theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = iblk V c 3 t := by dsimp only [dats]
theorem after0_4 (c : Dev nD) (t : Fin cfg0.N) : (dats V 0 c).after 4 t = iblk V c 4 t := by dsimp only [dats]
theorem after0_5 (c : Dev nD) (t : Fin cfg0.N) : (dats V 0 c).after 5 t = iblk V c 5 t := by dsimp only [dats]
theorem after0_6 (c : Dev nD) (t : Fin cfg0.N) : (dats V 0 c).after 6 t = iblk V c 6 t := by dsimp only [dats]
theorem after0_7 (c : Dev nD) (t : Fin cfg0.N) : (dats V 0 c).after 7 t = iblk V c 7 t := by dsimp only [dats]
theorem after0_8 (c : Dev nD) (t : Fin cfg0.N) : (dats V 0 c).after 8 t = iblk V c 8 t := by dsimp only [dats]
theorem after0_9 (c : Dev nD) (t : Fin cfg0.N) : (dats V 0 c).after 9 t = iblk V c 9 t := by dsimp only [dats]
theorem after0_10 (c : Dev nD) (t : Fin cfg0.N) : (dats V 0 c).after 10 t = iblk V c 10 t := by dsimp only [dats]
theorem after0_11 (c : Dev nD) (t : Fin cfg0.N) : (dats V 0 c).after 11 t = iblk V c 11 t := by dsimp only [dats]
theorem after0_12 (c : Dev nD) (t : Fin cfg0.N) : (dats V 0 c).after 12 t = iblk V c 12 t := by dsimp only [dats]
theorem after0_13 (c : Dev nD) (t : Fin cfg0.N) : (dats V 0 c).after 13 t = (outsAt0 V c t.val t.isLt).1 := by dsimp only [dats]
theorem after0_14 (c : Dev nD) (t : Fin cfg0.N) : (dats V 0 c).after 14 t = (outsAt0 V c t.val t.isLt).2.1 := by dsimp only [dats]
theorem after0_15 (c : Dev nD) (t : Fin cfg0.N) : (dats V 0 c).after 15 t = (outsAt0 V c t.val t.isLt).2.2.1 := by dsimp only [dats]
theorem after0_16 (c : Dev nD) (t : Fin cfg0.N) : (dats V 0 c).after 16 t = (outsAt0 V c t.val t.isLt).2.2.2.1 := by dsimp only [dats]
theorem after0_17 (c : Dev nD) (t : Fin cfg0.N) : (dats V 0 c).after 17 t = (outsAt0 V c t.val t.isLt).2.2.2.2.1 := by dsimp only [dats]
theorem after0_18 (c : Dev nD) (t : Fin cfg0.N) : (dats V 0 c).after 18 t = (outsAt0 V c t.val t.isLt).2.2.2.2.2.1 := by dsimp only [dats]
theorem after0_19 (c : Dev nD) (t : Fin cfg0.N) : (dats V 0 c).after 19 t = (outsAt0 V c t.val t.isLt).2.2.2.2.2.2 := by dsimp only [dats]

theorem before0_0 (c : Dev nD) (t : Fin cfg0.N) (d) : (dats V 0 c).before 0 t d = iblk V c 0 t :=
  before0_0_of V (dats V 0 c) (A_eq V c 0) (after0_0 V c) t d
theorem before0_1 (c : Dev nD) (t : Fin cfg0.N) (d) : (dats V 0 c).before 1 t d = iblk V c 1 t :=
  before0_1_of V (dats V 0 c) (A_eq V c 1) (after0_1 V c) t d
theorem before0_2 (c : Dev nD) (t : Fin cfg0.N) (d) : (dats V 0 c).before 2 t d = iblk V c 2 t :=
  before0_2_of V (dats V 0 c) (A_eq V c 2) (after0_2 V c) t d
theorem before0_3 (c : Dev nD) (t : Fin cfg0.N) (d) : (dats V 0 c).before 3 t d = iblk V c 3 t :=
  before0_3_of V (dats V 0 c) (A_eq V c 3) (after0_3 V c) t d
theorem before0_4 (c : Dev nD) (t : Fin cfg0.N) (d) : (dats V 0 c).before 4 t d = iblk V c 4 t :=
  before0_4_of V (dats V 0 c) (A_eq V c 4) (after0_4 V c) t d
theorem before0_5 (c : Dev nD) (t : Fin cfg0.N) (d) : (dats V 0 c).before 5 t d = iblk V c 5 t :=
  before0_5_of V (dats V 0 c) (A_eq V c 5) (after0_5 V c) t d
theorem before0_6 (c : Dev nD) (t : Fin cfg0.N) (d) : (dats V 0 c).before 6 t d = iblk V c 6 t :=
  before0_6_of V (dats V 0 c) (A_eq V c 6) (after0_6 V c) t d
theorem before0_7 (c : Dev nD) (t : Fin cfg0.N) (d) : (dats V 0 c).before 7 t d = iblk V c 7 t :=
  before0_7_of V (dats V 0 c) (A_eq V c 7) (after0_7 V c) t d
theorem before0_8 (c : Dev nD) (t : Fin cfg0.N) (d) : (dats V 0 c).before 8 t d = iblk V c 8 t :=
  before0_8_of V (dats V 0 c) (A_eq V c 8) (after0_8 V c) t d
theorem before0_9 (c : Dev nD) (t : Fin cfg0.N) (d) : (dats V 0 c).before 9 t d = iblk V c 9 t :=
  before0_9_of V (dats V 0 c) (A_eq V c 9) (after0_9 V c) t d
theorem before0_10 (c : Dev nD) (t : Fin cfg0.N) (d) : (dats V 0 c).before 10 t d = iblk V c 10 t :=
  before0_10_of V (dats V 0 c) (A_eq V c 10) (after0_10 V c) t d
theorem before0_11 (c : Dev nD) (t : Fin cfg0.N) (d) : (dats V 0 c).before 11 t d = iblk V c 11 t :=
  before0_11_of V (dats V 0 c) (A_eq V c 11) (after0_11 V c) t d
theorem before0_12 (c : Dev nD) (t : Fin cfg0.N) (d) : (dats V 0 c).before 12 t d = iblk V c 12 t :=
  before0_12_of V (dats V 0 c) (A_eq V c 12) (after0_12 V c) t d

theorem hcarry0_13 (c : Dev nD) : ∀ (t : Fin cfg0.N) (_ : t.val ≠ 0), cfg0.idle 13 (grid0.coords t) = true → cfg0.fresh 13 t.val = false →
    (dats V 0 c).after 13 t = (dats V 0 c).after 13 ⟨t.val - 1, by omega⟩ := by
  intro t _ hi _
  have hN : t.val < 32 := lt_of_lt_of_eq t.isLt (show cfg0.N = 32 from N_0)
  rw [after0_13, after0_13]
  by_cases h0 : t.val % 4 = 0
  · by_cases h1 : 1 ≤ t.val % 4
    · exfalso; omega
    · rw [liveAt0_13_A t ((hcond0_0 t).mpr h0) (fun h => h1 ((hcond0_1 t).mp h))] at hi
      exact absurd hi Bool.false_ne_true
  · by_cases h1 : 1 ≤ t.val % 4
    · rw [liveAt0_13_B t (fun h => h0 ((hcond0_0 t).mp h)) ((hcond0_1 t).mpr h1)] at hi
      exact absurd hi Bool.false_ne_true
    · exfalso; omega
theorem before0_13_B (c : Dev nD) (t : Fin cfg0.N) (h0 : ¬t.val % 4 = 0) (h1 : 1 ≤ t.val % 4) (d) :
    (dats V 0 c).before 13 t d = (outsAt0 V c (t.val - 1) (Nat.lt_of_le_of_lt (Nat.sub_le _ _) t.isLt)).1 := by
  rw [Dat.before_out_traj _ 13 rfl (fun _ _ => rfl) (hcarry0_13 V c) t.val t rfl d,
    if_neg (by rw [notFresh0_13_B t (fun h => h0 ((hcond0_0 t).mp h)) ((hcond0_1 t).mpr h1)]; exact Bool.false_ne_true)]
  dsimp only [dats]

/-! ## The body obligation, at a generic point -/

def bodyPre (c : Dev nD) (t : Fin cfg0.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d))
    ∗ (∃ d, owns (c : Thread nD τ) (ms0_5 t) fullShare ((dats V 0 c).before 5 t d))
    ∗ (∃ d, owns (c : Thread nD τ) (ms0_6 t) fullShare ((dats V 0 c).before 6 t d))
    ∗ (∃ d, owns (c : Thread nD τ) (ms0_7 t) fullShare ((dats V 0 c).before 7 t d))
    ∗ (∃ d, owns (c : Thread nD τ) (ms0_8 t) fullShare ((dats V 0 c).before 8 t d))
    ∗ (∃ d, owns (c : Thread nD τ) (ms0_9 t) fullShare ((dats V 0 c).before 9 t d))
    ∗ (∃ d, owns (c : Thread nD τ) (ms0_10 t) fullShare ((dats V 0 c).before 10 t d))
    ∗ (∃ d, owns (c : Thread nD τ) (ms0_11 t) fullShare ((dats V 0 c).before 11 t d))
    ∗ (∃ d, owns (c : Thread nD τ) (ms0_12 t) fullShare ((dats V 0 c).before 12 t d))
    ∗ (∃ d, owns (c : Thread nD τ) (ms0_13 t) fullShare ((dats V 0 c).before 13 t d))
    ∗ (∃ d, owns (c : Thread nD τ) (ms0_14 t) fullShare ((dats V 0 c).before 14 t d))
    ∗ (∃ d, owns (c : Thread nD τ) (ms0_15 t) fullShare ((dats V 0 c).before 15 t d))
    ∗ (∃ d, owns (c : Thread nD τ) (ms0_16 t) fullShare ((dats V 0 c).before 16 t d))
    ∗ (∃ d, owns (c : Thread nD τ) (ms0_17 t) fullShare ((dats V 0 c).before 17 t d))
    ∗ (∃ d, owns (c : Thread nD τ) (ms0_18 t) fullShare ((dats V 0 c).before 18 t d))
    ∗ (∃ d, owns (c : Thread nD τ) (ms0_19 t) fullShare ((dats V 0 c).before 19 t d)))

def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t
    ∗ (dats V 0 c).leavesExact 6 t
    ∗ (dats V 0 c).leavesExact 7 t
    ∗ (dats V 0 c).leavesExact 8 t
    ∗ (dats V 0 c).leavesExact 9 t
    ∗ (dats V 0 c).leavesExact 10 t
    ∗ (dats V 0 c).leavesExact 11 t
    ∗ (dats V 0 c).leavesExact 12 t
    ∗ (dats V 0 c).leavesExact 13 t
    ∗ (dats V 0 c).leavesExact 14 t
    ∗ (dats V 0 c).leavesExact 15 t
    ∗ (dats V 0 c).leavesExact 16 t
    ∗ (dats V 0 c).leavesExact 17 t
    ∗ (dats V 0 c).leavesExact 18 t
    ∗ (dats V 0 c).leavesExact 19 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7, before0_8, before0_9, before0_10, before0_11, before0_12]
  rw [show (dats V 0 c).Φ t.succ = (dats V 0 c).Φ t.castSucc from rfl,
    show (dats V 0 c).owesAt () t.succ = (dats V 0 c).owesAt () t.castSucc from rfl]
  rw [show (dats V 0 c).Φ t.castSucc = Pipeline.ΦA spec0 c from rfl, PhiA0_eq]
  have hN : t.val < 32 := lt_of_lt_of_eq t.isLt (show cfg0.N = 32 from N_0)
  by_cases h0 : t.val % 4 = 0
  · by_cases h1 : 1 ≤ t.val % 4
    · exfalso; omega
    · rw [show (dats V 0 c).leavesExact 0 t = owns (c : Thread nD τ) (ms0_0 t) fullShare ((dats V 0 c).after 0 t) from by
      unfold Dat.leavesExact; rw [liveAt0_0 t], after0_0]
      rw [show (dats V 0 c).leavesExact 1 t = owns (c : Thread nD τ) (ms0_1 t) fullShare ((dats V 0 c).after 1 t) from by
      unfold Dat.leavesExact; rw [liveAt0_1 t], after0_1]
      rw [show (dats V 0 c).leavesExact 2 t = owns (c : Thread nD τ) (ms0_2 t) fullShare ((dats V 0 c).after 2 t) from by
      unfold Dat.leavesExact; rw [liveAt0_2 t], after0_2]
      rw [show (dats V 0 c).leavesExact 3 t = owns (c : Thread nD τ) (ms0_3 t) fullShare ((dats V 0 c).after 3 t) from by
      unfold Dat.leavesExact; rw [liveAt0_3 t], after0_3]
      rw [show (dats V 0 c).leavesExact 4 t = owns (c : Thread nD τ) (ms0_4 t) fullShare ((dats V 0 c).after 4 t) from by
      unfold Dat.leavesExact; rw [liveAt0_4 t], after0_4]
      rw [show (dats V 0 c).leavesExact 5 t = owns (c : Thread nD τ) (ms0_5 t) fullShare ((dats V 0 c).after 5 t) from by
      unfold Dat.leavesExact; rw [liveAt0_5 t], after0_5]
      rw [show (dats V 0 c).leavesExact 6 t = owns (c : Thread nD τ) (ms0_6 t) fullShare ((dats V 0 c).after 6 t) from by
      unfold Dat.leavesExact; rw [liveAt0_6 t], after0_6]
      rw [show (dats V 0 c).leavesExact 7 t = owns (c : Thread nD τ) (ms0_7 t) fullShare ((dats V 0 c).after 7 t) from by
      unfold Dat.leavesExact; rw [liveAt0_7 t], after0_7]
      rw [show (dats V 0 c).leavesExact 8 t = owns (c : Thread nD τ) (ms0_8 t) fullShare ((dats V 0 c).after 8 t) from by
      unfold Dat.leavesExact; rw [liveAt0_8 t], after0_8]
      rw [show (dats V 0 c).leavesExact 9 t = owns (c : Thread nD τ) (ms0_9 t) fullShare ((dats V 0 c).after 9 t) from by
      unfold Dat.leavesExact; rw [liveAt0_9 t], after0_9]
      rw [show (dats V 0 c).leavesExact 10 t = owns (c : Thread nD τ) (ms0_10 t) fullShare ((dats V 0 c).after 10 t) from by
      unfold Dat.leavesExact; rw [liveAt0_10 t], after0_10]
      rw [show (dats V 0 c).leavesExact 11 t = owns (c : Thread nD τ) (ms0_11 t) fullShare ((dats V 0 c).after 11 t) from by
      unfold Dat.leavesExact; rw [liveAt0_11 t], after0_11]
      rw [show (dats V 0 c).leavesExact 12 t = owns (c : Thread nD τ) (ms0_12 t) fullShare ((dats V 0 c).after 12 t) from by
      unfold Dat.leavesExact; rw [liveAt0_12 t], after0_12]
      rw [show (dats V 0 c).leavesExact 13 t = owns (c : Thread nD τ) (ms0_13 t) fullShare ((dats V 0 c).after 13 t) from by
      unfold Dat.leavesExact; rw [liveAt0_13_A t ((hcond0_0 t).mpr h0) (fun h => h1 ((hcond0_1 t).mp h))], after0_13]
      rw [show (dats V 0 c).leavesExact 14 t = owns (c : Thread nD τ) (ms0_14 t) fullShare ((dats V 0 c).after 14 t) from by
      unfold Dat.leavesExact; rw [liveAt0_14 t], after0_14]
      rw [show (dats V 0 c).leavesExact 15 t = owns (c : Thread nD τ) (ms0_15 t) fullShare ((dats V 0 c).after 15 t) from by
      unfold Dat.leavesExact; rw [liveAt0_15 t], after0_15]
      rw [show (dats V 0 c).leavesExact 16 t = owns (c : Thread nD τ) (ms0_16 t) fullShare ((dats V 0 c).after 16 t) from by
      unfold Dat.leavesExact; rw [liveAt0_16 t], after0_16]
      rw [show (dats V 0 c).leavesExact 17 t = owns (c : Thread nD τ) (ms0_17 t) fullShare ((dats V 0 c).after 17 t) from by
      unfold Dat.leavesExact; rw [liveAt0_17 t], after0_17]
      rw [show (dats V 0 c).leavesExact 18 t = owns (c : Thread nD τ) (ms0_18 t) fullShare ((dats V 0 c).after 18 t) from by
      unfold Dat.leavesExact; rw [liveAt0_18 t], after0_18]
      rw [show (dats V 0 c).leavesExact 19 t = owns (c : Thread nD τ) (ms0_19 t) fullShare ((dats V 0 c).after 19 t) from by
      unfold Dat.leavesExact; rw [liveAt0_19 t], after0_19]
      rw [outsAt0_A V c t h0 h1]
      unfold outA_13 outA_14 outA_15 outA_16 outA_17 outA_18 outA_19; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((runA V c t h0 h1).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA_13 V c t h0 h1)
      isplitl [H14]
      · unfold owns; iexists _; isplitr
        swap; · iexact H14
        ipureintro; exact View.read_writes_of_cover _ _ _ _ _ (coverA_14 V c t h0 h1)
      isplitl [H15]
      · unfold owns; iexists _; isplitr
        swap; · iexact H15
        ipureintro; exact View.read_writes_of_cover _ _ _ _ _ (coverA_15 V c t h0 h1)
      isplitl [H16]
      · unfold owns; iexists _; isplitr
        swap; · iexact H16
        ipureintro; exact View.read_writes_of_cover _ _ _ _ _ (coverA_16 V c t h0 h1)
      isplitl [H17]
      · unfold owns; iexists _; isplitr
        swap; · iexact H17
        ipureintro; exact View.read_writes_of_cover _ _ _ _ _ (coverA_17 V c t h0 h1)
      isplitl [H18]
      · unfold owns; iexists _; isplitr
        swap; · iexact H18
        ipureintro; exact View.read_writes_of_cover _ _ _ _ _ (coverA_18 V c t h0 h1)
      unfold owns; iexists _; isplitr
      swap; · iexact H19
      ipureintro; exact View.read_writes_of_cover _ _ _ _ _ (coverA_19 V c t h0 h1)
  · by_cases h1 : 1 ≤ t.val % 4
    · rw [show (dats V 0 c).leavesExact 0 t = owns (c : Thread nD τ) (ms0_0 t) fullShare ((dats V 0 c).after 0 t) from by
      unfold Dat.leavesExact; rw [liveAt0_0 t], after0_0]
      rw [show (dats V 0 c).leavesExact 1 t = owns (c : Thread nD τ) (ms0_1 t) fullShare ((dats V 0 c).after 1 t) from by
      unfold Dat.leavesExact; rw [liveAt0_1 t], after0_1]
      rw [show (dats V 0 c).leavesExact 2 t = owns (c : Thread nD τ) (ms0_2 t) fullShare ((dats V 0 c).after 2 t) from by
      unfold Dat.leavesExact; rw [liveAt0_2 t], after0_2]
      rw [show (dats V 0 c).leavesExact 3 t = owns (c : Thread nD τ) (ms0_3 t) fullShare ((dats V 0 c).after 3 t) from by
      unfold Dat.leavesExact; rw [liveAt0_3 t], after0_3]
      rw [show (dats V 0 c).leavesExact 4 t = owns (c : Thread nD τ) (ms0_4 t) fullShare ((dats V 0 c).after 4 t) from by
      unfold Dat.leavesExact; rw [liveAt0_4 t], after0_4]
      rw [show (dats V 0 c).leavesExact 5 t = owns (c : Thread nD τ) (ms0_5 t) fullShare ((dats V 0 c).after 5 t) from by
      unfold Dat.leavesExact; rw [liveAt0_5 t], after0_5]
      rw [show (dats V 0 c).leavesExact 6 t = owns (c : Thread nD τ) (ms0_6 t) fullShare ((dats V 0 c).after 6 t) from by
      unfold Dat.leavesExact; rw [liveAt0_6 t], after0_6]
      rw [show (dats V 0 c).leavesExact 7 t = owns (c : Thread nD τ) (ms0_7 t) fullShare ((dats V 0 c).after 7 t) from by
      unfold Dat.leavesExact; rw [liveAt0_7 t], after0_7]
      rw [show (dats V 0 c).leavesExact 8 t = owns (c : Thread nD τ) (ms0_8 t) fullShare ((dats V 0 c).after 8 t) from by
      unfold Dat.leavesExact; rw [liveAt0_8 t], after0_8]
      rw [show (dats V 0 c).leavesExact 9 t = owns (c : Thread nD τ) (ms0_9 t) fullShare ((dats V 0 c).after 9 t) from by
      unfold Dat.leavesExact; rw [liveAt0_9 t], after0_9]
      rw [show (dats V 0 c).leavesExact 10 t = owns (c : Thread nD τ) (ms0_10 t) fullShare ((dats V 0 c).after 10 t) from by
      unfold Dat.leavesExact; rw [liveAt0_10 t], after0_10]
      rw [show (dats V 0 c).leavesExact 11 t = owns (c : Thread nD τ) (ms0_11 t) fullShare ((dats V 0 c).after 11 t) from by
      unfold Dat.leavesExact; rw [liveAt0_11 t], after0_11]
      rw [show (dats V 0 c).leavesExact 12 t = owns (c : Thread nD τ) (ms0_12 t) fullShare ((dats V 0 c).after 12 t) from by
      unfold Dat.leavesExact; rw [liveAt0_12 t], after0_12]
      rw [show (dats V 0 c).leavesExact 13 t = owns (c : Thread nD τ) (ms0_13 t) fullShare ((dats V 0 c).after 13 t) from by
      unfold Dat.leavesExact; rw [liveAt0_13_B t (fun h => h0 ((hcond0_0 t).mp h)) ((hcond0_1 t).mpr h1)], after0_13]
      rw [show (dats V 0 c).leavesExact 14 t = owns (c : Thread nD τ) (ms0_14 t) fullShare ((dats V 0 c).after 14 t) from by
      unfold Dat.leavesExact; rw [liveAt0_14 t], after0_14]
      rw [show (dats V 0 c).leavesExact 15 t = owns (c : Thread nD τ) (ms0_15 t) fullShare ((dats V 0 c).after 15 t) from by
      unfold Dat.leavesExact; rw [liveAt0_15 t], after0_15]
      rw [show (dats V 0 c).leavesExact 16 t = owns (c : Thread nD τ) (ms0_16 t) fullShare ((dats V 0 c).after 16 t) from by
      unfold Dat.leavesExact; rw [liveAt0_16 t], after0_16]
      rw [show (dats V 0 c).leavesExact 17 t = owns (c : Thread nD τ) (ms0_17 t) fullShare ((dats V 0 c).after 17 t) from by
      unfold Dat.leavesExact; rw [liveAt0_17 t], after0_17]
      rw [show (dats V 0 c).leavesExact 18 t = owns (c : Thread nD τ) (ms0_18 t) fullShare ((dats V 0 c).after 18 t) from by
      unfold Dat.leavesExact; rw [liveAt0_18 t], after0_18]
      rw [show (dats V 0 c).leavesExact 19 t = owns (c : Thread nD τ) (ms0_19 t) fullShare ((dats V 0 c).after 19 t) from by
      unfold Dat.leavesExact; rw [liveAt0_19 t], after0_19]
      rw [outsAt0_B V c t h0 h1 _ rfl]
      simp only [before0_13_B V c t h0 h1]
      unfold outB_13 outB_14 outB_15 outB_16 outB_17 outB_18 outB_19; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((runB V c t h0 h1 _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverB_13 V c t h0 h1 _)
      isplitl [H14]
      · unfold owns; iexists _; isplitr
        swap; · iexact H14
        ipureintro; exact View.read_writes_of_cover _ _ _ _ _ (coverB_14 V c t h0 h1 _)
      isplitl [H15]
      · unfold owns; iexists _; isplitr
        swap; · iexact H15
        ipureintro; exact View.read_writes_of_cover _ _ _ _ _ (coverB_15 V c t h0 h1 _)
      isplitl [H16]
      · unfold owns; iexists _; isplitr
        swap; · iexact H16
        ipureintro; exact View.read_writes_of_cover _ _ _ _ _ (coverB_16 V c t h0 h1 _)
      isplitl [H17]
      · unfold owns; iexists _; isplitr
        swap; · iexact H17
        ipureintro; exact View.read_writes_of_cover _ _ _ _ _ (coverB_17 V c t h0 h1 _)
      isplitl [H18]
      · unfold owns; iexists _; isplitr
        swap; · iexact H18
        ipureintro; exact View.read_writes_of_cover _ _ _ _ _ (coverB_18 V c t h0 h1 _)
      unfold owns; iexists _; isplitr
      swap; · iexact H19
      ipureintro; exact View.read_writes_of_cover _ _ _ _ _ (coverB_19 V c t h0 h1 _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) V 0 c) (defs₀ (F := F)) Variants.none () Set.univ := fun t => by
  rw [bigSep_W0, bigSep_W0, defs₀_row]
  exact triple_restated (sound_body V c t) rfl .rfl fun _ => .rfl

end Cert.Proof.S5

end
-- ==== Proof.KLoop.lean ====
/- The loop over the sequence: its condition and its trips. -/
module

public import proofs.«01_k».proof.Proof.Gen.KernelIdeal.Launch
public import Idealize.ShloMosaic.Lib.StableHlo.RunLoop
public import Idealize.ShloMosaic.Lib.Scf.ExitTest
public import Idealize.ShloMosaic.Lib.StableHlo.RunRead
public import Idealize.ShloMosaic.Lib.Tactic

@[expose] public section

set_option maxRecDepth 19520

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo (after atTrip afterL held Plain LoopCond loopSeg)
open Idealize.ShloMosaic.Pipeline (CSeg RegionSeg ucRefs)

/-! ## The loop that runs the recurrence over the sequence -/

/-- The two operations of the loop's condition. -/
abbrev condOps : List (HloOp τ sig (Elt F)) :=
  [StableHlo.nullary main_while0c_c_27 (constantI S_ 32 2048#32),
   StableHlo.binary main_v8_4 main_while0c_c_27 main_while0c_v199 (cmpi .slt : (⟨S_, .i32⟩ : BufTy).Contents (Elt F) → (⟨S_, .i32⟩ : BufTy).Contents (Elt F) → (⟨S_, .i1⟩ : BufTy).Contents (Elt F))]

/-- The stretches of the loop's body. -/
abbrev bodyI : List (List (HloOp τ sig (Elt F))) :=
  [while0Ops0, while0Ops0_1, while0Ops0_2, while0Ops0_3, while0Ops0_4, while0Ops0_5]

theorem bodyI_plain : Plain (bodyI (F := F)) :=
  .cons while0Ops0_sub (.cons while0Ops0_1_sub (.cons while0Ops0_2_sub (.cons while0Ops0_3_sub (.cons while0Ops0_4_sub (.cons while0Ops0_5_sub .nil)))))

/-- A buffer a list of operations does not write keeps its contents. -/
theorem keeps (ops : List (HloOp τ sig (Elt F))) (V : Valuation τ sig (Elt F)) (b : DevRef τ sig) (h : ∀ op ∈ ops, b ∉ op.writes) : after ops V b = V b :=
  StableHlo.after_of_forall_not_mem ops V h

variable (W₀ : Dev nD → Valuation τ sig (Elt F))

theorem counter_body (V : Valuation τ sig (Elt F)) :
    afterL bodyI V main_v8_4 = (addi (V main_v8_4) (constantI S_ 32 1#32) : (⟨S_, .i32⟩ : BufTy).Contents (Elt F)) := by
  simp only [StableHlo.afterL_cons, StableHlo.afterL_nil]
  after_reads_simp
  rfl

theorem counter_cond (V : Valuation τ sig (Elt F)) : after condOps V main_v8_4 = V main_v8_4 := by
  after_reads_simp

/-- The counter at the head of trip `k`. -/
theorem counter_at (h0 : ∀ c, W₀ c main_v8_4 = fun _ => (0#32 : BitVec 32)) (c : Dev nD) :
    ∀ k, atTrip condOps bodyI W₀ k c main_v8_4 = fun _ => (Scf.iv 0#32 1#32 k : BitVec 32)
  | 0 => by rw [StableHlo.atTrip_zero, h0 c, Scf.iv_zero]
  | k + 1 => by
    rw [StableHlo.atTrip_succ, counter_body, counter_cond, counter_at h0 c k, Scf.iv_succ]
    rfl

theorem trips_eq : Scf.trips 0#32 2048#32 1#32 = 2048 := by decide

set_option backward.isDefEq.respectTransparency.types false in
/-- The condition holds exactly at the heads of the first 2048 trips. -/
theorem loop_cond (R : Dev nD → sProp 𝕄) (h0 : ∀ c, W₀ c main_v8_4 = fun _ => (0#32 : BitVec 32)) :
    LoopCond (pcfgs (F := F)) defs₀ Variants.none loops R main_while0_cond condOps bodyI W₀ 2048 := by
  intro k hk c bd
  have hctr := counter_at W₀ h0 c k
  unfold main_while0_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI W₀ k c) main_v8_4 HostLoop.idx0)
        (HloOp.result _ (atTrip condOps bodyI W₀ k c) main_while0c_c_27 HostLoop.idx0) = 1#1) (k < 2048)
    rw [StableHlo.nullary_result_ne _ _ _ _ (by decide), StableHlo.nullary_result, hctr]
    have hp := Scf.cmpi_slt_iv_ub_iff (lb := 0#32) (ub := 2048#32) (st := 1#32) main_while0_ok (k := k) (by rw [trips_eq]; exact hk)
    rw [trips_eq] at hp
    exact hp
  isplitl [Hb]; · iexact Hb
  isplitl [Hh]; · rw [StableHlo.after_cons, StableHlo.after_cons, StableHlo.after_nil]; iexact Hh
  iexact HR

end Cert.Proof.S5

end
-- ==== Proof.KRun.lean ====
/- The run of the whole program. -/
module

public import proofs.«01_k».proof.Proof.KRegion
public import proofs.«01_k».proof.Proof.KLoop
public import proofs.«01_k».proof.Proof.Gen.KernelIdeal.Regions
public import Idealize.ShloMosaic.Lib.Pipeline.RegionArraysS
public import Idealize.ShloMosaic.Lib.Pipeline.RegionsLoop

@[expose] public section

set_option maxRecDepth 19520

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo (after atTrip afterL held Plain LoopCond loopSeg)
open Idealize.ShloMosaic.Pipeline (CSeg RegionSeg ucRefs afterRegion)
open Cert.KernelIdeal.Gen.Cond (adm tkP tk hostOps0_fresh hostOps0_1_fresh hostOps0_2_fresh hostOps0_3_fresh hostOps0_4_fresh hostOps1_fresh regions_no_unscoped)

variable (m : (ℓ : Loc nD τ sig) → Buf (Elt F) ℓ) (ρ : Dev nD → PrngReg)

/-! ## What the buffers hold between the parts of the program -/

abbrev U0 (c : Dev nD) : Valuation τ sig (Elt F) := fun b => m (c, b)
abbrev U1 (c : Dev nD) : Valuation τ sig (Elt F) := after hostOps0 (U0 m c)
/-- After the loop over the sequence. -/
def U2 (c : Dev nD) : Valuation τ sig (Elt F) := after condOps (atTrip condOps bodyI (U1 m) 2048 c)
abbrev U3 (c : Dev nD) : Valuation τ sig (Elt F) := after hostOps0_1 (U2 m c)
abbrev U4 (c : Dev nD) : Valuation τ sig (Elt F) := after hostOps0_2 (U3 m c)
abbrev U5 (c : Dev nD) : Valuation τ sig (Elt F) := after hostOps0_3 (U4 m c)
/-- At the entry of the region. -/
def U6 (c : Dev nD) : Valuation τ sig (Elt F) := after hostOps0_4 (U5 m c)
abbrev Ve : EntryVals F := fun c b => U6 m c (Proc.devRef .tc b)
/-- The region's proof data. -/
def pd (_ : Fin 1) : (p : Fin 1) → (c : Dev nD) → Dat τ (Elt F) Unit ℕ (UR sig nD τ) ℕ (Pipeline.pin (pcfgs (F := F)) adm p) c
  | ⟨0, _⟩, c => dats (Ve m) 0 c
/-- After the region. -/
def U7 (c : Dev nD) : Valuation τ sig (Elt F) := afterRegion (dats (Ve m) 0 c) (U6 m c)
abbrev U8 (c : Dev nD) : Valuation τ sig (Elt F) := after hostOps1 (U7 m c)

/-- What rides along beside the buffers. -/
abbrev Rest (c : Dev nD) : sProp 𝕄 := iprop((∃ W, owes (c : Thread nD τ) (0 : CellTallies nD τ sig Unit) W) ∗ (∃ r, prngReg c r) ∗ emp)

abbrev EP : Fin 1 → Emb (URounds (GSem nD τ sig) Unit) 𝕄 := fun _ => emb₁
abbrev Ll : GSem nD τ sig → Finset Unit := fun g => if g.1.2 = .tc then {()} else ∅
abbrev lvl : GSem nD τ sig → Unit → ℕ := fun _ _ => 0

abbrev seg (ops : List (HloOp τ sig (Elt F))) (hs : ops.Forall fun op => op.bufs ⊆ StableHlo.tcRefs τ sig) (hf : ops.Forall fun op => op.fresh = ∅)
    (V : Dev nD → Valuation τ sig (Elt F)) : CSeg (Ix := Unit) (Name := ℕ) (U := UR sig nD τ) (Lvl := ℕ) (pcfgs (F := F)) adm defs₀ Variants.none Ll lvl loops (tk (pd m) EP) :=
  CSeg.ofOps _ _ _ _ _ _ _ _ (ucRefs τ sig) ops (fun op h => Pipeline.sub_ucRefs op ((List.forall_iff_forall_mem.mp hs) op h))
    (fun op h => (List.forall_iff_forall_mem.mp hf) op h) V Rest

theorem counter_zero (c : Dev nD) : U1 m c main_v8_4 = fun _ => (0#32 : BitVec 32) := by
  unfold U1
  after_reads_simp
  rfl

/-- The loop over the sequence. -/
def loopPart : CSeg (Ix := Unit) (Name := ℕ) (U := UR sig nD τ) (Lvl := ℕ) (pcfgs (F := F)) adm defs₀ Variants.none Ll lvl loops (tk (pd m) EP) :=
  loopSeg _ _ _ _ _ _ _ _ 0 main_while0_cond main_while0_body rfl condOps bodyI bodyI_plain while0_body_chain 2048 (U1 m) Rest
    (loop_cond (U1 m) Rest (counter_zero m))

/-- The region. -/
def region : RegionSeg (pcfgs (F := F)) adm (pd m 0) () defs₀ Variants.none Ll lvl 0 :=
  RegionSeg.ofHeldIn _ _ _ _ _ _ _ _ _ (fun _ => 0) (ucRefs τ sig) (fun c => iprop(∃ r, prngReg c r)) (fun c => iprop(∃ r, prngReg c r))
    launch0.toP rfl (fun c => (body_obligation (Ve m) c).loose) (fun _ _ => rfl) (fun _ => rfl)
    (fun c => (dats (Ve m) 0 c).share_full fun _ => rfl)
    (fun _ => .rfl) (fun _ => .rfl) (fun _ => 0)
    ⟨fun _ _ _ => Finset.mem_singleton_self _, fun _ _ _ => le_rfl, fun _ _ _ h => absurd h (lt_irrefl _)⟩
    (fun _ => iprop(emp)) (U6 m) (fun _ _ => rfl)

theorem arrs_sub : Pipeline.arrRefs (τ := τ) (pcfgs (F := F) 0).spec ⊆ ucRefs τ sig :=
  Pipeline.arrRefs_sub_ucRefs (pcfgs (F := F) 0).spec launch0.win.arr_unscoped

theorem region_pre_eq (c : Dev nD) : (region m).pre c = iprop(held (c.tc : Thread nD τ) (Pipeline.arrRefs (pcfgs (F := F) 0).spec) (U6 m c) ∗ (∃ r, prngReg c r)
    ∗ (held (c.tc : Thread nD τ) (ucRefs τ sig \ Pipeline.arrRefs (pcfgs (F := F) 0).spec) (U6 m c) ∗ emp) ∗ ∃ Wd, owes (c : Thread nD τ) (0 : CellTallies nD τ sig Unit) Wd) := rfl

theorem region_post_eq (c : Dev nD) : (region m).post c = iprop(held (c.tc : Thread nD τ) (Pipeline.arrRefs (pcfgs (F := F) 0).spec) (U7 m c) ∗ (∃ r, prngReg c r)
    ∗ (held (c.tc : Thread nD τ) (ucRefs τ sig \ Pipeline.arrRefs (pcfgs (F := F) 0).spec) (U6 m c) ∗ emp) ∗ ∃ Wd, owes (c : Thread nD τ) (0 : CellTallies nD τ sig Unit) Wd) := rfl

theorem rest_kept (c : Dev nD) : (held (c.tc : Thread nD τ) (ucRefs τ sig \ Pipeline.arrRefs (pcfgs (F := F) 0).spec) (U7 m c)
    : sProp 𝕄) = held (c.tc : Thread nD τ) (ucRefs τ sig \ Pipeline.arrRefs (pcfgs (F := F) 0).spec) (U6 m c) :=
  StableHlo.held_congr (c.tc : Thread nD τ) (Pipeline.afterRegion_off (dats (Ve m) 0 c) (U6 m c) (ucRefs τ sig))

theorem region_pre (c : Dev nD) : iprop(held (c : Thread nD τ) (ucRefs τ sig) (U6 m c) ∗ Rest c) ⊢ (region m).pre c := by
  rw [region_pre_eq, StableHlo.held_sub_split (c.tc : Thread nD τ) (arrs_sub (F := F)) (U6 m c)]
  iintro ⟨⟨Ha, Hu⟩, HO, HX, HR⟩
  isplitl [Ha]; · iexact Ha
  isplitl [HX]; · iexact HX
  isplitl [Hu HR]
  · isplitl [Hu]; · iexact Hu
    iexact HR
  iexact HO

theorem region_post (c : Dev nD) : (region m).post c ⊢ iprop(held (c : Thread nD τ) (ucRefs τ sig) (U7 m c) ∗ Rest c) := by
  rw [region_post_eq, StableHlo.held_sub_split (c.tc : Thread nD τ) (arrs_sub (F := F)) (U7 m c), rest_kept]
  iintro ⟨Ha, HY, ⟨Hu, HR⟩, HO⟩
  isplitl [Ha Hu]
  · isplitl [Ha]; · iexact Ha
    iexact Hu
  isplitl [HO]; · iexact HO
  isplitl [HY]; · iexact HY
  iexact HR

abbrev tok₀ : UR sig nD τ := initOf (Pipeline.cells (Pipeline.pin (pcfgs (F := F)) adm) cellOf_inj) (Pipeline.launchToks (Pipeline.pin (pcfgs (F := F)) adm) cellOf_inj)

theorem tok_own : (ownU (tok₀ (F := F)) : sProp 𝕄) ⊢ BI.own ((tk (pd m) EP 0).EP (tok₀ (F := F))) := BI.Entails.refl _

def regionPart : CSeg (Ix := Unit) (Name := ℕ) (U := UR sig nD τ) (Lvl := ℕ) (pcfgs (F := F)) adm defs₀ Variants.none Ll lvl loops (tk (pd m) EP) :=
  CSeg.region _ _ () cellOf_inj _ _ _ _ _ _ 0 (region m)

abbrev parts : List (CSeg (Ix := Unit) (Name := ℕ) (U := UR sig nD τ) (Lvl := ℕ) (pcfgs (F := F)) adm defs₀ Variants.none Ll lvl loops (tk (pd m) EP)) :=
  [seg m hostOps0 hostOps0_sub hostOps0_fresh (U0 m), loopPart m, seg m hostOps0_1 hostOps0_1_sub hostOps0_1_fresh (U2 m),
   seg m hostOps0_2 hostOps0_2_sub hostOps0_2_fresh (U3 m), seg m hostOps0_3 hostOps0_3_sub hostOps0_3_fresh (U4 m),
   seg m hostOps0_4 hostOps0_4_sub hostOps0_4_fresh (U5 m), regionPart m, seg m hostOps1 hostOps1_sub hostOps1_fresh (U7 m)]

set_option maxHeartbeats 4000000 in
set_option backward.isDefEq.respectTransparency.types false in
/-- Every execution of the program ends, with every buffer at the contents computed above and every counter at zero. -/
theorem run_main : θ_run defs (onTc (τ := τ) (main (F := F))) ⟨m, fun _ => 0, ρ⟩
    (fun r => (∀ c : Dev nD, ∀ b ∈ ucRefs τ sig, r.2.mem ((c : Dev nD), b) = U8 m c b) ∧ r.2.sem = fun _ => 0) := by
  refine Pipeline.θ_run_regions_loop_kit_dev_sems (Ix := Unit) (Name := ℕ) (U := UR sig nD τ) (Lvl := ℕ) (pcfgs (F := F)) adm cellOf_inj defs₀ Variants.none Ll lvl loops (tk (pd m) EP) m ρ main
    (fun _ => parts m)
    (fun c Q => by
      rewrite [main_chain c, CSeg.runL,
        show (parts m).map CSeg.prog = [
          StableHlo.seq hostOps0,
          HostLoop.enter 0,
          StableHlo.seq hostOps0_1,
          StableHlo.seq hostOps0_2,
          StableHlo.seq hostOps0_3,
          StableHlo.seq hostOps0_4,
          Prog.lift (.customCall (HostLoop.inner (Pipeline.entry 0)) ()),
          StableHlo.seq hostOps1 ] from rfl]
      exact .rfl)
    (fun c => by
      have h : ∀ s ∈ [(parts m).map CSeg.T], s = [∅, ∅, ∅, ∅, ∅, ∅, ({0} : Finset (Fin 1)), ∅] := by
        intro s hs; rw [List.mem_singleton] at hs; rw [hs]; rfl
      have h' := List.pairwise_map (f := CSeg.T) (R := Disjoint) (l := parts m)
      refine h'.mp ?_
      rw [h _ (List.mem_singleton_self _)]
      decide) (O₀ := 0) (fun g hg => if_neg hg) (fun _ => iprop(emp)) (initOf (Pipeline.cells (Pipeline.pin (pcfgs (F := F)) adm) cellOf_inj) (Pipeline.launchToks (Pipeline.pin (pcfgs (F := F)) adm) cellOf_inj)) ?_
    (T₀ := fun c => iprop(held (c : Thread nD τ) (ucRefs τ sig) (U0 m c) ∗ Rest c))
    (Tₙ := fun c => held (c : Thread nD τ) (ucRefs τ sig) (U8 m c))
    (hch := fun c => ⟨.rfl, .rfl, .rfl, .rfl, .rfl, .rfl, ?_, ?_, ?_⟩)
    (hinit := ?_) (QY := fun c s => ∀ b ∈ ucRefs τ sig, s.mem ((c : Dev nD), b) = U8 m c b)
    (hfin := fun c s' => ?_) (hQ := fun _ h hz => ⟨h, funext fun g => hz g (.inr (regions_no_unscoped g.2))⟩)
  · iintro Hu
    imodintro
    isplitl [Hu]
    · rw [show (Finset.univ : Finset (Fin 1)) = {0} from rfl, BI.bigSep_singleton]
      iapply (tok_own m)
      iexact Hu
    iapply (show (BI.emp : sProp 𝕄) ⊢ bigSep Finset.univ (fun _ : Dev nD => (BI.emp : sProp 𝕄)) from by rw [BI.bigSep_emp_const])
    iempintro
  · exact region_pre m c
  · exact region_post m c
  · show iprop(held (c : Thread nD τ) (ucRefs τ sig) (U8 m c) ∗ Rest c) ⊢ iprop(held (c : Thread nD τ) (ucRefs τ sig) (U8 m c) ∗ ∃ W, owes (c : Thread nD τ) 0 W)
    iintro ⟨Hh, HO, -⟩
    isplitl [Hh]; · iexact Hh
    iexact HO
  · refine Pipeline.initEach Ll lvl fun c => ?_
    rw [show unscopedBufs c (fun b => m ((c : Thread nD τ).loc b)) = held (c : Thread nD τ) (ucRefs τ sig) (U0 m c) from Pipeline.unscopedBufs_held c (U0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold held
    iintro ⟨Hh, HSI⟩
    ihave Hr := (pointsTo_read_all (ucRefs τ sig) (fun b => ((c : Dev nD), b)) (fun b => U8 m c b) s') $$ [Hh HSI]
    · isplitl [Hh] <;> iassumption
    icases Hr with ⟨%h, HSI⟩
    imodintro
    isplitr; · ipureintro; exact h
    iexact HSI

end Cert.Proof.S5

end
-- ==== Proof.KFrame.lean ====
/- What the program leaves of its arguments. -/
module

public import proofs.«01_k».proof.Proof.KRun

@[expose] public section

set_option maxRecDepth 19520

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo (after atTrip afterL)
open Idealize.ShloMosaic.Pipeline (ucRefs)
open Cert.KernelIdeal.Gen.Cond (W2 argRefs args1 args2 args3 args4 args5 args6 args8 hostOps0_writes hostOps0_1_writes hostOps0_2_writes hostOps0_3_writes hostOps0_4_writes hostOps1_writes)

/-! ## What the loop leaves unchanged -/

theorem while0Ops0_keeps (V : Valuation τ sig (Elt F)) (r : Ref sig .tc) (h : r ∉ W2) : after while0Ops0 V r = V r :=
  StableHlo.after_of_writes_sub while0Ops0 V (StableHlo.forall_writes_sub_of_map (W := [main_while0b_call0_c, main_while0b_call0_c_0, main_while0b_call0_v0, main_while0b_v199]) rfl)
    (fun hm => h ((by decide +kernel : ∀ x ∈ ([main_while0b_call0_c, main_while0b_call0_c_0, main_while0b_call0_v0, main_while0b_v199] : List (Ref sig .tc)), x ∈ W2) r hm))
theorem while0Ops0_1_keeps (V : Valuation τ sig (Elt F)) (r : Ref sig .tc) (h : r ∉ W2) : after while0Ops0_1 V r = V r :=
  StableHlo.after_of_writes_sub while0Ops0_1 V (StableHlo.forall_writes_sub_of_map (W := [main_while0b_call1_c, main_while0b_call1_c_0, main_while0b_call1_v0, main_while0b_v200]) rfl)
    (fun hm => h ((by decide +kernel : ∀ x ∈ ([main_while0b_call1_c, main_while0b_call1_c_0, main_while0b_call1_v0, main_while0b_v200] : List (Ref sig .tc)), x ∈ W2) r hm))
theorem while0Ops0_2_keeps (V : Valuation τ sig (Elt F)) (r : Ref sig .tc) (h : r ∉ W2) : after while0Ops0_2 V r = V r :=
  StableHlo.after_of_writes_sub while0Ops0_2 V (StableHlo.forall_writes_sub_of_map (W := [main_while0b_v201, main_while0b_v202, main_while0b_v203, main_while0b_v204, main_while0b_v205, main_while0b_v206, main_while0b_v207, main_while0b_v208]) rfl)
    (fun hm => h ((by decide +kernel : ∀ x ∈ ([main_while0b_v201, main_while0b_v202, main_while0b_v203, main_while0b_v204, main_while0b_v205, main_while0b_v206, main_while0b_v207, main_while0b_v208] : List (Ref sig .tc)), x ∈ W2) r hm))
theorem while0Ops0_3_keeps (V : Valuation τ sig (Elt F)) (r : Ref sig .tc) (h : r ∉ W2) : after while0Ops0_3 V r = V r :=
  StableHlo.after_of_writes_sub while0Ops0_3 V (StableHlo.forall_writes_sub_of_map (W := [main_while0b_call2_v0, main_while0b_call2_c, main_while0b_call2_c_0, main_while0b_v209]) rfl)
    (fun hm => h ((by decide +kernel : ∀ x ∈ ([main_while0b_call2_v0, main_while0b_call2_c, main_while0b_call2_c_0, main_while0b_v209] : List (Ref sig .tc)), x ∈ W2) r hm))
theorem while0Ops0_4_keeps (V : Valuation τ sig (Elt F)) (r : Ref sig .tc) (h : r ∉ W2) : after while0Ops0_4 V r = V r :=
  StableHlo.after_of_writes_sub while0Ops0_4 V (StableHlo.forall_writes_sub_of_map (W := [main_while0b_call3_v0, main_while0b_call3_c, main_while0b_call3_c_0, main_while0b_v210]) rfl)
    (fun hm => h ((by decide +kernel : ∀ x ∈ ([main_while0b_call3_v0, main_while0b_call3_c, main_while0b_call3_c_0, main_while0b_v210] : List (Ref sig .tc)), x ∈ W2) r hm))
theorem while0Ops0_5_keeps (V : Valuation τ sig (Elt F)) (r : Ref sig .tc) (h : r ∉ W2) : after while0Ops0_5 V r = V r :=
  StableHlo.after_of_writes_sub while0Ops0_5 V (StableHlo.forall_writes_sub_of_map (W := [main_while0b_c_27, main_while0b_v211, main_v8_4, main_v8_5, main_v8_6, main_v8_7, main_v8_8]) rfl)
    (fun hm => h ((by decide +kernel : ∀ x ∈ ([main_while0b_c_27, main_while0b_v211, main_v8_4, main_v8_5, main_v8_6, main_v8_7, main_v8_8] : List (Ref sig .tc)), x ∈ W2) r hm))

theorem condOps_keeps (V : Valuation τ sig (Elt F)) (r : Ref sig .tc) (h : r ∉ W2) : after condOps V r = V r :=
  StableHlo.after_of_writes_sub condOps V (StableHlo.forall_writes_sub_of_map (W := [main_while0c_c_27, main_while0c_v199]) rfl)
    (fun hm => h ((by decide +kernel : ∀ x ∈ ([main_while0c_c_27, main_while0c_v199] : List (Ref sig .tc)), x ∈ W2) r hm))

theorem bodyI_keeps (V : Valuation τ sig (Elt F)) (r : Ref sig .tc) (h : r ∉ W2) : afterL bodyI V r = V r := by
  simp only [StableHlo.afterL_cons, StableHlo.afterL_nil]
  rw [while0Ops0_5_keeps _ r h, while0Ops0_4_keeps _ r h, while0Ops0_3_keeps _ r h, while0Ops0_2_keeps _ r h, while0Ops0_1_keeps _ r h, while0Ops0_keeps _ r h]

theorem atTrip_keeps (W₀ : Dev nD → Valuation τ sig (Elt F)) (c : Dev nD) (r : Ref sig .tc) (h : r ∉ W2) (k : ℕ) :
    atTrip condOps bodyI W₀ k c r = W₀ c r := by
  induction k with
  | zero => rw [StableHlo.atTrip_zero]
  | succ k ih => rw [StableHlo.atTrip_succ, bodyI_keeps _ r h, condOps_keeps _ r h, ih]

/-! ## The arguments end as they were -/

variable (m : (ℓ : Loc nD τ sig) → Buf (Elt F) ℓ) (ρ : Dev nD → PrngReg)

theorem not_arr : ∀ a ∈ argRefs, ∀ w : Fin 20, a ≠ Pipeline.arrRef spec0 w := ListAll.forall_mem_of_all_decide (by decide +kernel)

theorem U2_of (c : Dev nD) (r : Ref sig .tc) (h : r ∉ W2) : U2 m c r = U1 m c r := by
  unfold U2; rw [condOps_keeps _ r h, atTrip_keeps _ c r h]

theorem U8_args (c : Dev nD) : ∀ a ∈ argRefs, U8 m c a = m ((c : Thread nD τ).loc a) := fun a ha => by
  rw [show U8 m c a = U7 m c a from StableHlo.after_of_writes_sub hostOps1 _ hostOps1_writes (args8 a ha)]
  unfold U7
  rw [Pipeline.afterRegion_of_not_arr _ _ (not_arr a ha)]
  unfold U6
  rw [StableHlo.after_of_writes_sub hostOps0_4 _ hostOps0_4_writes (args6 a ha),
    show U5 m c a = U4 m c a from StableHlo.after_of_writes_sub hostOps0_3 _ hostOps0_3_writes (args5 a ha),
    show U4 m c a = U3 m c a from StableHlo.after_of_writes_sub hostOps0_2 _ hostOps0_2_writes (args4 a ha),
    show U3 m c a = U2 m c a from StableHlo.after_of_writes_sub hostOps0_1 _ hostOps0_1_writes (args3 a ha),
    U2_of m c a (args2 a ha),
    show U1 m c a = U0 m c a from StableHlo.after_of_writes_sub hostOps0 _ hostOps0_writes (args1 a ha)]

theorem mem_uc (r : Ref sig .tc) (h : r.isScoped = false) : Proc.devRef .tc r ∈ ucRefs τ sig :=
  Finset.mem_filter.mpr ⟨StableHlo.devRef_mem_tcRefs _, fun h' => Bool.false_ne_true (h.symm.trans h')⟩

/-- Every execution ends with the arguments as they were, with every counter at zero, and with every other buffer as computed. -/
theorem run_args : θ_run defs (onTc (τ := τ) (main (F := F))) ⟨m, fun _ => 0, ρ⟩
    (fun r => (∀ c : Dev nD, (∀ b : Ref sig .tc, b.isScoped = false → r.2.mem ((c.tc : Thread nD τ).loc b) = U8 m c b)
      ∧ ∀ a ∈ argRefs, r.2.mem ((c.tc : Thread nD τ).loc a) = m ((c.tc : Thread nD τ).loc a)) ∧ r.2.sem = fun _ => 0) :=
  (θ_run defs _ _).mono (fun r h => ⟨fun c => ⟨fun b hb => h.1 c _ (mem_uc b hb),
    fun a ha => (h.1 c _ (mem_uc a ((by decide +kernel : ∀ a ∈ argRefs, a.isScoped = false) a ha))).trans (U8_args m c a ha)⟩, h.2⟩) (run_main m ρ)

end Cert.Proof.S5

end
-- ==== Proof.ROps.lean ====
module

public import proofs.«01_k».proof.Proof.Gen.ReferenceIdeal
public import Idealize.ShloMosaic.Lib.StableHlo.RunLoop
public import Idealize.ShloMosaic.Lib.StableHlo.RunRead
public import Idealize.ShloMosaic.Lib.Pipeline.Regions

/-! The operations of the reference in order. -/

@[expose] public section

set_option maxRecDepth 19520

noncomputable section

namespace Cert.Proof.S5R

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after atTrip afterL held Plain LoopCond loopSeg)
open Idealize.ShloMosaic.Pipeline (CSeg ucRefs)

variable {F : FTy → Type} [FloatOps F]

/-- A stretch of the program. -/
abbrev mainOps0 : List (HloOp τ sig (Elt F)) :=
  [ StableHlo.reshape main_arg0 main_v0 (rfl : (.f32 : EltTy) = .f32) shapeCasts_S2048x1024_S2048x64x16,
    StableHlo.binary main_arg3 main_v0 main_v1 ((fun l r => Host.dotGeneral dot_S64x64x16_S2048x64x16_S64x64x2048_2_2_1_0_0_1 none l r) : (⟨S64x64x16, .f32⟩ : BufTy).Contents (Elt F) → (⟨S2048x64x16, .f32⟩ : BufTy).Contents (Elt F) → (⟨S64x64x2048, .f32⟩ : BufTy).Contents (Elt F)),
    StableHlo.unary main_v1 main_v2 ((transpose S2048x64x64 [2, 0, 1] · transposes_S64x64x2048_S2048x64x64_2_0_1) : (⟨S64x64x2048, .f32⟩ : BufTy).Contents (Elt F) → (⟨S2048x64x64, .f32⟩ : BufTy).Contents (Elt F)),
    StableHlo.binary main_arg4 main_v0 main_v3 ((fun l r => Host.dotGeneral dot_S64x64x16_S2048x64x16_S64x64x2048_2_2_1_0_0_1 none l r) : (⟨S64x64x16, .f32⟩ : BufTy).Contents (Elt F) → (⟨S2048x64x16, .f32⟩ : BufTy).Contents (Elt F) → (⟨S64x64x2048, .f32⟩ : BufTy).Contents (Elt F)),
    StableHlo.unary main_v3 main_v4 ((transpose S2048x64x64 [2, 0, 1] · transposes_S64x64x2048_S2048x64x64_2_0_1) : (⟨S64x64x2048, .f32⟩ : BufTy).Contents (Elt F) → (⟨S2048x64x64, .f32⟩ : BufTy).Contents (Elt F)),
    StableHlo.nullary main_cst (constant S_ .f32 0x00000000#32),
    StableHlo.unary main_cst main_v5 (broadcastInDim S64x64 ![] bcast_S_S64x64 : (⟨S_, .f32⟩ : BufTy).Contents (Elt F) → (⟨S64x64, .f32⟩ : BufTy).Contents (Elt F)),
    StableHlo.nullary main_cst_0 (constant S_ .f32 0x00000000#32),
    StableHlo.unary main_cst_0 main_v6 (broadcastInDim S2048x64x64 ![] bcast_S_S2048x64x64 : (⟨S_, .f32⟩ : BufTy).Contents (Elt F) → (⟨S2048x64x64, .f32⟩ : BufTy).Contents (Elt F)),
    StableHlo.nullary main_cst_1 (constant S_ .f32 0x00000000#32),
    StableHlo.unary main_cst_1 main_v7 (broadcastInDim S2048x64x64 ![] bcast_S_S2048x64x64 : (⟨S_, .f32⟩ : BufTy).Contents (Elt F) → (⟨S2048x64x64, .f32⟩ : BufTy).Contents (Elt F)),
    StableHlo.nullary main_cst_2 (constant S_ .f32 0x00000000#32),
    StableHlo.unary main_cst_2 main_v8 (broadcastInDim S2048x64x64 ![] bcast_S_S2048x64x64 : (⟨S_, .f32⟩ : BufTy).Contents (Elt F) → (⟨S2048x64x64, .f32⟩ : BufTy).Contents (Elt F)),
    StableHlo.nullary main_cst_3 (constant S_ .f32 0x00000000#32),
    StableHlo.unary main_cst_3 main_v9 (broadcastInDim S2048x64x64 ![] bcast_S_S2048x64x64 : (⟨S_, .f32⟩ : BufTy).Contents (Elt F) → (⟨S2048x64x64, .f32⟩ : BufTy).Contents (Elt F)),
    StableHlo.nullary main_c (constantI S_ 32 0#32),
    StableHlo.unary main_v2 main_v10_0 id,
    StableHlo.unary main_v4 main_v10_1 id,
    StableHlo.unary main_arg1 main_v10_2 id,
    StableHlo.unary main_arg2 main_v10_3 id,
    StableHlo.unary main_c main_v10_4 id,
    StableHlo.unary main_v5 main_v10_5 id,
    StableHlo.unary main_v5 main_v10_6 id,
    StableHlo.unary main_v6 main_v10_7 id,
    StableHlo.unary main_v7 main_v10_8 id,
    StableHlo.unary main_v8 main_v10_9 id,
    StableHlo.unary main_v9 main_v10_10 id ]
theorem mainOps0_sub : (mainOps0 : List (HloOp τ sig (Elt F))).Forall fun op => op.bufs ⊆ StableHlo.tcRefs τ sig :=
  ⟨StableHlo.reshape_bufs_sub .., StableHlo.binary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem mainOps0_fresh : (mainOps0 : List (HloOp τ sig (Elt F))).Forall fun op => op.fresh = ∅ := by
  simp only [List.Forall]; repeat' constructor
/-- A stretch of the program. -/
abbrev mainOps1 : List (HloOp τ sig (Elt F)) :=
  [ StableHlo.binary main_v10_7 main_arg7 main_v11 (addf : (⟨S2048x64x64, .f32⟩ : BufTy).Contents (Elt F) → (⟨S2048x64x64, .f32⟩ : BufTy).Contents (Elt F) → (⟨S2048x64x64, .f32⟩ : BufTy).Contents (Elt F)),
    StableHlo.binary main_v10_8 main_arg8 main_v12 (addf : (⟨S2048x64x64, .f32⟩ : BufTy).Contents (Elt F) → (⟨S2048x64x64, .f32⟩ : BufTy).Contents (Elt F) → (⟨S2048x64x64, .f32⟩ : BufTy).Contents (Elt F)),
    StableHlo.binary main_arg5 main_v11 main_v13 ((fun l r => Host.dotGeneral dot_S64x16x64_S2048x64x64_S64x16x2048_2_2_1_0_0_1 none l r) : (⟨S64x16x64, .f32⟩ : BufTy).Contents (Elt F) → (⟨S2048x64x64, .f32⟩ : BufTy).Contents (Elt F) → (⟨S64x16x2048, .f32⟩ : BufTy).Contents (Elt F)),
    StableHlo.unary main_v13 main_v14 ((transpose S2048x64x16 [2, 0, 1] · transposes_S64x16x2048_S2048x64x16_2_0_1) : (⟨S64x16x2048, .f32⟩ : BufTy).Contents (Elt F) → (⟨S2048x64x16, .f32⟩ : BufTy).Contents (Elt F)),
    StableHlo.binary main_arg6 main_v12 main_v15 ((fun l r => Host.dotGeneral dot_S64x16x64_S2048x64x64_S64x16x2048_2_2_1_0_0_1 none l r) : (⟨S64x16x64, .f32⟩ : BufTy).Contents (Elt F) → (⟨S2048x64x64, .f32⟩ : BufTy).Contents (Elt F) → (⟨S64x16x2048, .f32⟩ : BufTy).Contents (Elt F)),
    StableHlo.unary main_v15 main_v16 ((transpose S2048x64x16 [2, 0, 1] · transposes_S64x16x2048_S2048x64x16_2_0_1) : (⟨S64x16x2048, .f32⟩ : BufTy).Contents (Elt F) → (⟨S2048x64x16, .f32⟩ : BufTy).Contents (Elt F)),
    StableHlo.binary main_v14 main_v16 main_v17 (subf : (⟨S2048x64x16, .f32⟩ : BufTy).Contents (Elt F) → (⟨S2048x64x16, .f32⟩ : BufTy).Contents (Elt F) → (⟨S2048x64x16, .f32⟩ : BufTy).Contents (Elt F)),
    StableHlo.reshape main_v17 main_v18 (rfl : (.f32 : EltTy) = .f32) shapeCasts_S2048x64x16_S2048x1024,
    StableHlo.nullary main_cst_4 (constant S_ .f32 0x00000000#32),
    StableHlo.unary main_cst_4 main_v19 (broadcastInDim S64x64 ![] bcast_S_S64x64 : (⟨S_, .f32⟩ : BufTy).Contents (Elt F) → (⟨S64x64, .f32⟩ : BufTy).Contents (Elt F)),
    StableHlo.nullary main_cst_5 (constant S_ .f32 0x00000000#32),
    StableHlo.unary main_cst_5 main_v20 (broadcastInDim S64x64 ![] bcast_S_S64x64 : (⟨S_, .f32⟩ : BufTy).Contents (Elt F) → (⟨S64x64, .f32⟩ : BufTy).Contents (Elt F)),
    StableHlo.reshape main_arg10 main_v21 (rfl : (.f32 : EltTy) = .f32) shapeCasts_S2048x1024_S2048x64x16,
    StableHlo.unary main_v21 main_v22 (Host.negf : (⟨S2048x64x16, .f32⟩ : BufTy).Contents (Elt F) → (⟨S2048x64x16, .f32⟩ : BufTy).Contents (Elt F)),
    StableHlo.unary main_v22 main_v23 ((transpose S64x16x2048 [1, 2, 0] · transposes_S2048x64x16_S64x16x2048_1_2_0) : (⟨S2048x64x16, .f32⟩ : BufTy).Contents (Elt F) → (⟨S64x16x2048, .f32⟩ : BufTy).Contents (Elt F)),
    StableHlo.binary main_v23 main_arg6 main_v24 ((fun l r => Host.dotGeneral dot_S64x16x2048_S64x16x64_S64x2048x64_1_1_2_2_0_0 none l r) : (⟨S64x16x2048, .f32⟩ : BufTy).Contents (Elt F) → (⟨S64x16x64, .f32⟩ : BufTy).Contents (Elt F) → (⟨S64x2048x64, .f32⟩ : BufTy).Contents (Elt F)),
    StableHlo.unary main_v24 main_v25 ((transpose S2048x64x64 [1, 0, 2] · transposes_S64x2048x64_S2048x64x64_1_0_2) : (⟨S64x2048x64, .f32⟩ : BufTy).Contents (Elt F) → (⟨S2048x64x64, .f32⟩ : BufTy).Contents (Elt F)),
    StableHlo.binary main_v23 main_v12 main_v26 ((fun l r => Host.dotGeneral dot_S64x16x2048_S2048x64x64_S64x16x64_2_0_1_2_0_1 none l r) : (⟨S64x16x2048, .f32⟩ : BufTy).Contents (Elt F) → (⟨S2048x64x64, .f32⟩ : BufTy).Contents (Elt F) → (⟨S64x16x64, .f32⟩ : BufTy).Contents (Elt F)),
    StableHlo.unary main_v21 main_v27 ((transpose S64x16x2048 [1, 2, 0] · transposes_S2048x64x16_S64x16x2048_1_2_0) : (⟨S2048x64x16, .f32⟩ : BufTy).Contents (Elt F) → (⟨S64x16x2048, .f32⟩ : BufTy).Contents (Elt F)),
    StableHlo.binary main_v27 main_arg5 main_v28 ((fun l r => Host.dotGeneral dot_S64x16x2048_S64x16x64_S64x2048x64_1_1_2_2_0_0 none l r) : (⟨S64x16x2048, .f32⟩ : BufTy).Contents (Elt F) → (⟨S64x16x64, .f32⟩ : BufTy).Contents (Elt F) → (⟨S64x2048x64, .f32⟩ : BufTy).Contents (Elt F)),
    StableHlo.unary main_v28 main_v29 ((transpose S2048x64x64 [1, 0, 2] · transposes_S64x2048x64_S2048x64x64_1_0_2) : (⟨S64x2048x64, .f32⟩ : BufTy).Contents (Elt F) → (⟨S2048x64x64, .f32⟩ : BufTy).Contents (Elt F)),
    StableHlo.binary main_v27 main_v11 main_v30 ((fun l r => Host.dotGeneral dot_S64x16x2048_S2048x64x64_S64x16x64_2_0_1_2_0_1 none l r) : (⟨S64x16x2048, .f32⟩ : BufTy).Contents (Elt F) → (⟨S2048x64x64, .f32⟩ : BufTy).Contents (Elt F) → (⟨S64x16x64, .f32⟩ : BufTy).Contents (Elt F)),
    StableHlo.nullary main_cst_6 (constant S_ .f32 0x00000000#32),
    StableHlo.unary main_cst_6 main_v31 (broadcastInDim S64x64 ![] bcast_S_S64x64 : (⟨S_, .f32⟩ : BufTy).Contents (Elt F) → (⟨S64x64, .f32⟩ : BufTy).Contents (Elt F)),
    StableHlo.nullary main_cst_7 (constant S_ .f32 0x00000000#32),
    StableHlo.unary main_cst_7 main_v32 (broadcastInDim S64x64 ![] bcast_S_S64x64 : (⟨S_, .f32⟩ : BufTy).Contents (Elt F) → (⟨S64x64, .f32⟩ : BufTy).Contents (Elt F)),
    StableHlo.nullary main_cst_8 (constant S_ .f32 0x00000000#32),
    StableHlo.unary main_cst_8 main_v33 (broadcastInDim S64x64 ![] bcast_S_S64x64 : (⟨S_, .f32⟩ : BufTy).Contents (Elt F) → (⟨S64x64, .f32⟩ : BufTy).Contents (Elt F)),
    StableHlo.nullary main_cst_9 (constant S_ .f32 0x00000000#32),
    StableHlo.unary main_cst_9 main_v34 (broadcastInDim S64x64 ![] bcast_S_S64x64 : (⟨S_, .f32⟩ : BufTy).Contents (Elt F) → (⟨S64x64, .f32⟩ : BufTy).Contents (Elt F)),
    StableHlo.nullary main_cst_10 (constant S_ .f32 0x00000000#32),
    StableHlo.unary main_cst_10 main_v35 (broadcastInDim S2048x64x64 ![] bcast_S_S2048x64x64 : (⟨S_, .f32⟩ : BufTy).Contents (Elt F) → (⟨S2048x64x64, .f32⟩ : BufTy).Contents (Elt F)),
    StableHlo.nullary main_cst_11 (constant S_ .f32 0x00000000#32),
    StableHlo.unary main_cst_11 main_v36 (broadcastInDim S2048x64x64 ![] bcast_S_S2048x64x64 : (⟨S_, .f32⟩ : BufTy).Contents (Elt F) → (⟨S2048x64x64, .f32⟩ : BufTy).Contents (Elt F)),
    StableHlo.nullary main_c_12 (constantI S_ 32 0#32),
    StableHlo.unary main_v29 main_v37_0 id,
    StableHlo.unary main_v25 main_v37_1 id,
    StableHlo.unary main_v10_9 main_v37_2 id,
    StableHlo.unary main_v10_10 main_v37_3 id,
    StableHlo.unary main_arg1 main_v37_4 id,
    StableHlo.unary main_arg2 main_v37_5 id,
    StableHlo.unary main_c_12 main_v37_6 id,
    StableHlo.unary main_v33 main_v37_7 id,
    StableHlo.unary main_v34 main_v37_8 id,
    StableHlo.unary main_v31 main_v37_9 id,
    StableHlo.unary main_v32 main_v37_10 id,
    StableHlo.unary main_v35 main_v37_11 id,
    StableHlo.unary main_v36 main_v37_12 id ]
theorem mainOps1_sub : (mainOps1 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.reshape_bufs_sub .., StableHlo.nullary_bufs_sub .., StableHlo.unary_bufs_sub .., StableHlo.nullary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem mainOps1_fresh : (mainOps1 : List (HloOp τ sig (Elt F))).Forall fun op => op.fresh = ∅ := by
  simp only [List.Forall]; repeat' constructor
/-- A stretch of the program. -/
abbrev mainOps2 : List (HloOp τ sig (Elt F)) :=
  [ StableHlo.unary main_v37_12 main_v38 ((transpose S64x64x2048 [1, 2, 0] · transposes_S2048x64x64_S64x64x2048_1_2_0) : (⟨S2048x64x64, .f32⟩ : BufTy).Contents (Elt F) → (⟨S64x64x2048, .f32⟩ : BufTy).Contents (Elt F)),
    StableHlo.binary main_v38 main_arg4 main_v39 ((fun l r => Host.dotGeneral dot_S64x64x2048_S64x64x16_S64x2048x16_1_1_2_2_0_0 none l r) : (⟨S64x64x2048, .f32⟩ : BufTy).Contents (Elt F) → (⟨S64x64x16, .f32⟩ : BufTy).Contents (Elt F) → (⟨S64x2048x16, .f32⟩ : BufTy).Contents (Elt F)),
    StableHlo.unary main_v39 main_v40 ((transpose S2048x64x16 [1, 0, 2] · transposes_S64x2048x16_S2048x64x16_1_0_2) : (⟨S64x2048x16, .f32⟩ : BufTy).Contents (Elt F) → (⟨S2048x64x16, .f32⟩ : BufTy).Contents (Elt F)),
    StableHlo.binary main_v38 main_v0 main_v41 ((fun l r => Host.dotGeneral dot_S64x64x2048_S2048x64x16_S64x64x16_2_0_1_2_0_1 none l r) : (⟨S64x64x2048, .f32⟩ : BufTy).Contents (Elt F) → (⟨S2048x64x16, .f32⟩ : BufTy).Contents (Elt F) → (⟨S64x64x16, .f32⟩ : BufTy).Contents (Elt F)),
    StableHlo.unary main_v37_11 main_v42 ((transpose S64x64x2048 [1, 2, 0] · transposes_S2048x64x64_S64x64x2048_1_2_0) : (⟨S2048x64x64, .f32⟩ : BufTy).Contents (Elt F) → (⟨S64x64x2048, .f32⟩ : BufTy).Contents (Elt F)),
    StableHlo.binary main_v42 main_arg3 main_v43 ((fun l r => Host.dotGeneral dot_S64x64x2048_S64x64x16_S64x2048x16_1_1_2_2_0_0 none l r) : (⟨S64x64x2048, .f32⟩ : BufTy).Contents (Elt F) → (⟨S64x64x16, .f32⟩ : BufTy).Contents (Elt F) → (⟨S64x2048x16, .f32⟩ : BufTy).Contents (Elt F)),
    StableHlo.unary main_v43 main_v44 ((transpose S2048x64x16 [1, 0, 2] · transposes_S64x2048x16_S2048x64x16_1_0_2) : (⟨S64x2048x16, .f32⟩ : BufTy).Contents (Elt F) → (⟨S2048x64x16, .f32⟩ : BufTy).Contents (Elt F)),
    StableHlo.binary main_v40 main_v44 main_v45 (addf : (⟨S2048x64x16, .f32⟩ : BufTy).Contents (Elt F) → (⟨S2048x64x16, .f32⟩ : BufTy).Contents (Elt F) → (⟨S2048x64x16, .f32⟩ : BufTy).Contents (Elt F)),
    StableHlo.binary main_v42 main_v0 main_v46 ((fun l r => Host.dotGeneral dot_S64x64x2048_S2048x64x16_S64x64x16_2_0_1_2_0_1 none l r) : (⟨S64x64x2048, .f32⟩ : BufTy).Contents (Elt F) → (⟨S2048x64x16, .f32⟩ : BufTy).Contents (Elt F) → (⟨S64x64x16, .f32⟩ : BufTy).Contents (Elt F)),
    StableHlo.reshape main_v45 main_v47 (rfl : (.f32 : EltTy) = .f32) shapeCasts_S2048x64x16_S2048x1024,
    StableHlo.binary main_arg9 main_v47 main_v48 (addf : (⟨S2048x1024, .f32⟩ : BufTy).Contents (Elt F) → (⟨S2048x1024, .f32⟩ : BufTy).Contents (Elt F) → (⟨S2048x1024, .f32⟩ : BufTy).Contents (Elt F)),
    StableHlo.reshape main_v37_7 main_v49 (rfl : (.f32 : EltTy) = .f32) shapeCasts_S64x64_S4096x1,
    StableHlo.reshape main_v37_8 main_v50 (rfl : (.f32 : EltTy) = .f32) shapeCasts_S64x64_S4096x1,
    StableHlo.reshape main_v46 main_v51 (rfl : (.f32 : EltTy) = .f32) shapeCasts_S64x64x16_S4096x16,
    StableHlo.reshape main_v41 main_v52 (rfl : (.f32 : EltTy) = .f32) shapeCasts_S64x64x16_S4096x16 ]
theorem mainOps2_sub : (mainOps2 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.reshape_bufs_sub .., StableHlo.binary_bufs_sub .., StableHlo.reshape_bufs_sub .., StableHlo.reshape_bufs_sub .., StableHlo.reshape_bufs_sub .., StableHlo.reshape_bufs_sub ..⟩
theorem mainOps2_fresh : (mainOps2 : List (HloOp τ sig (Elt F))).Forall fun op => op.fresh = ∅ := by
  simp only [List.Forall]; repeat' constructor
/-- A stretch of the body of loop 0. -/
abbrev loop0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v10_0 : StableHlo.TRef sig ⟨S2048x64x64, .f32⟩) ![(.of main_v10_4 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while0b_call0_v0 : StableHlo.TRef sig ⟨S1x64x64, .f32⟩) (.of main_while0b_v53 : StableHlo.TRef sig ⟨S64x64, .f32⟩) (rfl : (.f32 : EltTy) = .f32) shapeCasts_S1x64x64_S64x64 ]
theorem loop0Ops0_sub : (loop0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem loop0Ops0_fresh : (loop0Ops0 : List (HloOp τ sig (Elt F))).Forall fun op => op.fresh = ∅ := by
  simp only [List.Forall]; repeat' constructor
/-- A stretch of the body of loop 0. -/
abbrev loop0Ops1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v10_1 : StableHlo.TRef sig ⟨S2048x64x64, .f32⟩) ![(.of main_v10_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while0b_call1_v0 : StableHlo.TRef sig ⟨S1x64x64, .f32⟩) (.of main_while0b_v54 : StableHlo.TRef sig ⟨S64x64, .f32⟩) (rfl : (.f32 : EltTy) = .f32) shapeCasts_S1x64x64_S64x64 ]
theorem loop0Ops1_sub : (loop0Ops1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem loop0Ops1_fresh : (loop0Ops1 : List (HloOp τ sig (Elt F))).Forall fun op => op.fresh = ∅ := by
  simp only [List.Forall]; repeat' constructor
/-- A stretch of the body of loop 0. -/
abbrev loop0Ops2 : List (HloOp τ sig (Elt F)) :=
  [ StableHlo.binary main_v10_2 main_v10_5 main_while0b_v55 (mulf : (⟨S64x64, .f32⟩ : BufTy).Contents (Elt F) → (⟨S64x64, .f32⟩ : BufTy).Contents (Elt F) → (⟨S64x64, .f32⟩ : BufTy).Contents (Elt F)),
    StableHlo.binary main_v10_3 main_v10_6 main_while0b_v56 (mulf : (⟨S64x64, .f32⟩ : BufTy).Contents (Elt F) → (⟨S64x64, .f32⟩ : BufTy).Contents (Elt F) → (⟨S64x64, .f32⟩ : BufTy).Contents (Elt F)),
    StableHlo.binary main_while0b_v55 main_while0b_v56 main_while0b_v57 (subf : (⟨S64x64, .f32⟩ : BufTy).Contents (Elt F) → (⟨S64x64, .f32⟩ : BufTy).Contents (Elt F) → (⟨S64x64, .f32⟩ : BufTy).Contents (Elt F)),
    StableHlo.binary main_while0b_v57 main_while0b_v53 main_while0b_v58 (addf : (⟨S64x64, .f32⟩ : BufTy).Contents (Elt F) → (⟨S64x64, .f32⟩ : BufTy).Contents (Elt F) → (⟨S64x64, .f32⟩ : BufTy).Contents (Elt F)),
    StableHlo.binary main_v10_2 main_v10_6 main_while0b_v59 (mulf : (⟨S64x64, .f32⟩ : BufTy).Contents (Elt F) → (⟨S64x64, .f32⟩ : BufTy).Contents (Elt F) → (⟨S64x64, .f32⟩ : BufTy).Contents (Elt F)),
    StableHlo.binary main_v10_3 main_v10_5 main_while0b_v60 (mulf : (⟨S64x64, .f32⟩ : BufTy).Contents (Elt F) → (⟨S64x64, .f32⟩ : BufTy).Contents (Elt F) → (⟨S64x64, .f32⟩ : BufTy).Contents (Elt F)),
    StableHlo.binary main_while0b_v59 main_while0b_v60 main_while0b_v61 (addf : (⟨S64x64, .f32⟩ : BufTy).Contents (Elt F) → (⟨S64x64, .f32⟩ : BufTy).Contents (Elt F) → (⟨S64x64, .f32⟩ : BufTy).Contents (Elt F)),
    StableHlo.binary main_while0b_v61 main_while0b_v54 main_while0b_v62 (addf : (⟨S64x64, .f32⟩ : BufTy).Contents (Elt F) → (⟨S64x64, .f32⟩ : BufTy).Contents (Elt F) → (⟨S64x64, .f32⟩ : BufTy).Contents (Elt F)) ]
theorem loop0Ops2_sub : (loop0Ops2 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem loop0Ops2_fresh : (loop0Ops2 : List (HloOp τ sig (Elt F))).Forall fun op => op.fresh = ∅ := by
  simp only [List.Forall]; repeat' constructor
/-- A stretch of the body of loop 0. -/
abbrev loop0Ops3 : List (HloOp τ sig (Elt F)) :=
  [ StableHlo.TRef.unary (.of main_while0b_v58 : StableHlo.TRef sig ⟨S64x64, .f32⟩) (.of main_while0b_call2_v0 : StableHlo.TRef sig ⟨S1x64x64, .f32⟩) (broadcastInDim S1x64x64 ![1, 2] bcast_S64x64_S1x64x64_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v10_7 : StableHlo.TRef sig ⟨S2048x64x64, .f32⟩) (.of main_while0b_call2_v0 : StableHlo.TRef sig ⟨S1x64x64, .f32⟩) ![(.of main_v10_4 : StableHlo.TRef sig ⟨S_, .i32⟩), (.of main_while0b_call2_c : StableHlo.TRef sig ⟨S_, .i32⟩), (.of main_while0b_call2_c_0 : StableHlo.TRef sig ⟨S_, .i32⟩)] (.of main_while0b_v63 : StableHlo.TRef sig ⟨S2048x64x64, .f32⟩) (fun x u i => Host.dynamicUpdateSlice x u (fun k => (i k (Shape.Idx.first h_S_)).toInt) updateFits_S2048x64x64_S1x64x64) ]
theorem loop0Ops3_sub : (loop0Ops3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem loop0Ops3_fresh : (loop0Ops3 : List (HloOp τ sig (Elt F))).Forall fun op => op.fresh = ∅ := by
  simp only [List.Forall]; repeat' constructor
/-- A stretch of the body of loop 0. -/
abbrev loop0Ops4 : List (HloOp τ sig (Elt F)) :=
  [ StableHlo.TRef.unary (.of main_while0b_v62 : StableHlo.TRef sig ⟨S64x64, .f32⟩) (.of main_while0b_call3_v0 : StableHlo.TRef sig ⟨S1x64x64, .f32⟩) (broadcastInDim S1x64x64 ![1, 2] bcast_S64x64_S1x64x64_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v10_8 : StableHlo.TRef sig ⟨S2048x64x64, .f32⟩) (.of main_while0b_call3_v0 : StableHlo.TRef sig ⟨S1x64x64, .f32⟩) ![(.of main_v10_4 : StableHlo.TRef sig ⟨S_, .i32⟩), (.of main_while0b_call3_c : StableHlo.TRef sig ⟨S_, .i32⟩), (.of main_while0b_call3_c_0 : StableHlo.TRef sig ⟨S_, .i32⟩)] (.of main_while0b_v64 : StableHlo.TRef sig ⟨S2048x64x64, .f32⟩) (fun x u i => Host.dynamicUpdateSlice x u (fun k => (i k (Shape.Idx.first h_S_)).toInt) updateFits_S2048x64x64_S1x64x64) ]
theorem loop0Ops4_sub : (loop0Ops4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem loop0Ops4_fresh : (loop0Ops4 : List (HloOp τ sig (Elt F))).Forall fun op => op.fresh = ∅ := by
  simp only [List.Forall]; repeat' constructor
/-- A stretch of the body of loop 0. -/
abbrev loop0Ops5 : List (HloOp τ sig (Elt F)) :=
  [ StableHlo.TRef.unary (.of main_v10_5 : StableHlo.TRef sig ⟨S64x64, .f32⟩) (.of main_while0b_call4_v0 : StableHlo.TRef sig ⟨S1x64x64, .f32⟩) (broadcastInDim S1x64x64 ![1, 2] bcast_S64x64_S1x64x64_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v10_9 : StableHlo.TRef sig ⟨S2048x64x64, .f32⟩) (.of main_while0b_call4_v0 : StableHlo.TRef sig ⟨S1x64x64, .f32⟩) ![(.of main_v10_4 : StableHlo.TRef sig ⟨S_, .i32⟩), (.of main_while0b_call4_c : StableHlo.TRef sig ⟨S_, .i32⟩), (.of main_while0b_call4_c_0 : StableHlo.TRef sig ⟨S_, .i32⟩)] (.of main_while0b_v65 : StableHlo.TRef sig ⟨S2048x64x64, .f32⟩) (fun x u i => Host.dynamicUpdateSlice x u (fun k => (i k (Shape.Idx.first h_S_)).toInt) updateFits_S2048x64x64_S1x64x64) ]
theorem loop0Ops5_sub : (loop0Ops5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem loop0Ops5_fresh : (loop0Ops5 : List (HloOp τ sig (Elt F))).Forall fun op => op.fresh = ∅ := by
  simp only [List.Forall]; repeat' constructor
/-- A stretch of the body of loop 0. -/
abbrev loop0Ops6 : List (HloOp τ sig (Elt F)) :=
  [ StableHlo.TRef.unary (.of main_v10_6 : StableHlo.TRef sig ⟨S64x64, .f32⟩) (.of main_while0b_call5_v0 : StableHlo.TRef sig ⟨S1x64x64, .f32⟩) (broadcastInDim S1x64x64 ![1, 2] bcast_S64x64_S1x64x64_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v10_10 : StableHlo.TRef sig ⟨S2048x64x64, .f32⟩) (.of main_while0b_call5_v0 : StableHlo.TRef sig ⟨S1x64x64, .f32⟩) ![(.of main_v10_4 : StableHlo.TRef sig ⟨S_, .i32⟩), (.of main_while0b_call5_c : StableHlo.TRef sig ⟨S_, .i32⟩), (.of main_while0b_call5_c_0 : StableHlo.TRef sig ⟨S_, .i32⟩)] (.of main_while0b_v66 : StableHlo.TRef sig ⟨S2048x64x64, .f32⟩) (fun x u i => Host.dynamicUpdateSlice x u (fun k => (i k (Shape.Idx.first h_S_)).toInt) updateFits_S2048x64x64_S1x64x64) ]
theorem loop0Ops6_sub : (loop0Ops6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem loop0Ops6_fresh : (loop0Ops6 : List (HloOp τ sig (Elt F))).Forall fun op => op.fresh = ∅ := by
  simp only [List.Forall]; repeat' constructor
/-- A stretch of the body of loop 0. -/
abbrev loop0Ops7 : List (HloOp τ sig (Elt F)) :=
  [ StableHlo.nullary main_while0b_c_23 (constantI S_ 32 1#32),
    StableHlo.binary main_v10_4 main_while0b_c_23 main_while0b_v67 (addi : (⟨S_, .i32⟩ : BufTy).Contents (Elt F) → (⟨S_, .i32⟩ : BufTy).Contents (Elt F) → (⟨S_, .i32⟩ : BufTy).Contents (Elt F)),
    StableHlo.unary main_while0b_v67 main_v10_4 id,
    StableHlo.unary main_while0b_v58 main_v10_5 id,
    StableHlo.unary main_while0b_v62 main_v10_6 id,
    StableHlo.unary main_while0b_v63 main_v10_7 id,
    StableHlo.unary main_while0b_v64 main_v10_8 id,
    StableHlo.unary main_while0b_v65 main_v10_9 id,
    StableHlo.unary main_while0b_v66 main_v10_10 id ]
theorem loop0Ops7_sub : (loop0Ops7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem loop0Ops7_fresh : (loop0Ops7 : List (HloOp τ sig (Elt F))).Forall fun op => op.fresh = ∅ := by
  simp only [List.Forall]; repeat' constructor
/-- A stretch of the body of loop 1. -/
abbrev loop1Ops0 : List (HloOp τ sig (Elt F)) :=
  [ StableHlo.nullary main_while1b_c_25 (constantI S_ 32 2048#32),
    StableHlo.binary main_while1b_c_25 main_v37_6 main_while1b_v53 (subi : (⟨S_, .i32⟩ : BufTy).Contents (Elt F) → (⟨S_, .i32⟩ : BufTy).Contents (Elt F) → (⟨S_, .i32⟩ : BufTy).Contents (Elt F)),
    StableHlo.nullary main_while1b_c_26 (constantI S_ 32 1#32),
    StableHlo.binary main_while1b_v53 main_while1b_c_26 main_while1b_v54 (subi : (⟨S_, .i32⟩ : BufTy).Contents (Elt F) → (⟨S_, .i32⟩ : BufTy).Contents (Elt F) → (⟨S_, .i32⟩ : BufTy).Contents (Elt F)) ]
theorem loop1Ops0_sub : (loop1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem loop1Ops0_fresh : (loop1Ops0 : List (HloOp τ sig (Elt F))).Forall fun op => op.fresh = ∅ := by
  simp only [List.Forall]; repeat' constructor
/-- A stretch of the body of loop 1. -/
abbrev loop1Ops1 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v37_0 : StableHlo.TRef sig ⟨S2048x64x64, .f32⟩) ![(.of main_while1b_v54 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call6_v0 : StableHlo.TRef sig ⟨S1x64x64, .f32⟩) (.of main_while1b_v55 : StableHlo.TRef sig ⟨S64x64, .f32⟩) (rfl : (.f32 : EltTy) = .f32) shapeCasts_S1x64x64_S64x64 ]
theorem loop1Ops1_sub : (loop1Ops1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem loop1Ops1_fresh : (loop1Ops1 : List (HloOp τ sig (Elt F))).Forall fun op => op.fresh = ∅ := by
  simp only [List.Forall]; repeat' constructor
/-- A stretch of the body of loop 1. -/
abbrev loop1Ops2 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v37_1 : StableHlo.TRef sig ⟨S2048x64x64, .f32⟩) ![(.of main_while1b_v54 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call7_v0 : StableHlo.TRef sig ⟨S1x64x64, .f32⟩) (.of main_while1b_v56 : StableHlo.TRef sig ⟨S64x64, .f32⟩) (rfl : (.f32 : EltTy) = .f32) shapeCasts_S1x64x64_S64x64 ]
theorem loop1Ops2_sub : (loop1Ops2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem loop1Ops2_fresh : (loop1Ops2 : List (HloOp τ sig (Elt F))).Forall fun op => op.fresh = ∅ := by
  simp only [List.Forall]; repeat' constructor
/-- A stretch of the body of loop 1. -/
abbrev loop1Ops3 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v37_2 : StableHlo.TRef sig ⟨S2048x64x64, .f32⟩) ![(.of main_while1b_v54 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call8_v0 : StableHlo.TRef sig ⟨S1x64x64, .f32⟩) (.of main_while1b_v57 : StableHlo.TRef sig ⟨S64x64, .f32⟩) (rfl : (.f32 : EltTy) = .f32) shapeCasts_S1x64x64_S64x64 ]
theorem loop1Ops3_sub : (loop1Ops3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem loop1Ops3_fresh : (loop1Ops3 : List (HloOp τ sig (Elt F))).Forall fun op => op.fresh = ∅ := by
  simp only [List.Forall]; repeat' constructor
/-- A stretch of the body of loop 1. -/
abbrev loop1Ops4 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v37_3 : StableHlo.TRef sig ⟨S2048x64x64, .f32⟩) ![(.of main_while1b_v54 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call9_v0 : StableHlo.TRef sig ⟨S1x64x64, .f32⟩) (.of main_while1b_v58 : StableHlo.TRef sig ⟨S64x64, .f32⟩) (rfl : (.f32 : EltTy) = .f32) shapeCasts_S1x64x64_S64x64 ]
theorem loop1Ops4_sub : (loop1Ops4 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem loop1Ops4_fresh : (loop1Ops4 : List (HloOp τ sig (Elt F))).Forall fun op => op.fresh = ∅ := by
  simp only [List.Forall]; repeat' constructor
/-- A stretch of the body of loop 1. -/
abbrev loop1Ops5 : List (HloOp τ sig (Elt F)) :=
  [ StableHlo.binary main_v37_9 main_while1b_v55 main_while1b_v59 (addf : (⟨S64x64, .f32⟩ : BufTy).Contents (Elt F) → (⟨S64x64, .f32⟩ : BufTy).Contents (Elt F) → (⟨S64x64, .f32⟩ : BufTy).Contents (Elt F)),
    StableHlo.binary main_v37_10 main_while1b_v56 main_while1b_v60 (addf : (⟨S64x64, .f32⟩ : BufTy).Contents (Elt F) → (⟨S64x64, .f32⟩ : BufTy).Contents (Elt F) → (⟨S64x64, .f32⟩ : BufTy).Contents (Elt F)),
    StableHlo.binary main_v37_5 main_while1b_v60 main_while1b_v61 (mulf : (⟨S64x64, .f32⟩ : BufTy).Contents (Elt F) → (⟨S64x64, .f32⟩ : BufTy).Contents (Elt F) → (⟨S64x64, .f32⟩ : BufTy).Contents (Elt F)),
    StableHlo.binary main_while1b_v60 main_while1b_v57 main_while1b_v62 (mulf : (⟨S64x64, .f32⟩ : BufTy).Contents (Elt F) → (⟨S64x64, .f32⟩ : BufTy).Contents (Elt F) → (⟨S64x64, .f32⟩ : BufTy).Contents (Elt F)),
    StableHlo.binary main_v37_8 main_while1b_v62 main_while1b_v63 (addf : (⟨S64x64, .f32⟩ : BufTy).Contents (Elt F) → (⟨S64x64, .f32⟩ : BufTy).Contents (Elt F) → (⟨S64x64, .f32⟩ : BufTy).Contents (Elt F)),
    StableHlo.binary main_v37_4 main_while1b_v60 main_while1b_v64 (mulf : (⟨S64x64, .f32⟩ : BufTy).Contents (Elt F) → (⟨S64x64, .f32⟩ : BufTy).Contents (Elt F) → (⟨S64x64, .f32⟩ : BufTy).Contents (Elt F)),
    StableHlo.binary main_while1b_v60 main_while1b_v58 main_while1b_v65 (mulf : (⟨S64x64, .f32⟩ : BufTy).Contents (Elt F) → (⟨S64x64, .f32⟩ : BufTy).Contents (Elt F) → (⟨S64x64, .f32⟩ : BufTy).Contents (Elt F)),
    StableHlo.binary main_v37_7 main_while1b_v65 main_while1b_v66 (addf : (⟨S64x64, .f32⟩ : BufTy).Contents (Elt F) → (⟨S64x64, .f32⟩ : BufTy).Contents (Elt F) → (⟨S64x64, .f32⟩ : BufTy).Contents (Elt F)),
    StableHlo.unary main_while1b_v59 main_while1b_v67 (Host.negf : (⟨S64x64, .f32⟩ : BufTy).Contents (Elt F) → (⟨S64x64, .f32⟩ : BufTy).Contents (Elt F)),
    StableHlo.binary main_v37_5 main_while1b_v67 main_while1b_v68 (mulf : (⟨S64x64, .f32⟩ : BufTy).Contents (Elt F) → (⟨S64x64, .f32⟩ : BufTy).Contents (Elt F) → (⟨S64x64, .f32⟩ : BufTy).Contents (Elt F)),
    StableHlo.binary main_while1b_v64 main_while1b_v68 main_while1b_v69 (addf : (⟨S64x64, .f32⟩ : BufTy).Contents (Elt F) → (⟨S64x64, .f32⟩ : BufTy).Contents (Elt F) → (⟨S64x64, .f32⟩ : BufTy).Contents (Elt F)),
    StableHlo.binary main_while1b_v67 main_while1b_v58 main_while1b_v70 (mulf : (⟨S64x64, .f32⟩ : BufTy).Contents (Elt F) → (⟨S64x64, .f32⟩ : BufTy).Contents (Elt F) → (⟨S64x64, .f32⟩ : BufTy).Contents (Elt F)),
    StableHlo.binary main_while1b_v63 main_while1b_v70 main_while1b_v71 (addf : (⟨S64x64, .f32⟩ : BufTy).Contents (Elt F) → (⟨S64x64, .f32⟩ : BufTy).Contents (Elt F) → (⟨S64x64, .f32⟩ : BufTy).Contents (Elt F)),
    StableHlo.binary main_v37_4 main_while1b_v59 main_while1b_v72 (mulf : (⟨S64x64, .f32⟩ : BufTy).Contents (Elt F) → (⟨S64x64, .f32⟩ : BufTy).Contents (Elt F) → (⟨S64x64, .f32⟩ : BufTy).Contents (Elt F)),
    StableHlo.binary main_while1b_v61 main_while1b_v72 main_while1b_v73 (addf : (⟨S64x64, .f32⟩ : BufTy).Contents (Elt F) → (⟨S64x64, .f32⟩ : BufTy).Contents (Elt F) → (⟨S64x64, .f32⟩ : BufTy).Contents (Elt F)),
    StableHlo.binary main_while1b_v59 main_while1b_v57 main_while1b_v74 (mulf : (⟨S64x64, .f32⟩ : BufTy).Contents (Elt F) → (⟨S64x64, .f32⟩ : BufTy).Contents (Elt F) → (⟨S64x64, .f32⟩ : BufTy).Contents (Elt F)),
    StableHlo.binary main_while1b_v66 main_while1b_v74 main_while1b_v75 (addf : (⟨S64x64, .f32⟩ : BufTy).Contents (Elt F) → (⟨S64x64, .f32⟩ : BufTy).Contents (Elt F) → (⟨S64x64, .f32⟩ : BufTy).Contents (Elt F)) ]
theorem loop1Ops5_sub : (loop1Ops5 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem loop1Ops5_fresh : (loop1Ops5 : List (HloOp τ sig (Elt F))).Forall fun op => op.fresh = ∅ := by
  simp only [List.Forall]; repeat' constructor
/-- A stretch of the body of loop 1. -/
abbrev loop1Ops6 : List (HloOp τ sig (Elt F)) :=
  [ StableHlo.TRef.unary (.of main_while1b_v59 : StableHlo.TRef sig ⟨S64x64, .f32⟩) (.of main_while1b_call10_v0 : StableHlo.TRef sig ⟨S1x64x64, .f32⟩) (broadcastInDim S1x64x64 ![1, 2] bcast_S64x64_S1x64x64_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v37_11 : StableHlo.TRef sig ⟨S2048x64x64, .f32⟩) (.of main_while1b_call10_v0 : StableHlo.TRef sig ⟨S1x64x64, .f32⟩) ![(.of main_while1b_v54 : StableHlo.TRef sig ⟨S_, .i32⟩), (.of main_while1b_call10_c : StableHlo.TRef sig ⟨S_, .i32⟩), (.of main_while1b_call10_c_0 : StableHlo.TRef sig ⟨S_, .i32⟩)] (.of main_while1b_v76 : StableHlo.TRef sig ⟨S2048x64x64, .f32⟩) (fun x u i => Host.dynamicUpdateSlice x u (fun k => (i k (Shape.Idx.first h_S_)).toInt) updateFits_S2048x64x64_S1x64x64) ]
theorem loop1Ops6_sub : (loop1Ops6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem loop1Ops6_fresh : (loop1Ops6 : List (HloOp τ sig (Elt F))).Forall fun op => op.fresh = ∅ := by
  simp only [List.Forall]; repeat' constructor
/-- A stretch of the body of loop 1. -/
abbrev loop1Ops7 : List (HloOp τ sig (Elt F)) :=
  [ StableHlo.TRef.unary (.of main_while1b_v60 : StableHlo.TRef sig ⟨S64x64, .f32⟩) (.of main_while1b_call11_v0 : StableHlo.TRef sig ⟨S1x64x64, .f32⟩) (broadcastInDim S1x64x64 ![1, 2] bcast_S64x64_S1x64x64_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v37_12 : StableHlo.TRef sig ⟨S2048x64x64, .f32⟩) (.of main_while1b_call11_v0 : StableHlo.TRef sig ⟨S1x64x64, .f32⟩) ![(.of main_while1b_v54 : StableHlo.TRef sig ⟨S_, .i32⟩), (.of main_while1b_call11_c : StableHlo.TRef sig ⟨S_, .i32⟩), (.of main_while1b_call11_c_0 : StableHlo.TRef sig ⟨S_, .i32⟩)] (.of main_while1b_v77 : StableHlo.TRef sig ⟨S2048x64x64, .f32⟩) (fun x u i => Host.dynamicUpdateSlice x u (fun k => (i k (Shape.Idx.first h_S_)).toInt) updateFits_S2048x64x64_S1x64x64) ]
theorem loop1Ops7_sub : (loop1Ops7 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem loop1Ops7_fresh : (loop1Ops7 : List (HloOp τ sig (Elt F))).Forall fun op => op.fresh = ∅ := by
  simp only [List.Forall]; repeat' constructor
/-- A stretch of the body of loop 1. -/
abbrev loop1Ops8 : List (HloOp τ sig (Elt F)) :=
  [ StableHlo.nullary main_while1b_c_27 (constantI S_ 32 1#32),
    StableHlo.binary main_v37_6 main_while1b_c_27 main_while1b_v78 (addi : (⟨S_, .i32⟩ : BufTy).Contents (Elt F) → (⟨S_, .i32⟩ : BufTy).Contents (Elt F) → (⟨S_, .i32⟩ : BufTy).Contents (Elt F)),
    StableHlo.unary main_while1b_v78 main_v37_6 id,
    StableHlo.unary main_while1b_v75 main_v37_7 id,
    StableHlo.unary main_while1b_v71 main_v37_8 id,
    StableHlo.unary main_while1b_v73 main_v37_9 id,
    StableHlo.unary main_while1b_v69 main_v37_10 id,
    StableHlo.unary main_while1b_v76 main_v37_11 id,
    StableHlo.unary main_while1b_v77 main_v37_12 id ]
theorem loop1Ops8_sub : (loop1Ops8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem loop1Ops8_fresh : (loop1Ops8 : List (HloOp τ sig (Elt F))).Forall fun op => op.fresh = ∅ := by
  simp only [List.Forall]; repeat' constructor

abbrev body0 : List (List (HloOp τ sig (Elt F))) := [loop0Ops0, loop0Ops1, loop0Ops2, loop0Ops3, loop0Ops4, loop0Ops5, loop0Ops6, loop0Ops7]
theorem body0_plain : Plain (body0 (F := F)) :=
  .cons loop0Ops0_sub (.cons loop0Ops1_sub (.cons loop0Ops2_sub (.cons loop0Ops3_sub (.cons loop0Ops4_sub (.cons loop0Ops5_sub (.cons loop0Ops6_sub (.cons loop0Ops7_sub (.nil))))))))
theorem body0_chain : main_while0_body (F := F) = (Pipeline.chain ((body0 (F := F)).map fun ops => (StableHlo.seq ops : Prog _ PUnit)) : Prog (TpuEff nD τ sig (Elt F) (HostLoop.Sig (Pipeline.Sig Λ₀ (Fin 0) fun p => (pcfgs (F := F) p).Adm) 2) .tc) PUnit) := by
  show _ = (Pipeline.chain [StableHlo.seq loop0Ops0, StableHlo.seq loop0Ops1, StableHlo.seq loop0Ops2, StableHlo.seq loop0Ops3, StableHlo.seq loop0Ops4, StableHlo.seq loop0Ops5, StableHlo.seq loop0Ops6, StableHlo.seq loop0Ops7] : Prog (TpuEff nD τ sig (Elt F) (HostLoop.Sig (Pipeline.Sig Λ₀ (Fin 0) fun p => (pcfgs (F := F) p).Adm) 2) .tc) PUnit)
  chain_rfl

abbrev body1 : List (List (HloOp τ sig (Elt F))) := [loop1Ops0, loop1Ops1, loop1Ops2, loop1Ops3, loop1Ops4, loop1Ops5, loop1Ops6, loop1Ops7, loop1Ops8]
theorem body1_plain : Plain (body1 (F := F)) :=
  .cons loop1Ops0_sub (.cons loop1Ops1_sub (.cons loop1Ops2_sub (.cons loop1Ops3_sub (.cons loop1Ops4_sub (.cons loop1Ops5_sub (.cons loop1Ops6_sub (.cons loop1Ops7_sub (.cons loop1Ops8_sub (.nil)))))))))
theorem body1_chain : main_while1_body (F := F) = (Pipeline.chain ((body1 (F := F)).map fun ops => (StableHlo.seq ops : Prog _ PUnit)) : Prog (TpuEff nD τ sig (Elt F) (HostLoop.Sig (Pipeline.Sig Λ₀ (Fin 0) fun p => (pcfgs (F := F) p).Adm) 2) .tc) PUnit) := by
  show _ = (Pipeline.chain [StableHlo.seq loop1Ops0, StableHlo.seq loop1Ops1, StableHlo.seq loop1Ops2, StableHlo.seq loop1Ops3, StableHlo.seq loop1Ops4, StableHlo.seq loop1Ops5, StableHlo.seq loop1Ops6, StableHlo.seq loop1Ops7, StableHlo.seq loop1Ops8] : Prog (TpuEff nD τ sig (Elt F) (HostLoop.Sig (Pipeline.Sig Λ₀ (Fin 0) fun p => (pcfgs (F := F) p).Adm) 2) .tc) PUnit)
  chain_rfl

theorem main_chain (c : Dev nD) : main (F := F) c = (Pipeline.chain [StableHlo.seq mainOps0, HostLoop.enter 0, StableHlo.seq mainOps1, HostLoop.enter 1, StableHlo.seq mainOps2] : Prog (TpuEff nD τ sig (Elt F) (HostLoop.Sig (Pipeline.Sig Λ₀ (Fin 0) fun p => (pcfgs (F := F) p).Adm) 2) .tc) PUnit) := by
  chain_rfl

end Cert.Proof.S5R
-- ==== Proof.RRun.lean ====
module

public import proofs.«01_k».proof.Proof.ROps
public import Idealize.ShloMosaic.Lib.Pipeline.RegionsLoop
public import Idealize.ShloMosaic.Lib.Decide
public import Idealize.ShloMosaic.Lib.Scf.ExitTest
public import Idealize.ShloMosaic.Lib.StableHlo.RunRead

/-! The run of the reference. -/

@[expose] public section

set_option maxRecDepth 19520

noncomputable section

namespace Cert.Proof.S5R

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after atTrip afterL held Plain LoopCond loopSeg)
open Idealize.ShloMosaic.Pipeline (CSeg ucRefs)

variable {F : FTy → Type} [FloatOps F]

local notation "𝕄" => MT nD τ sig Unit (Elt F) ℕ (Option PUnit) ℕ

theorem trips_eq : Scf.trips 0#32 2048#32 1#32 = 2048 := by decide

/-! ## Loop 0 -/

abbrev cond0 : List (HloOp τ sig (Elt F)) :=
  [StableHlo.nullary main_while0c_c_23 (constantI S_ 32 2048#32),
   StableHlo.binary main_v10_4 main_while0c_c_23 main_while0c_v53 (cmpi .slt : (⟨S_, .i32⟩ : BufTy).Contents (Elt F) → (⟨S_, .i32⟩ : BufTy).Contents (Elt F) → (⟨S_, .i1⟩ : BufTy).Contents (Elt F))]

theorem counter0_body (V : Valuation τ sig (Elt F)) :
    StableHlo.afterL body0 V main_v10_4 = (addi (V main_v10_4) (constantI S_ 32 1#32) : (⟨S_, .i32⟩ : BufTy).Contents (Elt F)) := by
  simp only [StableHlo.afterL_cons, StableHlo.afterL_nil]
  after_reads_simp
  rfl

theorem counter0_cond (V : Valuation τ sig (Elt F)) : after cond0 V main_v10_4 = V main_v10_4 := by
  after_reads_simp

theorem counter0_at (W₀ : Dev nD → Valuation τ sig (Elt F)) (h0 : ∀ c, W₀ c main_v10_4 = fun _ => (0#32 : BitVec 32)) (c : Dev nD) :
    ∀ k, atTrip cond0 body0 W₀ k c main_v10_4 = fun _ => (Scf.iv 0#32 1#32 k : BitVec 32)
  | 0 => by rw [StableHlo.atTrip_zero, h0 c, Scf.iv_zero]
  | k + 1 => by
    rw [StableHlo.atTrip_succ, counter0_body, counter0_cond, counter0_at W₀ h0 c k, Scf.iv_succ]
    rfl

set_option backward.isDefEq.respectTransparency.types false in
theorem loop0_cond (W₀ : Dev nD → Valuation τ sig (Elt F)) (R : Dev nD → sProp 𝕄) (h0 : ∀ c, W₀ c main_v10_4 = fun _ => (0#32 : BitVec 32)) :
    LoopCond (pcfgs (F := F)) defs₀ Variants.none loops R main_while0_cond cond0 body0 W₀ 2048 := by
  intro k hk c bd
  have hctr := counter0_at W₀ h0 c k
  unfold main_while0_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 W₀ k c) main_v10_4 HostLoop.idx0)
        (HloOp.result _ (atTrip cond0 body0 W₀ k c) main_while0c_c_23 HostLoop.idx0) = 1#1) (k < 2048)
    rw [StableHlo.nullary_result_ne _ _ _ _ (by decide), StableHlo.nullary_result, hctr]
    have hp := Scf.cmpi_slt_iv_ub_iff (lb := 0#32) (ub := 2048#32) (st := 1#32) main_while0_ok (k := k) (by rw [trips_eq]; exact hk)
    rw [trips_eq] at hp
    exact hp
  isplitl [Hb]; · iexact Hb
  isplitl [Hh]; · rw [StableHlo.after_cons, StableHlo.after_cons, StableHlo.after_nil]; iexact Hh
  iexact HR

/-! ## Loop 1 -/

abbrev cond1 : List (HloOp τ sig (Elt F)) :=
  [StableHlo.nullary main_while1c_c_25 (constantI S_ 32 2048#32),
   StableHlo.binary main_v37_6 main_while1c_c_25 main_while1c_v53 (cmpi .slt : (⟨S_, .i32⟩ : BufTy).Contents (Elt F) → (⟨S_, .i32⟩ : BufTy).Contents (Elt F) → (⟨S_, .i1⟩ : BufTy).Contents (Elt F))]

theorem counter1_body (V : Valuation τ sig (Elt F)) :
    StableHlo.afterL body1 V main_v37_6 = (addi (V main_v37_6) (constantI S_ 32 1#32) : (⟨S_, .i32⟩ : BufTy).Contents (Elt F)) := by
  simp only [StableHlo.afterL_cons, StableHlo.afterL_nil]
  after_reads_simp
  rfl

theorem counter1_cond (V : Valuation τ sig (Elt F)) : after cond1 V main_v37_6 = V main_v37_6 := by
  after_reads_simp

theorem counter1_at (W₀ : Dev nD → Valuation τ sig (Elt F)) (h0 : ∀ c, W₀ c main_v37_6 = fun _ => (0#32 : BitVec 32)) (c : Dev nD) :
    ∀ k, atTrip cond1 body1 W₀ k c main_v37_6 = fun _ => (Scf.iv 0#32 1#32 k : BitVec 32)
  | 0 => by rw [StableHlo.atTrip_zero, h0 c, Scf.iv_zero]
  | k + 1 => by
    rw [StableHlo.atTrip_succ, counter1_body, counter1_cond, counter1_at W₀ h0 c k, Scf.iv_succ]
    rfl

set_option backward.isDefEq.respectTransparency.types false in
theorem loop1_cond (W₀ : Dev nD → Valuation τ sig (Elt F)) (R : Dev nD → sProp 𝕄) (h0 : ∀ c, W₀ c main_v37_6 = fun _ => (0#32 : BitVec 32)) :
    LoopCond (pcfgs (F := F)) defs₀ Variants.none loops R main_while1_cond cond1 body1 W₀ 2048 := by
  intro k hk c bd
  have hctr := counter1_at W₀ h0 c k
  unfold main_while1_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 W₀ k c) main_v37_6 HostLoop.idx0)
        (HloOp.result _ (atTrip cond1 body1 W₀ k c) main_while1c_c_25 HostLoop.idx0) = 1#1) (k < 2048)
    rw [StableHlo.nullary_result_ne _ _ _ _ (by decide), StableHlo.nullary_result, hctr]
    have hp := Scf.cmpi_slt_iv_ub_iff (lb := 0#32) (ub := 2048#32) (st := 1#32) main_while1_ok (k := k) (by rw [trips_eq]; exact hk)
    rw [trips_eq] at hp
    exact hp
  isplitl [Hb]; · iexact Hb
  isplitl [Hh]; · rw [StableHlo.after_cons, StableHlo.after_cons, StableHlo.after_nil]; iexact Hh
  iexact HR

/-! ## The run -/

variable (m : (ℓ : Loc nD τ sig) → Buf (Elt F) ℓ) (ρ : Dev nD → PrngReg)

abbrev R0 (c : Dev nD) : Valuation τ sig (Elt F) := fun b => m (c, b)
abbrev R1 (c : Dev nD) : Valuation τ sig (Elt F) := after mainOps0 (R0 m c)
/-- After the loop that runs the recurrence. -/
def R2 (c : Dev nD) : Valuation τ sig (Elt F) := after cond0 (atTrip cond0 body0 (R1 m) 2048 c)
abbrev R3 (c : Dev nD) : Valuation τ sig (Elt F) := after mainOps1 (R2 m c)
/-- After the loop that runs the cotangents back over the sequence. -/
def R4 (c : Dev nD) : Valuation τ sig (Elt F) := after cond1 (atTrip cond1 body1 (R3 m) 2048 c)
abbrev R5 (c : Dev nD) : Valuation τ sig (Elt F) := after mainOps2 (R4 m c)

theorem zero0 (c : Dev nD) : R1 m c main_v10_4 = fun _ => (0#32 : BitVec 32) := by
  unfold R1
  after_reads_simp
  rfl
theorem zero1 (c : Dev nD) : R3 m c main_v37_6 = fun _ => (0#32 : BitVec 32) := by
  unfold R3
  after_reads_simp
  rfl

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev Ll : GSem nD τ sig → Finset Unit := fun _ => ∅
abbrev lvl : GSem nD τ sig → Unit → ℕ := fun _ _ => 0
theorem cells_inj : Function.Injective (Pipeline.cellOf (nD := nD) (τ := τ) (Pipeline.pin (pcfgs (F := F)) adm)) := fun k => k.1.elim0
abbrev Rest (c : Dev nD) : sProp 𝕄 := iprop(∃ W, owes (c : Thread nD τ) (0 : CellTallies nD τ sig Unit) W)

abbrev seg (ops : List (HloOp τ sig (Elt F))) (hs : ops.Forall fun op => op.bufs ⊆ StableHlo.tcRefs τ sig) (hf : ops.Forall fun op => op.fresh = ∅)
    (V : Dev nD → Valuation τ sig (Elt F)) : CSeg (Ix := Unit) (Name := ℕ) (U := Option PUnit) (Lvl := ℕ) (pcfgs (F := F)) adm defs₀ Variants.none Ll lvl loops tk :=
  CSeg.ofOps _ _ _ _ _ _ _ _ (ucRefs τ sig) ops (fun op h => Pipeline.sub_ucRefs op ((List.forall_iff_forall_mem.mp hs) op h))
    (fun op h => (List.forall_iff_forall_mem.mp hf) op h) V Rest

def loopPart0 : CSeg (Ix := Unit) (Name := ℕ) (U := Option PUnit) (Lvl := ℕ) (pcfgs (F := F)) adm defs₀ Variants.none Ll lvl loops tk :=
  loopSeg _ _ _ _ _ _ _ _ 0 main_while0_cond main_while0_body rfl cond0 body0 body0_plain body0_chain 2048 (R1 m) Rest
    (loop0_cond (R1 m) Rest (zero0 m))

def loopPart1 : CSeg (Ix := Unit) (Name := ℕ) (U := Option PUnit) (Lvl := ℕ) (pcfgs (F := F)) adm defs₀ Variants.none Ll lvl loops tk :=
  loopSeg _ _ _ _ _ _ _ _ 1 main_while1_cond main_while1_body rfl cond1 body1 body1_plain body1_chain 2048 (R3 m) Rest
    (loop1_cond (R3 m) Rest (zero1 m))

abbrev parts : List (CSeg (Ix := Unit) (Name := ℕ) (U := Option PUnit) (Lvl := ℕ) (pcfgs (F := F)) adm defs₀ Variants.none Ll lvl loops tk) :=
  [seg mainOps0 mainOps0_sub mainOps0_fresh (R0 m), loopPart0 m, seg mainOps1 mainOps1_sub mainOps1_fresh (R2 m),
   loopPart1 m, seg mainOps2 mainOps2_sub mainOps2_fresh (R4 m)]

theorem no_unscoped : ∀ sm : SemLoc sig, sm.isScoped .tc = true := by decide

set_option maxHeartbeats 1000000 in
set_option backward.isDefEq.respectTransparency.types false in
/-- Every execution of the reference ends, with every buffer at the contents computed above and every counter at zero. -/
theorem run_main : θ_run defs (onTc (τ := τ) (main (F := F))) ⟨m, fun _ => 0, ρ⟩
    (fun r => (∀ c : Dev nD, ∀ b ∈ ucRefs τ sig, r.2.mem ((c : Dev nD), b) = R5 m c b) ∧ r.2.sem = fun _ => 0) := by
  refine Pipeline.θ_run_regions_loop_kit_dev_sems (Ix := Unit) (Name := ℕ) (U := Option PUnit) (Lvl := ℕ) (J := Fin 0) (P := Fin 0) (Val := Elt F)
    (pcfgs (F := F)) adm cells_inj defs₀ Variants.none Ll lvl loops tk m ρ main
    (fun _ => parts m)
    (fun c Q => by
      rewrite [main_chain c, CSeg.runL,
        show (parts m).map CSeg.prog = [StableHlo.seq mainOps0, HostLoop.enter 0, StableHlo.seq mainOps1, HostLoop.enter 1, StableHlo.seq mainOps2] from rfl]
      exact .rfl)
    (fun c => Pipeline.CSeg.pairwise_disjoint_of_T_empty _ fun s _ => Finset.eq_empty_of_isEmpty s.T)
    (O₀ := 0) (fun g hg => rfl) (fun _ => iprop(emp)) 1 ?_
    (T₀ := fun c => iprop(held (c : Thread nD τ) (ucRefs τ sig) (R0 m c) ∗ Rest c))
    (Tₙ := fun c => held (c : Thread nD τ) (ucRefs τ sig) (R5 m c))
    (hch := fun c => ⟨.rfl, .rfl, .rfl, .rfl, .rfl, .rfl⟩)
    (hinit := ?_) (QY := fun c s => ∀ b ∈ ucRefs τ sig, s.mem ((c : Dev nD), b) = R5 m c b)
    (hfin := fun c s' => ?_) (hQ := fun _ h hz => ⟨h, funext fun g => hz g (.inr (no_unscoped g.2))⟩)
  · iintro -
    imodintro
    isplitl []
    · rw [Finset.univ_eq_empty, BI.bigSep_empty]; iempintro
    · iapply (show (BI.emp : sProp 𝕄) ⊢ bigSep Finset.univ (fun _ : Dev nD => (BI.emp : sProp 𝕄)) from by rw [BI.bigSep_emp_const])
      iempintro
  · refine Pipeline.initEach Ll lvl fun c => ?_
    rw [show unscopedBufs c (fun b => m ((c : Thread nD τ).loc b)) = held (c : Thread nD τ) (ucRefs τ sig) (R0 m c) from Pipeline.unscopedBufs_held c (R0 m c)]
    iintro ⟨⟨Hh, -, HO, -, Hp, -⟩, -⟩
    imodintro
    isplitl [Hh]; · iexact Hh
    iexists ∅; iexact HO
  · unfold held
    iintro ⟨Hh, HSI⟩
    ihave Hr := (pointsTo_read_all (ucRefs τ sig) (fun b => ((c : Dev nD), b)) (fun b => R5 m c b) s') $$ [Hh HSI]
    · isplitl [Hh] <;> iassumption
    icases Hr with ⟨%h, HSI⟩
    imodintro
    isplitr; · ipureintro; exact h
    iexact HSI

/-! ## What the reference leaves of its arguments -/

abbrev argRefs : List (Ref sig .tc) := [main_arg0, main_arg1, main_arg2, main_arg3, main_arg4, main_arg5, main_arg6, main_arg7, main_arg8, main_arg9, main_arg10]

abbrev mainOps0_W : List (Ref sig .tc) := [main_v0, main_v1, main_v2, main_v3, main_v4, main_cst, main_v5, main_cst_0, main_v6, main_cst_1, main_v7, main_cst_2, main_v8, main_cst_3, main_v9, main_c, main_v10_0, main_v10_1, main_v10_2, main_v10_3, main_v10_4, main_v10_5, main_v10_6, main_v10_7, main_v10_8, main_v10_9, main_v10_10]
theorem mainOps0_keeps (V : Valuation τ sig (Elt F)) (r : Ref sig .tc) (h : r ∉ mainOps0_W) : after mainOps0 V r = V r :=
  StableHlo.after_of_writes_sub mainOps0 V (StableHlo.forall_writes_sub_of_map (W := mainOps0_W) rfl) h
abbrev mainOps1_W : List (Ref sig .tc) := [main_v11, main_v12, main_v13, main_v14, main_v15, main_v16, main_v17, main_v18, main_cst_4, main_v19, main_cst_5, main_v20, main_v21, main_v22, main_v23, main_v24, main_v25, main_v26, main_v27, main_v28, main_v29, main_v30, main_cst_6, main_v31, main_cst_7, main_v32, main_cst_8, main_v33, main_cst_9, main_v34, main_cst_10, main_v35, main_cst_11, main_v36, main_c_12, main_v37_0, main_v37_1, main_v37_2, main_v37_3, main_v37_4, main_v37_5, main_v37_6, main_v37_7, main_v37_8, main_v37_9, main_v37_10, main_v37_11, main_v37_12]
theorem mainOps1_keeps (V : Valuation τ sig (Elt F)) (r : Ref sig .tc) (h : r ∉ mainOps1_W) : after mainOps1 V r = V r :=
  StableHlo.after_of_writes_sub mainOps1 V (StableHlo.forall_writes_sub_of_map (W := mainOps1_W) rfl) h
abbrev mainOps2_W : List (Ref sig .tc) := [main_v38, main_v39, main_v40, main_v41, main_v42, main_v43, main_v44, main_v45, main_v46, main_v47, main_v48, main_v49, main_v50, main_v51, main_v52]
theorem mainOps2_keeps (V : Valuation τ sig (Elt F)) (r : Ref sig .tc) (h : r ∉ mainOps2_W) : after mainOps2 V r = V r :=
  StableHlo.after_of_writes_sub mainOps2 V (StableHlo.forall_writes_sub_of_map (W := mainOps2_W) rfl) h
abbrev loop0Ops0_W : List (Ref sig .tc) := [main_while0b_call0_c, main_while0b_call0_c_0, main_while0b_call0_v0, main_while0b_v53]
theorem loop0Ops0_keeps (V : Valuation τ sig (Elt F)) (r : Ref sig .tc) (h : r ∉ loop0Ops0_W) : after loop0Ops0 V r = V r :=
  StableHlo.after_of_writes_sub loop0Ops0 V (StableHlo.forall_writes_sub_of_map (W := loop0Ops0_W) rfl) h
abbrev loop0Ops1_W : List (Ref sig .tc) := [main_while0b_call1_c, main_while0b_call1_c_0, main_while0b_call1_v0, main_while0b_v54]
theorem loop0Ops1_keeps (V : Valuation τ sig (Elt F)) (r : Ref sig .tc) (h : r ∉ loop0Ops1_W) : after loop0Ops1 V r = V r :=
  StableHlo.after_of_writes_sub loop0Ops1 V (StableHlo.forall_writes_sub_of_map (W := loop0Ops1_W) rfl) h
abbrev loop0Ops2_W : List (Ref sig .tc) := [main_while0b_v55, main_while0b_v56, main_while0b_v57, main_while0b_v58, main_while0b_v59, main_while0b_v60, main_while0b_v61, main_while0b_v62]
theorem loop0Ops2_keeps (V : Valuation τ sig (Elt F)) (r : Ref sig .tc) (h : r ∉ loop0Ops2_W) : after loop0Ops2 V r = V r :=
  StableHlo.after_of_writes_sub loop0Ops2 V (StableHlo.forall_writes_sub_of_map (W := loop0Ops2_W) rfl) h
abbrev loop0Ops3_W : List (Ref sig .tc) := [main_while0b_call2_v0, main_while0b_call2_c, main_while0b_call2_c_0, main_while0b_v63]
theorem loop0Ops3_keeps (V : Valuation τ sig (Elt F)) (r : Ref sig .tc) (h : r ∉ loop0Ops3_W) : after loop0Ops3 V r = V r :=
  StableHlo.after_of_writes_sub loop0Ops3 V (StableHlo.forall_writes_sub_of_map (W := loop0Ops3_W) rfl) h
abbrev loop0Ops4_W : List (Ref sig .tc) := [main_while0b_call3_v0, main_while0b_call3_c, main_while0b_call3_c_0, main_while0b_v64]
theorem loop0Ops4_keeps (V : Valuation τ sig (Elt F)) (r : Ref sig .tc) (h : r ∉ loop0Ops4_W) : after loop0Ops4 V r = V r :=
  StableHlo.after_of_writes_sub loop0Ops4 V (StableHlo.forall_writes_sub_of_map (W := loop0Ops4_W) rfl) h
abbrev loop0Ops5_W : List (Ref sig .tc) := [main_while0b_call4_v0, main_while0b_call4_c, main_while0b_call4_c_0, main_while0b_v65]
theorem loop0Ops5_keeps (V : Valuation τ sig (Elt F)) (r : Ref sig .tc) (h : r ∉ loop0Ops5_W) : after loop0Ops5 V r = V r :=
  StableHlo.after_of_writes_sub loop0Ops5 V (StableHlo.forall_writes_sub_of_map (W := loop0Ops5_W) rfl) h
abbrev loop0Ops6_W : List (Ref sig .tc) := [main_while0b_call5_v0, main_while0b_call5_c, main_while0b_call5_c_0, main_while0b_v66]
theorem loop0Ops6_keeps (V : Valuation τ sig (Elt F)) (r : Ref sig .tc) (h : r ∉ loop0Ops6_W) : after loop0Ops6 V r = V r :=
  StableHlo.after_of_writes_sub loop0Ops6 V (StableHlo.forall_writes_sub_of_map (W := loop0Ops6_W) rfl) h
abbrev loop0Ops7_W : List (Ref sig .tc) := [main_while0b_c_23, main_while0b_v67, main_v10_4, main_v10_5, main_v10_6, main_v10_7, main_v10_8, main_v10_9, main_v10_10]
theorem loop0Ops7_keeps (V : Valuation τ sig (Elt F)) (r : Ref sig .tc) (h : r ∉ loop0Ops7_W) : after loop0Ops7 V r = V r :=
  StableHlo.after_of_writes_sub loop0Ops7 V (StableHlo.forall_writes_sub_of_map (W := loop0Ops7_W) rfl) h
abbrev loop1Ops0_W : List (Ref sig .tc) := [main_while1b_c_25, main_while1b_v53, main_while1b_c_26, main_while1b_v54]
theorem loop1Ops0_keeps (V : Valuation τ sig (Elt F)) (r : Ref sig .tc) (h : r ∉ loop1Ops0_W) : after loop1Ops0 V r = V r :=
  StableHlo.after_of_writes_sub loop1Ops0 V (StableHlo.forall_writes_sub_of_map (W := loop1Ops0_W) rfl) h
abbrev loop1Ops1_W : List (Ref sig .tc) := [main_while1b_call6_c, main_while1b_call6_c_0, main_while1b_call6_v0, main_while1b_v55]
theorem loop1Ops1_keeps (V : Valuation τ sig (Elt F)) (r : Ref sig .tc) (h : r ∉ loop1Ops1_W) : after loop1Ops1 V r = V r :=
  StableHlo.after_of_writes_sub loop1Ops1 V (StableHlo.forall_writes_sub_of_map (W := loop1Ops1_W) rfl) h
abbrev loop1Ops2_W : List (Ref sig .tc) := [main_while1b_call7_c, main_while1b_call7_c_0, main_while1b_call7_v0, main_while1b_v56]
theorem loop1Ops2_keeps (V : Valuation τ sig (Elt F)) (r : Ref sig .tc) (h : r ∉ loop1Ops2_W) : after loop1Ops2 V r = V r :=
  StableHlo.after_of_writes_sub loop1Ops2 V (StableHlo.forall_writes_sub_of_map (W := loop1Ops2_W) rfl) h
abbrev loop1Ops3_W : List (Ref sig .tc) := [main_while1b_call8_c, main_while1b_call8_c_0, main_while1b_call8_v0, main_while1b_v57]
theorem loop1Ops3_keeps (V : Valuation τ sig (Elt F)) (r : Ref sig .tc) (h : r ∉ loop1Ops3_W) : after loop1Ops3 V r = V r :=
  StableHlo.after_of_writes_sub loop1Ops3 V (StableHlo.forall_writes_sub_of_map (W := loop1Ops3_W) rfl) h
abbrev loop1Ops4_W : List (Ref sig .tc) := [main_while1b_call9_c, main_while1b_call9_c_0, main_while1b_call9_v0, main_while1b_v58]
theorem loop1Ops4_keeps (V : Valuation τ sig (Elt F)) (r : Ref sig .tc) (h : r ∉ loop1Ops4_W) : after loop1Ops4 V r = V r :=
  StableHlo.after_of_writes_sub loop1Ops4 V (StableHlo.forall_writes_sub_of_map (W := loop1Ops4_W) rfl) h
abbrev loop1Ops5_W : List (Ref sig .tc) := [main_while1b_v59, main_while1b_v60, main_while1b_v61, main_while1b_v62, main_while1b_v63, main_while1b_v64, main_while1b_v65, main_while1b_v66, main_while1b_v67, main_while1b_v68, main_while1b_v69, main_while1b_v70, main_while1b_v71, main_while1b_v72, main_while1b_v73, main_while1b_v74, main_while1b_v75]
theorem loop1Ops5_keeps (V : Valuation τ sig (Elt F)) (r : Ref sig .tc) (h : r ∉ loop1Ops5_W) : after loop1Ops5 V r = V r :=
  StableHlo.after_of_writes_sub loop1Ops5 V (StableHlo.forall_writes_sub_of_map (W := loop1Ops5_W) rfl) h
abbrev loop1Ops6_W : List (Ref sig .tc) := [main_while1b_call10_v0, main_while1b_call10_c, main_while1b_call10_c_0, main_while1b_v76]
theorem loop1Ops6_keeps (V : Valuation τ sig (Elt F)) (r : Ref sig .tc) (h : r ∉ loop1Ops6_W) : after loop1Ops6 V r = V r :=
  StableHlo.after_of_writes_sub loop1Ops6 V (StableHlo.forall_writes_sub_of_map (W := loop1Ops6_W) rfl) h
abbrev loop1Ops7_W : List (Ref sig .tc) := [main_while1b_call11_v0, main_while1b_call11_c, main_while1b_call11_c_0, main_while1b_v77]
theorem loop1Ops7_keeps (V : Valuation τ sig (Elt F)) (r : Ref sig .tc) (h : r ∉ loop1Ops7_W) : after loop1Ops7 V r = V r :=
  StableHlo.after_of_writes_sub loop1Ops7 V (StableHlo.forall_writes_sub_of_map (W := loop1Ops7_W) rfl) h
abbrev loop1Ops8_W : List (Ref sig .tc) := [main_while1b_c_27, main_while1b_v78, main_v37_6, main_v37_7, main_v37_8, main_v37_9, main_v37_10, main_v37_11, main_v37_12]
theorem loop1Ops8_keeps (V : Valuation τ sig (Elt F)) (r : Ref sig .tc) (h : r ∉ loop1Ops8_W) : after loop1Ops8 V r = V r :=
  StableHlo.after_of_writes_sub loop1Ops8 V (StableHlo.forall_writes_sub_of_map (W := loop1Ops8_W) rfl) h
abbrev cond0_W : List (Ref sig .tc) := [main_while0c_c_23, main_while0c_v53]
theorem cond0_keeps (V : Valuation τ sig (Elt F)) (r : Ref sig .tc) (h : r ∉ cond0_W) : after cond0 V r = V r :=
  StableHlo.after_of_writes_sub cond0 V (StableHlo.forall_writes_sub_of_map (W := cond0_W) rfl) h
abbrev cond1_W : List (Ref sig .tc) := [main_while1c_c_25, main_while1c_v53]
theorem cond1_keeps (V : Valuation τ sig (Elt F)) (r : Ref sig .tc) (h : r ∉ cond1_W) : after cond1 V r = V r :=
  StableHlo.after_of_writes_sub cond1 V (StableHlo.forall_writes_sub_of_map (W := cond1_W) rfl) h

abbrev loop0_W : List (Ref sig .tc) := cond0_W ++ loop0Ops0_W ++ loop0Ops1_W ++ loop0Ops2_W ++ loop0Ops3_W ++ loop0Ops4_W ++ loop0Ops5_W ++ loop0Ops6_W ++ loop0Ops7_W
theorem atTrip0_keeps (W₀ : Dev nD → Valuation τ sig (Elt F)) (c : Dev nD) (r : Ref sig .tc) (h : r ∉ loop0_W) (k : ℕ) :
    atTrip cond0 body0 W₀ k c r = W₀ c r := by
  simp only [List.mem_append, not_or, and_assoc] at h
  obtain ⟨hc, h0, h1, h2, h3, h4, h5, h6, h7⟩ := h
  induction k with
  | zero => rw [StableHlo.atTrip_zero]
  | succ k ih =>
    rw [StableHlo.atTrip_succ]
    simp only [StableHlo.afterL_cons, StableHlo.afterL_nil]
    rw [loop0Ops7_keeps _ r h7, loop0Ops6_keeps _ r h6, loop0Ops5_keeps _ r h5, loop0Ops4_keeps _ r h4, loop0Ops3_keeps _ r h3, loop0Ops2_keeps _ r h2, loop0Ops1_keeps _ r h1, loop0Ops0_keeps _ r h0, cond0_keeps _ r hc, ih]

abbrev loop1_W : List (Ref sig .tc) := cond1_W ++ loop1Ops0_W ++ loop1Ops1_W ++ loop1Ops2_W ++ loop1Ops3_W ++ loop1Ops4_W ++ loop1Ops5_W ++ loop1Ops6_W ++ loop1Ops7_W ++ loop1Ops8_W
theorem atTrip1_keeps (W₀ : Dev nD → Valuation τ sig (Elt F)) (c : Dev nD) (r : Ref sig .tc) (h : r ∉ loop1_W) (k : ℕ) :
    atTrip cond1 body1 W₀ k c r = W₀ c r := by
  simp only [List.mem_append, not_or, and_assoc] at h
  obtain ⟨hc, h0, h1, h2, h3, h4, h5, h6, h7, h8⟩ := h
  induction k with
  | zero => rw [StableHlo.atTrip_zero]
  | succ k ih =>
    rw [StableHlo.atTrip_succ]
    simp only [StableHlo.afterL_cons, StableHlo.afterL_nil]
    rw [loop1Ops8_keeps _ r h8, loop1Ops7_keeps _ r h7, loop1Ops6_keeps _ r h6, loop1Ops5_keeps _ r h5, loop1Ops4_keeps _ r h4, loop1Ops3_keeps _ r h3, loop1Ops2_keeps _ r h2, loop1Ops1_keeps _ r h1, loop1Ops0_keeps _ r h0, cond1_keeps _ r hc, ih]

theorem args_kept : ∀ a ∈ argRefs, a ∉ mainOps0_W ∧ a ∉ loop0_W ∧ a ∉ cond0_W ∧ a ∉ mainOps1_W ∧ a ∉ loop1_W ∧ a ∉ cond1_W ∧ a ∉ mainOps2_W ∧ a.isScoped = false :=
  by decide +kernel

theorem R5_args (c : Dev nD) : ∀ a ∈ argRefs, R5 m c a = m ((c : Thread nD τ).loc a) := fun a ha => by
  obtain ⟨h0, h1, h2, h3, h4, h5, h6, -⟩ := args_kept a ha
  rw [show R5 m c a = R4 m c a from mainOps2_keeps _ a h6]
  unfold R4
  rw [cond1_keeps _ a h5, atTrip1_keeps _ c a h4, show R3 m c a = R2 m c a from mainOps1_keeps _ a h3]
  unfold R2
  rw [cond0_keeps _ a h2, atTrip0_keeps _ c a h1, show R1 m c a = R0 m c a from mainOps0_keeps _ a h0]

theorem mem_uc (r : Ref sig .tc) (h : r.isScoped = false) : Proc.devRef .tc r ∈ ucRefs τ sig :=
  Finset.mem_filter.mpr ⟨StableHlo.devRef_mem_tcRefs _, fun h' => Bool.false_ne_true (h.symm.trans h')⟩

theorem run_args : θ_run defs (onTc (τ := τ) (main (F := F))) ⟨m, fun _ => 0, ρ⟩
    (fun r => (∀ c : Dev nD, (∀ b : Ref sig .tc, b.isScoped = false → r.2.mem ((c.tc : Thread nD τ).loc b) = R5 m c b)
      ∧ ∀ a ∈ argRefs, r.2.mem ((c.tc : Thread nD τ).loc a) = m ((c.tc : Thread nD τ).loc a)) ∧ r.2.sem = fun _ => 0) :=
  (θ_run defs _ _).mono (fun r h => ⟨fun c => ⟨fun b hb => h.1 c _ (mem_uc b hb),
    fun a ha => (h.1 c _ (mem_uc a (args_kept a ha).2.2.2.2.2.2.2)).trans (R5_args m c a ha)⟩, h.2⟩) (run_main m ρ)

end Cert.Proof.S5R
-- ==== Proof.Frames.lean ====
/- The frames of the diagonal recurrence's gradient: the kernel at machine formats, its idealization, and the reference. -/
module

public import proofs.«01_k».proof.Defs
public import proofs.«01_k».proof.Proof.Gen.Kernel
public import proofs.«01_k».proof.Proof.KFrame
public import proofs.«01_k».proof.Proof.BFrame
public import proofs.«01_k».proof.Proof.RRun

@[expose] public section

set_option maxRecDepth 16384

noncomputable section

namespace Cert.Proof

open Idealize.ShloMosaic Idealize.SL.Sem

theorem frame_kernelIdeal : quiescent_KernelIdeal := fun m g _ =>
  (θ_run Cert.KernelIdeal.defs _ _).mono (fun _ h => ⟨fun c =>
    let ha := (h.1 c).2
    ⟨ha Cert.KernelIdeal.main_arg0 (by decide), ha Cert.KernelIdeal.main_arg1 (by decide), ha Cert.KernelIdeal.main_arg2 (by decide), ha Cert.KernelIdeal.main_arg3 (by decide), ha Cert.KernelIdeal.main_arg4 (by decide), ha Cert.KernelIdeal.main_arg5 (by decide), ha Cert.KernelIdeal.main_arg6 (by decide), ha Cert.KernelIdeal.main_arg7 (by decide), ha Cert.KernelIdeal.main_arg8 (by decide), ha Cert.KernelIdeal.main_arg9 (by decide), ha Cert.KernelIdeal.main_arg10 (by decide)⟩, h.2⟩) (S5.run_args (F := Ideal) m g)

theorem frame_reference : quiescent_ReferenceIdeal := fun m g _ =>
  (θ_run Cert.ReferenceIdeal.defs _ _).mono (fun _ h => ⟨fun c =>
    let ha := (h.1 c).2
    ⟨ha Cert.ReferenceIdeal.main_arg0 (by decide), ha Cert.ReferenceIdeal.main_arg1 (by decide), ha Cert.ReferenceIdeal.main_arg2 (by decide), ha Cert.ReferenceIdeal.main_arg3 (by decide), ha Cert.ReferenceIdeal.main_arg4 (by decide), ha Cert.ReferenceIdeal.main_arg5 (by decide), ha Cert.ReferenceIdeal.main_arg6 (by decide), ha Cert.ReferenceIdeal.main_arg7 (by decide), ha Cert.ReferenceIdeal.main_arg8 (by decide), ha Cert.ReferenceIdeal.main_arg9 (by decide), ha Cert.ReferenceIdeal.main_arg10 (by decide)⟩, h.2⟩) (S5R.run_args (F := Ideal) m g)

theorem frame_kernel : quiescent_Kernel := fun m g _ =>
  (θ_run Cert.Kernel.defs _ _).mono (fun _ h => ⟨fun c =>
    let ha := (h.1 c).2
    ⟨ha Cert.Kernel.main_arg0 (by decide), ha Cert.Kernel.main_arg1 (by decide), ha Cert.Kernel.main_arg2 (by decide), ha Cert.Kernel.main_arg3 (by decide), ha Cert.Kernel.main_arg4 (by decide), ha Cert.Kernel.main_arg5 (by decide), ha Cert.Kernel.main_arg6 (by decide), ha Cert.Kernel.main_arg7 (by decide), ha Cert.Kernel.main_arg8 (by decide), ha Cert.Kernel.main_arg9 (by decide), ha Cert.Kernel.main_arg10 (by decide)⟩, h.2⟩) (S5B.run_args (F := Bits) m g)

end Cert.Proof

end
-- ==== Proof.Ffn2DxValue.lean ====
/- The value of the gradient of the squared ReLU through the second product of the feed-forward layer. -/
module

public import proofs.«01_k».proof.Defs
public import proofs.«01_k».proof.Proof.Gen.Ffn2DxIdeal.Value
public import proofs.«01_k».proof.Proof.Gen.Ffn2DxRefIdeal
public import proofs.«01_k».proof.Proof.Gen.Ffn2DxRefIdeal.Run
public import Idealize.ShloMosaic.Lib.Pipeline.ValueKit
public import Idealize.ShloMosaic.Lib.Pointwise

@[expose] public section

set_option maxRecDepth 16384

noncomputable section

namespace Cert.Proof.Ffn2Dx

open Cert.Ffn2DxIdeal Cert.Ffn2DxIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![(grid0.coords t 0).val, (grid0.coords t 3).val]
    ∧ win0_1.index t = ![(grid0.coords t 2).val, (grid0.coords t 3).val]
    ∧ win0_2.index t = ![(grid0.coords t 0).val, (grid0.coords t 2).val]
    ∧ win0_3.index t = ![(grid0.coords t 0).val, (grid0.coords t 2).val] := by decide +kernel

theorem last : ∀ t : Fin grid0.N, (grid0.coords t 3).val = 0 := by decide +kernel

/-- The gate of the squared ReLU's gradient is already in the factor `max f 0`. -/
theorem gate (s k f : EReal) : s * (k * max f 0) = if 0 < f then s * (k * max f 0) else 0 := by
  split_ifs with h
  · rfl
  · rw [max_eq_right (not_lt.mp h), mul_zero, mul_zero]

set_option maxHeartbeats 2000000 in
/-- The kernel's result is the reference's, element by element. -/
theorem algebraic : algebraic_Ffn2DxIdeal_Ffn2DxRefIdeal := fun m g m' g' _ hag => by
  refine ⟨fun c => (dats m 0 c).arrAt 3 cfg0.N,
    (θ_run defs _ _).mono (fun r h c => h c) (Value.run_blocks m g),
    (θ_run _ _ _).mono (fun r h c => ⟨(h c).1.trans ?_, (h c).2⟩) (Cert.Ffn2DxRefIdeal.Value.run m' g')⟩
  obtain ⟨h0, h1, h2⟩ := hag c
  simp only [h0, h1, h2]
  symm
  refine (dats m 0 c).arrAt_eq_of_covers 3 _ (by decide +kernel) fun t hf y => ?_
  blk_simp
  rw [after0_3]
  unfold outsAt0
  frame_out
  pointwise [k0_pay1, k0_pay2, k0_pay3]
  rw [gate]
  have e := idx t
  have l := last t
  blk_point [iblk, V, e]

end Cert.Proof.Ffn2Dx

end
-- ==== Proof.Ffn2DwValue.lean ====
/- The value of the gradient of the second product of the feed-forward layer in its weights. -/
module

public import proofs.«01_k».proof.Defs
public import proofs.«01_k».proof.Proof.Gen.Ffn2DwIdeal.Value
public import proofs.«01_k».proof.Proof.Gen.Ffn2DwRefIdeal
public import proofs.«01_k».proof.Proof.Gen.Ffn2DwRefIdeal.Run
public import Idealize.ShloMosaic.Lib.Pipeline.ValueKit
public import Idealize.ShloMosaic.Lib.Pointwise

@[expose] public section

set_option maxRecDepth 16384

noncomputable section

namespace Cert.Proof.Ffn2Dw

open Cert.Ffn2DwIdeal Cert.Ffn2DwIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![(grid0.coords t 3).val, (grid0.coords t 0).val]
    ∧ win0_1.index t = ![(grid0.coords t 3).val, (grid0.coords t 2).val]
    ∧ win0_2.index t = ![(grid0.coords t 0).val, (grid0.coords t 2).val] := by decide +kernel

theorem last : ∀ t : Fin grid0.N, (grid0.coords t 3).val = 0 := by decide +kernel

set_option maxHeartbeats 2000000 in
/-- The kernel's result is the reference's, element by element. -/
theorem algebraic : algebraic_Ffn2DwIdeal_Ffn2DwRefIdeal := fun m g m' g' _ hag => by
  refine ⟨fun c => (dats m 0 c).arrAt 2 cfg0.N,
    (θ_run defs _ _).mono (fun r h c => h c) (Value.run_blocks m g),
    (θ_run _ _ _).mono (fun r h c => ⟨(h c).1.trans ?_, (h c).2⟩) (Cert.Ffn2DwRefIdeal.Value.run m' g')⟩
  obtain ⟨h0, h1, h2⟩ := hag c
  simp only [h0, h1, h2]
  symm
  refine (dats m 0 c).arrAt_eq_of_covers 2 _ (by decide +kernel) fun t hf y => ?_
  blk_simp
  rw [after0_2]
  unfold outsAt0
  frame_out
  pointwise [k0_pay1, k0_pay2]
  refine (Finset.sum_congr rfl fun k _ => mul_comm (G := EReal) _ _).trans ?_
  have e := idx t
  have l := last t
  refine Finset.sum_congr rfl fun k _ => congrArg₂ (HMul.hMul (α := EReal) (β := EReal) (γ := EReal)) ?_ ?_
  · blk_ext [iblk, V, e]
  · blk_simp [iblk, e]; entry_read; pointwise; blk_point [iblk, V, e]

end Cert.Proof.Ffn2Dw

end
-- ==== Proof.Ffn1DxValue.lean ====
/- The value of the gradient of the first product of the feed-forward layer in its input. -/
module

public import proofs.«01_k».proof.Defs
public import proofs.«01_k».proof.Proof.Gen.Ffn1DxIdeal.Value
public import proofs.«01_k».proof.Proof.Gen.Ffn1DxRefIdeal
public import proofs.«01_k».proof.Proof.Gen.Ffn1DxRefIdeal.Run
public import Idealize.ShloMosaic.Lib.Pipeline.ValueKit
public import Idealize.ShloMosaic.Lib.Pointwise

@[expose] public section

set_option maxRecDepth 16384

noncomputable section

namespace Cert.Proof.Ffn1Dx

open Cert.Ffn1DxIdeal Cert.Ffn1DxIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val / 8, t.val % 4]
    ∧ win0_1.index t = ![t.val % 4, t.val / 4 % 2, 0]
    ∧ win0_2.index t = ![t.val / 8, t.val / 4 % 2] := by decide +kernel

/-- What one grid point adds to the accumulator: one stretch of the contraction. -/
def term (m : (ℓ : Loc nD τ sig) → Buf (Elt Ideal) ℓ) (c : Dev nD) (t : Fin cfg0.N) (j : S1024x1024.Idx) : Ideal .f32 :=
  ∑ k : Fin 2048, HMul.hMul (α := EReal) (β := EReal) (γ := EReal) (iblk m c 0 t (Idealize.ShloMosaic.ix2 (j 0 : Fin 1024) k)) (iblk m c 1 t (Idealize.ShloMosaic.ix3 0 (j 1 : Fin 1024) k))

theorem acc_last (m : (ℓ : Loc nD τ sig) → Buf (Elt Ideal) ℓ) (c : Dev nD) (t : Fin cfg0.N) (h1 : t.val % 4 = 3) (j : S1024x1024.Idx) :
    (outsAt0 m c t.val t.isLt).1 j = (outsAt0 m c t.val t.isLt).2 j := by
  rw [outsAt0_C m c t (by omega) h1]
  frame_out

theorem acc_reset (m : (ℓ : Loc nD τ sig) → Buf (Elt Ideal) ℓ) (c : Dev nD) (t : Fin cfg0.N) (h0 : t.val % 4 = 0) (j : S1024x1024.Idx) :
    (outsAt0 m c t.val t.isLt).2 j = (0 : EReal) + term m c t j := by
  rw [outsAt0_A m c t h0 (by omega)]
  frame_out
  unfold term
  pointwise [k0_pay1, k0_pay2]

theorem acc_step (m : (ℓ : Loc nD τ sig) → Buf (Elt Ideal) ℓ) (c : Dev nD) (t : Fin cfg0.N) (h0 : ¬t.val % 4 = 0) (j : S1024x1024.Idx) :
    (outsAt0 m c t.val t.isLt).2 j
      = (outsAt0 m c (t.val - 1) (Nat.lt_of_le_of_lt (Nat.sub_le _ _) t.isLt)).2 j + term m c t j := by
  by_cases h1 : t.val % 4 = 3
  · rw [outsAt0_C m c t h0 h1]
    frame_out
    unfold term
    pointwise [k0_pay1, k0_pay2]
    refine congrArg₂ (HAdd.hAdd (α := EReal) (β := EReal) (γ := EReal)) ?_ rfl
    exact congrFun ((show scM0_0.IsWhole from Memref.isWhole_whole _).read_unread _) j
  · rw [outsAt0_B m c t h0 h1]
    frame_out
    unfold term
    pointwise [k0_pay1, k0_pay2]
    refine congrArg₂ (HAdd.hAdd (α := EReal) (β := EReal) (γ := EReal)) ?_ rfl
    exact congrFun ((show scM0_0.IsWhole from Memref.isWhole_whole _).read_unread _) j

set_option maxHeartbeats 2000000 in
/-- The kernel's result is the reference's, element by element. -/
theorem algebraic : algebraic_Ffn1DxIdeal_Ffn1DxRefIdeal := fun m g m' g' _ hag => by
  refine ⟨fun c => (dats m 0 c).arrAt 2 cfg0.N,
    (θ_run defs _ _).mono (fun r h c => h c) (Value.run_blocks m g),
    (θ_run _ _ _).mono (fun r h c => ⟨(h c).1.trans ?_, (h c).2⟩) (Cert.Ffn1DxRefIdeal.Value.run m' g')⟩
  obtain ⟨h0, h1, h2⟩ := hag c
  simp only [h0, h1, h2]
  symm
  refine (dats m 0 c).arrAt_eq_of_covers 2 _ (by decide +kernel) fun t hf y => ?_
  blk_simp
  rw [after0_2]
  have hm : t.val % 4 = 3 := (flush0_2 t).mp hf
  rw [acc_last m c t hm]
  rw [Pipeline.eq_sum_fin_of_reset_step_apply_of_flush (M := EReal) (fun n h => (outsAt0 m c n h).2) 4 (fun _ => 0) (term m c)
    (acc_reset m c) (acc_step m c) t hm]
  rw [zero_add]
  unfold term
  pointwise
  refine Fin.sum_mul_add_congr fun s k hl => ?_
  have e := idx ⟨4 * (t.val / 4) + s.val, Pipeline.run_point_lt_of_flush t hm s⟩
  have e' := idx t
  blk_point [iblk, V, e, e']

end Cert.Proof.Ffn1Dx

end
-- ==== Proof.Ffn1DwValue.lean ====
/- The value of the gradient of the first product of the feed-forward layer in its weights. -/
module

public import proofs.«01_k».proof.Defs
public import proofs.«01_k».proof.Proof.Gen.Ffn1DwIdeal.Value
public import proofs.«01_k».proof.Proof.Gen.Ffn1DwRefIdeal
public import proofs.«01_k».proof.Proof.Gen.Ffn1DwRefIdeal.Run
public import Idealize.ShloMosaic.Lib.Pipeline.ValueKit
public import Idealize.ShloMosaic.Lib.Pointwise

@[expose] public section

set_option maxRecDepth 16384

noncomputable section

namespace Cert.Proof.Ffn1Dw

open Cert.Ffn1DwIdeal Cert.Ffn1DwIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![(grid0.coords t 3).val, (grid0.coords t 0).val]
    ∧ win0_1.index t = ![(grid0.coords t 3).val, 2 * (grid0.coords t 1).val + (grid0.coords t 2).val]
    ∧ win0_2.index t = ![(grid0.coords t 1).val, (grid0.coords t 0).val, (grid0.coords t 2).val] := by decide +kernel

theorem last : ∀ t : Fin grid0.N, (grid0.coords t 3).val = 0 := by decide +kernel

set_option maxHeartbeats 2000000 in
/-- The kernel's result is the reference's, element by element. -/
theorem algebraic : algebraic_Ffn1DwIdeal_Ffn1DwRefIdeal := fun m g m' g' _ hag => by
  refine ⟨fun c => (dats m 0 c).arrAt 2 cfg0.N,
    (θ_run defs _ _).mono (fun r h c => h c) (Value.run_blocks m g),
    (θ_run _ _ _).mono (fun r h c => ⟨(h c).1.trans ?_, (h c).2⟩) (Cert.Ffn1DwRefIdeal.Value.run m' g')⟩
  obtain ⟨h0, h1, h2⟩ := hag c
  simp only [h0, h1, h2]
  symm
  refine (dats m 0 c).arrAt_eq_of_covers 2 _ (by decide +kernel) fun t hf y => ?_
  blk_simp
  rw [after0_2]
  unfold outsAt0
  frame_out
  pointwise [k0_pay1, k0_pay2, k0_pay3]
  refine (Finset.sum_congr rfl fun k _ => mul_comm (G := EReal) _ _).trans ?_
  have e := idx t
  have l := last t
  blk_point [iblk, V, e]

end Cert.Proof.Ffn1Dw

end
-- ==== Proof.MixDxValue.lean ====
/- The value of the gradient of the output product in its input. -/
module

public import proofs.«01_k».proof.Defs
public import proofs.«01_k».proof.Proof.Gen.MixDxIdeal.Value
public import proofs.«01_k».proof.Proof.Gen.MixDxRefIdeal
public import proofs.«01_k».proof.Proof.Gen.MixDxRefIdeal.Run
public import Idealize.ShloMosaic.Lib.Pipeline.ValueKit
public import Idealize.ShloMosaic.Lib.Pointwise

@[expose] public section

set_option maxRecDepth 16384

noncomputable section

namespace Cert.Proof.MixDx

open Cert.MixDxIdeal Cert.MixDxIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![(grid0.coords t 0).val, (grid0.coords t 3).val]
    ∧ win0_1.index t = ![(grid0.coords t 2).val, (grid0.coords t 3).val]
    ∧ win0_2.index t = ![(grid0.coords t 0).val, (grid0.coords t 2).val] := by decide +kernel

theorem last : ∀ t : Fin grid0.N, (grid0.coords t 3).val = 0 := by decide +kernel

set_option maxHeartbeats 2000000 in
/-- The kernel's result is the reference's, element by element. -/
theorem algebraic : algebraic_MixDxIdeal_MixDxRefIdeal := fun m g m' g' _ hag => by
  refine ⟨fun c => (dats m 0 c).arrAt 2 cfg0.N,
    (θ_run defs _ _).mono (fun r h c => h c) (Value.run_blocks m g),
    (θ_run _ _ _).mono (fun r h c => ⟨(h c).1.trans ?_, (h c).2⟩) (Cert.MixDxRefIdeal.Value.run m' g')⟩
  obtain ⟨h0, h1, h2⟩ := hag c
  simp only [h0, h1, h2]
  symm
  refine (dats m 0 c).arrAt_eq_of_covers 2 _ (by decide +kernel) fun t hf y => ?_
  blk_simp
  rw [after0_2]
  unfold outsAt0
  frame_out
  pointwise [k0_pay1, k0_pay2]
  have e := idx t
  have l := last t
  blk_point [iblk, V, e]

end Cert.Proof.MixDx

end
-- ==== Proof.MixDwValue.lean ====
/- The value of the gradient of the output product in its weights. -/
module

public import proofs.«01_k».proof.Defs
public import proofs.«01_k».proof.Proof.Gen.MixDwIdeal.Value
public import proofs.«01_k».proof.Proof.Gen.MixDwRefIdeal
public import proofs.«01_k».proof.Proof.Gen.MixDwRefIdeal.Run
public import Idealize.ShloMosaic.Lib.Pipeline.ValueKit
public import Idealize.ShloMosaic.Lib.Pointwise

@[expose] public section

set_option maxRecDepth 16384

noncomputable section

namespace Cert.Proof.MixDw

open Cert.MixDwIdeal Cert.MixDwIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![(grid0.coords t 3).val, (grid0.coords t 0).val]
    ∧ win0_1.index t = ![(grid0.coords t 3).val, (grid0.coords t 2).val]
    ∧ win0_2.index t = ![(grid0.coords t 0).val, (grid0.coords t 2).val] := by decide +kernel

theorem last : ∀ t : Fin grid0.N, (grid0.coords t 3).val = 0 := by decide +kernel

set_option maxHeartbeats 2000000 in
/-- The kernel's result is the reference's, element by element. -/
theorem algebraic : algebraic_MixDwIdeal_MixDwRefIdeal := fun m g m' g' _ hag => by
  refine ⟨fun c => (dats m 0 c).arrAt 2 cfg0.N,
    (θ_run defs _ _).mono (fun r h c => h c) (Value.run_blocks m g),
    (θ_run _ _ _).mono (fun r h c => ⟨(h c).1.trans ?_, (h c).2⟩) (Cert.MixDwRefIdeal.Value.run m' g')⟩
  obtain ⟨h0, h1, h2⟩ := hag c
  simp only [h0, h1, h2]
  symm
  refine (dats m 0 c).arrAt_eq_of_covers 2 _ (by decide +kernel) fun t hf y => ?_
  blk_simp
  rw [after0_2]
  unfold outsAt0
  frame_out
  pointwise [k0_pay1, k0_pay2]
  refine (Finset.sum_congr rfl fun k _ => mul_comm (G := EReal) _ _).trans ?_
  have e := idx t
  have l := last t
  blk_point [iblk, V, e]

end Cert.Proof.MixDw

end
-- ==== Proof.ProjDxValue.lean ====
/- The value of the gradient of the stacked projections in their input. -/
module

public import proofs.«01_k».proof.Defs
public import proofs.«01_k».proof.Proof.Gen.ProjDxIdeal.Value
public import proofs.«01_k».proof.Proof.Gen.ProjDxRefIdeal
public import proofs.«01_k».proof.Proof.Gen.ProjDxRefIdeal.Run
public import Idealize.ShloMosaic.Lib.Pipeline.ValueKit
public import Idealize.ShloMosaic.Lib.Pointwise

@[expose] public section

set_option maxRecDepth 16384

noncomputable section

namespace Cert.Proof.ProjDx

open Cert.ProjDxIdeal Cert.ProjDxIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val / 18, t.val % 9]
    ∧ win0_1.index t = ![t.val / 9 % 2, t.val % 9]
    ∧ win0_2.index t = ![t.val / 18, t.val / 9 % 2] := by decide +kernel

/-- What one grid point adds to the accumulator: one stretch of the contraction. -/
def term (m : (ℓ : Loc nD τ sig) → Buf (Elt Ideal) ℓ) (c : Dev nD) (t : Fin cfg0.N) (j : S1024x1024.Idx) : Ideal .f32 :=
  ∑ k : Fin 512, HMul.hMul (α := EReal) (β := EReal) (γ := EReal) (iblk m c 0 t (Idealize.ShloMosaic.ix2 (j 0 : Fin 1024) k)) (iblk m c 1 t (Idealize.ShloMosaic.ix2 (j 1 : Fin 1024) k))

theorem acc_last (m : (ℓ : Loc nD τ sig) → Buf (Elt Ideal) ℓ) (c : Dev nD) (t : Fin cfg0.N) (h1 : t.val % 9 = 8) (j : S1024x1024.Idx) :
    (outsAt0 m c t.val t.isLt).1 j = (outsAt0 m c t.val t.isLt).2 j := by
  rw [outsAt0_C m c t (by omega) h1]
  frame_out

theorem acc_reset (m : (ℓ : Loc nD τ sig) → Buf (Elt Ideal) ℓ) (c : Dev nD) (t : Fin cfg0.N) (h0 : t.val % 9 = 0) (j : S1024x1024.Idx) :
    (outsAt0 m c t.val t.isLt).2 j = (0 : EReal) + term m c t j := by
  rw [outsAt0_A m c t h0 (by omega)]
  frame_out
  unfold term
  pointwise [k0_pay1, k0_pay2]

theorem acc_step (m : (ℓ : Loc nD τ sig) → Buf (Elt Ideal) ℓ) (c : Dev nD) (t : Fin cfg0.N) (h0 : ¬t.val % 9 = 0) (j : S1024x1024.Idx) :
    (outsAt0 m c t.val t.isLt).2 j
      = (outsAt0 m c (t.val - 1) (Nat.lt_of_le_of_lt (Nat.sub_le _ _) t.isLt)).2 j + term m c t j := by
  by_cases h1 : t.val % 9 = 8
  · rw [outsAt0_C m c t h0 h1]
    frame_out
    unfold term
    pointwise [k0_pay1, k0_pay2]
    refine congrArg₂ (HAdd.hAdd (α := EReal) (β := EReal) (γ := EReal)) ?_ rfl
    exact congrFun ((show scM0_0.IsWhole from Memref.isWhole_whole _).read_unread _) j
  · rw [outsAt0_B m c t h0 h1]
    frame_out
    unfold term
    pointwise [k0_pay1, k0_pay2]
    refine congrArg₂ (HAdd.hAdd (α := EReal) (β := EReal) (γ := EReal)) ?_ rfl
    exact congrFun ((show scM0_0.IsWhole from Memref.isWhole_whole _).read_unread _) j

set_option maxHeartbeats 2000000 in
/-- The kernel's result is the reference's, element by element. -/
theorem algebraic : algebraic_ProjDxIdeal_ProjDxRefIdeal := fun m g m' g' _ hag => by
  refine ⟨fun c => (dats m 0 c).arrAt 2 cfg0.N,
    (θ_run defs _ _).mono (fun r h c => h c) (Value.run_blocks m g),
    (θ_run _ _ _).mono (fun r h c => ⟨(h c).1.trans ?_, (h c).2⟩) (Cert.ProjDxRefIdeal.Value.run m' g')⟩
  obtain ⟨h0, h1, h2⟩ := hag c
  simp only [h0, h1, h2]
  symm
  refine (dats m 0 c).arrAt_eq_of_covers 2 _ (by decide +kernel) fun t hf y => ?_
  blk_simp
  rw [after0_2]
  have hm : t.val % 9 = 8 := (flush0_2 t).mp hf
  rw [acc_last m c t hm]
  rw [Pipeline.eq_sum_fin_of_reset_step_apply_of_flush (M := EReal) (fun n h => (outsAt0 m c n h).2) 9 (fun _ => 0) (term m c)
    (acc_reset m c) (acc_step m c) t hm]
  rw [zero_add]
  unfold term
  pointwise
  refine Fin.sum_mul_add_congr fun s k hl => ?_
  have e := idx ⟨9 * (t.val / 9) + s.val, Pipeline.run_point_lt_of_flush t hm s⟩
  have e' := idx t
  blk_point [iblk, V, e, e']

end Cert.Proof.ProjDx

end
-- ==== Proof.ProjDwValue.lean ====
/- The value of the gradient of the stacked projections in their weights. -/
module

public import proofs.«01_k».proof.Defs
public import proofs.«01_k».proof.Proof.Gen.ProjDwIdeal.Value
public import proofs.«01_k».proof.Proof.Gen.ProjDwRefIdeal
public import proofs.«01_k».proof.Proof.Gen.ProjDwRefIdeal.Run
public import Idealize.ShloMosaic.Lib.Pipeline.ValueKit
public import Idealize.ShloMosaic.Lib.Pointwise

@[expose] public section

set_option maxRecDepth 16384

noncomputable section

namespace Cert.Proof.ProjDw

open Cert.ProjDwIdeal Cert.ProjDwIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![(grid0.coords t 3).val, (grid0.coords t 0).val]
    ∧ win0_1.index t = ![(grid0.coords t 3).val, (grid0.coords t 2).val]
    ∧ win0_2.index t = ![(grid0.coords t 0).val, (grid0.coords t 2).val] := by decide +kernel

theorem last : ∀ t : Fin grid0.N, (grid0.coords t 3).val = 0 := by decide +kernel

set_option maxHeartbeats 2000000 in
/-- The kernel's result is the reference's, element by element. -/
theorem algebraic : algebraic_ProjDwIdeal_ProjDwRefIdeal := fun m g m' g' _ hag => by
  refine ⟨fun c => (dats m 0 c).arrAt 2 cfg0.N,
    (θ_run defs _ _).mono (fun r h c => h c) (Value.run_blocks m g),
    (θ_run _ _ _).mono (fun r h c => ⟨(h c).1.trans ?_, (h c).2⟩) (Cert.ProjDwRefIdeal.Value.run m' g')⟩
  obtain ⟨h0, h1, h2⟩ := hag c
  simp only [h0, h1, h2]
  symm
  refine (dats m 0 c).arrAt_eq_of_covers 2 _ (by decide +kernel) fun t hf y => ?_
  blk_simp
  rw [after0_2]
  unfold outsAt0
  frame_out
  pointwise [k0_pay1, k0_pay2]
  refine (Finset.sum_congr rfl fun k _ => mul_comm (G := EReal) _ _).trans ?_
  have e := idx t
  have l := last t
  blk_point [iblk, V, e]

end Cert.Proof.ProjDw

end
-- ==== Proof.Ffn1Value.lean ====
/- The values of the first product of the feed-forward layer and of its squared ReLU. -/
module

public import proofs.«01_k».proof.Defs
public import proofs.«01_k».proof.Proof.Gen.Ffn1Ideal.Value
public import proofs.«01_k».proof.Proof.Gen.Ffn1RefIdeal
public import proofs.«01_k».proof.Proof.Gen.Ffn1RefIdeal.Run
public import Idealize.ShloMosaic.Lib.Pipeline.ValueKit
public import Idealize.ShloMosaic.Lib.Pointwise

@[expose] public section

set_option maxRecDepth 16384

noncomputable section

namespace Cert.Proof.Ffn1

open Cert.Ffn1Ideal Cert.Ffn1Ideal.Gen Idealize.ShloMosaic Idealize.ShloMosaic.TcCoe Idealize.ShloMosaic.ValueIdx Idealize.SL.Sem
open Idealize.ShloMosaic.Pipeline (Dat)

theorem idx : ∀ t : Fin grid0.N, win0_0.index t = ![(grid0.coords t 0).val, (grid0.coords t 3).val]
    ∧ win0_1.index t = ![(grid0.coords t 1).val, (grid0.coords t 3).val, (grid0.coords t 2).val]
    ∧ win0_2.index t = ![(grid0.coords t 0).val, 2 * (grid0.coords t 1).val + (grid0.coords t 2).val]
    ∧ win0_3.index t = ![(grid0.coords t 0).val, 2 * (grid0.coords t 1).val + (grid0.coords t 2).val] := by decide +kernel

theorem last : ∀ t : Fin grid0.N, (grid0.coords t 3).val = 0 := by decide +kernel

set_option maxHeartbeats 2000000 in
/-- The kernel's result is the reference's, element by element. -/
theorem algebraic : algebraic_Ffn1Ideal_Ffn1RefIdeal := fun m g m' g' _ hag => by
  refine ⟨fun c => (dats m 0 c).arrAt 2 cfg0.N, fun c => (dats m 0 c).arrAt 3 cfg0.N,
    (θ_run defs _ _).mono (fun r h c => h c) (Value.run_blocks m g),
    (θ_run _ _ _).mono (fun r h c => ⟨(h c).1.trans ?_, (h c).2.1.trans ?_, (h c).2.2⟩) (Cert.Ffn1RefIdeal.Value.run m' g')⟩
  · obtain ⟨h0, h1⟩ := hag c
    simp only [h0, h1]
    symm
    refine (dats m 0 c).arrAt_eq_of_covers 2 _ (by decide +kernel) fun t hf y => ?_
    blk_simp
    rw [after0_2]
    unfold outsAt0
    frame_out
    pointwise [k0_pay1, k0_pay2, k0_pay3]
    have e := idx t
    have l := last t
    blk_point [iblk, V, e]
  · obtain ⟨h0, h1⟩ := hag c
    simp only [h0, h1]
    symm
    refine (dats m 0 c).arrAt_eq_of_covers 3 _ (by decide +kernel) fun t hf y => ?_
    blk_simp
    rw [after0_3]
    unfold outsAt0
    frame_out
    pointwise [k0_pay1, k0_pay2, k0_pay3]
    have e := idx t
    have l := last t
    blk_point [iblk, V, e]

end Cert.Proof.Ffn1

end
-- ==== Proof.Ffn2Value.lean ====
/- The value of the second product of the feed-forward layer, with the squared ReLU before it. -/
module

public import proofs.«01_k».proof.Defs
public import proofs.«01_k».proof.Proof.Gen.Ffn2Ideal.Value
public import proofs.«01_k».proof.Proof.Gen.Ffn2RefIdeal
public import proofs.«01_k».proof.Proof.Gen.Ffn2RefIdeal.Run
public import Idealize.ShloMosaic.Lib.Pipeline.ValueKit
public import Idealize.ShloMosaic.Lib.Pointwise

@[expose] public section

set_option maxRecDepth 16384

noncomputable section

namespace Cert.Proof.Ffn2

open Cert.Ffn2Ideal Cert.Ffn2Ideal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val / 8, t.val % 4]
    ∧ win0_1.index t = ![t.val % 4, t.val / 4 % 2]
    ∧ win0_2.index t = ![t.val / 8, t.val / 4 % 2] := by decide +kernel

/-- What one grid point adds to the accumulator: one stretch of the contraction. -/
def term (m : (ℓ : Loc nD τ sig) → Buf (Elt Ideal) ℓ) (c : Dev nD) (t : Fin cfg0.N) (j : S1024x1024.Idx) : Ideal .f32 :=
  ∑ k : Fin 2048, HMul.hMul (α := EReal) (β := EReal) (γ := EReal) (iblk m c 0 t (Idealize.ShloMosaic.ix2 (j 0 : Fin 1024) k)) (iblk m c 1 t (Idealize.ShloMosaic.ix2 k (j 1 : Fin 1024)))

theorem acc_last (m : (ℓ : Loc nD τ sig) → Buf (Elt Ideal) ℓ) (c : Dev nD) (t : Fin cfg0.N) (h1 : t.val % 4 = 3) (j : S1024x1024.Idx) :
    (outsAt0 m c t.val t.isLt).1 j = (outsAt0 m c t.val t.isLt).2 j := by
  rw [outsAt0_C m c t (by omega) h1]
  frame_out

theorem acc_reset (m : (ℓ : Loc nD τ sig) → Buf (Elt Ideal) ℓ) (c : Dev nD) (t : Fin cfg0.N) (h0 : t.val % 4 = 0) (j : S1024x1024.Idx) :
    (outsAt0 m c t.val t.isLt).2 j = (0 : EReal) + term m c t j := by
  rw [outsAt0_A m c t h0 (by omega)]
  frame_out
  unfold term
  pointwise [k0_pay1, k0_pay2]

theorem acc_step (m : (ℓ : Loc nD τ sig) → Buf (Elt Ideal) ℓ) (c : Dev nD) (t : Fin cfg0.N) (h0 : ¬t.val % 4 = 0) (j : S1024x1024.Idx) :
    (outsAt0 m c t.val t.isLt).2 j
      = (outsAt0 m c (t.val - 1) (Nat.lt_of_le_of_lt (Nat.sub_le _ _) t.isLt)).2 j + term m c t j := by
  by_cases h1 : t.val % 4 = 3
  · rw [outsAt0_C m c t h0 h1]
    frame_out
    unfold term
    pointwise [k0_pay1, k0_pay2]
    refine congrArg₂ (HAdd.hAdd (α := EReal) (β := EReal) (γ := EReal)) ?_ rfl
    exact congrFun ((show scM0_0.IsWhole from Memref.isWhole_whole _).read_unread _) j
  · rw [outsAt0_B m c t h0 h1]
    frame_out
    unfold term
    pointwise [k0_pay1, k0_pay2]
    refine congrArg₂ (HAdd.hAdd (α := EReal) (β := EReal) (γ := EReal)) ?_ rfl
    exact congrFun ((show scM0_0.IsWhole from Memref.isWhole_whole _).read_unread _) j

set_option maxHeartbeats 2000000 in
/-- The kernel's result is the reference's, element by element. -/
theorem algebraic : algebraic_Ffn2Ideal_Ffn2RefIdeal := fun m g m' g' _ hag => by
  refine ⟨fun c => (dats m 0 c).arrAt 2 cfg0.N,
    (θ_run defs _ _).mono (fun r h c => h c) (Value.run_blocks m g),
    (θ_run _ _ _).mono (fun r h c => ⟨(h c).1.trans ?_, (h c).2⟩) (Cert.Ffn2RefIdeal.Value.run m' g')⟩
  obtain ⟨h0, h1⟩ := hag c
  simp only [h0, h1]
  symm
  refine (dats m 0 c).arrAt_eq_of_covers 2 _ (by decide +kernel) fun t hf y => ?_
  blk_simp
  rw [after0_2]
  have hm : t.val % 4 = 3 := (flush0_2 t).mp hf
  rw [acc_last m c t hm]
  rw [Pipeline.eq_sum_fin_of_reset_step_apply_of_flush (M := EReal) (fun n h => (outsAt0 m c n h).2) 4 (fun _ => 0) (term m c)
    (acc_reset m c) (acc_step m c) t hm]
  rw [zero_add]
  unfold term
  pointwise
  refine Fin.sum_mul_add_congr fun s k hl => ?_
  have e := idx ⟨4 * (t.val / 4) + s.val, Pipeline.run_point_lt_of_flush t hm s⟩
  have e' := idx t
  refine congrArg₂ (HMul.hMul (α := EReal) (β := EReal) (γ := EReal)) ?_ ?_
  · blk_simp [iblk, e, e']; entry_read; pointwise; blk_point [iblk, V, e, e']
  · blk_ext [iblk, V, e, e']

end Cert.Proof.Ffn2

end
-- ==== Proof.MixOutValue.lean ====
/- The value of the product of the joined heads with the output weights. -/
module

public import proofs.«01_k».proof.Defs
public import proofs.«01_k».proof.Proof.Gen.MixOutIdeal.Value
public import proofs.«01_k».proof.Proof.Gen.MixOutRefIdeal
public import proofs.«01_k».proof.Proof.Gen.MixOutRefIdeal.Run
public import Idealize.ShloMosaic.Lib.Pipeline.ValueKit
public import Idealize.ShloMosaic.Lib.Pointwise

@[expose] public section

set_option maxRecDepth 16384

noncomputable section

namespace Cert.Proof.MixOut

open Cert.MixOutIdeal Cert.MixOutIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![(grid0.coords t 0).val, (grid0.coords t 3).val]
    ∧ win0_1.index t = ![(grid0.coords t 3).val, (grid0.coords t 2).val]
    ∧ win0_2.index t = ![(grid0.coords t 0).val, (grid0.coords t 2).val] := by decide +kernel

theorem last : ∀ t : Fin grid0.N, (grid0.coords t 3).val = 0 := by decide +kernel

set_option maxHeartbeats 2000000 in
/-- The kernel's result is the reference's, element by element. -/
theorem algebraic : algebraic_MixOutIdeal_MixOutRefIdeal := fun m g m' g' _ hag => by
  refine ⟨fun c => (dats m 0 c).arrAt 2 cfg0.N,
    (θ_run defs _ _).mono (fun r h c => h c) (Value.run_blocks m g),
    (θ_run _ _ _).mono (fun r h c => ⟨(h c).1.trans ?_, (h c).2⟩) (Cert.MixOutRefIdeal.Value.run m' g')⟩
  obtain ⟨h0, h1⟩ := hag c
  simp only [h0, h1]
  symm
  refine (dats m 0 c).arrAt_eq_of_covers 2 _ (by decide +kernel) fun t hf y => ?_
  blk_simp
  rw [after0_2]
  unfold outsAt0
  frame_out
  pointwise [k0_pay1, k0_pay2]
  have e := idx t
  have l := last t
  blk_point [iblk, V, e]

end Cert.Proof.MixOut

end
-- ==== Proof.ProjValue.lean ====
/- The value of the product with the stacked projections. -/
module

public import proofs.«01_k».proof.Defs
public import proofs.«01_k».proof.Proof.Gen.ProjIdeal.Value
public import proofs.«01_k».proof.Proof.Gen.ProjRefIdeal
public import proofs.«01_k».proof.Proof.Gen.ProjRefIdeal.Run
public import Idealize.ShloMosaic.Lib.Pipeline.ValueKit
public import Idealize.ShloMosaic.Lib.Pointwise

@[expose] public section

set_option maxRecDepth 16384

noncomputable section

namespace Cert.Proof.Proj

open Cert.ProjIdeal Cert.ProjIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![(grid0.coords t 0).val, (grid0.coords t 3).val]
    ∧ win0_1.index t = ![(grid0.coords t 3).val, (grid0.coords t 2).val]
    ∧ win0_2.index t = ![(grid0.coords t 0).val, (grid0.coords t 2).val] := by decide +kernel

theorem last : ∀ t : Fin grid0.N, (grid0.coords t 3).val = 0 := by decide +kernel

set_option maxHeartbeats 2000000 in
/-- The kernel's result is the reference's, element by element. -/
theorem algebraic : algebraic_ProjIdeal_ProjRefIdeal := fun m g m' g' _ hag => by
  refine ⟨fun c => (dats m 0 c).arrAt 2 cfg0.N,
    (θ_run defs _ _).mono (fun r h c => h c) (Value.run_blocks m g),
    (θ_run _ _ _).mono (fun r h c => ⟨(h c).1.trans ?_, (h c).2⟩) (Cert.ProjRefIdeal.Value.run m' g')⟩
  obtain ⟨h0, h1⟩ := hag c
  simp only [h0, h1]
  symm
  refine (dats m 0 c).arrAt_eq_of_covers 2 _ (by decide +kernel) fun t hf y => ?_
  blk_simp
  rw [after0_2]
  unfold outsAt0
  frame_out
  pointwise [k0_pay1, k0_pay2]
  have e := idx t
  have l := last t
  blk_point [iblk, V, e]

end Cert.Proof.Proj

end
-- ==== Proof.Norm1DxValue.lean ====
/- The values of the gradients of the first norm and its modulation. -/
module

public import proofs.«01_k».proof.Defs
public import proofs.«01_k».proof.Proof.Gen.Norm1DxIdeal.Value
public import proofs.«01_k».proof.Proof.Gen.Norm1DxRefIdeal
public import proofs.«01_k».proof.Proof.Gen.Norm1DxRefIdeal.Run
public import Idealize.ShloMosaic.Lib.Pipeline.ValueKit
public import Idealize.ShloMosaic.Lib.Pointwise

@[expose] public section

set_option maxRecDepth 16384

noncomputable section

namespace Cert.Proof.Norm1Dx

open Cert.Norm1DxIdeal Cert.Norm1DxIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![0, 0]
    ∧ win0_8.index t = ![0, 0]
    ∧ win0_9.index t = ![0, 0] := by decide +kernel

/-- Row `r` of tile `t`, in the whole array. -/
def row (t : Fin cfg0.N) (r : Fin 256) : Fin 2048 :=
  ⟨256 * t.val + r.val, by have := t.isLt; have : cfg0.N = 8 := rfl; omega⟩

variable (m : (ℓ : Loc nD τ sig) → Buf (Elt Ideal) ℓ) (c : Dev nD) (t : Fin cfg0.N)

/-! ## The tiles read -/

theorem b0 (r : Fin 256) (x : Fin 2048) :
    iblk m c 0 t (Idealize.ShloMosaic.ix2 r x) = m (c.tc.loc main_arg0) (Idealize.ShloMosaic.ix2 (row t r) x) := by
  have e := idx t
  blk_ext [iblk, V, e, row]

theorem b1 (x : Fin 2048) : iblk m c 1 t (Idealize.ShloMosaic.ix2 0 x) = m (c.tc.loc main_arg1) (Idealize.ShloMosaic.ix2 0 x) := by
  have e := idx t
  blk_ext [iblk, V, e]

theorem b2 (x : Fin 2048) : iblk m c 2 t (Idealize.ShloMosaic.ix2 0 x) = m (c.tc.loc main_arg2) (Idealize.ShloMosaic.ix2 0 x) := by
  have e := idx t
  blk_ext [iblk, V, e]

theorem b4 (r : Fin 256) (x : Fin 2048) :
    iblk m c 4 t (Idealize.ShloMosaic.ix2 r x) = m (c.tc.loc main_arg4) (Idealize.ShloMosaic.ix2 (row t r) x) := by
  have e := idx t
  blk_ext [iblk, V, e, row]

theorem b5 (r : Fin 256) (x : Fin 2048) :
    iblk m c 5 t (Idealize.ShloMosaic.ix2 r x) = m (c.tc.loc main_arg5) (Idealize.ShloMosaic.ix2 (row t r) x) := by
  have e := idx t
  blk_ext [iblk, V, e, row]

/-! ## Where the tiles written lie -/

theorem put6 (r : Fin 256) (x : Fin 2048) :
    ((View.whole main_v0_0).slice (win0_6.rect t)).emb (Idealize.ShloMosaic.ix2 r x) = Idealize.ShloMosaic.ix2 (row t r) x := by
  have e := idx t
  blk_ext [e, row]

theorem put7 (x : Fin 2048) :
    ((View.whole main_v0_1).slice (win0_7.rect t)).emb (Idealize.ShloMosaic.ix2 (0 : Fin 1) x) = Idealize.ShloMosaic.ix2 (0 : Fin 1) x := by
  have e := idx t
  blk_ext [e]

theorem put8 (x : Fin 2048) :
    ((View.whole main_v0_2).slice (win0_8.rect t)).emb (Idealize.ShloMosaic.ix2 (0 : Fin 1) x) = Idealize.ShloMosaic.ix2 (0 : Fin 1) x := by
  have e := idx t
  blk_ext [e]

theorem put9 (x : Fin 2048) :
    ((View.whole main_v0_3).slice (win0_9.rect t)).emb (Idealize.ShloMosaic.ix2 (0 : Fin 1) x) = Idealize.ShloMosaic.ix2 (0 : Fin 1) x := by
  have e := idx t
  blk_ext [e]

/-! ## What one grid point writes -/

/-- A tile of result 0. -/
def tile6 : Vec Ideal S256x2048 .f32 := k0_pay1 (iblk m c 0 t) (iblk m c 5 t) (k0_pay9 (iblk m c 0 t)) (k0_pay10 (iblk m c 0 t)) (k0_pay17 (iblk m c 1 t) (iblk m c 2 t) (iblk m c 4 t)) (k0_pay18 (iblk m c 0 t) (iblk m c 1 t) (iblk m c 2 t) (iblk m c 4 t))

theorem out6 : (outsAt0 m c t.val t.isLt).1 = tile6 m c t := by
  by_cases h0 : t.val % 8 = 0
  · rw [outsAt0_A m c t h0]
    frame_out
    rfl
  · rw [outsAt0_B m c t h0]
    frame_out
    rfl

/-- What one tile adds to result 1. -/
def tile7 : Vec Ideal S1x2048 .f32 := k0_pay5 (k0_pay16 (iblk m c 0 t) (iblk m c 2 t) (iblk m c 4 t)) (k0_pay2 (F := Ideal))

theorem reset7 (h0 : t.val % 8 = 0) (j : S1x2048.Idx) :
    (outsAt0 m c t.val t.isLt).2.1 j = (0 : EReal) + tile7 m c t j := by
  rw [outsAt0_A m c t h0, zero_add]
  frame_out
  rfl

theorem step7 (h0 : ¬t.val % 8 = 0) (j : S1x2048.Idx) :
    (outsAt0 m c t.val t.isLt).2.1 j
      = (outsAt0 m c (t.val - 1) (Nat.lt_of_le_of_lt (Nat.sub_le _ _) t.isLt)).2.1 j + tile7 m c t j := by
  rw [outsAt0_B m c t h0]
  frame_out
  unfold tile7
  pointwise [k0_pay5, k0_pay2]

/-- What one tile adds to result 2. -/
def tile8 : Vec Ideal S1x2048 .f32 := k0_pay6 (k0_pay14 (iblk m c 0 t) (iblk m c 1 t) (iblk m c 4 t)) (k0_pay3 (F := Ideal))

theorem reset8 (h0 : t.val % 8 = 0) (j : S1x2048.Idx) :
    (outsAt0 m c t.val t.isLt).2.2.1 j = (0 : EReal) + tile8 m c t j := by
  rw [outsAt0_A m c t h0, zero_add]
  frame_out
  rfl

theorem step8 (h0 : ¬t.val % 8 = 0) (j : S1x2048.Idx) :
    (outsAt0 m c t.val t.isLt).2.2.1 j
      = (outsAt0 m c (t.val - 1) (Nat.lt_of_le_of_lt (Nat.sub_le _ _) t.isLt)).2.2.1 j + tile8 m c t j := by
  rw [outsAt0_B m c t h0]
  frame_out
  unfold tile8
  pointwise [k0_pay6, k0_pay3]

/-- What one tile adds to result 3. -/
def tile9 : Vec Ideal S1x2048 .f32 := k0_pay7 (k0_pay13 (iblk m c 4 t)) (k0_pay4 (F := Ideal))

theorem reset9 (h0 : t.val % 8 = 0) (j : S1x2048.Idx) :
    (outsAt0 m c t.val t.isLt).2.2.2 j = (0 : EReal) + tile9 m c t j := by
  rw [outsAt0_A m c t h0, zero_add]
  frame_out
  rfl

theorem step9 (h0 : ¬t.val % 8 = 0) (j : S1x2048.Idx) :
    (outsAt0 m c t.val t.isLt).2.2.2 j
      = (outsAt0 m c (t.val - 1) (Nat.lt_of_le_of_lt (Nat.sub_le _ _) t.isLt)).2.2.2 j + tile9 m c t j := by
  rw [outsAt0_B m c t h0]
  frame_out
  unfold tile9
  pointwise [k0_pay7, k0_pay4]

set_option maxHeartbeats 4000000 in
/-- The kernel's results are the reference's, element by element. -/
theorem algebraic : algebraic_Norm1DxIdeal_Norm1DxRefIdeal := fun m g m' g' _ hag => by
  refine ⟨fun c => (dats m 0 c).arrAt 6 cfg0.N, fun c => (dats m 0 c).arrAt 7 cfg0.N, fun c => (dats m 0 c).arrAt 8 cfg0.N, fun c => (dats m 0 c).arrAt 9 cfg0.N,
    (θ_run defs _ _).mono (fun r h c => h c) (Value.run_blocks m g),
    (θ_run _ _ _).mono (fun r h c => ⟨(h c).1.trans ?_, (h c).2.1.trans ?_, (h c).2.2.1.trans ?_, (h c).2.2.2.1.trans ?_, (h c).2.2.2.2⟩) (Cert.Norm1DxRefIdeal.Value.run m' g')⟩
  · obtain ⟨h0, h1, h2, h3, h4, h5⟩ := hag c
    unfold Cert.Norm1DxRefIdeal.Value.res_main_v48
    simp only [h0, h1, h2, h3, h4, h5]
    symm
    refine (dats m 0 c).arrAt_eq_of_covers 6 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put6]
    blk_simp
    rw [after0_6, out6]
    unfold tile6
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
    simp only [b0, b1, b2, b4, b5]
  · obtain ⟨h0, h1, h2, h3, h4, h5⟩ := hag c
    simp only [h0, h1, h2, h3, h4, h5]
    symm
    refine (dats m 0 c).arrAt_eq_of_covers 7 _ (by decide +kernel) fun t hf y => ?_
    obtain ⟨r, x, rfl⟩ : ∃ (r : Fin 1) (x : Fin 2048), y = Idealize.ShloMosaic.ix2 r x := ⟨y 0, y 1, Idealize.ShloMosaic.eq_ix2 y⟩
    obtain rfl : r = 0 := Subsingleton.elim _ _
    rw [put7]
    blk_simp
    rw [after0_7]
    have hm : t.val % 8 = 7 := (flush0_7 t).mp hf
    rw [Pipeline.eq_sum_fin_of_reset_step_apply_of_flush (M := EReal) (fun n h => (outsAt0 m c n h).2.1) 8 (fun _ => 0)
      (tile7 m c) (reset7 m c) (step7 m c) t hm]
    rw [zero_add]
    unfold tile7
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
    simp only [b0, b1, b2, b4, b5]
    refine Fin.sum_mul_add_congr fun s r hl => ?_
    have e : row ⟨8 * (t.val / 8) + s.val, Pipeline.run_point_lt_of_flush t hm s⟩ r = ⟨s.val * 256 + r.val, hl⟩ :=
      Fin.ext (by have h1 : t.val < 8 := t.isLt; show 256 * (8 * (t.val / 8) + s.val) + r.val = s.val * 256 + r.val; omega)
    simp only [e]
  · obtain ⟨h0, h1, h2, h3, h4, h5⟩ := hag c
    simp only [h0, h1, h2, h3, h4, h5]
    symm
    refine (dats m 0 c).arrAt_eq_of_covers 8 _ (by decide +kernel) fun t hf y => ?_
    obtain ⟨r, x, rfl⟩ : ∃ (r : Fin 1) (x : Fin 2048), y = Idealize.ShloMosaic.ix2 r x := ⟨y 0, y 1, Idealize.ShloMosaic.eq_ix2 y⟩
    obtain rfl : r = 0 := Subsingleton.elim _ _
    rw [put8]
    blk_simp
    rw [after0_8]
    have hm : t.val % 8 = 7 := (flush0_8 t).mp hf
    rw [Pipeline.eq_sum_fin_of_reset_step_apply_of_flush (M := EReal) (fun n h => (outsAt0 m c n h).2.2.1) 8 (fun _ => 0)
      (tile8 m c) (reset8 m c) (step8 m c) t hm]
    rw [zero_add]
    unfold tile8
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
    simp only [b0, b1, b2, b4, b5]
    refine Fin.sum_mul_add_congr fun s r hl => ?_
    have e : row ⟨8 * (t.val / 8) + s.val, Pipeline.run_point_lt_of_flush t hm s⟩ r = ⟨s.val * 256 + r.val, hl⟩ :=
      Fin.ext (by have h1 : t.val < 8 := t.isLt; show 256 * (8 * (t.val / 8) + s.val) + r.val = s.val * 256 + r.val; omega)
    simp only [e]
  · obtain ⟨h0, h1, h2, h3, h4, h5⟩ := hag c
    simp only [h0, h1, h2, h3, h4, h5]
    symm
    refine (dats m 0 c).arrAt_eq_of_covers 9 _ (by decide +kernel) fun t hf y => ?_
    obtain ⟨r, x, rfl⟩ : ∃ (r : Fin 1) (x : Fin 2048), y = Idealize.ShloMosaic.ix2 r x := ⟨y 0, y 1, Idealize.ShloMosaic.eq_ix2 y⟩
    obtain rfl : r = 0 := Subsingleton.elim _ _
    rw [put9]
    blk_simp
    rw [after0_9]
    have hm : t.val % 8 = 7 := (flush0_9 t).mp hf
    rw [Pipeline.eq_sum_fin_of_reset_step_apply_of_flush (M := EReal) (fun n h => (outsAt0 m c n h).2.2.2) 8 (fun _ => 0)
      (tile9 m c) (reset9 m c) (step9 m c) t hm]
    rw [zero_add]
    unfold tile9
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
    simp only [b0, b1, b2, b4, b5]
    refine Fin.sum_mul_add_congr fun s r hl => ?_
    have e : row ⟨8 * (t.val / 8) + s.val, Pipeline.run_point_lt_of_flush t hm s⟩ r = ⟨s.val * 256 + r.val, hl⟩ :=
      Fin.ext (by have h1 : t.val < 8 := t.isLt; show 256 * (8 * (t.val / 8) + s.val) + r.val = s.val * 256 + r.val; omega)
    simp only [e]

end Cert.Proof.Norm1Dx

end
-- ==== Proof.Norm2DxValue.lean ====
/- The values of the gradients of the second norm, its modulation and the gated sum before it. -/
module

public import proofs.«01_k».proof.Defs
public import proofs.«01_k».proof.Proof.Gen.Norm2DxIdeal.Value
public import proofs.«01_k».proof.Proof.Gen.Norm2DxRefIdeal
public import proofs.«01_k».proof.Proof.Gen.Norm2DxRefIdeal.Run
public import Idealize.ShloMosaic.Lib.Pipeline.ValueKit
public import Idealize.ShloMosaic.Lib.Pointwise

@[expose] public section

set_option maxRecDepth 16384

noncomputable section

namespace Cert.Proof.Norm2Dx

open Cert.Norm2DxIdeal Cert.Norm2DxIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![0, 0]
    ∧ win0_11.index t = ![0, 0]
    ∧ win0_12.index t = ![0, 0]
    ∧ win0_13.index t = ![0, 0] := by decide +kernel

/-- Row `r` of tile `t`, in the whole array. -/
def row (t : Fin cfg0.N) (r : Fin 256) : Fin 2048 :=
  ⟨256 * t.val + r.val, by have := t.isLt; have : cfg0.N = 8 := rfl; omega⟩

variable (m : (ℓ : Loc nD τ sig) → Buf (Elt Ideal) ℓ) (c : Dev nD) (t : Fin cfg0.N)

/-! ## The tiles read -/

theorem b0 (r : Fin 256) (x : Fin 2048) :
    iblk m c 0 t (Idealize.ShloMosaic.ix2 r x) = m (c.tc.loc main_arg0) (Idealize.ShloMosaic.ix2 (row t r) x) := by
  have e := idx t
  blk_ext [iblk, V, e, row]

theorem b1 (r : Fin 256) (x : Fin 2048) :
    iblk m c 1 t (Idealize.ShloMosaic.ix2 r x) = m (c.tc.loc main_arg1) (Idealize.ShloMosaic.ix2 (row t r) x) := by
  have e := idx t
  blk_ext [iblk, V, e, row]

theorem b2 (x : Fin 2048) : iblk m c 2 t (Idealize.ShloMosaic.ix2 0 x) = m (c.tc.loc main_arg2) (Idealize.ShloMosaic.ix2 0 x) := by
  have e := idx t
  blk_ext [iblk, V, e]

theorem b3 (x : Fin 2048) : iblk m c 3 t (Idealize.ShloMosaic.ix2 0 x) = m (c.tc.loc main_arg3) (Idealize.ShloMosaic.ix2 0 x) := by
  have e := idx t
  blk_ext [iblk, V, e]

theorem b4 (x : Fin 2048) : iblk m c 4 t (Idealize.ShloMosaic.ix2 0 x) = m (c.tc.loc main_arg4) (Idealize.ShloMosaic.ix2 0 x) := by
  have e := idx t
  blk_ext [iblk, V, e]

theorem b6 (r : Fin 256) (x : Fin 2048) :
    iblk m c 6 t (Idealize.ShloMosaic.ix2 r x) = m (c.tc.loc main_arg6) (Idealize.ShloMosaic.ix2 (row t r) x) := by
  have e := idx t
  blk_ext [iblk, V, e, row]

theorem b7 (r : Fin 256) (x : Fin 2048) :
    iblk m c 7 t (Idealize.ShloMosaic.ix2 r x) = m (c.tc.loc main_arg7) (Idealize.ShloMosaic.ix2 (row t r) x) := by
  have e := idx t
  blk_ext [iblk, V, e, row]

/-! ## Where the tiles written lie -/

theorem put8 (r : Fin 256) (x : Fin 2048) :
    ((View.whole main_v0_0).slice (win0_8.rect t)).emb (Idealize.ShloMosaic.ix2 r x) = Idealize.ShloMosaic.ix2 (row t r) x := by
  have e := idx t
  blk_ext [e, row]

theorem put9 (r : Fin 256) (x : Fin 2048) :
    ((View.whole main_v0_1).slice (win0_9.rect t)).emb (Idealize.ShloMosaic.ix2 r x) = Idealize.ShloMosaic.ix2 (row t r) x := by
  have e := idx t
  blk_ext [e, row]

theorem put10 (x : Fin 2048) :
    ((View.whole main_v0_2).slice (win0_10.rect t)).emb (Idealize.ShloMosaic.ix2 (0 : Fin 1) x) = Idealize.ShloMosaic.ix2 (0 : Fin 1) x := by
  have e := idx t
  blk_ext [e]

theorem put11 (x : Fin 2048) :
    ((View.whole main_v0_3).slice (win0_11.rect t)).emb (Idealize.ShloMosaic.ix2 (0 : Fin 1) x) = Idealize.ShloMosaic.ix2 (0 : Fin 1) x := by
  have e := idx t
  blk_ext [e]

theorem put12 (x : Fin 2048) :
    ((View.whole main_v0_4).slice (win0_12.rect t)).emb (Idealize.ShloMosaic.ix2 (0 : Fin 1) x) = Idealize.ShloMosaic.ix2 (0 : Fin 1) x := by
  have e := idx t
  blk_ext [e]

theorem put13 (x : Fin 2048) :
    ((View.whole main_v0_5).slice (win0_13.rect t)).emb (Idealize.ShloMosaic.ix2 (0 : Fin 1) x) = Idealize.ShloMosaic.ix2 (0 : Fin 1) x := by
  have e := idx t
  blk_ext [e]

/-! ## What one grid point writes -/

/-- A tile of result 0. -/
def tile8 : Vec Ideal S256x2048 .f32 := k0_pay16 (iblk m c 3 t) (k0_pay4 (iblk m c 0 t) (iblk m c 1 t) (iblk m c 2 t)) (k0_pay6 (iblk m c 0 t) (iblk m c 1 t) (iblk m c 2 t)) (k0_pay7 (iblk m c 0 t) (iblk m c 1 t) (iblk m c 2 t)) (k0_pay9 (iblk m c 4 t)) (k0_pay10 (iblk m c 6 t)) (k0_pay11 (iblk m c 7 t))

theorem out8 : (outsAt0 m c t.val t.isLt).1 = tile8 m c t := by
  by_cases h0 : t.val % 8 = 0
  · rw [outsAt0_A m c t h0]
    frame_out
    rfl
  · rw [outsAt0_B m c t h0]
    frame_out
    rfl

/-- A tile of result 1. -/
def tile9 : Vec Ideal S256x2048 .bf16 := k0_pay17 (iblk m c 2 t) (iblk m c 3 t) (k0_pay4 (iblk m c 0 t) (iblk m c 1 t) (iblk m c 2 t)) (k0_pay6 (iblk m c 0 t) (iblk m c 1 t) (iblk m c 2 t)) (k0_pay7 (iblk m c 0 t) (iblk m c 1 t) (iblk m c 2 t)) (k0_pay9 (iblk m c 4 t)) (k0_pay10 (iblk m c 6 t)) (k0_pay11 (iblk m c 7 t))

theorem out9 : (outsAt0 m c t.val t.isLt).2.1 = tile9 m c t := by
  by_cases h0 : t.val % 8 = 0
  · rw [outsAt0_A m c t h0]
    frame_out
    rfl
  · rw [outsAt0_B m c t h0]
    frame_out
    rfl

/-- What one tile adds to result 2. -/
def tile10 : Vec Ideal S1x2048 .f32 := k0_pay22 (iblk m c 1 t) (iblk m c 3 t) (k0_pay4 (iblk m c 0 t) (iblk m c 1 t) (iblk m c 2 t)) (k0_pay6 (iblk m c 0 t) (iblk m c 1 t) (iblk m c 2 t)) (k0_pay7 (iblk m c 0 t) (iblk m c 1 t) (iblk m c 2 t)) (k0_pay9 (iblk m c 4 t)) (k0_pay10 (iblk m c 6 t)) (k0_pay11 (iblk m c 7 t)) (k0_pay18 (F := Ideal))

theorem reset10 (h0 : t.val % 8 = 0) (j : S1x2048.Idx) :
    (outsAt0 m c t.val t.isLt).2.2.1 j = (0 : EReal) + tile10 m c t j := by
  rw [outsAt0_A m c t h0, zero_add]
  frame_out
  rfl

theorem step10 (h0 : ¬t.val % 8 = 0) (j : S1x2048.Idx) :
    (outsAt0 m c t.val t.isLt).2.2.1 j
      = (outsAt0 m c (t.val - 1) (Nat.lt_of_le_of_lt (Nat.sub_le _ _) t.isLt)).2.2.1 j + tile10 m c t j := by
  rw [outsAt0_B m c t h0]
  frame_out
  unfold tile10
  pointwise [k0_pay22, k0_pay18]

/-- What one tile adds to result 3. -/
def tile11 : Vec Ideal S1x2048 .f32 := k0_pay1 (k0_pay15 (k0_pay8 (iblk m c 0 t) (iblk m c 1 t) (iblk m c 2 t)) (k0_pay9 (iblk m c 4 t)) (k0_pay11 (iblk m c 7 t))) (k0_pay19 (F := Ideal))

theorem reset11 (h0 : t.val % 8 = 0) (j : S1x2048.Idx) :
    (outsAt0 m c t.val t.isLt).2.2.2.1 j = (0 : EReal) + tile11 m c t j := by
  rw [outsAt0_A m c t h0, zero_add]
  frame_out
  rfl

theorem step11 (h0 : ¬t.val % 8 = 0) (j : S1x2048.Idx) :
    (outsAt0 m c t.val t.isLt).2.2.2.1 j
      = (outsAt0 m c (t.val - 1) (Nat.lt_of_le_of_lt (Nat.sub_le _ _) t.isLt)).2.2.2.1 j + tile11 m c t j := by
  rw [outsAt0_B m c t h0]
  frame_out
  unfold tile11
  pointwise [k0_pay1, k0_pay19]

/-- What one tile adds to result 4. -/
def tile12 : Vec Ideal S1x2048 .f32 := k0_pay2 (k0_pay13 (iblk m c 0 t) (iblk m c 1 t) (iblk m c 2 t) (iblk m c 3 t) (iblk m c 7 t)) (k0_pay20 (F := Ideal))

theorem reset12 (h0 : t.val % 8 = 0) (j : S1x2048.Idx) :
    (outsAt0 m c t.val t.isLt).2.2.2.2.1 j = (0 : EReal) + tile12 m c t j := by
  rw [outsAt0_A m c t h0, zero_add]
  frame_out
  rfl

theorem step12 (h0 : ¬t.val % 8 = 0) (j : S1x2048.Idx) :
    (outsAt0 m c t.val t.isLt).2.2.2.2.1 j
      = (outsAt0 m c (t.val - 1) (Nat.lt_of_le_of_lt (Nat.sub_le _ _) t.isLt)).2.2.2.2.1 j + tile12 m c t j := by
  rw [outsAt0_B m c t h0]
  frame_out
  unfold tile12
  pointwise [k0_pay2, k0_pay20]

/-- What one tile adds to result 5. -/
def tile13 : Vec Ideal S1x2048 .f32 := k0_pay3 (k0_pay12 (iblk m c 7 t)) (k0_pay21 (F := Ideal))

theorem reset13 (h0 : t.val % 8 = 0) (j : S1x2048.Idx) :
    (outsAt0 m c t.val t.isLt).2.2.2.2.2 j = (0 : EReal) + tile13 m c t j := by
  rw [outsAt0_A m c t h0, zero_add]
  frame_out
  rfl

theorem step13 (h0 : ¬t.val % 8 = 0) (j : S1x2048.Idx) :
    (outsAt0 m c t.val t.isLt).2.2.2.2.2 j
      = (outsAt0 m c (t.val - 1) (Nat.lt_of_le_of_lt (Nat.sub_le _ _) t.isLt)).2.2.2.2.2 j + tile13 m c t j := by
  rw [outsAt0_B m c t h0]
  frame_out
  unfold tile13
  pointwise [k0_pay3, k0_pay21]

set_option maxHeartbeats 4000000 in
/-- The kernel's results are the reference's, element by element. -/
theorem algebraic : algebraic_Norm2DxIdeal_Norm2DxRefIdeal := fun m g m' g' _ hag => by
  refine ⟨fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N,
    (θ_run defs _ _).mono (fun r h c => h c) (Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Norm2DxRefIdeal.Value.run m' g')⟩
  · obtain ⟨h0, h1, h2, h3, h4, h5, h6, h7⟩ := hag c
    unfold Cert.Norm2DxRefIdeal.Value.res_main_v51
    simp only [h0, h1, h2, h3, h4, h5, h6, h7]
    symm
    refine (dats m 0 c).arrAt_eq_of_covers 8 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put8]
    blk_simp
    rw [after0_8, out8]
    unfold tile8
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
    simp only [b0, b1, b2, b3, b4, b6, b7]
  · obtain ⟨h0, h1, h2, h3, h4, h5, h6, h7⟩ := hag c
    unfold Cert.Norm2DxRefIdeal.Value.res_main_v58
    simp only [h0, h1, h2, h3, h4, h5, h6, h7]
    symm
    refine (dats m 0 c).arrAt_eq_of_covers 9 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put9]
    blk_simp
    rw [after0_9, out9]
    unfold tile9
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
    simp only [b0, b1, b2, b3, b4, b6, b7]
  · obtain ⟨h0, h1, h2, h3, h4, h5, h6, h7⟩ := hag c
    unfold Cert.Norm2DxRefIdeal.Value.res_main_v57
    simp only [h0, h1, h2, h3, h4, h5, h6, h7]
    symm
    refine (dats m 0 c).arrAt_eq_of_covers 10 _ (by decide +kernel) fun t hf y => ?_
    obtain ⟨r, x, rfl⟩ : ∃ (r : Fin 1) (x : Fin 2048), y = Idealize.ShloMosaic.ix2 r x := ⟨y 0, y 1, Idealize.ShloMosaic.eq_ix2 y⟩
    obtain rfl : r = 0 := Subsingleton.elim _ _
    rw [put10]
    blk_simp
    rw [after0_10]
    have hm : t.val % 8 = 7 := (flush0_10 t).mp hf
    rw [Pipeline.eq_sum_fin_of_reset_step_apply_of_flush (M := EReal) (fun n h => (outsAt0 m c n h).2.2.1) 8 (fun _ => 0)
      (tile10 m c) (reset10 m c) (step10 m c) t hm]
    rw [zero_add]
    unfold tile10
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
    simp only [b0, b1, b2, b3, b4, b6, b7]
    refine Fin.sum_mul_add_congr fun s r hl => ?_
    have e : row ⟨8 * (t.val / 8) + s.val, Pipeline.run_point_lt_of_flush t hm s⟩ r = ⟨s.val * 256 + r.val, hl⟩ :=
      Fin.ext (by have h1 : t.val < 8 := t.isLt; show 256 * (8 * (t.val / 8) + s.val) + r.val = s.val * 256 + r.val; omega)
    simp only [e]
  · obtain ⟨h0, h1, h2, h3, h4, h5, h6, h7⟩ := hag c
    simp only [h0, h1, h2, h3, h4, h5, h6, h7]
    symm
    refine (dats m 0 c).arrAt_eq_of_covers 11 _ (by decide +kernel) fun t hf y => ?_
    obtain ⟨r, x, rfl⟩ : ∃ (r : Fin 1) (x : Fin 2048), y = Idealize.ShloMosaic.ix2 r x := ⟨y 0, y 1, Idealize.ShloMosaic.eq_ix2 y⟩
    obtain rfl : r = 0 := Subsingleton.elim _ _
    rw [put11]
    blk_simp
    rw [after0_11]
    have hm : t.val % 8 = 7 := (flush0_11 t).mp hf
    rw [Pipeline.eq_sum_fin_of_reset_step_apply_of_flush (M := EReal) (fun n h => (outsAt0 m c n h).2.2.2.1) 8 (fun _ => 0)
      (tile11 m c) (reset11 m c) (step11 m c) t hm]
    rw [zero_add]
    unfold tile11
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
    simp only [b0, b1, b2, b3, b4, b6, b7]
    refine Fin.sum_mul_add_congr fun s r hl => ?_
    have e : row ⟨8 * (t.val / 8) + s.val, Pipeline.run_point_lt_of_flush t hm s⟩ r = ⟨s.val * 256 + r.val, hl⟩ :=
      Fin.ext (by have h1 : t.val < 8 := t.isLt; show 256 * (8 * (t.val / 8) + s.val) + r.val = s.val * 256 + r.val; omega)
    simp only [e]
  · obtain ⟨h0, h1, h2, h3, h4, h5, h6, h7⟩ := hag c
    simp only [h0, h1, h2, h3, h4, h5, h6, h7]
    symm
    refine (dats m 0 c).arrAt_eq_of_covers 12 _ (by decide +kernel) fun t hf y => ?_
    obtain ⟨r, x, rfl⟩ : ∃ (r : Fin 1) (x : Fin 2048), y = Idealize.ShloMosaic.ix2 r x := ⟨y 0, y 1, Idealize.ShloMosaic.eq_ix2 y⟩
    obtain rfl : r = 0 := Subsingleton.elim _ _
    rw [put12]
    blk_simp
    rw [after0_12]
    have hm : t.val % 8 = 7 := (flush0_12 t).mp hf
    rw [Pipeline.eq_sum_fin_of_reset_step_apply_of_flush (M := EReal) (fun n h => (outsAt0 m c n h).2.2.2.2.1) 8 (fun _ => 0)
      (tile12 m c) (reset12 m c) (step12 m c) t hm]
    rw [zero_add]
    unfold tile12
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
    simp only [b0, b1, b2, b3, b4, b6, b7]
    refine Fin.sum_mul_add_congr fun s r hl => ?_
    have e : row ⟨8 * (t.val / 8) + s.val, Pipeline.run_point_lt_of_flush t hm s⟩ r = ⟨s.val * 256 + r.val, hl⟩ :=
      Fin.ext (by have h1 : t.val < 8 := t.isLt; show 256 * (8 * (t.val / 8) + s.val) + r.val = s.val * 256 + r.val; omega)
    simp only [e]
  · obtain ⟨h0, h1, h2, h3, h4, h5, h6, h7⟩ := hag c
    simp only [h0, h1, h2, h3, h4, h5, h6, h7]
    symm
    refine (dats m 0 c).arrAt_eq_of_covers 13 _ (by decide +kernel) fun t hf y => ?_
    obtain ⟨r, x, rfl⟩ : ∃ (r : Fin 1) (x : Fin 2048), y = Idealize.ShloMosaic.ix2 r x := ⟨y 0, y 1, Idealize.ShloMosaic.eq_ix2 y⟩
    obtain rfl : r = 0 := Subsingleton.elim _ _
    rw [put13]
    blk_simp
    rw [after0_13]
    have hm : t.val % 8 = 7 := (flush0_13 t).mp hf
    rw [Pipeline.eq_sum_fin_of_reset_step_apply_of_flush (M := EReal) (fun n h => (outsAt0 m c n h).2.2.2.2.2) 8 (fun _ => 0)
      (tile13 m c) (reset13 m c) (step13 m c) t hm]
    rw [zero_add]
    unfold tile13
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
    simp only [b0, b1, b2, b3, b4, b6, b7]
    refine Fin.sum_mul_add_congr fun s r hl => ?_
    have e : row ⟨8 * (t.val / 8) + s.val, Pipeline.run_point_lt_of_flush t hm s⟩ r = ⟨s.val * 256 + r.val, hl⟩ :=
      Fin.ext (by have h1 : t.val < 8 := t.isLt; show 256 * (8 * (t.val / 8) + s.val) + r.val = s.val * 256 + r.val; omega)
    simp only [e]

end Cert.Proof.Norm2Dx

end
-- ==== Proof.LossValue.lean ====
/- The values of the loss rows and their gradients. -/
module

public import proofs.«01_k».proof.Defs
public import proofs.«01_k».proof.Proof.Gen.LossIdeal.Value
public import proofs.«01_k».proof.Proof.Gen.LossRefIdeal
public import proofs.«01_k».proof.Proof.Gen.LossRefIdeal.Run
public import Idealize.ShloMosaic.Lib.Pipeline.ValueKit
public import Idealize.ShloMosaic.Lib.Pointwise

@[expose] public section

set_option maxRecDepth 16384

noncomputable section

namespace Cert.Proof.Loss

open Cert.LossIdeal Cert.LossIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![0, 0]
    ∧ win0_10.index t = ![0, 0] := by decide +kernel

/-- Row `r` of tile `t`, in the whole array. -/
def row (t : Fin cfg0.N) (r : Fin 256) : Fin 2048 :=
  ⟨256 * t.val + r.val, by have := t.isLt; have : cfg0.N = 8 := rfl; omega⟩

variable (m : (ℓ : Loc nD τ sig) → Buf (Elt Ideal) ℓ) (c : Dev nD) (t : Fin cfg0.N)

/-! ## The tiles read -/

theorem b0 (r : Fin 256) (x : Fin 2048) :
    iblk m c 0 t (Idealize.ShloMosaic.ix2 r x) = m (c.tc.loc main_arg0) (Idealize.ShloMosaic.ix2 (row t r) x) := by
  have e := idx t
  blk_ext [iblk, V, e, row]

theorem b1 (r : Fin 256) (x : Fin 2048) :
    iblk m c 1 t (Idealize.ShloMosaic.ix2 r x) = m (c.tc.loc main_arg1) (Idealize.ShloMosaic.ix2 (row t r) x) := by
  have e := idx t
  blk_ext [iblk, V, e, row]

theorem b2 (r : Fin 256) (x : Fin 2048) :
    iblk m c 2 t (Idealize.ShloMosaic.ix2 r x) = m (c.tc.loc main_arg2) (Idealize.ShloMosaic.ix2 (row t r) x) := by
  have e := idx t
  blk_ext [iblk, V, e, row]

theorem b3 (x : Fin 2048) : iblk m c 3 t (Idealize.ShloMosaic.ix2 0 x) = m (c.tc.loc main_arg3) (Idealize.ShloMosaic.ix2 0 x) := by
  have e := idx t
  blk_ext [iblk, V, e]

theorem b4 (x : Fin 2048) : iblk m c 4 t (Idealize.ShloMosaic.ix2 0 x) = m (c.tc.loc main_arg4) (Idealize.ShloMosaic.ix2 0 x) := by
  have e := idx t
  blk_ext [iblk, V, e]

theorem b5 (r : Fin 256) (u : Fin 1) : iblk m c 5 t (Idealize.ShloMosaic.ix2 r u) = (1 : EReal) := by
  have e := idx t
  blk_simp [iblk, e]
  entry_read
  pointwise

/-- The constant two. -/
theorem ofBits_two : Ideal.ofBits .f32 0x40000000#32 = ((2 : ℝ) : EReal) := by
  simp [Ideal.ofBits, Ideal.ieee, -EReal.coe_mul]; norm_num

theorem add_self (p : EReal) : p + p = ((2 : ℝ) : EReal) * p := by
  induction p using EReal.rec with
  | bot => rw [EReal.coe_mul_bot_of_pos (by norm_num)]; rfl
  | coe r => rw [← EReal.coe_add, ← EReal.coe_mul, two_mul]
  | top => rw [EReal.coe_mul_top_of_pos (by norm_num)]; rfl

/-- The gradient of a product of a number with itself is that of its square. -/
theorem square_grad (e g : EReal) : e * g + g * e = g * (Ideal.ofBits .f32 0x40000000#32 * e) := by
  rw [mul_comm e g, add_self, ofBits_two, mul_left_comm]

/-! ## Where the tiles written lie -/

theorem put6 (r : Fin 256) (x : Fin 1) :
    ((View.whole main_v1_0).slice (win0_6.rect t)).emb (Idealize.ShloMosaic.ix2 r x) = Idealize.ShloMosaic.ix2 (row t r) x := by
  have e := idx t
  blk_ext [e, row]

theorem put7 (r : Fin 256) (x : Fin 2048) :
    ((View.whole main_v1_1).slice (win0_7.rect t)).emb (Idealize.ShloMosaic.ix2 r x) = Idealize.ShloMosaic.ix2 (row t r) x := by
  have e := idx t
  blk_ext [e, row]

theorem put8 (r : Fin 256) (x : Fin 2048) :
    ((View.whole main_v1_2).slice (win0_8.rect t)).emb (Idealize.ShloMosaic.ix2 r x) = Idealize.ShloMosaic.ix2 (row t r) x := by
  have e := idx t
  blk_ext [e, row]

theorem put9 (x : Fin 2048) :
    ((View.whole main_v1_3).slice (win0_9.rect t)).emb (Idealize.ShloMosaic.ix2 (0 : Fin 1) x) = Idealize.ShloMosaic.ix2 (0 : Fin 1) x := by
  have e := idx t
  blk_ext [e]

theorem put10 (x : Fin 2048) :
    ((View.whole main_v1_4).slice (win0_10.rect t)).emb (Idealize.ShloMosaic.ix2 (0 : Fin 1) x) = Idealize.ShloMosaic.ix2 (0 : Fin 1) x := by
  have e := idx t
  blk_ext [e]

/-! ## What one grid point writes -/

/-- A tile of result 0. -/
def tile6 : Vec Ideal S256x1 .f32 := k0_pay9 (iblk m c 0 t) (iblk m c 1 t) (iblk m c 2 t) (iblk m c 3 t) (iblk m c 4 t)

theorem out6 : (outsAt0 m c t.val t.isLt).1 = tile6 m c t := by
  by_cases h0 : t.val % 8 = 0
  · rw [outsAt0_A m c t h0]
    frame_out
    rfl
  · rw [outsAt0_B m c t h0]
    frame_out
    rfl

/-- A tile of result 1. -/
def tile7 : Vec Ideal S256x2048 .f32 := k0_pay13 (iblk m c 4 t) (k0_pay3 (iblk m c 0 t) (iblk m c 1 t) (iblk m c 3 t)) (k0_pay5 (iblk m c 0 t) (iblk m c 1 t) (iblk m c 3 t)) (k0_pay6 (iblk m c 0 t) (iblk m c 1 t) (iblk m c 3 t)) (k0_pay8 (iblk m c 0 t) (iblk m c 1 t) (iblk m c 2 t) (iblk m c 3 t) (iblk m c 4 t)) (k0_pay10 (iblk m c 5 t)) (FloatOps.ofBits FTy.f32 1157627904#32)

theorem out7 : (outsAt0 m c t.val t.isLt).2.1 = tile7 m c t := by
  by_cases h0 : t.val % 8 = 0
  · rw [outsAt0_A m c t h0]
    frame_out
    rfl
  · rw [outsAt0_B m c t h0]
    frame_out
    rfl

/-- A tile of result 2. -/
def tile8 : Vec Ideal S256x2048 .bf16 := k0_pay15 (iblk m c 3 t) (iblk m c 4 t) (k0_pay3 (iblk m c 0 t) (iblk m c 1 t) (iblk m c 3 t)) (k0_pay5 (iblk m c 0 t) (iblk m c 1 t) (iblk m c 3 t)) (k0_pay6 (iblk m c 0 t) (iblk m c 1 t) (iblk m c 3 t)) (k0_pay8 (iblk m c 0 t) (iblk m c 1 t) (iblk m c 2 t) (iblk m c 3 t) (iblk m c 4 t)) (k0_pay10 (iblk m c 5 t)) (FloatOps.ofBits FTy.f32 1157627904#32)

theorem out8 : (outsAt0 m c t.val t.isLt).2.2.1 = tile8 m c t := by
  by_cases h0 : t.val % 8 = 0
  · rw [outsAt0_A m c t h0]
    frame_out
    rfl
  · rw [outsAt0_B m c t h0]
    frame_out
    rfl

/-- What one tile adds to result 3. -/
def tile9 : Vec Ideal S1x2048 .f32 := k0_pay1 (k0_pay14 (iblk m c 1 t) (iblk m c 4 t) (k0_pay3 (iblk m c 0 t) (iblk m c 1 t) (iblk m c 3 t)) (k0_pay5 (iblk m c 0 t) (iblk m c 1 t) (iblk m c 3 t)) (k0_pay6 (iblk m c 0 t) (iblk m c 1 t) (iblk m c 3 t)) (k0_pay8 (iblk m c 0 t) (iblk m c 1 t) (iblk m c 2 t) (iblk m c 3 t) (iblk m c 4 t)) (k0_pay10 (iblk m c 5 t)) (FloatOps.ofBits FTy.f32 1157627904#32)) (k0_pay16 (F := Ideal))

theorem reset9 (h0 : t.val % 8 = 0) (j : S1x2048.Idx) :
    (outsAt0 m c t.val t.isLt).2.2.2.1 j = (0 : EReal) + tile9 m c t j := by
  rw [outsAt0_A m c t h0, zero_add]
  frame_out
  rfl

theorem step9 (h0 : ¬t.val % 8 = 0) (j : S1x2048.Idx) :
    (outsAt0 m c t.val t.isLt).2.2.2.1 j
      = (outsAt0 m c (t.val - 1) (Nat.lt_of_le_of_lt (Nat.sub_le _ _) t.isLt)).2.2.2.1 j + tile9 m c t j := by
  rw [outsAt0_B m c t h0]
  frame_out
  unfold tile9
  pointwise [k0_pay1, k0_pay16]

/-- What one tile adds to result 4. -/
def tile10 : Vec Ideal S1x2048 .f32 := k0_pay2 (k0_pay12 (k0_pay7 (iblk m c 0 t) (iblk m c 1 t) (iblk m c 3 t)) (k0_pay8 (iblk m c 0 t) (iblk m c 1 t) (iblk m c 2 t) (iblk m c 3 t) (iblk m c 4 t)) (k0_pay10 (iblk m c 5 t)) (FloatOps.ofBits FTy.f32 1157627904#32)) (k0_pay17 (F := Ideal))

theorem reset10 (h0 : t.val % 8 = 0) (j : S1x2048.Idx) :
    (outsAt0 m c t.val t.isLt).2.2.2.2 j = (0 : EReal) + tile10 m c t j := by
  rw [outsAt0_A m c t h0, zero_add]
  frame_out
  rfl

theorem step10 (h0 : ¬t.val % 8 = 0) (j : S1x2048.Idx) :
    (outsAt0 m c t.val t.isLt).2.2.2.2 j
      = (outsAt0 m c (t.val - 1) (Nat.lt_of_le_of_lt (Nat.sub_le _ _) t.isLt)).2.2.2.2 j + tile10 m c t j := by
  rw [outsAt0_B m c t h0]
  frame_out
  unfold tile10
  pointwise [k0_pay2, k0_pay17]

set_option maxHeartbeats 4000000 in
/-- The kernel's results are the reference's, element by element. -/
theorem algebraic : algebraic_LossIdeal_LossRefIdeal := fun m g m' g' _ hag => by
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N,
    (θ_run defs _ _).mono (fun r h c => h c) (Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.LossRefIdeal.Value.run m' g')⟩
  · obtain ⟨h0, h1, h2, h3, h4⟩ := hag c
    simp only [h0, h1, h2, h3, h4]
    symm
    refine (dats m 0 c).arrAt_eq_of_covers 6 _ (by decide +kernel) fun t hf y => ?_
    obtain ⟨r, x, rfl⟩ : ∃ (r : Fin 256) (x : Fin 1), y = Idealize.ShloMosaic.ix2 r x := ⟨y 0, y 1, Idealize.ShloMosaic.eq_ix2 y⟩
    rw [put6]
    blk_simp
    rw [after0_6, out6]
    unfold tile6
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    simp only [b0, b1, b2, b3, b4, b5, square_grad, mul_one]
  · obtain ⟨h0, h1, h2, h3, h4⟩ := hag c
    unfold Cert.LossRefIdeal.Value.res_main_v54
    simp only [h0, h1, h2, h3, h4]
    symm
    refine (dats m 0 c).arrAt_eq_of_covers 7 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put7]
    blk_simp
    rw [after0_7, out7]
    unfold tile7
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    simp only [b0, b1, b2, b3, b4, b5, square_grad, mul_one]
  · obtain ⟨h0, h1, h2, h3, h4⟩ := hag c
    unfold Cert.LossRefIdeal.Value.res_main_v60
    simp only [h0, h1, h2, h3, h4]
    symm
    refine (dats m 0 c).arrAt_eq_of_covers 8 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put8]
    blk_simp
    rw [after0_8, out8]
    unfold tile8
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    simp only [b0, b1, b2, b3, b4, b5, square_grad, mul_one]
  · obtain ⟨h0, h1, h2, h3, h4⟩ := hag c
    unfold Cert.LossRefIdeal.Value.res_main_v59
    simp only [h0, h1, h2, h3, h4]
    symm
    refine (dats m 0 c).arrAt_eq_of_covers 9 _ (by decide +kernel) fun t hf y => ?_
    obtain ⟨r, x, rfl⟩ : ∃ (r : Fin 1) (x : Fin 2048), y = Idealize.ShloMosaic.ix2 r x := ⟨y 0, y 1, Idealize.ShloMosaic.eq_ix2 y⟩
    obtain rfl : r = 0 := Subsingleton.elim _ _
    rw [put9]
    blk_simp
    rw [after0_9]
    have hm : t.val % 8 = 7 := (flush0_9 t).mp hf
    rw [Pipeline.eq_sum_fin_of_reset_step_apply_of_flush (M := EReal) (fun n h => (outsAt0 m c n h).2.2.2.1) 8 (fun _ => 0)
      (tile9 m c) (reset9 m c) (step9 m c) t hm]
    rw [zero_add]
    unfold tile9
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    simp only [b0, b1, b2, b3, b4, b5, square_grad, mul_one]
    refine Fin.sum_mul_add_congr fun s r hl => ?_
    have e : row ⟨8 * (t.val / 8) + s.val, Pipeline.run_point_lt_of_flush t hm s⟩ r = ⟨s.val * 256 + r.val, hl⟩ :=
      Fin.ext (by have h1 : t.val < 8 := t.isLt; show 256 * (8 * (t.val / 8) + s.val) + r.val = s.val * 256 + r.val; omega)
    simp only [e]
  · obtain ⟨h0, h1, h2, h3, h4⟩ := hag c
    simp only [h0, h1, h2, h3, h4]
    symm
    refine (dats m 0 c).arrAt_eq_of_covers 10 _ (by decide +kernel) fun t hf y => ?_
    obtain ⟨r, x, rfl⟩ : ∃ (r : Fin 1) (x : Fin 2048), y = Idealize.ShloMosaic.ix2 r x := ⟨y 0, y 1, Idealize.ShloMosaic.eq_ix2 y⟩
    obtain rfl : r = 0 := Subsingleton.elim _ _
    rw [put10]
    blk_simp
    rw [after0_10]
    have hm : t.val % 8 = 7 := (flush0_10 t).mp hf
    rw [Pipeline.eq_sum_fin_of_reset_step_apply_of_flush (M := EReal) (fun n h => (outsAt0 m c n h).2.2.2.2) 8 (fun _ => 0)
      (tile10 m c) (reset10 m c) (step10 m c) t hm]
    rw [zero_add]
    unfold tile10
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    simp only [b0, b1, b2, b3, b4, b5, square_grad, mul_one]
    refine Fin.sum_mul_add_congr fun s r hl => ?_
    have e : row ⟨8 * (t.val / 8) + s.val, Pipeline.run_point_lt_of_flush t hm s⟩ r = ⟨s.val * 256 + r.val, hl⟩ :=
      Fin.ext (by have h1 : t.val < 8 := t.isLt; show 256 * (8 * (t.val / 8) + s.val) + r.val = s.val * 256 + r.val; omega)
    simp only [e]

end Cert.Proof.Loss

end
-- ==== Proof.Norm1Value.lean ====
/- The value of the first norm and its modulation. -/
module

public import proofs.«01_k».proof.Defs
public import proofs.«01_k».proof.Proof.Gen.Norm1Ideal.Value
public import proofs.«01_k».proof.Proof.Gen.Norm1RefIdeal
public import proofs.«01_k».proof.Proof.Gen.Norm1RefIdeal.Run
public import Idealize.ShloMosaic.Lib.Pipeline.ValueKit
public import Idealize.ShloMosaic.Lib.Pointwise

@[expose] public section

set_option maxRecDepth 16384

noncomputable section

namespace Cert.Proof.Norm1

open Cert.Norm1Ideal Cert.Norm1Ideal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val, 0]
    ∧ win0_1.index t = ![0, 0]
    ∧ win0_2.index t = ![0, 0]
    ∧ win0_3.index t = ![0, 0]
    ∧ win0_4.index t = ![t.val, 0] := by decide +kernel

/-- Row `r` of tile `t`, in the whole array. -/
def row (t : Fin cfg0.N) (r : Fin 256) : Fin 2048 :=
  ⟨256 * t.val + r.val, by have := t.isLt; have : cfg0.N = 8 := rfl; omega⟩

variable (m : (ℓ : Loc nD τ sig) → Buf (Elt Ideal) ℓ) (c : Dev nD) (t : Fin cfg0.N)

theorem b0 (r : Fin 256) (x : Fin 2048) :
    iblk m c 0 t (Idealize.ShloMosaic.ix2 r x) = m (c.tc.loc main_arg0) (Idealize.ShloMosaic.ix2 (row t r) x) := by
  have e := idx t
  blk_ext [iblk, V, e, row]

theorem b1 (x : Fin 2048) : iblk m c 1 t (Idealize.ShloMosaic.ix2 0 x) = m (c.tc.loc main_arg1) (Idealize.ShloMosaic.ix2 0 x) := by
  have e := idx t
  blk_ext [iblk, V, e]

theorem b2 (x : Fin 2048) : iblk m c 2 t (Idealize.ShloMosaic.ix2 0 x) = m (c.tc.loc main_arg2) (Idealize.ShloMosaic.ix2 0 x) := by
  have e := idx t
  blk_ext [iblk, V, e]

theorem b3 (x : Fin 2048) : iblk m c 3 t (Idealize.ShloMosaic.ix2 0 x) = m (c.tc.loc main_arg3) (Idealize.ShloMosaic.ix2 0 x) := by
  have e := idx t
  blk_ext [iblk, V, e]

theorem put4 (r : Fin 256) (x : Fin 2048) :
    ((View.whole main_v0).slice (win0_4.rect t)).emb (Idealize.ShloMosaic.ix2 r x) = Idealize.ShloMosaic.ix2 (row t r) x := by
  have e := idx t
  blk_ext [e, row]

set_option maxHeartbeats 4000000 in
/-- The kernel's results are the reference's, element by element. -/
theorem algebraic : algebraic_Norm1Ideal_Norm1RefIdeal := fun m g m' g' _ hag => by
  refine ⟨fun c => (dats m 0 c).arrAt 4 cfg0.N,
    (θ_run defs _ _).mono (fun r h c => h c) (Value.run_blocks m g),
    (θ_run _ _ _).mono (fun r h c => ⟨(h c).1.trans ?_, (h c).2⟩) (Cert.Norm1RefIdeal.Value.run m' g')⟩
  · obtain ⟨h0, h1, h2, h3⟩ := hag c
    simp only [h0, h1, h2, h3]
    symm
    refine (dats m 0 c).arrAt_eq_of_covers 4 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put4]
    blk_simp
    rw [after0_4]
    unfold out0_4
    frame_out
    pointwise [k0_pay1]
    simp only [b0, b1, b2, b3]

end Cert.Proof.Norm1

end
-- ==== Proof.Norm2Value.lean ====
/- The values of the residual sum and of the second norm and its modulation. -/
module

public import proofs.«01_k».proof.Defs
public import proofs.«01_k».proof.Proof.Gen.Norm2Ideal.Value
public import proofs.«01_k».proof.Proof.Gen.Norm2RefIdeal
public import proofs.«01_k».proof.Proof.Gen.Norm2RefIdeal.Run
public import Idealize.ShloMosaic.Lib.Pipeline.ValueKit
public import Idealize.ShloMosaic.Lib.Pointwise

@[expose] public section

set_option maxRecDepth 16384

noncomputable section

namespace Cert.Proof.Norm2

open Cert.Norm2Ideal Cert.Norm2Ideal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0] := by decide +kernel

/-- Row `r` of tile `t`, in the whole array. -/
def row (t : Fin cfg0.N) (r : Fin 256) : Fin 2048 :=
  ⟨256 * t.val + r.val, by have := t.isLt; have : cfg0.N = 8 := rfl; omega⟩

variable (m : (ℓ : Loc nD τ sig) → Buf (Elt Ideal) ℓ) (c : Dev nD) (t : Fin cfg0.N)

theorem b0 (r : Fin 256) (x : Fin 2048) :
    iblk m c 0 t (Idealize.ShloMosaic.ix2 r x) = m (c.tc.loc main_arg0) (Idealize.ShloMosaic.ix2 (row t r) x) := by
  have e := idx t
  blk_ext [iblk, V, e, row]

theorem b1 (r : Fin 256) (x : Fin 2048) :
    iblk m c 1 t (Idealize.ShloMosaic.ix2 r x) = m (c.tc.loc main_arg1) (Idealize.ShloMosaic.ix2 (row t r) x) := by
  have e := idx t
  blk_ext [iblk, V, e, row]

theorem b2 (x : Fin 2048) : iblk m c 2 t (Idealize.ShloMosaic.ix2 0 x) = m (c.tc.loc main_arg2) (Idealize.ShloMosaic.ix2 0 x) := by
  have e := idx t
  blk_ext [iblk, V, e]

theorem b3 (x : Fin 2048) : iblk m c 3 t (Idealize.ShloMosaic.ix2 0 x) = m (c.tc.loc main_arg3) (Idealize.ShloMosaic.ix2 0 x) := by
  have e := idx t
  blk_ext [iblk, V, e]

theorem b4 (x : Fin 2048) : iblk m c 4 t (Idealize.ShloMosaic.ix2 0 x) = m (c.tc.loc main_arg4) (Idealize.ShloMosaic.ix2 0 x) := by
  have e := idx t
  blk_ext [iblk, V, e]

theorem b5 (x : Fin 2048) : iblk m c 5 t (Idealize.ShloMosaic.ix2 0 x) = m (c.tc.loc main_arg5) (Idealize.ShloMosaic.ix2 0 x) := by
  have e := idx t
  blk_ext [iblk, V, e]

theorem put6 (r : Fin 256) (x : Fin 2048) :
    ((View.whole main_v0_0).slice (win0_6.rect t)).emb (Idealize.ShloMosaic.ix2 r x) = Idealize.ShloMosaic.ix2 (row t r) x := by
  have e := idx t
  blk_ext [e, row]

theorem put7 (r : Fin 256) (x : Fin 2048) :
    ((View.whole main_v0_1).slice (win0_7.rect t)).emb (Idealize.ShloMosaic.ix2 r x) = Idealize.ShloMosaic.ix2 (row t r) x := by
  have e := idx t
  blk_ext [e, row]

set_option maxHeartbeats 4000000 in
/-- The kernel's results are the reference's, element by element. -/
theorem algebraic : algebraic_Norm2Ideal_Norm2RefIdeal := fun m g m' g' _ hag => by
  refine ⟨fun c => (dats m 0 c).arrAt 6 cfg0.N, fun c => (dats m 0 c).arrAt 7 cfg0.N,
    (θ_run defs _ _).mono (fun r h c => h c) (Value.run_blocks m g),
    (θ_run _ _ _).mono (fun r h c => ⟨(h c).1.trans ?_, (h c).2.1.trans ?_, (h c).2.2⟩) (Cert.Norm2RefIdeal.Value.run m' g')⟩
  · obtain ⟨h0, h1, h2, h3, h4, h5⟩ := hag c
    simp only [h0, h1, h2, h3, h4, h5]
    symm
    refine (dats m 0 c).arrAt_eq_of_covers 6 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put6]
    blk_simp
    rw [after0_6]
    unfold out0_6
    frame_out
    pointwise [k0_pay1, k0_pay2]
    simp only [b0, b1, b2, b3, b4, b5]
  · obtain ⟨h0, h1, h2, h3, h4, h5⟩ := hag c
    simp only [h0, h1, h2, h3, h4, h5]
    symm
    refine (dats m 0 c).arrAt_eq_of_covers 7 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put7]
    blk_simp
    rw [after0_7]
    unfold out0_7
    frame_out
    pointwise [k0_pay1, k0_pay2]
    simp only [b0, b1, b2, b3, b4, b5]

end Cert.Proof.Norm2

end
-- ==== Proof.ShiftValue.lean ====
/- The value of the token shift. -/
module

public import proofs.«01_k».proof.Defs
public import proofs.«01_k».proof.Proof.Gen.ShiftIdeal.Value
public import proofs.«01_k».proof.Proof.Gen.ShiftRefIdeal
public import proofs.«01_k».proof.Proof.Gen.ShiftRefIdeal.Run
public import Idealize.ShloMosaic.Lib.Pipeline.ValueKit
public import Idealize.ShloMosaic.Lib.Pointwise

@[expose] public section

set_option maxRecDepth 16384

noncomputable section

namespace Cert.Proof.Shift

open Cert.ShiftIdeal Cert.ShiftIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![0, t.val + 8]
    ∧ win0_1.index t = ![0, t.val]
    ∧ win0_2.index t = ![0, t.val]
    ∧ win0_3.index t = ![0, t.val] := by decide +kernel

/-- Column `x` of tile `t`, in the whole result. -/
def col (t : Fin cfg0.N) (x : Fin 128) : Fin 3584 :=
  ⟨128 * t.val + x.val, by have := t.isLt; have : cfg0.N = 28 := rfl; omega⟩

/-- The same column in the projection, whose first columns are not shifted. -/
def src (x : Fin 3584) : Fin 4608 := ⟨1024 + x.val, by omega⟩

variable (m : (ℓ : Loc nD τ sig) → Buf (Elt Ideal) ℓ) (c : Dev nD) (t : Fin cfg0.N)

theorem b0 (r : Fin 2048) (x : Fin 128) :
    iblk m c 0 t (Idealize.ShloMosaic.ix2 r x) = m (c.tc.loc main_arg0) (Idealize.ShloMosaic.ix2 r (src (col t x))) := by
  have e := idx t
  blk_ext [iblk, V, e, col, src]

theorem b1 (x : Fin 128) :
    iblk m c 1 t (Idealize.ShloMosaic.ix2 0 x) = m (c.tc.loc main_arg1) (Idealize.ShloMosaic.ix2 0 (col t x)) := by
  have e := idx t
  blk_ext [iblk, V, e, col]

theorem b2 (x : Fin 128) :
    iblk m c 2 t (Idealize.ShloMosaic.ix2 0 x) = m (c.tc.loc main_arg2) (Idealize.ShloMosaic.ix2 0 (col t x)) := by
  have e := idx t
  blk_ext [iblk, V, e, col]

theorem put3 (r : Fin 2048) (x : Fin 128) :
    ((View.whole main_v0).slice (win0_3.rect t)).emb (Idealize.ShloMosaic.ix2 r x) = Idealize.ShloMosaic.ix2 r (col t x) := by
  have e := idx t
  blk_ext [e, col]

/-- The choice of the rows after the first, as a condition on the row. -/
theorem from_one (r : Fin 2048) (a b : EReal) :
    Scalar.select (IntOp.cmpi .sge (BitVec.ofNat 32 r.val) 1#32) a b = if 1 ≤ r.val then a else b := by
  rw [show IntOp.cmpi .sge (BitVec.ofNat 32 r.val) 1#32 = BitVec.ofBool (decide (1 ≤ r.val)) from
    WordCmp.cmpi_sge_ofNat (w := 32) (a := r.val) (b := 1) (by omega) (by omega)]
  by_cases h : 1 ≤ r.val
  · rw [if_pos h, decide_eq_true h]; rfl
  · rw [if_neg h, decide_eq_false h]; rfl

/-- The choice of the rows before the last, as a condition on the row. -/
theorem to_last (r : Fin 2048) (a b : EReal) :
    Scalar.select (IntOp.cmpi .slt (BitVec.ofNat 32 r.val) 2047#32) a b = if r.val < 2047 then a else b := by
  rw [show IntOp.cmpi .slt (BitVec.ofNat 32 r.val) 2047#32 = BitVec.ofBool (decide (r.val < 2047)) from
    WordCmp.cmpi_slt_ofNat (w := 32) (a := r.val) (b := 2047) (by omega) (by omega)]
  by_cases h : r.val < 2047
  · rw [if_pos h, decide_eq_true h]; rfl
  · rw [if_neg h, decide_eq_false h]; rfl

set_option maxHeartbeats 4000000 in
/-- The kernel's results are the reference's, element by element. -/
theorem algebraic : algebraic_ShiftIdeal_ShiftRefIdeal := fun m g m' g' _ hag => by
  refine ⟨fun c => (dats m 0 c).arrAt 3 cfg0.N,
    (θ_run defs _ _).mono (fun r h c => h c) (Value.run_blocks m g),
    (θ_run _ _ _).mono (fun r h c => ⟨(h c).1.trans ?_, (h c).2⟩) (Cert.ShiftRefIdeal.Value.run m' g')⟩
  · obtain ⟨h0, h1, h2⟩ := hag c
    simp only [h0, h1, h2]
    symm
    refine (dats m 0 c).arrAt_eq_of_covers 3 _ (by decide +kernel) fun t hf y => ?_
    obtain ⟨r, x, rfl⟩ : ∃ (r : Fin 2048) (x : Fin 128), y = Idealize.ShloMosaic.ix2 r x := ⟨y 0, y 1, Idealize.ShloMosaic.eq_ix2 y⟩
    rw [put3]
    blk_simp
    rw [after0_3]
    unfold out0_3
    frame_out
    pointwise [k0_pay1]
    simp only [b0, b1, b2, from_one, to_last]
    have z : (FloatOps.sitofp .f32 (0#32 : BitVec 32) : Ideal .f32) = 0 := by show ((((0#32 : BitVec 32).toInt : ℤ) : ℝ) : EReal) = 0; simp
    rw [z]
    have p : (if 1 ≤ r.val then m (c.tc.loc main_arg0) (Idealize.ShloMosaic.ix2 ⟨(r.val + 2048 - 1) % 2048, Nat.mod_lt _ (by decide)⟩ (src (col t x))) else (0 : EReal))
        = if h : 1 ≤ r.val ∧ r.val - 1 < 2047 then (m (c.tc.loc main_arg0) (Idealize.ShloMosaic.ix2 ⟨r.val - 1, by omega⟩ ⟨1024 + (col t x).val, by omega⟩) : EReal) else (0 : EReal) := by
      by_cases h : 1 ≤ r.val
      · rw [if_pos h, dif_pos ⟨h, by omega⟩]
        have e : (r.val + 2048 - 1) % 2048 = r.val - 1 := by omega
        simp only [e, src]
      · rw [if_neg h, dif_neg fun k => h k.1]
    have q : (if r.val < 2047 then m (c.tc.loc main_arg0) (Idealize.ShloMosaic.ix2 ⟨(r.val + 2048 - 2047) % 2048, Nat.mod_lt _ (by decide)⟩ (src (col t x))) else (0 : EReal))
        = if h : r.val < 2047 then (m (c.tc.loc main_arg0) (Idealize.ShloMosaic.ix2 ⟨1 + r.val, by omega⟩ ⟨1024 + (col t x).val, by omega⟩) : EReal) else (0 : EReal) := by
      by_cases h : r.val < 2047
      · rw [if_pos h, dif_pos h]
        have e : (r.val + 2048 - 2047) % 2048 = 1 + r.val := by omega
        simp only [e, src]
      · rw [if_neg h, dif_neg h]
    rw [p, q]
    rfl

end Cert.Proof.Shift

end
-- ==== Proof.AdaWValue.lean ====
/- The values of the gradient of the modulation's weight and of the optimiser's step on it. -/
module

public import proofs.«01_k».proof.Defs
public import proofs.«01_k».proof.Proof.Gen.AdaWIdeal.Frame
public import proofs.«01_k».proof.Proof.Gen.AdaWRefIdeal
public import proofs.«01_k».proof.Proof.Gen.AdaWRefIdeal.Run
public import Idealize.ShloMosaic.Lib.Pipeline.ValueKit
public import Idealize.ShloMosaic.Lib.Pointwise

@[expose] public section

set_option maxRecDepth 16384

noncomputable section

namespace Cert.Proof.AdaW

open Cert.AdaWIdeal Cert.AdaWIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val]
    ∧ win0_8.index t = ![(grid0.coords t 0).val, (grid0.coords t 1).val] := by decide +kernel

/-- Row `r` of tile `t`, in the whole array. -/
def row (t : Fin cfg0.N) (r : Fin 256) : Fin 2048 :=
  ⟨256 * (grid0.coords t 0).val + r.val, by have : (grid0.coords t 0).val < 8 := (grid0.coords t 0).isLt; omega⟩

/-- Column `x` of tile `t`, in the whole array. -/
def col (t : Fin cfg0.N) (x : Fin 1024) : Fin 3072 :=
  ⟨1024 * (grid0.coords t 1).val + x.val, by have : (grid0.coords t 1).val < 3 := (grid0.coords t 1).isLt; omega⟩

variable (m : (ℓ : Loc nD τ sig) → Buf (Elt Ideal) ℓ) (c : Dev nD) (t : Fin cfg0.N)

theorem b0 (r : Fin 256) (b : Fin 8) :
    iblk m c 0 t (Idealize.ShloMosaic.ix2 r b) = m (c.tc.loc main_arg0) (Idealize.ShloMosaic.ix2 b (row t r)) := by
  have e := idx t
  blk_simp [iblk, e]
  entry_read
  pointwise
  blk_point [V, e, row]

theorem b1 (b : Fin 8) (x : Fin 1024) :
    iblk m c 1 t (Idealize.ShloMosaic.ix2 b x) = m (c.tc.loc main_arg1) (Idealize.ShloMosaic.ix2 b (col t x)) := by
  have e := idx t
  blk_ext [iblk, V, e, col]

theorem b2 (r : Fin 256) (x : Fin 1024) :
    iblk m c 2 t (Idealize.ShloMosaic.ix2 r x) = m (c.tc.loc main_arg2) (Idealize.ShloMosaic.ix2 (row t r) (col t x)) := by
  have e := idx t
  blk_ext [iblk, V, e, row, col]

theorem b3 (r : Fin 256) (x : Fin 1024) :
    iblk m c 3 t (Idealize.ShloMosaic.ix2 r x) = m (c.tc.loc main_arg3) (Idealize.ShloMosaic.ix2 (row t r) (col t x)) := by
  have e := idx t
  blk_ext [iblk, V, e, row, col]

theorem b4 (r : Fin 256) (x : Fin 1024) :
    iblk m c 4 t (Idealize.ShloMosaic.ix2 r x) = m (c.tc.loc main_arg4) (Idealize.ShloMosaic.ix2 (row t r) (col t x)) := by
  have e := idx t
  blk_ext [iblk, V, e, row, col]

theorem put5 (r : Fin 256) (x : Fin 1024) :
    ((View.whole main_v1_0).slice (win0_5.rect t)).emb (Idealize.ShloMosaic.ix2 r x) = Idealize.ShloMosaic.ix2 (row t r) (col t x) := by
  have e := idx t
  blk_ext [e, row, col]

theorem put6 (r : Fin 256) (x : Fin 1024) :
    ((View.whole main_v1_1).slice (win0_6.rect t)).emb (Idealize.ShloMosaic.ix2 r x) = Idealize.ShloMosaic.ix2 (row t r) (col t x) := by
  have e := idx t
  blk_ext [e, row, col]

theorem put7 (r : Fin 256) (x : Fin 1024) :
    ((View.whole main_v1_2).slice (win0_7.rect t)).emb (Idealize.ShloMosaic.ix2 r x) = Idealize.ShloMosaic.ix2 (row t r) (col t x) := by
  have e := idx t
  blk_ext [e, row, col]

theorem put8 (r : Fin 256) (x : Fin 1024) :
    ((View.whole main_v1_3).slice (win0_8.rect t)).emb (Idealize.ShloMosaic.ix2 r x) = Idealize.ShloMosaic.ix2 (row t r) (col t x) := by
  have e := idx t
  blk_ext [e, row, col]

/-- The gradient one grid point forms, as the sum over the rows of the activation. -/
theorem grad (r : Fin 256) (x : Fin 1024) :
    k0_pay5 (iblk m c 0 t) (iblk m c 1 t) (iblk m c 2 t) (iblk m c 3 t) (iblk m c 4 t) (Idealize.ShloMosaic.ix2 r x)
      = ∑ b : Fin 8, HMul.hMul (α := EReal) (β := EReal) (γ := EReal) (m (c.tc.loc main_arg1) (Idealize.ShloMosaic.ix2 b (col t x))) (m (c.tc.loc main_arg0) (Idealize.ShloMosaic.ix2 b (row t r))) := by
  pointwise [k0_pay5, k0_pay4]
  simp only [b0, b1]
  refine Eq.trans ?_ (Finset.sum_congr rfl fun b _ => mul_comm (G := EReal) _ _)
  rw [Fin.sum_univ_eight]

/-- After a run the gradient, the step and the two new moments are what the grid's points left, and the arguments are as before. -/
theorem run (g : Dev nD → PrngReg) : θ_run defs (onTc (τ := τ) (main (F := Ideal))) ⟨m, fun _ => 0, g⟩ fun r => ∀ c : Dev nD,
    r.2.mem (c.tc.loc main_v1_0) = (dats m 0 c).arrAt 5 cfg0.N
      ∧ r.2.mem (c.tc.loc main_v1_1) = (dats m 0 c).arrAt 6 cfg0.N
      ∧ r.2.mem (c.tc.loc main_v1_2) = (dats m 0 c).arrAt 7 cfg0.N
      ∧ r.2.mem (c.tc.loc main_v1_3) = (dats m 0 c).arrAt 8 cfg0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1 5, (h c).1 6, (h c).1 7, (h c).1 8,
    (((h c).2 main_arg0 (Pipeline.mem_restRefs_of main_arg0 (by decide) (by decide))).trans (V_main_arg0 m c)),
    (((h c).1 1).trans (((dats m 0 c).arrAt_in 1 rfl _).trans ((A_eq m c 1).trans (V_main_arg1 m c)))),
    (((h c).1 2).trans (((dats m 0 c).arrAt_in 2 rfl _).trans ((A_eq m c 2).trans (V_main_arg2 m c)))),
    (((h c).1 3).trans (((dats m 0 c).arrAt_in 3 rfl _).trans ((A_eq m c 3).trans (V_main_arg3 m c)))),
    (((h c).1 4).trans (((dats m 0 c).arrAt_in 4 rfl _).trans ((A_eq m c 4).trans (V_main_arg4 m c))))⟩) (run_main m g)

set_option maxHeartbeats 4000000 in
/-- The kernel's results are the reference's, element by element. -/
theorem algebraic : algebraic_AdaWIdeal_AdaWRefIdeal := fun m g m' g' _ hag => by
  refine ⟨fun c => (dats m 0 c).arrAt 5 cfg0.N, fun c => (dats m 0 c).arrAt 6 cfg0.N, fun c => (dats m 0 c).arrAt 7 cfg0.N, fun c => (dats m 0 c).arrAt 8 cfg0.N,
    (θ_run defs _ _).mono (fun r h c => h c) (run m g),
    (θ_run _ _ _).mono (fun r h c => ⟨(h c).1.trans ?_, (h c).2.1.trans ?_, (h c).2.2.1.trans ?_, (h c).2.2.2.1.trans ?_, (h c).2.2.2.2⟩) (Cert.AdaWRefIdeal.Value.run m' g')⟩
  · obtain ⟨h0, h1, h2, h3, h4⟩ := hag c
    simp only [h0, h1, h2, h3, h4]
    symm
    refine (dats m 0 c).arrAt_eq_of_covers 5 _ (by decide +kernel) fun t hf y => ?_
    obtain ⟨r, x, rfl⟩ : ∃ (r : Fin 256) (x : Fin 1024), y = Idealize.ShloMosaic.ix2 r x := ⟨y 0, y 1, Idealize.ShloMosaic.eq_ix2 y⟩
    rw [put5]
    blk_simp
    rw [after0_5]
    unfold out0_5
    frame_out
    pointwise [k0_pay1, k0_pay2, k0_pay3]
    simp only [grad, b2, b3, b4]
  · obtain ⟨h0, h1, h2, h3, h4⟩ := hag c
    simp only [h0, h1, h2, h3, h4]
    symm
    refine (dats m 0 c).arrAt_eq_of_covers 6 _ (by decide +kernel) fun t hf y => ?_
    obtain ⟨r, x, rfl⟩ : ∃ (r : Fin 256) (x : Fin 1024), y = Idealize.ShloMosaic.ix2 r x := ⟨y 0, y 1, Idealize.ShloMosaic.eq_ix2 y⟩
    rw [put6]
    blk_simp
    rw [after0_6]
    unfold out0_6
    frame_out
    pointwise [k0_pay1, k0_pay2, k0_pay3]
    simp only [grad, b2, b3, b4]
  · obtain ⟨h0, h1, h2, h3, h4⟩ := hag c
    simp only [h0, h1, h2, h3, h4]
    symm
    refine (dats m 0 c).arrAt_eq_of_covers 7 _ (by decide +kernel) fun t hf y => ?_
    obtain ⟨r, x, rfl⟩ : ∃ (r : Fin 256) (x : Fin 1024), y = Idealize.ShloMosaic.ix2 r x := ⟨y 0, y 1, Idealize.ShloMosaic.eq_ix2 y⟩
    rw [put7]
    blk_simp
    rw [after0_7]
    unfold out0_7
    frame_out
    pointwise [k0_pay1, k0_pay2, k0_pay3]
    simp only [grad, b2, b3, b4]
  · obtain ⟨h0, h1, h2, h3, h4⟩ := hag c
    simp only [h0, h1, h2, h3, h4]
    symm
    refine (dats m 0 c).arrAt_eq_of_covers 8 _ (by decide +kernel) fun t hf y => ?_
    obtain ⟨r, x, rfl⟩ : ∃ (r : Fin 256) (x : Fin 1024), y = Idealize.ShloMosaic.ix2 r x := ⟨y 0, y 1, Idealize.ShloMosaic.eq_ix2 y⟩
    rw [put8]
    blk_simp
    rw [after0_8]
    unfold out0_8
    frame_out
    pointwise [k0_pay1, k0_pay2, k0_pay3]
    simp only [grad, b2, b3, b4]

end Cert.Proof.AdaW

end
-- ==== Proof.AdamFfnValue.lean ====
/- The values of the optimiser's step on a weight of the feed-forward layer. -/
module

public import proofs.«01_k».proof.Defs
public import proofs.«01_k».proof.Proof.Gen.AdamFfnIdeal.Value
public import proofs.«01_k».proof.Proof.Gen.AdamFfnRefIdeal
public import proofs.«01_k».proof.Proof.Gen.AdamFfnRefIdeal.Run
public import Idealize.ShloMosaic.Lib.Pipeline.ValueKit
public import Idealize.ShloMosaic.Lib.Pointwise

@[expose] public section

set_option maxRecDepth 16384

noncomputable section

namespace Cert.Proof.AdamFfn

open Cert.AdamFfnIdeal Cert.AdamFfnIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val, 0]
    ∧ win0_1.index t = ![0, t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] := by decide +kernel

/-- Row `r` of tile `t`, in the whole array. -/
def row (t : Fin cfg0.N) (r : Fin 256) : Fin 2048 :=
  ⟨256 * t.val + r.val, by have := t.isLt; have : cfg0.N = 8 := rfl; omega⟩

variable (m : (ℓ : Loc nD τ sig) → Buf (Elt Ideal) ℓ) (c : Dev nD) (t : Fin cfg0.N)

theorem b0 (r : Fin 256) (x : Fin 2048) :
    iblk m c 0 t (Idealize.ShloMosaic.ix2 r x) = m (c.tc.loc main_arg0) (Idealize.ShloMosaic.ix2 (row t r) x) := by
  have e := idx t
  blk_ext [iblk, V, e, row]

theorem b2 (r : Fin 256) (x : Fin 2048) :
    iblk m c 2 t (Idealize.ShloMosaic.ix2 r x) = m (c.tc.loc main_arg2) (Idealize.ShloMosaic.ix2 (row t r) x) := by
  have e := idx t
  blk_ext [iblk, V, e, row]

theorem b3 (r : Fin 256) (x : Fin 2048) :
    iblk m c 3 t (Idealize.ShloMosaic.ix2 r x) = m (c.tc.loc main_arg3) (Idealize.ShloMosaic.ix2 (row t r) x) := by
  have e := idx t
  blk_ext [iblk, V, e, row]

theorem b1 (r : Fin 256) (x : Fin 2048) :
    iblk m c 1 t (Idealize.ShloMosaic.ix3 0 r x) = m (c.tc.loc main_arg1) (Idealize.ShloMosaic.ix2 (row t r) x) := by
  have e := idx t
  blk_simp [iblk, e]
  entry_read
  pointwise
  blk_point [V, e, row]

theorem put4 (r : Fin 256) (x : Fin 2048) :
    ((View.whole main_v1_0).slice (win0_4.rect t)).emb (Idealize.ShloMosaic.ix2 r x) = Idealize.ShloMosaic.ix2 (row t r) x := by
  have e := idx t
  blk_ext [e, row]

theorem put5 (r : Fin 256) (x : Fin 2048) :
    ((View.whole main_v1_1).slice (win0_5.rect t)).emb (Idealize.ShloMosaic.ix2 r x) = Idealize.ShloMosaic.ix2 (row t r) x := by
  have e := idx t
  blk_ext [e, row]

theorem put6 (r : Fin 256) (x : Fin 2048) :
    ((View.whole main_v1_2).slice (win0_6.rect t)).emb (Idealize.ShloMosaic.ix2 r x) = Idealize.ShloMosaic.ix2 (row t r) x := by
  have e := idx t
  blk_ext [e, row]

theorem put7 (r : Fin 256) (x : Fin 2048) :
    ((View.whole main_v1_3).slice (win0_7.rect t)).emb (Idealize.ShloMosaic.ix2 r x) = Idealize.ShloMosaic.ix2 (row t r) x := by
  have e := idx t
  blk_ext [e, row]

set_option maxHeartbeats 4000000 in
/-- The kernel's results are the reference's, element by element. -/
theorem algebraic : algebraic_AdamFfnIdeal_AdamFfnRefIdeal := fun m g m' g' _ hag => by
  refine ⟨fun c => (dats m 0 c).arrAt 4 cfg0.N, fun c => (dats m 0 c).arrAt 5 cfg0.N, fun c => (dats m 0 c).arrAt 6 cfg0.N, fun c => (dats m 0 c).arrAt 7 cfg0.N,
    (θ_run defs _ _).mono (fun r h c => h c) (Value.run_blocks m g),
    (θ_run _ _ _).mono (fun r h c => ⟨(h c).1.trans ?_, (h c).2.1.trans ?_, (h c).2.2.1.trans ?_, (h c).2.2.2.1.trans ?_, (h c).2.2.2.2⟩) (Cert.AdamFfnRefIdeal.Value.run m' g')⟩
  · obtain ⟨h0, h1, h2, h3⟩ := hag c
    simp only [h0, h1, h2, h3]
    symm
    refine (dats m 0 c).arrAt_eq_of_covers 4 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put4]
    blk_simp
    rw [after0_4]
    unfold out0_4
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 5 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put5]
    blk_simp
    rw [after0_5]
    unfold out0_5
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 6 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put6]
    blk_simp
    rw [after0_6]
    unfold out0_6
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 7 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put7]
    blk_simp
    rw [after0_7]
    unfold out0_7
    frame_out
    pointwise [k0_pay1, k0_pay2, k0_pay3, k0_pay4]
    simp only [b0, b1, b2, b3]

end Cert.Proof.AdamFfn

end
-- ==== Proof.AdamInValue.lean ====
/- The values of the optimiser's step on a weight of the projection into the mixer. -/
module

public import proofs.«01_k».proof.Defs
public import proofs.«01_k».proof.Proof.Gen.AdamInIdeal.Value
public import proofs.«01_k».proof.Proof.Gen.AdamInRefIdeal
public import proofs.«01_k».proof.Proof.Gen.AdamInRefIdeal.Run
public import Idealize.ShloMosaic.Lib.Pipeline.ValueKit
public import Idealize.ShloMosaic.Lib.Pointwise

@[expose] public section

set_option maxRecDepth 16384

noncomputable section

namespace Cert.Proof.AdamIn

open Cert.AdamInIdeal Cert.AdamInIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val, 0]
    ∧ win0_1.index t = ![0, t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] := by decide +kernel

/-- Row `r` of tile `t`, in the whole array. -/
def row (t : Fin cfg0.N) (r : Fin 256) : Fin 2048 :=
  ⟨256 * t.val + r.val, by have := t.isLt; have : cfg0.N = 8 := rfl; omega⟩

variable (m : (ℓ : Loc nD τ sig) → Buf (Elt Ideal) ℓ) (c : Dev nD) (t : Fin cfg0.N)

theorem b0 (r : Fin 256) (x : Fin 1128) :
    iblk m c 0 t (Idealize.ShloMosaic.ix2 r x) = m (c.tc.loc main_arg0) (Idealize.ShloMosaic.ix2 (row t r) x) := by
  have e := idx t
  blk_ext [iblk, V, e, row]

theorem b2 (r : Fin 256) (x : Fin 1128) :
    iblk m c 2 t (Idealize.ShloMosaic.ix2 r x) = m (c.tc.loc main_arg2) (Idealize.ShloMosaic.ix2 (row t r) x) := by
  have e := idx t
  blk_ext [iblk, V, e, row]

theorem b3 (r : Fin 256) (x : Fin 1128) :
    iblk m c 3 t (Idealize.ShloMosaic.ix2 r x) = m (c.tc.loc main_arg3) (Idealize.ShloMosaic.ix2 (row t r) x) := by
  have e := idx t
  blk_ext [iblk, V, e, row]

theorem b1 (r : Fin 256) (x : Fin 1128) :
    iblk m c 1 t (Idealize.ShloMosaic.ix3 0 r x) = m (c.tc.loc main_arg1) (Idealize.ShloMosaic.ix2 (row t r) x) := by
  have e := idx t
  blk_simp [iblk, e]
  entry_read
  pointwise
  blk_point [V, e, row]

theorem put4 (r : Fin 256) (x : Fin 1128) :
    ((View.whole main_v1_0).slice (win0_4.rect t)).emb (Idealize.ShloMosaic.ix2 r x) = Idealize.ShloMosaic.ix2 (row t r) x := by
  have e := idx t
  blk_ext [e, row]

theorem put5 (r : Fin 256) (x : Fin 1128) :
    ((View.whole main_v1_1).slice (win0_5.rect t)).emb (Idealize.ShloMosaic.ix2 r x) = Idealize.ShloMosaic.ix2 (row t r) x := by
  have e := idx t
  blk_ext [e, row]

theorem put6 (r : Fin 256) (x : Fin 1128) :
    ((View.whole main_v1_2).slice (win0_6.rect t)).emb (Idealize.ShloMosaic.ix2 r x) = Idealize.ShloMosaic.ix2 (row t r) x := by
  have e := idx t
  blk_ext [e, row]

theorem put7 (r : Fin 256) (x : Fin 1128) :
    ((View.whole main_v1_3).slice (win0_7.rect t)).emb (Idealize.ShloMosaic.ix2 r x) = Idealize.ShloMosaic.ix2 (row t r) x := by
  have e := idx t
  blk_ext [e, row]

set_option maxHeartbeats 4000000 in
/-- The kernel's results are the reference's, element by element. -/
theorem algebraic : algebraic_AdamInIdeal_AdamInRefIdeal := fun m g m' g' _ hag => by
  refine ⟨fun c => (dats m 0 c).arrAt 4 cfg0.N, fun c => (dats m 0 c).arrAt 5 cfg0.N, fun c => (dats m 0 c).arrAt 6 cfg0.N, fun c => (dats m 0 c).arrAt 7 cfg0.N,
    (θ_run defs _ _).mono (fun r h c => h c) (Value.run_blocks m g),
    (θ_run _ _ _).mono (fun r h c => ⟨(h c).1.trans ?_, (h c).2.1.trans ?_, (h c).2.2.1.trans ?_, (h c).2.2.2.1.trans ?_, (h c).2.2.2.2⟩) (Cert.AdamInRefIdeal.Value.run m' g')⟩
  · obtain ⟨h0, h1, h2, h3⟩ := hag c
    simp only [h0, h1, h2, h3]
    symm
    refine (dats m 0 c).arrAt_eq_of_covers 4 _ (by decide +kernel) fun t hf y => ?_
    obtain ⟨r, x, rfl⟩ : ∃ (r : Fin 256) (x : Fin 1128), y = Idealize.ShloMosaic.ix2 r x := ⟨y 0, y 1, Idealize.ShloMosaic.eq_ix2 y⟩
    rw [put4]
    blk_simp
    rw [after0_4]
    unfold out0_4
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 5 _ (by decide +kernel) fun t hf y => ?_
    obtain ⟨r, x, rfl⟩ : ∃ (r : Fin 256) (x : Fin 1128), y = Idealize.ShloMosaic.ix2 r x := ⟨y 0, y 1, Idealize.ShloMosaic.eq_ix2 y⟩
    rw [put5]
    blk_simp
    rw [after0_5]
    unfold out0_5
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 6 _ (by decide +kernel) fun t hf y => ?_
    obtain ⟨r, x, rfl⟩ : ∃ (r : Fin 256) (x : Fin 1128), y = Idealize.ShloMosaic.ix2 r x := ⟨y 0, y 1, Idealize.ShloMosaic.eq_ix2 y⟩
    rw [put6]
    blk_simp
    rw [after0_6]
    unfold out0_6
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 7 _ (by decide +kernel) fun t hf y => ?_
    obtain ⟨r, x, rfl⟩ : ∃ (r : Fin 256) (x : Fin 1128), y = Idealize.ShloMosaic.ix2 r x := ⟨y 0, y 1, Idealize.ShloMosaic.eq_ix2 y⟩
    rw [put7]
    blk_simp
    rw [after0_7]
    unfold out0_7
    frame_out
    pointwise [k0_pay1, k0_pay2, k0_pay3, k0_pay4]
    simp only [b0, b1, b2, b3]

end Cert.Proof.AdamIn

end
-- ==== Proof.AdamOutValue.lean ====
/- The values of the optimiser's step on a weight of the projection out of the mixer. -/
module

public import proofs.«01_k».proof.Defs
public import proofs.«01_k».proof.Proof.Gen.AdamOutIdeal.Value
public import proofs.«01_k».proof.Proof.Gen.AdamOutRefIdeal
public import proofs.«01_k».proof.Proof.Gen.AdamOutRefIdeal.Run
public import Idealize.ShloMosaic.Lib.Pipeline.ValueKit
public import Idealize.ShloMosaic.Lib.Pointwise

@[expose] public section

set_option maxRecDepth 16384

noncomputable section

namespace Cert.Proof.AdamOut

open Cert.AdamOutIdeal Cert.AdamOutIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val, 0]
    ∧ win0_1.index t = ![0, t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] := by decide +kernel

/-- Row `r` of tile `t`, in the whole array. -/
def row (t : Fin cfg0.N) (r : Fin 256) : Fin 512 :=
  ⟨256 * t.val + r.val, by have := t.isLt; have : cfg0.N = 2 := rfl; omega⟩

variable (m : (ℓ : Loc nD τ sig) → Buf (Elt Ideal) ℓ) (c : Dev nD) (t : Fin cfg0.N)

theorem b0 (r : Fin 256) (x : Fin 2048) :
    iblk m c 0 t (Idealize.ShloMosaic.ix2 r x) = m (c.tc.loc main_arg0) (Idealize.ShloMosaic.ix2 (row t r) x) := by
  have e := idx t
  blk_ext [iblk, V, e, row]

theorem b2 (r : Fin 256) (x : Fin 2048) :
    iblk m c 2 t (Idealize.ShloMosaic.ix2 r x) = m (c.tc.loc main_arg2) (Idealize.ShloMosaic.ix2 (row t r) x) := by
  have e := idx t
  blk_ext [iblk, V, e, row]

theorem b3 (r : Fin 256) (x : Fin 2048) :
    iblk m c 3 t (Idealize.ShloMosaic.ix2 r x) = m (c.tc.loc main_arg3) (Idealize.ShloMosaic.ix2 (row t r) x) := by
  have e := idx t
  blk_ext [iblk, V, e, row]

theorem b1 (r : Fin 256) (x : Fin 2048) :
    iblk m c 1 t (Idealize.ShloMosaic.ix3 0 r x) = m (c.tc.loc main_arg1) (Idealize.ShloMosaic.ix2 (row t r) x) := by
  have e := idx t
  blk_simp [iblk, e]
  entry_read
  pointwise
  blk_point [V, e, row]

theorem put4 (r : Fin 256) (x : Fin 2048) :
    ((View.whole main_v1_0).slice (win0_4.rect t)).emb (Idealize.ShloMosaic.ix2 r x) = Idealize.ShloMosaic.ix2 (row t r) x := by
  have e := idx t
  blk_ext [e, row]

theorem put5 (r : Fin 256) (x : Fin 2048) :
    ((View.whole main_v1_1).slice (win0_5.rect t)).emb (Idealize.ShloMosaic.ix2 r x) = Idealize.ShloMosaic.ix2 (row t r) x := by
  have e := idx t
  blk_ext [e, row]

theorem put6 (r : Fin 256) (x : Fin 2048) :
    ((View.whole main_v1_2).slice (win0_6.rect t)).emb (Idealize.ShloMosaic.ix2 r x) = Idealize.ShloMosaic.ix2 (row t r) x := by
  have e := idx t
  blk_ext [e, row]

theorem put7 (r : Fin 256) (x : Fin 2048) :
    ((View.whole main_v1_3).slice (win0_7.rect t)).emb (Idealize.ShloMosaic.ix2 r x) = Idealize.ShloMosaic.ix2 (row t r) x := by
  have e := idx t
  blk_ext [e, row]

set_option maxHeartbeats 4000000 in
/-- The kernel's results are the reference's, element by element. -/
theorem algebraic : algebraic_AdamOutIdeal_AdamOutRefIdeal := fun m g m' g' _ hag => by
  refine ⟨fun c => (dats m 0 c).arrAt 4 cfg0.N, fun c => (dats m 0 c).arrAt 5 cfg0.N, fun c => (dats m 0 c).arrAt 6 cfg0.N, fun c => (dats m 0 c).arrAt 7 cfg0.N,
    (θ_run defs _ _).mono (fun r h c => h c) (Value.run_blocks m g),
    (θ_run _ _ _).mono (fun r h c => ⟨(h c).1.trans ?_, (h c).2.1.trans ?_, (h c).2.2.1.trans ?_, (h c).2.2.2.1.trans ?_, (h c).2.2.2.2⟩) (Cert.AdamOutRefIdeal.Value.run m' g')⟩
  · obtain ⟨h0, h1, h2, h3⟩ := hag c
    simp only [h0, h1, h2, h3]
    symm
    refine (dats m 0 c).arrAt_eq_of_covers 4 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put4]
    blk_simp
    rw [after0_4]
    unfold out0_4
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 5 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put5]
    blk_simp
    rw [after0_5]
    unfold out0_5
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 6 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put6]
    blk_simp
    rw [after0_6]
    unfold out0_6
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 7 _ (by decide +kernel) fun t hf y => ?_
    obtain ⟨r, x, rfl⟩ : ∃ (r : Fin 256) (x : Fin 2048), y = Idealize.ShloMosaic.ix2 r x := ⟨y 0, y 1, Idealize.ShloMosaic.eq_ix2 y⟩
    rw [put7]
    blk_simp
    rw [after0_7]
    unfold out0_7
    frame_out
    pointwise [k0_pay1, k0_pay2, k0_pay3, k0_pay4]
    simp only [b0, b1, b2, b3]

end Cert.Proof.AdamOut

end
-- ==== Proof.AdamGluValue.lean ====
/- The values of the optimiser's step on a weight of the gate of the state-space layer. -/
module

public import proofs.«01_k».proof.Defs
public import proofs.«01_k».proof.Proof.Gen.AdamGluIdeal.Value
public import proofs.«01_k».proof.Proof.Gen.AdamGluRefIdeal
public import proofs.«01_k».proof.Proof.Gen.AdamGluRefIdeal.Run
public import Idealize.ShloMosaic.Lib.Pipeline.ValueKit
public import Idealize.ShloMosaic.Lib.Pointwise

@[expose] public section

set_option maxRecDepth 16384

noncomputable section

namespace Cert.Proof.AdamGlu

open Cert.AdamGluIdeal Cert.AdamGluIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val, 0]
    ∧ win0_1.index t = ![0, t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] := by decide +kernel

/-- Row `r` of tile `t`, in the whole array. -/
def row (t : Fin cfg0.N) (r : Fin 256) : Fin 256 :=
  ⟨256 * t.val + r.val, by have := t.isLt; have : cfg0.N = 1 := rfl; omega⟩

variable (m : (ℓ : Loc nD τ sig) → Buf (Elt Ideal) ℓ) (c : Dev nD) (t : Fin cfg0.N)

theorem b0 (r : Fin 256) (x : Fin 1024) :
    iblk m c 0 t (Idealize.ShloMosaic.ix2 r x) = m (c.tc.loc main_arg0) (Idealize.ShloMosaic.ix2 (row t r) x) := by
  have e := idx t
  blk_ext [iblk, V, e, row]

theorem b2 (r : Fin 256) (x : Fin 1024) :
    iblk m c 2 t (Idealize.ShloMosaic.ix2 r x) = m (c.tc.loc main_arg2) (Idealize.ShloMosaic.ix2 (row t r) x) := by
  have e := idx t
  blk_ext [iblk, V, e, row]

theorem b3 (r : Fin 256) (x : Fin 1024) :
    iblk m c 3 t (Idealize.ShloMosaic.ix2 r x) = m (c.tc.loc main_arg3) (Idealize.ShloMosaic.ix2 (row t r) x) := by
  have e := idx t
  blk_ext [iblk, V, e, row]

theorem b1 (r : Fin 256) (x : Fin 1024) :
    iblk m c 1 t (Idealize.ShloMosaic.ix3 0 r x) = m (c.tc.loc main_arg1) (Idealize.ShloMosaic.ix2 (row t r) x) := by
  have e := idx t
  blk_simp [iblk, e]
  entry_read
  pointwise
  blk_point [V, e, row]

theorem put4 (r : Fin 256) (x : Fin 1024) :
    ((View.whole main_v1_0).slice (win0_4.rect t)).emb (Idealize.ShloMosaic.ix2 r x) = Idealize.ShloMosaic.ix2 (row t r) x := by
  have e := idx t
  blk_ext [e, row]

theorem put5 (r : Fin 256) (x : Fin 1024) :
    ((View.whole main_v1_1).slice (win0_5.rect t)).emb (Idealize.ShloMosaic.ix2 r x) = Idealize.ShloMosaic.ix2 (row t r) x := by
  have e := idx t
  blk_ext [e, row]

theorem put6 (r : Fin 256) (x : Fin 1024) :
    ((View.whole main_v1_2).slice (win0_6.rect t)).emb (Idealize.ShloMosaic.ix2 r x) = Idealize.ShloMosaic.ix2 (row t r) x := by
  have e := idx t
  blk_ext [e, row]

theorem put7 (r : Fin 256) (x : Fin 1024) :
    ((View.whole main_v1_3).slice (win0_7.rect t)).emb (Idealize.ShloMosaic.ix2 r x) = Idealize.ShloMosaic.ix2 (row t r) x := by
  have e := idx t
  blk_ext [e, row]

set_option maxHeartbeats 4000000 in
/-- The kernel's results are the reference's, element by element. -/
theorem algebraic : algebraic_AdamGluIdeal_AdamGluRefIdeal := fun m g m' g' _ hag => by
  refine ⟨fun c => (dats m 0 c).arrAt 4 cfg0.N, fun c => (dats m 0 c).arrAt 5 cfg0.N, fun c => (dats m 0 c).arrAt 6 cfg0.N, fun c => (dats m 0 c).arrAt 7 cfg0.N,
    (θ_run defs _ _).mono (fun r h c => h c) (Value.run_blocks m g),
    (θ_run _ _ _).mono (fun r h c => ⟨(h c).1.trans ?_, (h c).2.1.trans ?_, (h c).2.2.1.trans ?_, (h c).2.2.2.1.trans ?_, (h c).2.2.2.2⟩) (Cert.AdamGluRefIdeal.Value.run m' g')⟩
  · obtain ⟨h0, h1, h2, h3⟩ := hag c
    simp only [h0, h1, h2, h3]
    symm
    refine (dats m 0 c).arrAt_eq_of_covers 4 _ (by decide +kernel) fun t hf y => ?_
    obtain ⟨r, x, rfl⟩ : ∃ (r : Fin 256) (x : Fin 1024), y = Idealize.ShloMosaic.ix2 r x := ⟨y 0, y 1, Idealize.ShloMosaic.eq_ix2 y⟩
    rw [put4]
    blk_simp
    rw [after0_4]
    unfold out0_4
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 5 _ (by decide +kernel) fun t hf y => ?_
    obtain ⟨r, x, rfl⟩ : ∃ (r : Fin 256) (x : Fin 1024), y = Idealize.ShloMosaic.ix2 r x := ⟨y 0, y 1, Idealize.ShloMosaic.eq_ix2 y⟩
    rw [put5]
    blk_simp
    rw [after0_5]
    unfold out0_5
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 6 _ (by decide +kernel) fun t hf y => ?_
    obtain ⟨r, x, rfl⟩ : ∃ (r : Fin 256) (x : Fin 1024), y = Idealize.ShloMosaic.ix2 r x := ⟨y 0, y 1, Idealize.ShloMosaic.eq_ix2 y⟩
    rw [put6]
    blk_simp
    rw [after0_6]
    unfold out0_6
    frame_out
    pointwise [k0_pay1, k0_pay2, k0_pay3, k0_pay4]
    simp only [b0, b1, b2, b3]
  · obtain ⟨h0, h1, h2, h3⟩ := hag c
    simp only [h0, h1, h2, h3]
    symm
    refine (dats m 0 c).arrAt_eq_of_covers 7 _ (by decide +kernel) fun t hf y => ?_
    obtain ⟨r, x, rfl⟩ : ∃ (r : Fin 256) (x : Fin 1024), y = Idealize.ShloMosaic.ix2 r x := ⟨y 0, y 1, Idealize.ShloMosaic.eq_ix2 y⟩
    rw [put7]
    blk_simp
    rw [after0_7]
    unfold out0_7
    frame_out
    pointwise [k0_pay1, k0_pay2, k0_pay3, k0_pay4]
    simp only [b0, b1, b2, b3]

end Cert.Proof.AdamGlu

end
-- ==== Proof.AdamRkValue.lean ====
/- The values of the optimiser's step on the weights of the RWKV-7 mixer, packed in one array. -/
module

public import proofs.«01_k».proof.Defs
public import proofs.«01_k».proof.Proof.Gen.AdamRkIdeal.Frame
public import proofs.«01_k».proof.Proof.Gen.AdamRkRefIdeal
public import proofs.«01_k».proof.Proof.Gen.AdamRkRefIdeal.Run
public import Idealize.ShloMosaic.Lib.Pipeline.ValueKit
public import Idealize.ShloMosaic.Lib.Pointwise
public import Idealize.ShloMosaic.Lib.StableHlo.RunClose

@[expose] public section

set_option maxRecDepth 16384

noncomputable section

namespace Cert.Proof.AdamRk

open Cert.AdamRkIdeal Cert.AdamRkIdeal.Gen Idealize.ShloMosaic Idealize.ShloMosaic.TcCoe Idealize.ShloMosaic.ValueIdx Idealize.SL.Sem
open Idealize.ShloMosaic.Pipeline (Dat)

theorem idx : ∀ t : Fin grid0.N, win0_0.index t = ![t.val, 0]
    ∧ win0_1.index t = ![0, t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] := by decide +kernel

theorem only (t : Fin cfg0.N) : t.val = 0 := by have := t.isLt; have : cfg0.N = 1 := rfl; omega

variable (m : (ℓ : Loc nD τ sig) → Buf (Elt Ideal) ℓ) (c : Dev nD) (t : Fin cfg0.N)

/-- Five weights as the rows of one array, with twelve rows of zeros after them. -/
def rows (a0 a1 : FVec Ideal S2x256 .f32) (a2 a3 : FVec Ideal S2x64x256 .f32) (a4 : FVec Ideal S160x256 .f32) : FVec Ideal S432x256 .f32 :=
  pad S432x256 ![0, 0] ![12, 0] ![0, 0]
    (concatenate S420x256 0 [⟨S2x256, a0⟩, ⟨S2x256, a1⟩, ⟨S128x256, shapeCast S128x256 a2 shapeCasts_S2x64x256_S128x256⟩,
      ⟨S128x256, shapeCast S128x256 a3 shapeCasts_S2x64x256_S128x256⟩, ⟨S160x256, a4⟩] concatenates_S2x256_S2x256_S128x256_S128x256_S160x256_S420x256_d0)
    (sitofp .f32 (constantI S_ 32 0#32)) pads_S420x256_S432x256_0120_000 h_S_

theorem V3 : V m c main_v3 = rows (m (c.tc.loc main_arg0)) (m (c.tc.loc main_arg1)) (m (c.tc.loc main_arg2)) (m (c.tc.loc main_arg3)) (m (c.tc.loc main_arg4)) := by
  unfold rows
  show StableHlo.after (List.flatten [hostOps0, hostOps0_1, hostOps0_2, hostOps0_3, hostOps0_4, hostOps0_5, hostOps0_6, hostOps0_7]) (fun b => m (c, b)) (Proc.devRef .tc main_v3) = _
  simp only [hostOps0, hostOps0_1, hostOps0_2, hostOps0_3, hostOps0_4, hostOps0_5, hostOps0_6, hostOps0_7, List.flatten_cons, List.flatten_nil, List.append_nil, List.cons_append, List.nil_append]
  after_results_entrywise (rounds := 1) []

theorem V8 : V m c main_v8 = broadcastInDim S1x432x256 ![1, 2] bcast_S432x256_S1x432x256_1_2 (rows (m (c.tc.loc main_arg5)) (m (c.tc.loc main_arg6)) (m (c.tc.loc main_arg7)) (m (c.tc.loc main_arg8)) (m (c.tc.loc main_arg9))) := by
  unfold rows
  show StableHlo.after (List.flatten [hostOps0, hostOps0_1, hostOps0_2, hostOps0_3, hostOps0_4, hostOps0_5, hostOps0_6, hostOps0_7]) (fun b => m (c, b)) (Proc.devRef .tc main_v8) = _
  simp only [hostOps0, hostOps0_1, hostOps0_2, hostOps0_3, hostOps0_4, hostOps0_5, hostOps0_6, hostOps0_7, List.flatten_cons, List.flatten_nil, List.append_nil, List.cons_append, List.nil_append]
  after_results_entrywise (rounds := 1) []

theorem V12 : V m c main_v12 = rows (m (c.tc.loc main_arg10)) (m (c.tc.loc main_arg11)) (m (c.tc.loc main_arg12)) (m (c.tc.loc main_arg13)) (m (c.tc.loc main_arg14)) := by
  unfold rows
  show StableHlo.after (List.flatten [hostOps0, hostOps0_1, hostOps0_2, hostOps0_3, hostOps0_4, hostOps0_5, hostOps0_6, hostOps0_7]) (fun b => m (c, b)) (Proc.devRef .tc main_v12) = _
  simp only [hostOps0, hostOps0_1, hostOps0_2, hostOps0_3, hostOps0_4, hostOps0_5, hostOps0_6, hostOps0_7, List.flatten_cons, List.flatten_nil, List.append_nil, List.cons_append, List.nil_append]
  after_results_entrywise (rounds := 1) []

theorem V16 : V m c main_v16 = rows (m (c.tc.loc main_arg15)) (m (c.tc.loc main_arg16)) (m (c.tc.loc main_arg17)) (m (c.tc.loc main_arg18)) (m (c.tc.loc main_arg19)) := by
  unfold rows
  show StableHlo.after (List.flatten [hostOps0, hostOps0_1, hostOps0_2, hostOps0_3, hostOps0_4, hostOps0_5, hostOps0_6, hostOps0_7]) (fun b => m (c, b)) (Proc.devRef .tc main_v16) = _
  simp only [hostOps0, hostOps0_1, hostOps0_2, hostOps0_3, hostOps0_4, hostOps0_5, hostOps0_6, hostOps0_7, List.flatten_cons, List.flatten_nil, List.append_nil, List.cons_append, List.nil_append]
  after_results_entrywise (rounds := 1) []

theorem rows_0 (a0 a1 : FVec Ideal S2x256 .f32) (a2 a3 : FVec Ideal S2x64x256 .f32) (a4 : FVec Ideal S160x256 .f32) (r : Fin 2) (x : Fin 256) :
    rows a0 a1 a2 a3 a4 (Idealize.ShloMosaic.ix2 ⟨r.val, by omega⟩ x) = a0 (Idealize.ShloMosaic.ix2 r x) := by
  unfold rows
  pointwise
  repeat' split
  all_goals first | omega | rfl | (refine congrArg _ ?_; congr 1 <;> (apply Fin.ext; dsimp only; omega))

theorem rows_1 (a0 a1 : FVec Ideal S2x256 .f32) (a2 a3 : FVec Ideal S2x64x256 .f32) (a4 : FVec Ideal S160x256 .f32) (r : Fin 2) (x : Fin 256) :
    rows a0 a1 a2 a3 a4 (Idealize.ShloMosaic.ix2 ⟨2 + r.val, by omega⟩ x) = a1 (Idealize.ShloMosaic.ix2 r x) := by
  unfold rows
  pointwise
  repeat' split
  all_goals first | omega | rfl | (refine congrArg _ ?_; congr 1 <;> (apply Fin.ext; dsimp only; omega))

theorem rows_2 (a0 a1 : FVec Ideal S2x256 .f32) (a2 a3 : FVec Ideal S2x64x256 .f32) (a4 : FVec Ideal S160x256 .f32) (d : Fin 2) (l : Fin 64) (x : Fin 256) :
    rows a0 a1 a2 a3 a4 (Idealize.ShloMosaic.ix2 ⟨4 + (d.val * 64 + l.val), by omega⟩ x) = a2 (Idealize.ShloMosaic.ix3 d l x) := by
  unfold rows
  pointwise
  repeat' split
  all_goals first | omega | rfl | (refine congrArg _ ?_; congr 1 <;> (apply Fin.ext; dsimp only; omega))

theorem rows_3 (a0 a1 : FVec Ideal S2x256 .f32) (a2 a3 : FVec Ideal S2x64x256 .f32) (a4 : FVec Ideal S160x256 .f32) (d : Fin 2) (l : Fin 64) (x : Fin 256) :
    rows a0 a1 a2 a3 a4 (Idealize.ShloMosaic.ix2 ⟨132 + (d.val * 64 + l.val), by omega⟩ x) = a3 (Idealize.ShloMosaic.ix3 d l x) := by
  unfold rows
  pointwise
  repeat' split
  all_goals first | omega | rfl | (refine congrArg _ ?_; congr 1 <;> (apply Fin.ext; dsimp only; omega))

theorem rows_4 (a0 a1 : FVec Ideal S2x256 .f32) (a2 a3 : FVec Ideal S2x64x256 .f32) (a4 : FVec Ideal S160x256 .f32) (r : Fin 160) (x : Fin 256) :
    rows a0 a1 a2 a3 a4 (Idealize.ShloMosaic.ix2 ⟨260 + r.val, by omega⟩ x) = a4 (Idealize.ShloMosaic.ix2 r x) := by
  unfold rows
  pointwise
  repeat' split
  all_goals first | omega | rfl | (refine congrArg _ ?_; congr 1 <;> (apply Fin.ext; dsimp only; omega))

theorem b0 (r : Fin 432) (x : Fin 256) :
    iblk m c 0 t (Idealize.ShloMosaic.ix2 r x) = rows (m (c.tc.loc main_arg0)) (m (c.tc.loc main_arg1)) (m (c.tc.loc main_arg2)) (m (c.tc.loc main_arg3)) (m (c.tc.loc main_arg4)) (Idealize.ShloMosaic.ix2 r x) := by
  have e := idx t
  have o := only t
  rw [← V3]
  blk_ext [iblk, e, o]

theorem b2 (r : Fin 432) (x : Fin 256) :
    iblk m c 2 t (Idealize.ShloMosaic.ix2 r x) = rows (m (c.tc.loc main_arg10)) (m (c.tc.loc main_arg11)) (m (c.tc.loc main_arg12)) (m (c.tc.loc main_arg13)) (m (c.tc.loc main_arg14)) (Idealize.ShloMosaic.ix2 r x) := by
  have e := idx t
  have o := only t
  rw [← V12]
  blk_ext [iblk, e, o]

theorem b3 (r : Fin 432) (x : Fin 256) :
    iblk m c 3 t (Idealize.ShloMosaic.ix2 r x) = rows (m (c.tc.loc main_arg15)) (m (c.tc.loc main_arg16)) (m (c.tc.loc main_arg17)) (m (c.tc.loc main_arg18)) (m (c.tc.loc main_arg19)) (Idealize.ShloMosaic.ix2 r x) := by
  have e := idx t
  have o := only t
  rw [← V16]
  blk_ext [iblk, e, o]

theorem b1 (r : Fin 432) (x : Fin 256) :
    iblk m c 1 t (Idealize.ShloMosaic.ix3 0 r x) = rows (m (c.tc.loc main_arg5)) (m (c.tc.loc main_arg6)) (m (c.tc.loc main_arg7)) (m (c.tc.loc main_arg8)) (m (c.tc.loc main_arg9)) (Idealize.ShloMosaic.ix2 r x) := by
  have e := idx t
  have o := only t
  refine Eq.trans (b := V m c main_v8 (Idealize.ShloMosaic.ix3 0 r x)) ?_ ?_
  · blk_ext [iblk, e, o]
  · rw [V8]
    pointwise

/-- The new first moment of an element. -/
def mom (g a : EReal) : EReal := Ideal.ofBits FTy.f32 1063675494#32 * a + Ideal.ofBits FTy.f32 1036831949#32 * g

/-- The new second moment of an element. -/
def var (g b : EReal) : EReal := Ideal.ofBits FTy.f32 1065336439#32 * b + Ideal.ofBits FTy.f32 981668463#32 * (g * g)

/-- The step of an element. -/
def step (w g a b : EReal) : EReal :=
  Ideal.ofBits FTy.f32 3129152111#32 * (Ideal.div (Ideal.div (mom g a) (Ideal.ofBits FTy.f32 1059503362#32))
    (Ideal.sqrt (Ideal.div (var g b) (Ideal.ofBits FTy.f32 1008933580#32)) + Ideal.ofBits FTy.f32 841731191#32)
    + Ideal.ofBits FTy.f32 1008981770#32 * w)

theorem put5 (r : Fin 432) (x : Fin 256) :
    ((View.whole main_v17_1).slice (win0_5.rect t)).emb (Idealize.ShloMosaic.ix2 r x) = Idealize.ShloMosaic.ix2 r x := by
  have e := idx t
  have o := only t
  blk_ext [e, o]

theorem arr5 : (dats m 0 c).arrAt 5 cfg0.N = fun y => step (rows (m (c.tc.loc main_arg0)) (m (c.tc.loc main_arg1)) (m (c.tc.loc main_arg2)) (m (c.tc.loc main_arg3)) (m (c.tc.loc main_arg4)) y) (rows (m (c.tc.loc main_arg5)) (m (c.tc.loc main_arg6)) (m (c.tc.loc main_arg7)) (m (c.tc.loc main_arg8)) (m (c.tc.loc main_arg9)) y) (rows (m (c.tc.loc main_arg10)) (m (c.tc.loc main_arg11)) (m (c.tc.loc main_arg12)) (m (c.tc.loc main_arg13)) (m (c.tc.loc main_arg14)) y) (rows (m (c.tc.loc main_arg15)) (m (c.tc.loc main_arg16)) (m (c.tc.loc main_arg17)) (m (c.tc.loc main_arg18)) (m (c.tc.loc main_arg19)) y) := by
  refine (dats m 0 c).arrAt_eq_of_covers 5 _ (by decide +kernel) fun t hf y => ?_
  obtain ⟨r, x, rfl⟩ : ∃ (r : Fin 432) (x : Fin 256), y = Idealize.ShloMosaic.ix2 r x := ⟨y 0, y 1, Idealize.ShloMosaic.eq_ix2 y⟩
  rw [put5]
  blk_simp
  rw [after0_5]
  unfold out0_5
  frame_out
  pointwise [k0_pay1, k0_pay2, k0_pay3, k0_pay4]
  simp only [b0, b1, b2, b3]
  rfl

theorem left5 : Pipeline.withArrays (cfgs 0).spec c (V0 m c) (fun w => (dats m 0 c).arrAt w (cfgs 0).N) (Proc.devRef .tc main_v17_1)
    = (dats m 0 c).arrAt 5 cfg0.N :=
  Pipeline.withArrays_arr (cfgs 0).spec (by exact (by decide : Function.Injective (Pipeline.arrRef spec0))) c (V0 m c)
    (fun w => (dats m 0 c).arrAt w (cfgs 0).N) 5

theorem put6 (r : Fin 432) (x : Fin 256) :
    ((View.whole main_v17_2).slice (win0_6.rect t)).emb (Idealize.ShloMosaic.ix2 r x) = Idealize.ShloMosaic.ix2 r x := by
  have e := idx t
  have o := only t
  blk_ext [e, o]

theorem arr6 : (dats m 0 c).arrAt 6 cfg0.N = fun y => mom (rows (m (c.tc.loc main_arg5)) (m (c.tc.loc main_arg6)) (m (c.tc.loc main_arg7)) (m (c.tc.loc main_arg8)) (m (c.tc.loc main_arg9)) y) (rows (m (c.tc.loc main_arg10)) (m (c.tc.loc main_arg11)) (m (c.tc.loc main_arg12)) (m (c.tc.loc main_arg13)) (m (c.tc.loc main_arg14)) y) := by
  refine (dats m 0 c).arrAt_eq_of_covers 6 _ (by decide +kernel) fun t hf y => ?_
  obtain ⟨r, x, rfl⟩ : ∃ (r : Fin 432) (x : Fin 256), y = Idealize.ShloMosaic.ix2 r x := ⟨y 0, y 1, Idealize.ShloMosaic.eq_ix2 y⟩
  rw [put6]
  blk_simp
  rw [after0_6]
  unfold out0_6
  frame_out
  pointwise [k0_pay1, k0_pay2, k0_pay3, k0_pay4]
  simp only [b0, b1, b2, b3]
  rfl

theorem left6 : Pipeline.withArrays (cfgs 0).spec c (V0 m c) (fun w => (dats m 0 c).arrAt w (cfgs 0).N) (Proc.devRef .tc main_v17_2)
    = (dats m 0 c).arrAt 6 cfg0.N :=
  Pipeline.withArrays_arr (cfgs 0).spec (by exact (by decide : Function.Injective (Pipeline.arrRef spec0))) c (V0 m c)
    (fun w => (dats m 0 c).arrAt w (cfgs 0).N) 6

theorem put7 (r : Fin 432) (x : Fin 256) :
    ((View.whole main_v17_3).slice (win0_7.rect t)).emb (Idealize.ShloMosaic.ix2 r x) = Idealize.ShloMosaic.ix2 r x := by
  have e := idx t
  have o := only t
  blk_ext [e, o]

theorem arr7 : (dats m 0 c).arrAt 7 cfg0.N = fun y => var (rows (m (c.tc.loc main_arg5)) (m (c.tc.loc main_arg6)) (m (c.tc.loc main_arg7)) (m (c.tc.loc main_arg8)) (m (c.tc.loc main_arg9)) y) (rows (m (c.tc.loc main_arg15)) (m (c.tc.loc main_arg16)) (m (c.tc.loc main_arg17)) (m (c.tc.loc main_arg18)) (m (c.tc.loc main_arg19)) y) := by
  refine (dats m 0 c).arrAt_eq_of_covers 7 _ (by decide +kernel) fun t hf y => ?_
  obtain ⟨r, x, rfl⟩ : ∃ (r : Fin 432) (x : Fin 256), y = Idealize.ShloMosaic.ix2 r x := ⟨y 0, y 1, Idealize.ShloMosaic.eq_ix2 y⟩
  rw [put7]
  blk_simp
  rw [after0_7]
  unfold out0_7
  frame_out
  pointwise [k0_pay1, k0_pay2, k0_pay3, k0_pay4]
  simp only [b0, b1, b2, b3]
  rfl

theorem left7 : Pipeline.withArrays (cfgs 0).spec c (V0 m c) (fun w => (dats m 0 c).arrAt w (cfgs 0).N) (Proc.devRef .tc main_v17_3)
    = (dats m 0 c).arrAt 7 cfg0.N :=
  Pipeline.withArrays_arr (cfgs 0).spec (by exact (by decide : Function.Injective (Pipeline.arrRef spec0))) c (V0 m c)
    (fun w => (dats m 0 c).arrAt w (cfgs 0).N) 7

theorem res18 (r : Fin 2) (x : Fin 256) : Pipeline.afterTail₀ cfgs (dats m) 0 (V0 m) [hostOps1] c main_v18 (Idealize.ShloMosaic.ix2 r x)
    = step (m (c.tc.loc main_arg0) (Idealize.ShloMosaic.ix2 r x)) (m (c.tc.loc main_arg5) (Idealize.ShloMosaic.ix2 r x)) (m (c.tc.loc main_arg10) (Idealize.ShloMosaic.ix2 r x)) (m (c.tc.loc main_arg15) (Idealize.ShloMosaic.ix2 r x)) := by
  refine Eq.trans (b := (dats m 0 c).arrAt 5 cfg0.N (Idealize.ShloMosaic.ix2 ⟨r.val, by omega⟩ x)) ?_ ?_
  · unfold Pipeline.afterTail₀
    simp only [hostOps1, List.flatten_cons, List.flatten_nil, List.append_nil]
    after_results_simp
    rw [left5]
    generalize (dats m 0 c).arrAt 5 cfg0.N = f
    pointwise
  · rw [arr5]
    simp only [rows_0]

theorem res19 (r : Fin 2) (x : Fin 256) : Pipeline.afterTail₀ cfgs (dats m) 0 (V0 m) [hostOps1] c main_v19 (Idealize.ShloMosaic.ix2 r x)
    = step (m (c.tc.loc main_arg1) (Idealize.ShloMosaic.ix2 r x)) (m (c.tc.loc main_arg6) (Idealize.ShloMosaic.ix2 r x)) (m (c.tc.loc main_arg11) (Idealize.ShloMosaic.ix2 r x)) (m (c.tc.loc main_arg16) (Idealize.ShloMosaic.ix2 r x)) := by
  refine Eq.trans (b := (dats m 0 c).arrAt 5 cfg0.N (Idealize.ShloMosaic.ix2 ⟨2 + r.val, by omega⟩ x)) ?_ ?_
  · unfold Pipeline.afterTail₀
    simp only [hostOps1, List.flatten_cons, List.flatten_nil, List.append_nil]
    after_results_simp
    rw [left5]
    generalize (dats m 0 c).arrAt 5 cfg0.N = f
    pointwise
  · rw [arr5]
    simp only [rows_1]

theorem res21 (d : Fin 2) (l : Fin 64) (x : Fin 256) : Pipeline.afterTail₀ cfgs (dats m) 0 (V0 m) [hostOps1] c main_v21 (Idealize.ShloMosaic.ix3 d l x)
    = step (m (c.tc.loc main_arg2) (Idealize.ShloMosaic.ix3 d l x)) (m (c.tc.loc main_arg7) (Idealize.ShloMosaic.ix3 d l x)) (m (c.tc.loc main_arg12) (Idealize.ShloMosaic.ix3 d l x)) (m (c.tc.loc main_arg17) (Idealize.ShloMosaic.ix3 d l x)) := by
  refine Eq.trans (b := (dats m 0 c).arrAt 5 cfg0.N (Idealize.ShloMosaic.ix2 ⟨4 + (d.val * 64 + l.val), by omega⟩ x)) ?_ ?_
  · unfold Pipeline.afterTail₀
    simp only [hostOps1, List.flatten_cons, List.flatten_nil, List.append_nil]
    after_results_simp
    rw [left5]
    generalize (dats m 0 c).arrAt 5 cfg0.N = f
    pointwise
  · rw [arr5]
    simp only [rows_2]

theorem res23 (d : Fin 2) (l : Fin 64) (x : Fin 256) : Pipeline.afterTail₀ cfgs (dats m) 0 (V0 m) [hostOps1] c main_v23 (Idealize.ShloMosaic.ix3 d l x)
    = step (m (c.tc.loc main_arg3) (Idealize.ShloMosaic.ix3 d l x)) (m (c.tc.loc main_arg8) (Idealize.ShloMosaic.ix3 d l x)) (m (c.tc.loc main_arg13) (Idealize.ShloMosaic.ix3 d l x)) (m (c.tc.loc main_arg18) (Idealize.ShloMosaic.ix3 d l x)) := by
  refine Eq.trans (b := (dats m 0 c).arrAt 5 cfg0.N (Idealize.ShloMosaic.ix2 ⟨132 + (d.val * 64 + l.val), by omega⟩ x)) ?_ ?_
  · unfold Pipeline.afterTail₀
    simp only [hostOps1, List.flatten_cons, List.flatten_nil, List.append_nil]
    after_results_simp
    rw [left5]
    generalize (dats m 0 c).arrAt 5 cfg0.N = f
    pointwise
  · rw [arr5]
    simp only [rows_3]

theorem res24 (r : Fin 160) (x : Fin 256) : Pipeline.afterTail₀ cfgs (dats m) 0 (V0 m) [hostOps1] c main_v24 (Idealize.ShloMosaic.ix2 r x)
    = step (m (c.tc.loc main_arg4) (Idealize.ShloMosaic.ix2 r x)) (m (c.tc.loc main_arg9) (Idealize.ShloMosaic.ix2 r x)) (m (c.tc.loc main_arg14) (Idealize.ShloMosaic.ix2 r x)) (m (c.tc.loc main_arg19) (Idealize.ShloMosaic.ix2 r x)) := by
  refine Eq.trans (b := (dats m 0 c).arrAt 5 cfg0.N (Idealize.ShloMosaic.ix2 ⟨260 + r.val, by omega⟩ x)) ?_ ?_
  · unfold Pipeline.afterTail₀
    simp only [hostOps1, List.flatten_cons, List.flatten_nil, List.append_nil]
    after_results_simp
    rw [left5]
    generalize (dats m 0 c).arrAt 5 cfg0.N = f
    pointwise
  · rw [arr5]
    simp only [rows_4]

theorem res25 (r : Fin 2) (x : Fin 256) : Pipeline.afterTail₀ cfgs (dats m) 0 (V0 m) [hostOps1] c main_v25 (Idealize.ShloMosaic.ix2 r x)
    = mom (m (c.tc.loc main_arg5) (Idealize.ShloMosaic.ix2 r x)) (m (c.tc.loc main_arg10) (Idealize.ShloMosaic.ix2 r x)) := by
  refine Eq.trans (b := (dats m 0 c).arrAt 6 cfg0.N (Idealize.ShloMosaic.ix2 ⟨r.val, by omega⟩ x)) ?_ ?_
  · unfold Pipeline.afterTail₀
    simp only [hostOps1, List.flatten_cons, List.flatten_nil, List.append_nil]
    after_results_simp
    rw [left6]
    generalize (dats m 0 c).arrAt 6 cfg0.N = f
    pointwise
  · rw [arr6]
    simp only [rows_0]

theorem res26 (r : Fin 2) (x : Fin 256) : Pipeline.afterTail₀ cfgs (dats m) 0 (V0 m) [hostOps1] c main_v26 (Idealize.ShloMosaic.ix2 r x)
    = mom (m (c.tc.loc main_arg6) (Idealize.ShloMosaic.ix2 r x)) (m (c.tc.loc main_arg11) (Idealize.ShloMosaic.ix2 r x)) := by
  refine Eq.trans (b := (dats m 0 c).arrAt 6 cfg0.N (Idealize.ShloMosaic.ix2 ⟨2 + r.val, by omega⟩ x)) ?_ ?_
  · unfold Pipeline.afterTail₀
    simp only [hostOps1, List.flatten_cons, List.flatten_nil, List.append_nil]
    after_results_simp
    rw [left6]
    generalize (dats m 0 c).arrAt 6 cfg0.N = f
    pointwise
  · rw [arr6]
    simp only [rows_1]

theorem res28 (d : Fin 2) (l : Fin 64) (x : Fin 256) : Pipeline.afterTail₀ cfgs (dats m) 0 (V0 m) [hostOps1] c main_v28 (Idealize.ShloMosaic.ix3 d l x)
    = mom (m (c.tc.loc main_arg7) (Idealize.ShloMosaic.ix3 d l x)) (m (c.tc.loc main_arg12) (Idealize.ShloMosaic.ix3 d l x)) := by
  refine Eq.trans (b := (dats m 0 c).arrAt 6 cfg0.N (Idealize.ShloMosaic.ix2 ⟨4 + (d.val * 64 + l.val), by omega⟩ x)) ?_ ?_
  · unfold Pipeline.afterTail₀
    simp only [hostOps1, List.flatten_cons, List.flatten_nil, List.append_nil]
    after_results_simp
    rw [left6]
    generalize (dats m 0 c).arrAt 6 cfg0.N = f
    pointwise
  · rw [arr6]
    simp only [rows_2]

theorem res30 (d : Fin 2) (l : Fin 64) (x : Fin 256) : Pipeline.afterTail₀ cfgs (dats m) 0 (V0 m) [hostOps1] c main_v30 (Idealize.ShloMosaic.ix3 d l x)
    = mom (m (c.tc.loc main_arg8) (Idealize.ShloMosaic.ix3 d l x)) (m (c.tc.loc main_arg13) (Idealize.ShloMosaic.ix3 d l x)) := by
  refine Eq.trans (b := (dats m 0 c).arrAt 6 cfg0.N (Idealize.ShloMosaic.ix2 ⟨132 + (d.val * 64 + l.val), by omega⟩ x)) ?_ ?_
  · unfold Pipeline.afterTail₀
    simp only [hostOps1, List.flatten_cons, List.flatten_nil, List.append_nil]
    after_results_simp
    rw [left6]
    generalize (dats m 0 c).arrAt 6 cfg0.N = f
    pointwise
  · rw [arr6]
    simp only [rows_3]

theorem res31 (r : Fin 160) (x : Fin 256) : Pipeline.afterTail₀ cfgs (dats m) 0 (V0 m) [hostOps1] c main_v31 (Idealize.ShloMosaic.ix2 r x)
    = mom (m (c.tc.loc main_arg9) (Idealize.ShloMosaic.ix2 r x)) (m (c.tc.loc main_arg14) (Idealize.ShloMosaic.ix2 r x)) := by
  refine Eq.trans (b := (dats m 0 c).arrAt 6 cfg0.N (Idealize.ShloMosaic.ix2 ⟨260 + r.val, by omega⟩ x)) ?_ ?_
  · unfold Pipeline.afterTail₀
    simp only [hostOps1, List.flatten_cons, List.flatten_nil, List.append_nil]
    after_results_simp
    rw [left6]
    generalize (dats m 0 c).arrAt 6 cfg0.N = f
    pointwise
  · rw [arr6]
    simp only [rows_4]

theorem res32 (r : Fin 2) (x : Fin 256) : Pipeline.afterTail₀ cfgs (dats m) 0 (V0 m) [hostOps1] c main_v32 (Idealize.ShloMosaic.ix2 r x)
    = var (m (c.tc.loc main_arg5) (Idealize.ShloMosaic.ix2 r x)) (m (c.tc.loc main_arg15) (Idealize.ShloMosaic.ix2 r x)) := by
  refine Eq.trans (b := (dats m 0 c).arrAt 7 cfg0.N (Idealize.ShloMosaic.ix2 ⟨r.val, by omega⟩ x)) ?_ ?_
  · unfold Pipeline.afterTail₀
    simp only [hostOps1, List.flatten_cons, List.flatten_nil, List.append_nil]
    after_results_simp
    rw [left7]
    generalize (dats m 0 c).arrAt 7 cfg0.N = f
    pointwise
  · rw [arr7]
    simp only [rows_0]

theorem res33 (r : Fin 2) (x : Fin 256) : Pipeline.afterTail₀ cfgs (dats m) 0 (V0 m) [hostOps1] c main_v33 (Idealize.ShloMosaic.ix2 r x)
    = var (m (c.tc.loc main_arg6) (Idealize.ShloMosaic.ix2 r x)) (m (c.tc.loc main_arg16) (Idealize.ShloMosaic.ix2 r x)) := by
  refine Eq.trans (b := (dats m 0 c).arrAt 7 cfg0.N (Idealize.ShloMosaic.ix2 ⟨2 + r.val, by omega⟩ x)) ?_ ?_
  · unfold Pipeline.afterTail₀
    simp only [hostOps1, List.flatten_cons, List.flatten_nil, List.append_nil]
    after_results_simp
    rw [left7]
    generalize (dats m 0 c).arrAt 7 cfg0.N = f
    pointwise
  · rw [arr7]
    simp only [rows_1]

theorem res35 (d : Fin 2) (l : Fin 64) (x : Fin 256) : Pipeline.afterTail₀ cfgs (dats m) 0 (V0 m) [hostOps1] c main_v35 (Idealize.ShloMosaic.ix3 d l x)
    = var (m (c.tc.loc main_arg7) (Idealize.ShloMosaic.ix3 d l x)) (m (c.tc.loc main_arg17) (Idealize.ShloMosaic.ix3 d l x)) := by
  refine Eq.trans (b := (dats m 0 c).arrAt 7 cfg0.N (Idealize.ShloMosaic.ix2 ⟨4 + (d.val * 64 + l.val), by omega⟩ x)) ?_ ?_
  · unfold Pipeline.afterTail₀
    simp only [hostOps1, List.flatten_cons, List.flatten_nil, List.append_nil]
    after_results_simp
    rw [left7]
    generalize (dats m 0 c).arrAt 7 cfg0.N = f
    pointwise
  · rw [arr7]
    simp only [rows_2]

theorem res37 (d : Fin 2) (l : Fin 64) (x : Fin 256) : Pipeline.afterTail₀ cfgs (dats m) 0 (V0 m) [hostOps1] c main_v37 (Idealize.ShloMosaic.ix3 d l x)
    = var (m (c.tc.loc main_arg8) (Idealize.ShloMosaic.ix3 d l x)) (m (c.tc.loc main_arg18) (Idealize.ShloMosaic.ix3 d l x)) := by
  refine Eq.trans (b := (dats m 0 c).arrAt 7 cfg0.N (Idealize.ShloMosaic.ix2 ⟨132 + (d.val * 64 + l.val), by omega⟩ x)) ?_ ?_
  · unfold Pipeline.afterTail₀
    simp only [hostOps1, List.flatten_cons, List.flatten_nil, List.append_nil]
    after_results_simp
    rw [left7]
    generalize (dats m 0 c).arrAt 7 cfg0.N = f
    pointwise
  · rw [arr7]
    simp only [rows_3]

theorem res38 (r : Fin 160) (x : Fin 256) : Pipeline.afterTail₀ cfgs (dats m) 0 (V0 m) [hostOps1] c main_v38 (Idealize.ShloMosaic.ix2 r x)
    = var (m (c.tc.loc main_arg9) (Idealize.ShloMosaic.ix2 r x)) (m (c.tc.loc main_arg19) (Idealize.ShloMosaic.ix2 r x)) := by
  refine Eq.trans (b := (dats m 0 c).arrAt 7 cfg0.N (Idealize.ShloMosaic.ix2 ⟨260 + r.val, by omega⟩ x)) ?_ ?_
  · unfold Pipeline.afterTail₀
    simp only [hostOps1, List.flatten_cons, List.flatten_nil, List.append_nil]
    after_results_simp
    rw [left7]
    generalize (dats m 0 c).arrAt 7 cfg0.N = f
    pointwise
  · rw [arr7]
    simp only [rows_4]

set_option maxHeartbeats 4000000 in
/-- The kernel's results are the reference's, element by element. -/
theorem algebraic : algebraic_AdamRkIdeal_AdamRkRefIdeal := fun m g m' g' _ hag => by
  refine ⟨fun c => Pipeline.afterTail₀ cfgs (dats m) 0 (V0 m) [hostOps1] c main_v18, fun c => Pipeline.afterTail₀ cfgs (dats m) 0 (V0 m) [hostOps1] c main_v19, fun c => Pipeline.afterTail₀ cfgs (dats m) 0 (V0 m) [hostOps1] c main_v21, fun c => Pipeline.afterTail₀ cfgs (dats m) 0 (V0 m) [hostOps1] c main_v23, fun c => Pipeline.afterTail₀ cfgs (dats m) 0 (V0 m) [hostOps1] c main_v24, fun c => Pipeline.afterTail₀ cfgs (dats m) 0 (V0 m) [hostOps1] c main_v25, fun c => Pipeline.afterTail₀ cfgs (dats m) 0 (V0 m) [hostOps1] c main_v26, fun c => Pipeline.afterTail₀ cfgs (dats m) 0 (V0 m) [hostOps1] c main_v28, fun c => Pipeline.afterTail₀ cfgs (dats m) 0 (V0 m) [hostOps1] c main_v30, fun c => Pipeline.afterTail₀ cfgs (dats m) 0 (V0 m) [hostOps1] c main_v31, fun c => Pipeline.afterTail₀ cfgs (dats m) 0 (V0 m) [hostOps1] c main_v32, fun c => Pipeline.afterTail₀ cfgs (dats m) 0 (V0 m) [hostOps1] c main_v33, fun c => Pipeline.afterTail₀ cfgs (dats m) 0 (V0 m) [hostOps1] c main_v35, fun c => Pipeline.afterTail₀ cfgs (dats m) 0 (V0 m) [hostOps1] c main_v37, fun c => Pipeline.afterTail₀ cfgs (dats m) 0 (V0 m) [hostOps1] c main_v38,
    (θ_run defs _ _).mono (fun r h c => ⟨(h c).2 main_v18 (Pipeline.mem_restRefs_of main_v18 (by decide) (by decide)),
      (h c).2 main_v19 (Pipeline.mem_restRefs_of main_v19 (by decide) (by decide)),
      (h c).2 main_v21 (Pipeline.mem_restRefs_of main_v21 (by decide) (by decide)),
      (h c).2 main_v23 (Pipeline.mem_restRefs_of main_v23 (by decide) (by decide)),
      (h c).2 main_v24 (Pipeline.mem_restRefs_of main_v24 (by decide) (by decide)),
      (h c).2 main_v25 (Pipeline.mem_restRefs_of main_v25 (by decide) (by decide)),
      (h c).2 main_v26 (Pipeline.mem_restRefs_of main_v26 (by decide) (by decide)),
      (h c).2 main_v28 (Pipeline.mem_restRefs_of main_v28 (by decide) (by decide)),
      (h c).2 main_v30 (Pipeline.mem_restRefs_of main_v30 (by decide) (by decide)),
      (h c).2 main_v31 (Pipeline.mem_restRefs_of main_v31 (by decide) (by decide)),
      (h c).2 main_v32 (Pipeline.mem_restRefs_of main_v32 (by decide) (by decide)),
      (h c).2 main_v33 (Pipeline.mem_restRefs_of main_v33 (by decide) (by decide)),
      (h c).2 main_v35 (Pipeline.mem_restRefs_of main_v35 (by decide) (by decide)),
      (h c).2 main_v37 (Pipeline.mem_restRefs_of main_v37 (by decide) (by decide)),
      (h c).2 main_v38 (Pipeline.mem_restRefs_of main_v38 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c)⟩) (run_main m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2.1.trans ?_, (h c).2.2.2.2.2.2.2.2.2.2.2.2.2.1.trans ?_, (h c).2.2.2.2.2.2.2.2.2.2.2.2.2.2.1.trans ?_, (h c).2.2.2.2.2.2.2.2.2.2.2.2.2.2.2⟩) (Cert.AdamRkRefIdeal.Value.run m' g')⟩
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨r, x, rfl⟩ : ∃ (r : Fin 2) (x : Fin 256), y = Idealize.ShloMosaic.ix2 r x := ⟨y 0, y 1, Idealize.ShloMosaic.eq_ix2 y⟩
    rw [res18]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨r, x, rfl⟩ : ∃ (r : Fin 2) (x : Fin 256), y = Idealize.ShloMosaic.ix2 r x := ⟨y 0, y 1, Idealize.ShloMosaic.eq_ix2 y⟩
    rw [res19]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨d, l, x, rfl⟩ : ∃ (d : Fin 2) (l : Fin 64) (x : Fin 256), y = Idealize.ShloMosaic.ix3 d l x := ⟨y 0, y 1, y 2, Idealize.ShloMosaic.eq_ix3 y⟩
    rw [res21]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨d, l, x, rfl⟩ : ∃ (d : Fin 2) (l : Fin 64) (x : Fin 256), y = Idealize.ShloMosaic.ix3 d l x := ⟨y 0, y 1, y 2, Idealize.ShloMosaic.eq_ix3 y⟩
    rw [res23]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨r, x, rfl⟩ : ∃ (r : Fin 160) (x : Fin 256), y = Idealize.ShloMosaic.ix2 r x := ⟨y 0, y 1, Idealize.ShloMosaic.eq_ix2 y⟩
    rw [res24]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨r, x, rfl⟩ : ∃ (r : Fin 2) (x : Fin 256), y = Idealize.ShloMosaic.ix2 r x := ⟨y 0, y 1, Idealize.ShloMosaic.eq_ix2 y⟩
    rw [res25]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨r, x, rfl⟩ : ∃ (r : Fin 2) (x : Fin 256), y = Idealize.ShloMosaic.ix2 r x := ⟨y 0, y 1, Idealize.ShloMosaic.eq_ix2 y⟩
    rw [res26]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨d, l, x, rfl⟩ : ∃ (d : Fin 2) (l : Fin 64) (x : Fin 256), y = Idealize.ShloMosaic.ix3 d l x := ⟨y 0, y 1, y 2, Idealize.ShloMosaic.eq_ix3 y⟩
    rw [res28]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨d, l, x, rfl⟩ : ∃ (d : Fin 2) (l : Fin 64) (x : Fin 256), y = Idealize.ShloMosaic.ix3 d l x := ⟨y 0, y 1, y 2, Idealize.ShloMosaic.eq_ix3 y⟩
    rw [res30]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨r, x, rfl⟩ : ∃ (r : Fin 160) (x : Fin 256), y = Idealize.ShloMosaic.ix2 r x := ⟨y 0, y 1, Idealize.ShloMosaic.eq_ix2 y⟩
    rw [res31]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨r, x, rfl⟩ : ∃ (r : Fin 2) (x : Fin 256), y = Idealize.ShloMosaic.ix2 r x := ⟨y 0, y 1, Idealize.ShloMosaic.eq_ix2 y⟩
    rw [res32]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨r, x, rfl⟩ : ∃ (r : Fin 2) (x : Fin 256), y = Idealize.ShloMosaic.ix2 r x := ⟨y 0, y 1, Idealize.ShloMosaic.eq_ix2 y⟩
    rw [res33]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨d, l, x, rfl⟩ : ∃ (d : Fin 2) (l : Fin 64) (x : Fin 256), y = Idealize.ShloMosaic.ix3 d l x := ⟨y 0, y 1, y 2, Idealize.ShloMosaic.eq_ix3 y⟩
    rw [res35]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨d, l, x, rfl⟩ : ∃ (d : Fin 2) (l : Fin 64) (x : Fin 256), y = Idealize.ShloMosaic.ix3 d l x := ⟨y 0, y 1, y 2, Idealize.ShloMosaic.eq_ix3 y⟩
    rw [res37]
    pointwise [step, mom, var]
  · obtain ⟨h0, h1, h2, h3, h4, h5, h6, h7, h8, h9, h10, h11, h12, h13, h14, h15, h16, h17, h18, h19⟩ := hag c
    simp only [h0, h1, h2, h3, h4, h5, h6, h7, h8, h9, h10, h11, h12, h13, h14, h15, h16, h17, h18, h19]
    funext y
    obtain ⟨r, x, rfl⟩ : ∃ (r : Fin 160) (x : Fin 256), y = Idealize.ShloMosaic.ix2 r x := ⟨y 0, y 1, Idealize.ShloMosaic.eq_ix2 y⟩
    rw [res38]
    pointwise [step, mom, var]

end Cert.Proof.AdamRk

end
-- ==== Proof.lean ====
/- The theorem `Cert.Proof.claim`: every claim of the certificate, assembled from the modules that prove them. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Ffn2Dx
public import proofs.«01_k».proof.Proof.Gen.Ffn2Dx.Frame
public import proofs.«01_k».proof.Proof.Gen.Ffn2DxIdeal
public import proofs.«01_k».proof.Proof.Gen.Ffn2DxIdeal.Value
public import proofs.«01_k».proof.Proof.Gen.Ffn2DxRefIdeal
public import proofs.«01_k».proof.Proof.Gen.Ffn2DxRefIdeal.Run
public import proofs.«01_k».proof.Proof.Gen.Ffn2Dw
public import proofs.«01_k».proof.Proof.Gen.Ffn2Dw.Frame
public import proofs.«01_k».proof.Proof.Gen.Ffn2DwIdeal
public import proofs.«01_k».proof.Proof.Gen.Ffn2DwIdeal.Value
public import proofs.«01_k».proof.Proof.Gen.Ffn2DwRefIdeal
public import proofs.«01_k».proof.Proof.Gen.Ffn2DwRefIdeal.Run
public import proofs.«01_k».proof.Proof.Gen.Ffn1Dx
public import proofs.«01_k».proof.Proof.Gen.Ffn1Dx.Frame
public import proofs.«01_k».proof.Proof.Gen.Ffn1DxIdeal
public import proofs.«01_k».proof.Proof.Gen.Ffn1DxIdeal.Value
public import proofs.«01_k».proof.Proof.Gen.Ffn1DxRefIdeal
public import proofs.«01_k».proof.Proof.Gen.Ffn1DxRefIdeal.Run
public import proofs.«01_k».proof.Proof.Gen.Ffn1Dw
public import proofs.«01_k».proof.Proof.Gen.Ffn1Dw.Frame
public import proofs.«01_k».proof.Proof.Gen.Ffn1DwIdeal
public import proofs.«01_k».proof.Proof.Gen.Ffn1DwIdeal.Value
public import proofs.«01_k».proof.Proof.Gen.Ffn1DwRefIdeal
public import proofs.«01_k».proof.Proof.Gen.Ffn1DwRefIdeal.Run
public import proofs.«01_k».proof.Proof.Gen.MixDx
public import proofs.«01_k».proof.Proof.Gen.MixDx.Frame
public import proofs.«01_k».proof.Proof.Gen.MixDxIdeal
public import proofs.«01_k».proof.Proof.Gen.MixDxIdeal.Value
public import proofs.«01_k».proof.Proof.Gen.MixDxRefIdeal
public import proofs.«01_k».proof.Proof.Gen.MixDxRefIdeal.Run
public import proofs.«01_k».proof.Proof.Gen.MixDw
public import proofs.«01_k».proof.Proof.Gen.MixDw.Frame
public import proofs.«01_k».proof.Proof.Gen.MixDwIdeal
public import proofs.«01_k».proof.Proof.Gen.MixDwIdeal.Value
public import proofs.«01_k».proof.Proof.Gen.MixDwRefIdeal
public import proofs.«01_k».proof.Proof.Gen.MixDwRefIdeal.Run
public import proofs.«01_k».proof.Proof.Gen.ProjDx
public import proofs.«01_k».proof.Proof.Gen.ProjDx.Frame
public import proofs.«01_k».proof.Proof.Gen.ProjDxIdeal
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.ProjDw
public import proofs.«01_k».proof.Proof.Gen.ProjDw.Frame
public import proofs.«01_k».proof.Proof.Gen.ProjDwIdeal
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.Ffn1
public import proofs.«01_k».proof.Proof.Gen.Ffn1.Frame
public import proofs.«01_k».proof.Proof.Gen.Ffn1Ideal
public import proofs.«01_k».proof.Proof.Gen.Ffn1Ideal.Value
public import proofs.«01_k».proof.Proof.Gen.Ffn1RefIdeal
public import proofs.«01_k».proof.Proof.Gen.Ffn1RefIdeal.Run
public import proofs.«01_k».proof.Proof.Gen.Ffn2
public import proofs.«01_k».proof.Proof.Gen.Ffn2.Frame
public import proofs.«01_k».proof.Proof.Gen.Ffn2Ideal
public import proofs.«01_k».proof.Proof.Gen.Ffn2Ideal.Value
public import proofs.«01_k».proof.Proof.Gen.Ffn2RefIdeal
public import proofs.«01_k».proof.Proof.Gen.Ffn2RefIdeal.Run
public import proofs.«01_k».proof.Proof.Gen.MixOut
public import proofs.«01_k».proof.Proof.Gen.MixOut.Frame
public import proofs.«01_k».proof.Proof.Gen.MixOutIdeal
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Value
public import proofs.«01_k».proof.Proof.Gen.ProjRefIdeal
public import proofs.«01_k».proof.Proof.Gen.ProjRefIdeal.Run
public import proofs.«01_k».proof.Proof.Gen.Norm1Dx
public import proofs.«01_k».proof.Proof.Gen.Norm1Dx.Frame
public import proofs.«01_k».proof.Proof.Gen.Norm1DxIdeal
public import proofs.«01_k».proof.Proof.Gen.Norm1DxIdeal.Value
public import proofs.«01_k».proof.Proof.Gen.Norm1DxRefIdeal
public import proofs.«01_k».proof.Proof.Gen.Norm1DxRefIdeal.Run
public import proofs.«01_k».proof.Proof.Gen.Norm2Dx
public import proofs.«01_k».proof.Proof.Gen.Norm2Dx.Frame
public import proofs.«01_k».proof.Proof.Gen.Norm2DxIdeal
public import proofs.«01_k».proof.Proof.Gen.Norm2DxIdeal.Value
public import proofs.«01_k».proof.Proof.Gen.Norm2DxRefIdeal
public import proofs.«01_k».proof.Proof.Gen.Norm2DxRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Value
public import proofs.«01_k».proof.Proof.Gen.LossRefIdeal
public import proofs.«01_k».proof.Proof.Gen.LossRefIdeal.Run
public import proofs.«01_k».proof.Proof.Gen.Norm1
public import proofs.«01_k».proof.Proof.Gen.Norm1.Frame
public import proofs.«01_k».proof.Proof.Gen.Norm1Ideal
public import proofs.«01_k».proof.Proof.Gen.Norm1Ideal.Value
public import proofs.«01_k».proof.Proof.Gen.Norm1RefIdeal
public import proofs.«01_k».proof.Proof.Gen.Norm1RefIdeal.Run
public import proofs.«01_k».proof.Proof.Gen.Norm2
public import proofs.«01_k».proof.Proof.Gen.Norm2.Frame
public import proofs.«01_k».proof.Proof.Gen.Norm2Ideal
public import proofs.«01_k».proof.Proof.Gen.Norm2Ideal.Value
public import proofs.«01_k».proof.Proof.Gen.Norm2RefIdeal
public import proofs.«01_k».proof.Proof.Gen.Norm2RefIdeal.Run
public import proofs.«01_k».proof.Proof.Gen.Shift
public import proofs.«01_k».proof.Proof.Gen.Shift.Frame
public import proofs.«01_k».proof.Proof.Gen.ShiftIdeal
public import proofs.«01_k».proof.Proof.Gen.ShiftIdeal.Value
public import proofs.«01_k».proof.Proof.Gen.ShiftRefIdeal
public import proofs.«01_k».proof.Proof.Gen.ShiftRefIdeal.Run
public import proofs.«01_k».proof.Proof.Gen.AdaW
public import proofs.«01_k».proof.Proof.Gen.AdaW.Frame
public import proofs.«01_k».proof.Proof.Gen.AdaWIdeal
public import proofs.«01_k».proof.Proof.Gen.AdaWIdeal.Frame
public import proofs.«01_k».proof.Proof.Gen.AdaWRefIdeal
public import proofs.«01_k».proof.Proof.Gen.AdaWRefIdeal.Run
public import proofs.«01_k».proof.Proof.Gen.AdamFfn
public import proofs.«01_k».proof.Proof.Gen.AdamFfn.Frame
public import proofs.«01_k».proof.Proof.Gen.AdamFfnIdeal
public import proofs.«01_k».proof.Proof.Gen.AdamFfnIdeal.Value
public import proofs.«01_k».proof.Proof.Gen.AdamFfnRefIdeal
public import proofs.«01_k».proof.Proof.Gen.AdamFfnRefIdeal.Run
public import proofs.«01_k».proof.Proof.Gen.AdamIn
public import proofs.«01_k».proof.Proof.Gen.AdamIn.Frame
public import proofs.«01_k».proof.Proof.Gen.AdamInIdeal
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamGlu
public import proofs.«01_k».proof.Proof.Gen.AdamGlu.Frame
public import proofs.«01_k».proof.Proof.Gen.AdamGluIdeal
public import proofs.«01_k».proof.Proof.Gen.AdamGluIdeal.Value
public import proofs.«01_k».proof.Proof.Gen.AdamGluRefIdeal
public import proofs.«01_k».proof.Proof.Gen.AdamGluRefIdeal.Run
public import proofs.«01_k».proof.Proof.Gen.AdamRk
public import proofs.«01_k».proof.Proof.Gen.AdamRk.Frame
public import proofs.«01_k».proof.Proof.Gen.AdamRkIdeal
public import proofs.«01_k».proof.Proof.Gen.AdamRkIdeal.Frame
public import proofs.«01_k».proof.Proof.Gen.AdamRkRefIdeal
public import proofs.«01_k».proof.Proof.Gen.AdamRkRefIdeal.Run
public import proofs.«01_k».proof.Proof.Frames
public import proofs.«01_k».proof.Proof.Ffn2DxValue
public import proofs.«01_k».proof.Proof.Ffn2DwValue
public import proofs.«01_k».proof.Proof.Ffn1DxValue
public import proofs.«01_k».proof.Proof.Ffn1DwValue
public import proofs.«01_k».proof.Proof.MixDxValue
public import proofs.«01_k».proof.Proof.MixDwValue
public import proofs.«01_k».proof.Proof.ProjDxValue
public import proofs.«01_k».proof.Proof.ProjDwValue
public import proofs.«01_k».proof.Proof.Ffn1Value
public import proofs.«01_k».proof.Proof.Ffn2Value
public import proofs.«01_k».proof.Proof.MixOutValue
public import proofs.«01_k».proof.Proof.ProjValue
public import proofs.«01_k».proof.Proof.Norm1DxValue
public import proofs.«01_k».proof.Proof.Norm2DxValue
public import proofs.«01_k».proof.Proof.LossValue
public import proofs.«01_k».proof.Proof.Norm1Value
public import proofs.«01_k».proof.Proof.Norm2Value
public import proofs.«01_k».proof.Proof.ShiftValue
public import proofs.«01_k».proof.Proof.AdaWValue
public import proofs.«01_k».proof.Proof.AdamFfnValue
public import proofs.«01_k».proof.Proof.AdamInValue
public import proofs.«01_k».proof.Proof.AdamOutValue
public import proofs.«01_k».proof.Proof.AdamGluValue
public import proofs.«01_k».proof.Proof.AdamRkValue
public import Idealize.ShloMosaic.Adequacy
public import Idealize.ShloMosaic.Init
public import Idealize.ShloMosaic.Lib.Quiescent

@[expose] public section

noncomputable section

namespace Cert.Proof

open Idealize.ShloMosaic Idealize.SL.Sem

theorem frame_Ffn2Dx : quiescent_Ffn2Dx := fun m g _ => Cert.Ffn2Dx.Gen.frame m g

theorem frame_Ffn2DxIdeal : quiescent_Ffn2DxIdeal := fun m g _ => Cert.Ffn2DxIdeal.Gen.frame m g

/-- The reference is a straight line of array operations and declares no semaphore. -/
theorem frame_Ffn2DxRefIdeal : quiescent_Ffn2DxRefIdeal := fun m g _ =>
  (θ_run Cert.Ffn2DxRefIdeal.defs _ _).mono (fun r h => ⟨fun c => (h c).2,
      Idealize.ShloMosaic.sem_eq_zero_of_no_sems (by decide) r.2⟩)
    (Cert.Ffn2DxRefIdeal.Value.run (F := Ideal) m g)

theorem frame_Ffn2Dw : quiescent_Ffn2Dw := fun m g _ => Cert.Ffn2Dw.Gen.frame m g

theorem frame_Ffn2DwIdeal : quiescent_Ffn2DwIdeal := fun m g _ => Cert.Ffn2DwIdeal.Gen.frame m g

/-- The reference is a straight line of array operations and declares no semaphore. -/
theorem frame_Ffn2DwRefIdeal : quiescent_Ffn2DwRefIdeal := fun m g _ =>
  (θ_run Cert.Ffn2DwRefIdeal.defs _ _).mono (fun r h => ⟨fun c => (h c).2,
      Idealize.ShloMosaic.sem_eq_zero_of_no_sems (by decide) r.2⟩)
    (Cert.Ffn2DwRefIdeal.Value.run (F := Ideal) m g)

theorem frame_Ffn1Dx : quiescent_Ffn1Dx := fun m g _ => Cert.Ffn1Dx.Gen.frame m g

theorem frame_Ffn1DxIdeal : quiescent_Ffn1DxIdeal := fun m g _ => Cert.Ffn1DxIdeal.Gen.frame m g

/-- The reference is a straight line of array operations and declares no semaphore. -/
theorem frame_Ffn1DxRefIdeal : quiescent_Ffn1DxRefIdeal := fun m g _ =>
  (θ_run Cert.Ffn1DxRefIdeal.defs _ _).mono (fun r h => ⟨fun c => (h c).2,
      Idealize.ShloMosaic.sem_eq_zero_of_no_sems (by decide) r.2⟩)
    (Cert.Ffn1DxRefIdeal.Value.run (F := Ideal) m g)

theorem frame_Ffn1Dw : quiescent_Ffn1Dw := fun m g _ => Cert.Ffn1Dw.Gen.frame m g

theorem frame_Ffn1DwIdeal : quiescent_Ffn1DwIdeal := fun m g _ => Cert.Ffn1DwIdeal.Gen.frame m g

/-- The reference is a straight line of array operations and declares no semaphore. -/
theorem frame_Ffn1DwRefIdeal : quiescent_Ffn1DwRefIdeal := fun m g _ =>
  (θ_run Cert.Ffn1DwRefIdeal.defs _ _).mono (fun r h => ⟨fun c => (h c).2,
      Idealize.ShloMosaic.sem_eq_zero_of_no_sems (by decide) r.2⟩)
    (Cert.Ffn1DwRefIdeal.Value.run (F := Ideal) m g)

theorem frame_MixDx : quiescent_MixDx := fun m g _ => Cert.MixDx.Gen.frame m g

theorem frame_MixDxIdeal : quiescent_MixDxIdeal := fun m g _ => Cert.MixDxIdeal.Gen.frame m g

/-- The reference is a straight line of array operations and declares no semaphore. -/
theorem frame_MixDxRefIdeal : quiescent_MixDxRefIdeal := fun m g _ =>
  (θ_run Cert.MixDxRefIdeal.defs _ _).mono (fun r h => ⟨fun c => (h c).2,
      Idealize.ShloMosaic.sem_eq_zero_of_no_sems (by decide) r.2⟩)
    (Cert.MixDxRefIdeal.Value.run (F := Ideal) m g)

theorem frame_MixDw : quiescent_MixDw := fun m g _ => Cert.MixDw.Gen.frame m g

theorem frame_MixDwIdeal : quiescent_MixDwIdeal := fun m g _ => Cert.MixDwIdeal.Gen.frame m g

/-- The reference is a straight line of array operations and declares no semaphore. -/
theorem frame_MixDwRefIdeal : quiescent_MixDwRefIdeal := fun m g _ =>
  (θ_run Cert.MixDwRefIdeal.defs _ _).mono (fun r h => ⟨fun c => (h c).2,
      Idealize.ShloMosaic.sem_eq_zero_of_no_sems (by decide) r.2⟩)
    (Cert.MixDwRefIdeal.Value.run (F := Ideal) m g)

theorem frame_ProjDx : quiescent_ProjDx := fun m g _ => Cert.ProjDx.Gen.frame m g

theorem frame_ProjDxIdeal : quiescent_ProjDxIdeal := fun m g _ => Cert.ProjDxIdeal.Gen.frame m g

/-- The reference is a straight line of array operations and declares no semaphore. -/
theorem frame_ProjDxRefIdeal : quiescent_ProjDxRefIdeal := fun m g _ =>
  (θ_run Cert.ProjDxRefIdeal.defs _ _).mono (fun r h => ⟨fun c => (h c).2,
      Idealize.ShloMosaic.sem_eq_zero_of_no_sems (by decide) r.2⟩)
    (Cert.ProjDxRefIdeal.Value.run (F := Ideal) m g)

theorem frame_ProjDw : quiescent_ProjDw := fun m g _ => Cert.ProjDw.Gen.frame m g

theorem frame_ProjDwIdeal : quiescent_ProjDwIdeal := fun m g _ => Cert.ProjDwIdeal.Gen.frame m g

/-- The reference is a straight line of array operations and declares no semaphore. -/
theorem frame_ProjDwRefIdeal : quiescent_ProjDwRefIdeal := fun m g _ =>
  (θ_run Cert.ProjDwRefIdeal.defs _ _).mono (fun r h => ⟨fun c => (h c).2,
      Idealize.ShloMosaic.sem_eq_zero_of_no_sems (by decide) r.2⟩)
    (Cert.ProjDwRefIdeal.Value.run (F := Ideal) m g)

theorem frame_Ffn1 : quiescent_Ffn1 := fun m g _ => Cert.Ffn1.Gen.frame m g

theorem frame_Ffn1Ideal : quiescent_Ffn1Ideal := fun m g _ => Cert.Ffn1Ideal.Gen.frame m g

/-- The reference is a straight line of array operations and declares no semaphore. -/
theorem frame_Ffn1RefIdeal : quiescent_Ffn1RefIdeal := fun m g _ =>
  (θ_run Cert.Ffn1RefIdeal.defs _ _).mono (fun r h => ⟨fun c => (h c).2.2,
      Idealize.ShloMosaic.sem_eq_zero_of_no_sems (by decide) r.2⟩)
    (Cert.Ffn1RefIdeal.Value.run (F := Ideal) m g)

theorem frame_Ffn2 : quiescent_Ffn2 := fun m g _ => Cert.Ffn2.Gen.frame m g

theorem frame_Ffn2Ideal : quiescent_Ffn2Ideal := fun m g _ => Cert.Ffn2Ideal.Gen.frame m g

/-- The reference is a straight line of array operations and declares no semaphore. -/
theorem frame_Ffn2RefIdeal : quiescent_Ffn2RefIdeal := fun m g _ =>
  (θ_run Cert.Ffn2RefIdeal.defs _ _).mono (fun r h => ⟨fun c => (h c).2,
      Idealize.ShloMosaic.sem_eq_zero_of_no_sems (by decide) r.2⟩)
    (Cert.Ffn2RefIdeal.Value.run (F := Ideal) m g)

theorem frame_MixOut : quiescent_MixOut := fun m g _ => Cert.MixOut.Gen.frame m g

theorem frame_MixOutIdeal : quiescent_MixOutIdeal := fun m g _ => Cert.MixOutIdeal.Gen.frame m g

/-- The reference is a straight line of array operations and declares no semaphore. -/
theorem frame_MixOutRefIdeal : quiescent_MixOutRefIdeal := fun m g _ =>
  (θ_run Cert.MixOutRefIdeal.defs _ _).mono (fun r h => ⟨fun c => (h c).2,
      Idealize.ShloMosaic.sem_eq_zero_of_no_sems (by decide) r.2⟩)
    (Cert.MixOutRefIdeal.Value.run (F := Ideal) m g)

theorem frame_Proj : quiescent_Proj := fun m g _ => Cert.Proj.Gen.frame m g

theorem frame_ProjIdeal : quiescent_ProjIdeal := fun m g _ => Cert.ProjIdeal.Gen.frame m g

/-- The reference is a straight line of array operations and declares no semaphore. -/
theorem frame_ProjRefIdeal : quiescent_ProjRefIdeal := fun m g _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m g)

theorem frame_Norm1Dx : quiescent_Norm1Dx := fun m g _ => Cert.Norm1Dx.Gen.frame m g

theorem frame_Norm1DxIdeal : quiescent_Norm1DxIdeal := fun m g _ => Cert.Norm1DxIdeal.Gen.frame m g

/-- The reference is a straight line of array operations and declares no semaphore. -/
theorem frame_Norm1DxRefIdeal : quiescent_Norm1DxRefIdeal := fun m g _ =>
  (θ_run Cert.Norm1DxRefIdeal.defs _ _).mono (fun r h => ⟨fun c => (h c).2.2.2.2,
      Idealize.ShloMosaic.sem_eq_zero_of_no_sems (by decide) r.2⟩)
    (Cert.Norm1DxRefIdeal.Value.run (F := Ideal) m g)

theorem frame_Norm2Dx : quiescent_Norm2Dx := fun m g _ => Cert.Norm2Dx.Gen.frame m g

theorem frame_Norm2DxIdeal : quiescent_Norm2DxIdeal := fun m g _ => Cert.Norm2DxIdeal.Gen.frame m g

/-- The reference is a straight line of array operations and declares no semaphore. -/
theorem frame_Norm2DxRefIdeal : quiescent_Norm2DxRefIdeal := fun m g _ =>
  (θ_run Cert.Norm2DxRefIdeal.defs _ _).mono (fun r h => ⟨fun c => (h c).2.2.2.2.2.2,
      Idealize.ShloMosaic.sem_eq_zero_of_no_sems (by decide) r.2⟩)
    (Cert.Norm2DxRefIdeal.Value.run (F := Ideal) m g)

theorem frame_Loss : quiescent_Loss := fun m g _ => Cert.Loss.Gen.frame m g

theorem frame_LossIdeal : quiescent_LossIdeal := fun m g _ => Cert.LossIdeal.Gen.frame m g

/-- The reference is a straight line of array operations and declares no semaphore. -/
theorem frame_LossRefIdeal : quiescent_LossRefIdeal := fun m g _ =>
  (θ_run Cert.LossRefIdeal.defs _ _).mono (fun r h => ⟨fun c => (h c).2.2.2.2.2,
      Idealize.ShloMosaic.sem_eq_zero_of_no_sems (by decide) r.2⟩)
    (Cert.LossRefIdeal.Value.run (F := Ideal) m g)

theorem frame_Norm1 : quiescent_Norm1 := fun m g _ => Cert.Norm1.Gen.frame m g

theorem frame_Norm1Ideal : quiescent_Norm1Ideal := fun m g _ => Cert.Norm1Ideal.Gen.frame m g

/-- The reference is a straight line of array operations and declares no semaphore. -/
theorem frame_Norm1RefIdeal : quiescent_Norm1RefIdeal := fun m g _ =>
  (θ_run Cert.Norm1RefIdeal.defs _ _).mono (fun r h => ⟨fun c => (h c).2,
      Idealize.ShloMosaic.sem_eq_zero_of_no_sems (by decide) r.2⟩)
    (Cert.Norm1RefIdeal.Value.run (F := Ideal) m g)

theorem frame_Norm2 : quiescent_Norm2 := fun m g _ => Cert.Norm2.Gen.frame m g

theorem frame_Norm2Ideal : quiescent_Norm2Ideal := fun m g _ => Cert.Norm2Ideal.Gen.frame m g

/-- The reference is a straight line of array operations and declares no semaphore. -/
theorem frame_Norm2RefIdeal : quiescent_Norm2RefIdeal := fun m g _ =>
  (θ_run Cert.Norm2RefIdeal.defs _ _).mono (fun r h => ⟨fun c => (h c).2.2,
      Idealize.ShloMosaic.sem_eq_zero_of_no_sems (by decide) r.2⟩)
    (Cert.Norm2RefIdeal.Value.run (F := Ideal) m g)

theorem frame_Shift : quiescent_Shift := fun m g _ => Cert.Shift.Gen.frame m g

theorem frame_ShiftIdeal : quiescent_ShiftIdeal := fun m g _ => Cert.ShiftIdeal.Gen.frame m g

/-- The reference is a straight line of array operations and declares no semaphore. -/
theorem frame_ShiftRefIdeal : quiescent_ShiftRefIdeal := fun m g _ =>
  (θ_run Cert.ShiftRefIdeal.defs _ _).mono (fun r h => ⟨fun c => (h c).2,
      Idealize.ShloMosaic.sem_eq_zero_of_no_sems (by decide) r.2⟩)
    (Cert.ShiftRefIdeal.Value.run (F := Ideal) m g)

theorem frame_AdaW : quiescent_AdaW := fun m g _ => Cert.AdaW.Gen.frame m g

theorem frame_AdaWIdeal : quiescent_AdaWIdeal := fun m g _ => Cert.AdaWIdeal.Gen.frame m g

/-- The reference is a straight line of array operations and declares no semaphore. -/
theorem frame_AdaWRefIdeal : quiescent_AdaWRefIdeal := fun m g _ =>
  (θ_run Cert.AdaWRefIdeal.defs _ _).mono (fun r h => ⟨fun c => (h c).2.2.2.2,
      Idealize.ShloMosaic.sem_eq_zero_of_no_sems (by decide) r.2⟩)
    (Cert.AdaWRefIdeal.Value.run (F := Ideal) m g)

theorem frame_AdamFfn : quiescent_AdamFfn := fun m g _ => Cert.AdamFfn.Gen.frame m g

theorem frame_AdamFfnIdeal : quiescent_AdamFfnIdeal := fun m g _ => Cert.AdamFfnIdeal.Gen.frame m g

/-- The reference is a straight line of array operations and declares no semaphore. -/
theorem frame_AdamFfnRefIdeal : quiescent_AdamFfnRefIdeal := fun m g _ =>
  (θ_run Cert.AdamFfnRefIdeal.defs _ _).mono (fun r h => ⟨fun c => (h c).2.2.2.2,
      Idealize.ShloMosaic.sem_eq_zero_of_no_sems (by decide) r.2⟩)
    (Cert.AdamFfnRefIdeal.Value.run (F := Ideal) m g)

theorem frame_AdamIn : quiescent_AdamIn := fun m g _ => Cert.AdamIn.Gen.frame m g

theorem frame_AdamInIdeal : quiescent_AdamInIdeal := fun m g _ => Cert.AdamInIdeal.Gen.frame m g

/-- The reference is a straight line of array operations and declares no semaphore. -/
theorem frame_AdamInRefIdeal : quiescent_AdamInRefIdeal := fun m g _ =>
  (θ_run Cert.AdamInRefIdeal.defs _ _).mono (fun r h => ⟨fun c => (h c).2.2.2.2,
      Idealize.ShloMosaic.sem_eq_zero_of_no_sems (by decide) r.2⟩)
    (Cert.AdamInRefIdeal.Value.run (F := Ideal) m g)

theorem frame_AdamOut : quiescent_AdamOut := fun m g _ => Cert.AdamOut.Gen.frame m g

theorem frame_AdamOutIdeal : quiescent_AdamOutIdeal := fun m g _ => Cert.AdamOutIdeal.Gen.frame m g

/-- The reference is a straight line of array operations and declares no semaphore. -/
theorem frame_AdamOutRefIdeal : quiescent_AdamOutRefIdeal := fun m g _ =>
  (θ_run Cert.AdamOutRefIdeal.defs _ _).mono (fun r h => ⟨fun c => (h c).2.2.2.2,
      Idealize.ShloMosaic.sem_eq_zero_of_no_sems (by decide) r.2⟩)
    (Cert.AdamOutRefIdeal.Value.run (F := Ideal) m g)

theorem frame_AdamGlu : quiescent_AdamGlu := fun m g _ => Cert.AdamGlu.Gen.frame m g

theorem frame_AdamGluIdeal : quiescent_AdamGluIdeal := fun m g _ => Cert.AdamGluIdeal.Gen.frame m g

/-- The reference is a straight line of array operations and declares no semaphore. -/
theorem frame_AdamGluRefIdeal : quiescent_AdamGluRefIdeal := fun m g _ =>
  (θ_run Cert.AdamGluRefIdeal.defs _ _).mono (fun r h => ⟨fun c => (h c).2.2.2.2,
      Idealize.ShloMosaic.sem_eq_zero_of_no_sems (by decide) r.2⟩)
    (Cert.AdamGluRefIdeal.Value.run (F := Ideal) m g)

theorem frame_AdamRk : quiescent_AdamRk := fun m g _ => Cert.AdamRk.Gen.frame m g

theorem frame_AdamRkIdeal : quiescent_AdamRkIdeal := fun m g _ => Cert.AdamRkIdeal.Gen.frame m g

/-- The reference is a straight line of array operations and declares no semaphore. -/
theorem frame_AdamRkRefIdeal : quiescent_AdamRkRefIdeal := fun m g _ =>
  (θ_run Cert.AdamRkRefIdeal.defs _ _).mono (fun r h => ⟨fun c => (h c).2.2.2.2.2.2.2.2.2.2.2.2.2.2.2,
      Idealize.ShloMosaic.sem_eq_zero_of_no_sems (by decide) r.2⟩)
    (Cert.AdamRkRefIdeal.Value.run (F := Ideal) m g)

theorem claim : Cert.Claim :=
  ⟨Cert.Kernel.Gen.facts,
    Cert.KernelIdeal.Gen.facts,
    Cert.ReferenceIdeal.Gen.facts,
    Cert.Ffn2Dx.Gen.facts,
    Cert.Ffn2DxIdeal.Gen.facts,
    Cert.Ffn2DxRefIdeal.Gen.facts,
    Cert.Ffn2Dw.Gen.facts,
    Cert.Ffn2DwIdeal.Gen.facts,
    Cert.Ffn2DwRefIdeal.Gen.facts,
    Cert.Ffn1Dx.Gen.facts,
    Cert.Ffn1DxIdeal.Gen.facts,
    Cert.Ffn1DxRefIdeal.Gen.facts,
    Cert.Ffn1Dw.Gen.facts,
    Cert.Ffn1DwIdeal.Gen.facts,
    Cert.Ffn1DwRefIdeal.Gen.facts,
    Cert.MixDx.Gen.facts,
    Cert.MixDxIdeal.Gen.facts,
    Cert.MixDxRefIdeal.Gen.facts,
    Cert.MixDw.Gen.facts,
    Cert.MixDwIdeal.Gen.facts,
    Cert.MixDwRefIdeal.Gen.facts,
    Cert.ProjDx.Gen.facts,
    Cert.ProjDxIdeal.Gen.facts,
    Cert.ProjDxRefIdeal.Gen.facts,
    Cert.ProjDw.Gen.facts,
    Cert.ProjDwIdeal.Gen.facts,
    Cert.ProjDwRefIdeal.Gen.facts,
    Cert.Ffn1.Gen.facts,
    Cert.Ffn1Ideal.Gen.facts,
    Cert.Ffn1RefIdeal.Gen.facts,
    Cert.Ffn2.Gen.facts,
    Cert.Ffn2Ideal.Gen.facts,
    Cert.Ffn2RefIdeal.Gen.facts,
    Cert.MixOut.Gen.facts,
    Cert.MixOutIdeal.Gen.facts,
    Cert.MixOutRefIdeal.Gen.facts,
    Cert.Proj.Gen.facts,
    Cert.ProjIdeal.Gen.facts,
    Cert.ProjRefIdeal.Gen.facts,
    Cert.Norm1Dx.Gen.facts,
    Cert.Norm1DxIdeal.Gen.facts,
    Cert.Norm1DxRefIdeal.Gen.facts,
    Cert.Norm2Dx.Gen.facts,
    Cert.Norm2DxIdeal.Gen.facts,
    Cert.Norm2DxRefIdeal.Gen.facts,
    Cert.Loss.Gen.facts,
    Cert.LossIdeal.Gen.facts,
    Cert.LossRefIdeal.Gen.facts,
    Cert.Norm1.Gen.facts,
    Cert.Norm1Ideal.Gen.facts,
    Cert.Norm1RefIdeal.Gen.facts,
    Cert.Norm2.Gen.facts,
    Cert.Norm2Ideal.Gen.facts,
    Cert.Norm2RefIdeal.Gen.facts,
    Cert.Shift.Gen.facts,
    Cert.ShiftIdeal.Gen.facts,
    Cert.ShiftRefIdeal.Gen.facts,
    Cert.AdaW.Gen.facts,
    Cert.AdaWIdeal.Gen.facts,
    Cert.AdaWRefIdeal.Gen.facts,
    Cert.AdamFfn.Gen.facts,
    Cert.AdamFfnIdeal.Gen.facts,
    Cert.AdamFfnRefIdeal.Gen.facts,
    Cert.AdamIn.Gen.facts,
    Cert.AdamInIdeal.Gen.facts,
    Cert.AdamInRefIdeal.Gen.facts,
    Cert.AdamOut.Gen.facts,
    Cert.AdamOutIdeal.Gen.facts,
    Cert.AdamOutRefIdeal.Gen.facts,
    Cert.AdamGlu.Gen.facts,
    Cert.AdamGluIdeal.Gen.facts,
    Cert.AdamGluRefIdeal.Gen.facts,
    Cert.AdamRk.Gen.facts,
    Cert.AdamRkIdeal.Gen.facts,
    Cert.AdamRkRefIdeal.Gen.facts,
    frame_kernel,
    frame_kernelIdeal,
    frame_reference,
    frame_Ffn2Dx,
    frame_Ffn2DxIdeal,
    frame_Ffn2DxRefIdeal,
    frame_Ffn2Dw,
    frame_Ffn2DwIdeal,
    frame_Ffn2DwRefIdeal,
    frame_Ffn1Dx,
    frame_Ffn1DxIdeal,
    frame_Ffn1DxRefIdeal,
    frame_Ffn1Dw,
    frame_Ffn1DwIdeal,
    frame_Ffn1DwRefIdeal,
    frame_MixDx,
    frame_MixDxIdeal,
    frame_MixDxRefIdeal,
    frame_MixDw,
    frame_MixDwIdeal,
    frame_MixDwRefIdeal,
    frame_ProjDx,
    frame_ProjDxIdeal,
    frame_ProjDxRefIdeal,
    frame_ProjDw,
    frame_ProjDwIdeal,
    frame_ProjDwRefIdeal,
    frame_Ffn1,
    frame_Ffn1Ideal,
    frame_Ffn1RefIdeal,
    frame_Ffn2,
    frame_Ffn2Ideal,
    frame_Ffn2RefIdeal,
    frame_MixOut,
    frame_MixOutIdeal,
    frame_MixOutRefIdeal,
    frame_Proj,
    frame_ProjIdeal,
    frame_ProjRefIdeal,
    frame_Norm1Dx,
    frame_Norm1DxIdeal,
    frame_Norm1DxRefIdeal,
    frame_Norm2Dx,
    frame_Norm2DxIdeal,
    frame_Norm2DxRefIdeal,
    frame_Loss,
    frame_LossIdeal,
    frame_LossRefIdeal,
    frame_Norm1,
    frame_Norm1Ideal,
    frame_Norm1RefIdeal,
    frame_Norm2,
    frame_Norm2Ideal,
    frame_Norm2RefIdeal,
    frame_Shift,
    frame_ShiftIdeal,
    frame_ShiftRefIdeal,
    frame_AdaW,
    frame_AdaWIdeal,
    frame_AdaWRefIdeal,
    frame_AdamFfn,
    frame_AdamFfnIdeal,
    frame_AdamFfnRefIdeal,
    frame_AdamIn,
    frame_AdamInIdeal,
    frame_AdamInRefIdeal,
    frame_AdamOut,
    frame_AdamOutIdeal,
    frame_AdamOutRefIdeal,
    frame_AdamGlu,
    frame_AdamGluIdeal,
    frame_AdamGluRefIdeal,
    frame_AdamRk,
    frame_AdamRkIdeal,
    frame_AdamRkRefIdeal,
    trivial,
    trivial,
    Ffn2Dx.algebraic,
    trivial,
    Ffn2Dw.algebraic,
    trivial,
    Ffn1Dx.algebraic,
    trivial,
    Ffn1Dw.algebraic,
    trivial,
    MixDx.algebraic,
    trivial,
    MixDw.algebraic,
    trivial,
    ProjDx.algebraic,
    trivial,
    ProjDw.algebraic,
    trivial,
    Ffn1.algebraic,
    trivial,
    Ffn2.algebraic,
    trivial,
    MixOut.algebraic,
    trivial,
    Proj.algebraic,
    trivial,
    Norm1Dx.algebraic,
    trivial,
    Norm2Dx.algebraic,
    trivial,
    Loss.algebraic,
    trivial,
    Norm1.algebraic,
    trivial,
    Norm2.algebraic,
    trivial,
    Shift.algebraic,
    trivial,
    AdaW.algebraic,
    trivial,
    AdamFfn.algebraic,
    trivial,
    AdamIn.algebraic,
    trivial,
    AdamOut.algebraic,
    trivial,
    AdamGlu.algebraic,
    trivial,
    AdamRk.algebraic⟩

end Cert.Proof

end
